-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_queries [hPre_finite_queries : Cert.Pre_finite_queries.Facts] (m : (ℓ : Loc Cert.AttnIdeal.nD Cert.AttnIdeal.τ Cert.AttnIdeal.sig) → Buf (Elt Ideal) ℓ) : Prop :=
  ∀ c : Dev Cert.AttnIdeal.nD,
    (Cert.Pre_finite_queries.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).1 = (fun _ => 1#1)
    ∧ (Cert.Pre_finite_queries.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2 = (fun _ => 1#1)

def Pre_RefIdeal (m : (ℓ : Loc Cert.RefIdeal.nD Cert.RefIdeal.τ Cert.RefIdeal.sig) → Buf (Elt Ideal) ℓ) : Prop :=
  True

def Pre_RefIdeal_finite_queries [hPre_finite_queries : Cert.Pre_finite_queries.Facts] (m : (ℓ : Loc Cert.RefIdeal.nD Cert.RefIdeal.τ Cert.RefIdeal.sig) → Buf (Elt Ideal) ℓ) : Prop :=
  ∀ c : Dev Cert.RefIdeal.nD,
    (Cert.Pre_finite_queries.fn (F := Ideal) (m ((c.tc : Thread Cert.RefIdeal.nD Cert.RefIdeal.τ).loc Cert.RefIdeal.main_arg0)) (m ((c.tc : Thread Cert.RefIdeal.nD Cert.RefIdeal.τ).loc Cert.RefIdeal.main_arg1)) (m ((c.tc : Thread Cert.RefIdeal.nD Cert.RefIdeal.τ).loc Cert.RefIdeal.main_arg2)) (m ((c.tc : Thread Cert.RefIdeal.nD Cert.RefIdeal.τ).loc Cert.RefIdeal.main_arg3)) (m ((c.tc : Thread Cert.RefIdeal.nD Cert.RefIdeal.τ).loc Cert.RefIdeal.main_arg4)) (m ((c.tc : Thread Cert.RefIdeal.nD Cert.RefIdeal.τ).loc Cert.RefIdeal.main_arg5))).1 = (fun _ => 1#1)
    ∧ (Cert.Pre_finite_queries.fn (F := Ideal) (m ((c.tc : Thread Cert.RefIdeal.nD Cert.RefIdeal.τ).loc Cert.RefIdeal.main_arg0)) (m ((c.tc : Thread Cert.RefIdeal.nD Cert.RefIdeal.τ).loc Cert.RefIdeal.main_arg1)) (m ((c.tc : Thread Cert.RefIdeal.nD Cert.RefIdeal.τ).loc Cert.RefIdeal.main_arg2)) (m ((c.tc : Thread Cert.RefIdeal.nD Cert.RefIdeal.τ).loc Cert.RefIdeal.main_arg3)) (m ((c.tc : Thread Cert.RefIdeal.nD Cert.RefIdeal.τ).loc Cert.RefIdeal.main_arg4)) (m ((c.tc : Thread Cert.RefIdeal.nD Cert.RefIdeal.τ).loc Cert.RefIdeal.main_arg5))).2 = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnIdeal_pre_finite_queries [hAttnIdeal : Cert.AttnIdeal.Facts] [hPre_finite_queries : Cert.Pre_finite_queries.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_queries m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_RefIdeal [hRefIdeal : Cert.RefIdeal.Facts] : Prop :=
  ∀ (m : (ℓ : Loc Cert.RefIdeal.nD Cert.RefIdeal.τ Cert.RefIdeal.sig) → Buf (Elt Ideal) ℓ) (g : Dev Cert.RefIdeal.nD → PrngReg), Pre_RefIdeal m →
    θ_run (Cert.RefIdeal.defs (F := Ideal)) (onTc (τ := Cert.RefIdeal.τ) (Cert.RefIdeal.main (F := Ideal))) ⟨m, fun _ => 0, g⟩ (fun r => (∀ c : Dev Cert.RefIdeal.nD,
      r.2.mem ((c.tc : Thread Cert.RefIdeal.nD Cert.RefIdeal.τ).loc Cert.RefIdeal.main_arg0) = m ((c.tc : Thread Cert.RefIdeal.nD Cert.RefIdeal.τ).loc Cert.RefIdeal.main_arg0)
      ∧ r.2.mem ((c.tc : Thread Cert.RefIdeal.nD Cert.RefIdeal.τ).loc Cert.RefIdeal.main_arg1) = m ((c.tc : Thread Cert.RefIdeal.nD Cert.RefIdeal.τ).loc Cert.RefIdeal.main_arg1)
      ∧ r.2.mem ((c.tc : Thread Cert.RefIdeal.nD Cert.RefIdeal.τ).loc Cert.RefIdeal.main_arg2) = m ((c.tc : Thread Cert.RefIdeal.nD Cert.RefIdeal.τ).loc Cert.RefIdeal.main_arg2)
      ∧ r.2.mem ((c.tc : Thread Cert.RefIdeal.nD Cert.RefIdeal.τ).loc Cert.RefIdeal.main_arg3) = m ((c.tc : Thread Cert.RefIdeal.nD Cert.RefIdeal.τ).loc Cert.RefIdeal.main_arg3)
      ∧ r.2.mem ((c.tc : Thread Cert.RefIdeal.nD Cert.RefIdeal.τ).loc Cert.RefIdeal.main_arg4) = m ((c.tc : Thread Cert.RefIdeal.nD Cert.RefIdeal.τ).loc Cert.RefIdeal.main_arg4)
      ∧ r.2.mem ((c.tc : Thread Cert.RefIdeal.nD Cert.RefIdeal.τ).loc Cert.RefIdeal.main_arg5) = m ((c.tc : Thread Cert.RefIdeal.nD Cert.RefIdeal.τ).loc Cert.RefIdeal.main_arg5))
      ∧ r.2.sem = fun _ => 0)

def quiescent_RefIdeal_pre_finite_queries [hRefIdeal : Cert.RefIdeal.Facts] [hPre_finite_queries : Cert.Pre_finite_queries.Facts] : Prop :=
  ∀ (m : (ℓ : Loc Cert.RefIdeal.nD Cert.RefIdeal.τ Cert.RefIdeal.sig) → Buf (Elt Ideal) ℓ) (g : Dev Cert.RefIdeal.nD → PrngReg), Pre_RefIdeal_finite_queries m →
    θ_run (Cert.RefIdeal.defs (F := Ideal)) (onTc (τ := Cert.RefIdeal.τ) (Cert.RefIdeal.main (F := Ideal))) ⟨m, fun _ => 0, g⟩ (fun r => (∀ c : Dev Cert.RefIdeal.nD,
      r.2.mem ((c.tc : Thread Cert.RefIdeal.nD Cert.RefIdeal.τ).loc Cert.RefIdeal.main_arg0) = m ((c.tc : Thread Cert.RefIdeal.nD Cert.RefIdeal.τ).loc Cert.RefIdeal.main_arg0)
      ∧ r.2.mem ((c.tc : Thread Cert.RefIdeal.nD Cert.RefIdeal.τ).loc Cert.RefIdeal.main_arg1) = m ((c.tc : Thread Cert.RefIdeal.nD Cert.RefIdeal.τ).loc Cert.RefIdeal.main_arg1)
      ∧ r.2.mem ((c.tc : Thread Cert.RefIdeal.nD Cert.RefIdeal.τ).loc Cert.RefIdeal.main_arg2) = m ((c.tc : Thread Cert.RefIdeal.nD Cert.RefIdeal.τ).loc Cert.RefIdeal.main_arg2)
      ∧ r.2.mem ((c.tc : Thread Cert.RefIdeal.nD Cert.RefIdeal.τ).loc Cert.RefIdeal.main_arg3) = m ((c.tc : Thread Cert.RefIdeal.nD Cert.RefIdeal.τ).loc Cert.RefIdeal.main_arg3)
      ∧ r.2.mem ((c.tc : Thread Cert.RefIdeal.nD Cert.RefIdeal.τ).loc Cert.RefIdeal.main_arg4) = m ((c.tc : Thread Cert.RefIdeal.nD Cert.RefIdeal.τ).loc Cert.RefIdeal.main_arg4)
      ∧ r.2.mem ((c.tc : Thread Cert.RefIdeal.nD Cert.RefIdeal.τ).loc Cert.RefIdeal.main_arg5) = m ((c.tc : Thread Cert.RefIdeal.nD Cert.RefIdeal.τ).loc Cert.RefIdeal.main_arg5))
      ∧ r.2.sem = fun _ => 0)

def preserves_Attn_AttnIdeal : Prop :=
  IdealRules.bf16_pair.Statement Cert.AttnIdeal.S1x256x2x128 Cert.AttnIdeal.S1x256x1x128
  ∧ IdealRules.bf16_pair.Statement Cert.AttnIdeal.S512x128 Cert.AttnIdeal.S256x128
  ∧ IdealRules.named_const.Statement Cert.AttnIdeal.κ "qmul" .f32 0x3DD53B95#32 (((Real.sqrt 192)⁻¹ * (Real.log 2)⁻¹ : ℝ) : EReal)
  ∧ IdealRules.truncf_extf.Statement Cert.AttnIdeal.S128x128 .f32 .bf16
  ∧ IdealRules.bf16_pair.Statement Cert.AttnIdeal.S1x128x2x128 Cert.AttnIdeal.S1x128x1x128
  ∧ IdealRules.bf16_pack.Statement Cert.AttnIdeal.S1x128x1x128

def algebraic_AttnIdeal_RefIdeal_pre_finite_queries [hAttnIdeal : Cert.AttnIdeal.Facts] [hRefIdeal : Cert.RefIdeal.Facts] [hPre_finite_queries : Cert.Pre_finite_queries.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.RefIdeal.nD Cert.RefIdeal.τ Cert.RefIdeal.sig) → Buf (Elt Ideal) ℓ) (g' : Dev Cert.RefIdeal.nD → PrngReg), Pre_AttnIdeal_finite_queries m →
    (∀ c : Dev Cert.AttnIdeal.nD,
      m' ((c.tc : Thread Cert.RefIdeal.nD Cert.RefIdeal.τ).loc Cert.RefIdeal.main_arg0) = m ((c.tc : Thread Cert.AttnIdeal.nD Cert.AttnIdeal.τ).loc Cert.AttnIdeal.main_arg0)
      ∧ m' ((c.tc : Thread Cert.RefIdeal.nD Cert.RefIdeal.τ).loc Cert.RefIdeal.main_arg1) = m ((c.tc : Thread Cert.AttnIdeal.nD Cert.AttnIdeal.τ).loc Cert.AttnIdeal.main_arg1)
      ∧ m' ((c.tc : Thread Cert.RefIdeal.nD Cert.RefIdeal.τ).loc Cert.RefIdeal.main_arg2) = m ((c.tc : Thread Cert.AttnIdeal.nD Cert.AttnIdeal.τ).loc Cert.AttnIdeal.main_arg2)
      ∧ m' ((c.tc : Thread Cert.RefIdeal.nD Cert.RefIdeal.τ).loc Cert.RefIdeal.main_arg3) = m ((c.tc : Thread Cert.AttnIdeal.nD Cert.AttnIdeal.τ).loc Cert.AttnIdeal.main_arg3)
      ∧ m' ((c.tc : Thread Cert.RefIdeal.nD Cert.RefIdeal.τ).loc Cert.RefIdeal.main_arg4) = m ((c.tc : Thread Cert.AttnIdeal.nD Cert.AttnIdeal.τ).loc Cert.AttnIdeal.main_arg4)
      ∧ m' ((c.tc : Thread Cert.RefIdeal.nD Cert.RefIdeal.τ).loc Cert.RefIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v0_0)) (v1 : (c : Dev Cert.AttnIdeal.nD) → Buf (Elt Ideal) ((c.tc : Thread Cert.AttnIdeal.nD Cert.AttnIdeal.τ).loc Cert.AttnIdeal.main_v0_1)) (v2 : (c : Dev Cert.AttnIdeal.nD) → Buf (Elt Ideal) ((c.tc : Thread Cert.AttnIdeal.nD Cert.AttnIdeal.τ).loc Cert.AttnIdeal.main_v0_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0_0) = v0 c
          ∧ r.2.mem ((c.tc : Thread Cert.AttnIdeal.nD Cert.AttnIdeal.τ).loc Cert.AttnIdeal.main_v0_1) = v1 c
          ∧ r.2.mem ((c.tc : Thread Cert.AttnIdeal.nD Cert.AttnIdeal.τ).loc Cert.AttnIdeal.main_v0_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.RefIdeal.defs (F := Ideal)) (onTc (τ := Cert.RefIdeal.τ) (Cert.RefIdeal.main (F := Ideal))) ⟨m', fun _ => 0, g'⟩ (fun r => ∀ c : Dev Cert.RefIdeal.nD,
          r.2.mem ((c.tc : Thread Cert.RefIdeal.nD Cert.RefIdeal.τ).loc Cert.RefIdeal.main_v0_0) = v0 c
          ∧ r.2.mem ((c.tc : Thread Cert.RefIdeal.nD Cert.RefIdeal.τ).loc Cert.RefIdeal.main_v0_1) = v1 c
          ∧ r.2.mem ((c.tc : Thread Cert.RefIdeal.nD Cert.RefIdeal.τ).loc Cert.RefIdeal.main_v0_2) = v2 c
          ∧ r.2.mem ((c.tc : Thread Cert.RefIdeal.nD Cert.RefIdeal.τ).loc Cert.RefIdeal.main_arg0) = m' ((c.tc : Thread Cert.RefIdeal.nD Cert.RefIdeal.τ).loc Cert.RefIdeal.main_arg0)
          ∧ r.2.mem ((c.tc : Thread Cert.RefIdeal.nD Cert.RefIdeal.τ).loc Cert.RefIdeal.main_arg1) = m' ((c.tc : Thread Cert.RefIdeal.nD Cert.RefIdeal.τ).loc Cert.RefIdeal.main_arg1)
          ∧ r.2.mem ((c.tc : Thread Cert.RefIdeal.nD Cert.RefIdeal.τ).loc Cert.RefIdeal.main_arg2) = m' ((c.tc : Thread Cert.RefIdeal.nD Cert.RefIdeal.τ).loc Cert.RefIdeal.main_arg2)
          ∧ r.2.mem ((c.tc : Thread Cert.RefIdeal.nD Cert.RefIdeal.τ).loc Cert.RefIdeal.main_arg3) = m' ((c.tc : Thread Cert.RefIdeal.nD Cert.RefIdeal.τ).loc Cert.RefIdeal.main_arg3)
          ∧ r.2.mem ((c.tc : Thread Cert.RefIdeal.nD Cert.RefIdeal.τ).loc Cert.RefIdeal.main_arg4) = m' ((c.tc : Thread Cert.RefIdeal.nD Cert.RefIdeal.τ).loc Cert.RefIdeal.main_arg4)
          ∧ r.2.mem ((c.tc : Thread Cert.RefIdeal.nD Cert.RefIdeal.τ).loc Cert.RefIdeal.main_arg5) = m' ((c.tc : Thread Cert.RefIdeal.nD Cert.RefIdeal.τ).loc Cert.RefIdeal.main_arg5))

def Claim : Prop :=
  ∃ (hAttn : Cert.Attn.Facts) (hAttnIdeal : Cert.AttnIdeal.Facts) (hRefIdeal : Cert.RefIdeal.Facts) (hPre_finite_queries : Cert.Pre_finite_queries.Facts),
    quiescent_Attn (hAttn := hAttn)
    ∧ quiescent_AttnIdeal (hAttnIdeal := hAttnIdeal)
    ∧ quiescent_AttnIdeal_pre_finite_queries (hAttnIdeal := hAttnIdeal) (hPre_finite_queries := hPre_finite_queries)
    ∧ quiescent_RefIdeal (hRefIdeal := hRefIdeal)
    ∧ quiescent_RefIdeal_pre_finite_queries (hRefIdeal := hRefIdeal) (hPre_finite_queries := hPre_finite_queries)
    ∧ preserves_Attn_AttnIdeal
    ∧ algebraic_AttnIdeal_RefIdeal_pre_finite_queries (hAttnIdeal := hAttnIdeal) (hRefIdeal := hRefIdeal) (hPre_finite_queries := hPre_finite_queries)
-- ==== Pre_finite_queries.lean ====
abbrev S9x4096x8x128 : Shape := ⟨4, ![9, 4096, 8, 128]⟩
abbrev S9x8x64x4096 : Shape := ⟨4, ![9, 8, 64, 4096]⟩
abbrev S9x8x4096x192 : Shape := ⟨4, ![9, 8, 4096, 192]⟩
abbrev S9x8x128x4096 : Shape := ⟨4, ![9, 8, 128, 4096]⟩
abbrev S9x8x4096 : Shape := ⟨3, ![9, 8, 4096]⟩
abbrev S9x8x8x128 : Shape := ⟨4, ![9, 8, 8, 128]⟩
abbrev S_ : Shape := ⟨0, ![]⟩

class Facts : Prop where
  bcast_S_S9x4096x8x128 : S_.BroadcastsInDim S9x4096x8x128 (![] : Fin 0 → Fin S9x4096x8x128.rank)
  bcast_S_S9x8x64x4096 : S_.BroadcastsInDim S9x8x64x4096 (![] : Fin 0 → Fin S9x8x64x4096.rank)

variable [Facts]

def fn {F : FTy → Type} [FloatOps F] (main_arg0 : FVec F S9x4096x8x128 .bf16) (main_arg1 : FVec F S9x8x64x4096 .bf16) (main_arg2 : FVec F S9x8x4096x192 .fp8e4m3) (main_arg3 : FVec F S9x8x128x4096 .fp8e4m3) (main_arg4 : FVec F S9x8x4096 .f32) (main_arg5 : FVec F S9x8x8x128 .f32) : IVec S9x4096x8x128 1 × IVec S9x8x64x4096 1 :=
  let main_v0 : FVec F S9x4096x8x128 .bf16 := Host.absf main_arg0
  let main_cst : FVec F S_ .bf16 := constant S_ .bf16 0x7F7F#16
  let main_v1 : FVec F S9x4096x8x128 .bf16 := broadcastInDim S9x4096x8x128 ![] bcast_S_S9x4096x8x128 main_cst
  let main_v2 : IVec S9x4096x8x128 1 := cmpf .ole main_v0 main_v1
  let main_v3 : FVec F S9x8x64x4096 .bf16 := Host.absf main_arg1
  let main_cst_0 : FVec F S_ .bf16 := constant S_ .bf16 0x7F7F#16
  let main_v4 : FVec F S9x8x64x4096 .bf16 := broadcastInDim S9x8x64x4096 ![] bcast_S_S9x8x64x4096 main_cst_0
  let main_v5 : IVec S9x8x64x4096 1 := cmpf .ole main_v3 main_v4
  (main_v2, main_v5)
-- ==== Attn.lean ====
abbrev S9x4096x8x128 : Shape := ⟨4, ![9, 4096, 8, 128]⟩
abbrev S9x8x64x4096 : Shape := ⟨4, ![9, 8, 64, 4096]⟩
abbrev S9x8x4096x192 : Shape := ⟨4, ![9, 8, 4096, 192]⟩
abbrev S9x8x128x4096 : Shape := ⟨4, ![9, 8, 128, 4096]⟩
abbrev S9x8x4096 : Shape := ⟨3, ![9, 8, 4096]⟩
abbrev S9x8x8x128 : Shape := ⟨4, ![9, 8, 8, 128]⟩
abbrev S9x8x192x4096 : Shape := ⟨4, ![9, 8, 192, 4096]⟩
abbrev S1x256x8x128 : Shape := ⟨4, ![1, 256, 8, 128]⟩
abbrev S1x8x64x256 : Shape := ⟨4, ![1, 8, 64, 256]⟩
abbrev S1x8x4096x192 : Shape := ⟨4, ![1, 8, 4096, 192]⟩
abbrev S1x8x128x4096 : Shape := ⟨4, ![1, 8, 128, 4096]⟩
abbrev S1x8x256 : Shape := ⟨3, ![1, 8, 256]⟩
abbrev S1x8x8x128 : Shape := ⟨4, ![1, 8, 8, 128]⟩
abbrev S1x8x192x256 : Shape := ⟨4, ![1, 8, 192, 256]⟩
abbrev S8x4096x128 : Shape := ⟨3, ![8, 4096, 128]⟩
abbrev S4096x256 : Shape := ⟨2, ![4096, 256]⟩
abbrev S128x256 : Shape := ⟨2, ![128, 256]⟩
abbrev S2x2x128x128 : Shape := ⟨4, ![2, 2, 128, 128]⟩
abbrev S256x256 : Shape := ⟨2, ![256, 256]⟩
abbrev S1x256x4x128 : Shape := ⟨4, ![1, 256, 4, 128]⟩
abbrev S1x256x1x128 : Shape := ⟨4, ![1, 256, 1, 128]⟩
abbrev S1x256x2x128 : Shape := ⟨4, ![1, 256, 2, 128]⟩
abbrev S256x128 : Shape := ⟨2, ![256, 128]⟩
abbrev S1x1x64x256 : Shape := ⟨4, ![1, 1, 64, 256]⟩
abbrev S64x256 : Shape := ⟨2, ![64, 256]⟩
abbrev S256 : Shape := ⟨1, ![256]⟩
abbrev S1x256 : Shape := ⟨2, ![1, 256]⟩
abbrev S192x256 : Shape := ⟨2, ![192, 256]⟩
abbrev S1x1x192x256 : Shape := ⟨4, ![1, 1, 192, 256]⟩
abbrev S1x1x256 : Shape := ⟨3, ![1, 1, 256]⟩
abbrev S1x256x128 : Shape := ⟨3, ![1, 256, 128]⟩
abbrev S1x1x256x192 : Shape := ⟨4, ![1, 1, 256, 192]⟩
abbrev S256x192 : Shape := ⟨2, ![256, 192]⟩
abbrev S8x256 : Shape := ⟨2, ![8, 256]⟩
abbrev S1x1x128x256 : Shape := ⟨4, ![1, 1, 128, 256]⟩
abbrev S1x1x8x128 : Shape := ⟨4, ![1, 1, 8, 128]⟩
abbrev S8x128 : Shape := ⟨2, ![8, 128]⟩
abbrev S128x128 : Shape := ⟨2, ![128, 128]⟩
abbrev S1x128 : Shape := ⟨2, ![1, 128]⟩
abbrev S1x1x128x128 : Shape := ⟨4, ![1, 1, 128, 128]⟩
abbrev S32x128 : Shape := ⟨2, ![32, 128]⟩
abbrev S1x128x1x128 : Shape := ⟨4, ![1, 128, 1, 128]⟩
abbrev S1x128x2x128 : Shape := ⟨4, ![1, 128, 2, 128]⟩

abbrev nBuf : Space → Nat
  | .hbm => 9
  | .vmem => 22
  | .smem => 0
  | _ => 0

abbrev bufTy : (tb : Table) → Fin (tcTables nBuf tb) → BufTy
  | .hbm, ⟨0, _⟩ => ⟨S9x4096x8x128, .bf16⟩
  | .hbm, ⟨1, _⟩ => ⟨S9x8x64x4096, .bf16⟩
  | .hbm, ⟨2, _⟩ => ⟨S9x8x4096x192, .fp8e4m3⟩
  | .hbm, ⟨3, _⟩ => ⟨S9x8x128x4096, .fp8e4m3⟩
  | .hbm, ⟨4, _⟩ => ⟨S9x8x4096, .f32⟩
  | .hbm, ⟨5, _⟩ => ⟨S9x8x8x128, .f32⟩
  | .hbm, ⟨6, _⟩ => ⟨S9x4096x8x128, .bf16⟩
  | .hbm, ⟨7, _⟩ => ⟨S9x8x192x4096, .fp8e4m3⟩
  | .hbm, ⟨8, _⟩ => ⟨S9x8x4096, .f32⟩
  | .local _ .vmem, ⟨0, _⟩ => ⟨S1x256x8x128, .bf16⟩
  | .local _ .vmem, ⟨1, _⟩ => ⟨S1x256x8x128, .bf16⟩
  | .local _ .vmem, ⟨2, _⟩ => ⟨S1x8x64x256, .bf16⟩
  | .local _ .vmem, ⟨3, _⟩ => ⟨S1x8x64x256, .bf16⟩
  | .local _ .vmem, ⟨4, _⟩ => ⟨S1x8x4096x192, .fp8e4m3⟩
  | .local _ .vmem, ⟨5, _⟩ => ⟨S1x8x4096x192, .fp8e4m3⟩
  | .local _ .vmem, ⟨6, _⟩ => ⟨S1x8x128x4096, .fp8e4m3⟩
  | .local _ .vmem, ⟨7, _⟩ => ⟨S1x8x128x4096, .fp8e4m3⟩
  | .local _ .vmem, ⟨8, _⟩ => ⟨S1x8x256, .f32⟩
  | .local _ .vmem, ⟨9, _⟩ => ⟨S1x8x256, .f32⟩
  | .local _ .vmem, ⟨10, _⟩ => ⟨S1x8x8x128, .f32⟩
  | .local _ .vmem, ⟨11, _⟩ => ⟨S1x8x8x128, .f32⟩
  | .local _ .vmem, ⟨12, _⟩ => ⟨S1x256x8x128, .bf16⟩
  | .local _ .vmem, ⟨13, _⟩ => ⟨S1x256x8x128, .bf16⟩
  | .local _ .vmem, ⟨14, _⟩ => ⟨S1x8x192x256, .fp8e4m3⟩
  | .local _ .vmem, ⟨15, _⟩ => ⟨S1x8x192x256, .fp8e4m3⟩
  | .local _ .vmem, ⟨16, _⟩ => ⟨S1x8x256, .f32⟩
  | .local _ .vmem, ⟨17, _⟩ => ⟨S1x8x256, .f32⟩
  | .local _ .vmem, ⟨18, _⟩ => ⟨S8x4096x128, .f32⟩
  | .local _ .vmem, ⟨19, _⟩ => ⟨S4096x256, .f32⟩
  | .local _ .vmem, ⟨20, _⟩ => ⟨S128x256, .f32⟩
  | .local _ .vmem, ⟨21, _⟩ => ⟨S2x2x128x128, .f32⟩
  | _, _ => ⟨S9x4096x8x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [BitOps F]

abbrev grid0 : Pipeline.Grid := ⟨2, ![9, 16], ![false, false]⟩

def k0_mult1 (i : grid0.Coords) : BitVec 32 :=
  let arg1 : BitVec 32 := BitVec.ofNat 32 (i 1).val
  let c256_i32 : BitVec 32 := 256#32
  let v119 : BitVec 32 := Scalar.muli arg1 c256_i32
  v119
def k0_off1 (i : grid0.Coords) : Fin 3 → Nat :=
  let c0_35 : Index := 0#32
  let arg1 : BitVec 32 := BitVec.ofNat 32 (i 1).val
  let c256_i32 : BitVec 32 := 256#32
  let v119 : BitVec 32 := Scalar.muli arg1 c256_i32
  let v120 : BitVec 32 := v119
  let v121 : Index := Scalar.indexCast v120
  let c0_36 : Index := 0#32
  ![0, v121.toNat, 0]
def k0_mult2 (i : grid0.Coords) : BitVec 32 :=
  let arg1 : BitVec 32 := BitVec.ofNat 32 (i 1).val
  let c256_i32_38 : BitVec 32 := 256#32
  let v127 : BitVec 32 := Scalar.muli arg1 c256_i32_38
  v127
def k0_off2 (i : grid0.Coords) : Fin 4 → Nat :=
  let c0_39 : Index := 0#32
  let c0_40 : Index := 0#32
  let arg1 : BitVec 32 := BitVec.ofNat 32 (i 1).val
  let c256_i32_38 : BitVec 32 := 256#32
  let v127 : BitVec 32 := Scalar.muli arg1 c256_i32_38
  let v128 : BitVec 32 := v127
  let v129 : Index := Scalar.indexCast v128
  let c0_41 : Index := 0#32
  ![0, 0, v129.toNat, 0]
def k0_mult3 (i : grid0.Coords) : BitVec 32 :=
  let arg1 : BitVec 32 := BitVec.ofNat 32 (i 1).val
  let c256_i32_47 : BitVec 32 := 256#32
  let v135 : BitVec 32 := Scalar.muli arg1 c256_i32_47
  v135
def k0_mult4 (i : grid0.Coords) : BitVec 32 :=
  let arg1 : BitVec 32 := BitVec.ofNat 32 (i 1).val
  let c256_i32_51 : BitVec 32 := 256#32
  let v144 : BitVec 32 := Scalar.muli arg1 c256_i32_51
  v144
def k0_off3 (i : grid0.Coords) : Fin 2 → Nat :=
  let arg1 : BitVec 32 := BitVec.ofNat 32 (i 1).val
  let c256_i32_51 : BitVec 32 := 256#32
  let v144 : BitVec 32 := Scalar.muli arg1 c256_i32_51
  let v145 : BitVec 32 := v144
  let v146 : Index := Scalar.indexCast v145
  let c0_52 : Index := 0#32
  ![v146.toNat, 0]
@[reducible] def k0_t1_loop (i : grid0.Coords) : Scf.Loop 32 :=
  let c0_i32_53 : BitVec 32 := 0#32
  let arg1 : BitVec 32 := BitVec.ofNat 32 (i 1).val
  let v213 : BitVec 32 := Scalar.subi arg1 c0_i32_53
  let c1_i32_54 : BitVec 32 := 1#32
  let v215 : BitVec 32 := Scalar.divsi v213 c1_i32_54
  let v216 : BitVec 32 := Scalar.muli v215 c1_i32_54
  let v217 : BitVec 32 := Scalar.addi c0_i32_53 v216
  let c1_i32_55 : BitVec 32 := 1#32
  ⟨c0_i32_53, v217, c1_i32_55⟩
def k0_mult5 (i : grid0.Coords) (k0_t1 : Fin (k0_t1_loop i).trips) : BitVec 32 :=
  let c0_i32_53 : BitVec 32 := 0#32
  let c1_i32_55 : BitVec 32 := 1#32
  let arg15 : BitVec 32 := Scf.iv c0_i32_53 c1_i32_55 k0_t1
  let c256_i32_1184 : BitVec 32 := 256#32
  let v2359 : BitVec 32 := Scalar.muli arg15 c256_i32_1184
  v2359
def k0_off4 (i : grid0.Coords) (k0_t1 : Fin (k0_t1_loop i).trips) : Fin 4 → Nat :=
  let c0_1185 : Index := 0#32
  let c0_1186 : Index := 0#32
  let c0_i32_53 : BitVec 32 := 0#32
  let c1_i32_55 : BitVec 32 := 1#32
  let arg15 : BitVec 32 := Scf.iv c0_i32_53 c1_i32_55 k0_t1
  let c256_i32_1184 : BitVec 32 := 256#32
  let v2359 : BitVec 32 := Scalar.muli arg15 c256_i32_1184
  let v2360 : BitVec 32 := v2359
  let v2361 : Index := Scalar.indexCast v2360
  let c0_1187 : Index := 0#32
  ![0, 0, v2361.toNat, 0]
def k0_mult6 (i : grid0.Coords) (k0_t1 : Fin (k0_t1_loop i).trips) : BitVec 32 :=
  let c0_i32_53 : BitVec 32 := 0#32
  let c1_i32_55 : BitVec 32 := 1#32
  let arg15 : BitVec 32 := Scf.iv c0_i32_53 c1_i32_55 k0_t1
  let c256_i32_1193 : BitVec 32 := 256#32
  let v2367 : BitVec 32 := Scalar.muli arg15 c256_i32_1193
  v2367
def k0_off5 (i : grid0.Coords) (k0_t1 : Fin (k0_t1_loop i).trips) : Fin 3 → Nat :=
  let c0_1194 : Index := 0#32
  let c0_i32_53 : BitVec 32 := 0#32
  let c1_i32_55 : BitVec 32 := 1#32
  let arg15 : BitVec 32 := Scf.iv c0_i32_53 c1_i32_55 k0_t1
  let c256_i32_1193 : BitVec 32 := 256#32
  let v2367 : BitVec 32 := Scalar.muli arg15 c256_i32_1193
  let v2368 : BitVec 32 := v2367
  let v2369 : Index := Scalar.indexCast v2368
  let c0_1195 : Index := 0#32
  ![0, v2369.toNat, 0]
def k0_mult7 (i : grid0.Coords) (k0_t1 : Fin (k0_t1_loop i).trips) : BitVec 32 :=
  let c0_i32_53 : BitVec 32 := 0#32
  let c1_i32_55 : BitVec 32 := 1#32
  let arg15 : BitVec 32 := Scf.iv c0_i32_53 c1_i32_55 k0_t1
  let c256_i32_1196 : BitVec 32 := 256#32
  let v2374 : BitVec 32 := Scalar.muli arg15 c256_i32_1196
  v2374
def k0_off6 (i : grid0.Coords) (k0_t1 : Fin (k0_t1_loop i).trips) : Fin 2 → Nat :=
  let c0_i32_53 : BitVec 32 := 0#32
  let c1_i32_55 : BitVec 32 := 1#32
  let arg15 : BitVec 32 := Scf.iv c0_i32_53 c1_i32_55 k0_t1
  let c256_i32_1196 : BitVec 32 := 256#32
  let v2374 : BitVec 32 := Scalar.muli arg15 c256_i32_1196
  let v2375 : BitVec 32 := v2374
  let v2376 : Index := Scalar.indexCast v2375
  let c0_1197 : Index := 0#32
  ![v2376.toNat, 0]
@[reducible] def k0_t2_loop (i : grid0.Coords) : Scf.Loop 32 :=
  let c0_i32_53 : BitVec 32 := 0#32
  let arg1 : BitVec 32 := BitVec.ofNat 32 (i 1).val
  let v213 : BitVec 32 := Scalar.subi arg1 c0_i32_53
  let c1_i32_54 : BitVec 32 := 1#32
  let v215 : BitVec 32 := Scalar.divsi v213 c1_i32_54
  let v216 : BitVec 32 := Scalar.muli v215 c1_i32_54
  let v217 : BitVec 32 := Scalar.addi c0_i32_53 v216
  let v214 : BitVec 32 := Scalar.addi c0_i32_53 v213
  let c1_i32_56 : BitVec 32 := 1#32
  ⟨v217, v214, c1_i32_56⟩
def k0_mult8 (i : grid0.Coords) (k0_t2 : Fin (k0_t2_loop i).trips) : BitVec 32 :=
  let c0_i32_53 : BitVec 32 := 0#32
  let arg1 : BitVec 32 := BitVec.ofNat 32 (i 1).val
  let v213 : BitVec 32 := Scalar.subi arg1 c0_i32_53
  let c1_i32_54 : BitVec 32 := 1#32
  let v215 : BitVec 32 := Scalar.divsi v213 c1_i32_54
  let v216 : BitVec 32 := Scalar.muli v215 c1_i32_54
  let v217 : BitVec 32 := Scalar.addi c0_i32_53 v216
  let c1_i32_56 : BitVec 32 := 1#32
  let arg15 : BitVec 32 := Scf.iv v217 c1_i32_56 k0_t2
  let c256_i32_1184 : BitVec 32 := 256#32
  let v2359 : BitVec 32 := Scalar.muli arg15 c256_i32_1184
  v2359
def k0_off7 (i : grid0.Coords) (k0_t2 : Fin (k0_t2_loop i).trips) : Fin 4 → Nat :=
  let c0_1185 : Index := 0#32
  let c0_1186 : Index := 0#32
  let c0_i32_53 : BitVec 32 := 0#32
  let arg1 : BitVec 32 := BitVec.ofNat 32 (i 1).val
  let v213 : BitVec 32 := Scalar.subi arg1 c0_i32_53
  let c1_i32_54 : BitVec 32 := 1#32
  let v215 : BitVec 32 := Scalar.divsi v213 c1_i32_54
  let v216 : BitVec 32 := Scalar.muli v215 c1_i32_54
  let v217 : BitVec 32 := Scalar.addi c0_i32_53 v216
  let c1_i32_56 : BitVec 32 := 1#32
  let arg15 : BitVec 32 := Scf.iv v217 c1_i32_56 k0_t2
  let c256_i32_1184 : BitVec 32 := 256#32
  let v2359 : BitVec 32 := Scalar.muli arg15 c256_i32_1184
  let v2360 : BitVec 32 := v2359
  let v2361 : Index := Scalar.indexCast v2360
  let c0_1187 : Index := 0#32
  ![0, 0, v2361.toNat, 0]
def k0_mult9 (i : grid0.Coords) (k0_t2 : Fin (k0_t2_loop i).trips) : BitVec 32 :=
  let c0_i32_53 : BitVec 32 := 0#32
  let arg1 : BitVec 32 := BitVec.ofNat 32 (i 1).val
  let v213 : BitVec 32 := Scalar.subi arg1 c0_i32_53
  let c1_i32_54 : BitVec 32 := 1#32
  let v215 : BitVec 32 := Scalar.divsi v213 c1_i32_54
  let v216 : BitVec 32 := Scalar.muli v215 c1_i32_54
  let v217 : BitVec 32 := Scalar.addi c0_i32_53 v216
  let c1_i32_56 : BitVec 32 := 1#32
  let arg15 : BitVec 32 := Scf.iv v217 c1_i32_56 k0_t2
  let c256_i32_1193 : BitVec 32 := 256#32
  let v2367 : BitVec 32 := Scalar.muli arg15 c256_i32_1193
  v2367
def k0_off8 (i : grid0.Coords) (k0_t2 : Fin (k0_t2_loop i).trips) : Fin 3 → Nat :=
  let c0_1194 : Index := 0#32
  let c0_i32_53 : BitVec 32 := 0#32
  let arg1 : BitVec 32 := BitVec.ofNat 32 (i 1).val
  let v213 : BitVec 32 := Scalar.subi arg1 c0_i32_53
  let c1_i32_54 : BitVec 32 := 1#32
  let v215 : BitVec 32 := Scalar.divsi v213 c1_i32_54
  let v216 : BitVec 32 := Scalar.muli v215 c1_i32_54
  let v217 : BitVec 32 := Scalar.addi c0_i32_53 v216
  let c1_i32_56 : BitVec 32 := 1#32
  let arg15 : BitVec 32 := Scf.iv v217 c1_i32_56 k0_t2
  let c256_i32_1193 : BitVec 32 := 256#32
  let v2367 : BitVec 32 := Scalar.muli arg15 c256_i32_1193
  let v2368 : BitVec 32 := v2367
  let v2369 : Index := Scalar.indexCast v2368
  let c0_1195 : Index := 0#32
  ![0, v2369.toNat, 0]
def k0_mult10 (i : grid0.Coords) (k0_t2 : Fin (k0_t2_loop i).trips) : BitVec 32 :=
  let c0_i32_53 : BitVec 32 := 0#32
  let arg1 : BitVec 32 := BitVec.ofNat 32 (i 1).val
  let v213 : BitVec 32 := Scalar.subi arg1 c0_i32_53
  let c1_i32_54 : BitVec 32 := 1#32
  let v215 : BitVec 32 := Scalar.divsi v213 c1_i32_54
  let v216 : BitVec 32 := Scalar.muli v215 c1_i32_54
  let v217 : BitVec 32 := Scalar.addi c0_i32_53 v216
  let c1_i32_56 : BitVec 32 := 1#32
  let arg15 : BitVec 32 := Scf.iv v217 c1_i32_56 k0_t2
  let c256_i32_1196 : BitVec 32 := 256#32
  let v2374 : BitVec 32 := Scalar.muli arg15 c256_i32_1196
  v2374
def k0_off9 (i : grid0.Coords) (k0_t2 : Fin (k0_t2_loop i).trips) : Fin 2 → Nat :=
  let c0_i32_53 : BitVec 32 := 0#32
  let arg1 : BitVec 32 := BitVec.ofNat 32 (i 1).val
  let v213 : BitVec 32 := Scalar.subi arg1 c0_i32_53
  let c1_i32_54 : BitVec 32 := 1#32
  let v215 : BitVec 32 := Scalar.divsi v213 c1_i32_54
  let v216 : BitVec 32 := Scalar.muli v215 c1_i32_54
  let v217 : BitVec 32 := Scalar.addi c0_i32_53 v216
  let c1_i32_56 : BitVec 32 := 1#32
  let arg15 : BitVec 32 := Scf.iv v217 c1_i32_56 k0_t2
  let c256_i32_1196 : BitVec 32 := 256#32
  let v2374 : BitVec 32 := Scalar.muli arg15 c256_i32_1196
  let v2375 : BitVec 32 := v2374
  let v2376 : Index := Scalar.indexCast v2375
  let c0_1197 : Index := 0#32
  ![v2376.toNat, 0]
@[reducible] def k0_t3_loop (i : grid0.Coords) : Scf.Loop 32 :=
  let c0_i32_63 : BitVec 32 := 0#32
  let arg1 : BitVec 32 := BitVec.ofNat 32 (i 1).val
  let c1_i32_61 : BitVec 32 := 1#32
  let v226 : BitVec 32 := Scalar.addi arg1 c1_i32_61
  let v228 : BitVec 32 := Scalar.subi v226 c0_i32_63
  let c1_i32_64 : BitVec 32 := 1#32
  let v230 : BitVec 32 := Scalar.divsi v228 c1_i32_64
  let v231 : BitVec 32 := Scalar.muli v230 c1_i32_64
  let v232 : BitVec 32 := Scalar.addi c0_i32_63 v231
  let c1_i32_65 : BitVec 32 := 1#32
  ⟨c0_i32_63, v232, c1_i32_65⟩
def k0_mult11 (i : grid0.Coords) (k0_t3 : Fin (k0_t3_loop i).trips) : BitVec 32 :=
  let c0_i32_63 : BitVec 32 := 0#32
  let c1_i32_65 : BitVec 32 := 1#32
  let arg15 : BitVec 32 := Scf.iv c0_i32_63 c1_i32_65 k0_t3
  let c256_i32_1184 : BitVec 32 := 256#32
  let v2359 : BitVec 32 := Scalar.muli arg15 c256_i32_1184
  v2359
def k0_off10 (i : grid0.Coords) (k0_t3 : Fin (k0_t3_loop i).trips) : Fin 2 → Nat :=
  let c0_i32_63 : BitVec 32 := 0#32
  let c1_i32_65 : BitVec 32 := 1#32
  let arg15 : BitVec 32 := Scf.iv c0_i32_63 c1_i32_65 k0_t3
  let c256_i32_1184 : BitVec 32 := 256#32
  let v2359 : BitVec 32 := Scalar.muli arg15 c256_i32_1184
  let v2360 : BitVec 32 := v2359
  let v2361 : Index := Scalar.indexCast v2360
  let c0_1185 : Index := 0#32
  ![v2361.toNat, 0]
def k0_mult12 (i : grid0.Coords) (k0_t3 : Fin (k0_t3_loop i).trips) : BitVec 32 :=
  let c0_i32_63 : BitVec 32 := 0#32
  let c1_i32_65 : BitVec 32 := 1#32
  let arg15 : BitVec 32 := Scf.iv c0_i32_63 c1_i32_65 k0_t3
  let c256_i32_1188 : BitVec 32 := 256#32
  let v2369 : BitVec 32 := Scalar.muli arg15 c256_i32_1188
  v2369
def k0_off11 (i : grid0.Coords) (k0_t3 : Fin (k0_t3_loop i).trips) : Fin 4 → Nat :=
  let c0_1189 : Index := 0#32
  let c0_1190 : Index := 0#32
  let c0_1191 : Index := 0#32
  let c0_i32_63 : BitVec 32 := 0#32
  let c1_i32_65 : BitVec 32 := 1#32
  let arg15 : BitVec 32 := Scf.iv c0_i32_63 c1_i32_65 k0_t3
  let c256_i32_1188 : BitVec 32 := 256#32
  let v2369 : BitVec 32 := Scalar.muli arg15 c256_i32_1188
  let v2370 : BitVec 32 := v2369
  let v2371 : Index := Scalar.indexCast v2370
  ![0, 0, 0, v2371.toNat]
@[reducible] def k0_t4_loop (i : grid0.Coords) : Scf.Loop 32 :=
  let c0_i32_63 : BitVec 32 := 0#32
  let arg1 : BitVec 32 := BitVec.ofNat 32 (i 1).val
  let c1_i32_61 : BitVec 32 := 1#32
  let v226 : BitVec 32 := Scalar.addi arg1 c1_i32_61
  let v228 : BitVec 32 := Scalar.subi v226 c0_i32_63
  let c1_i32_64 : BitVec 32 := 1#32
  let v230 : BitVec 32 := Scalar.divsi v228 c1_i32_64
  let v231 : BitVec 32 := Scalar.muli v230 c1_i32_64
  let v232 : BitVec 32 := Scalar.addi c0_i32_63 v231
  let v229 : BitVec 32 := Scalar.addi c0_i32_63 v228
  let c1_i32_66 : BitVec 32 := 1#32
  ⟨v232, v229, c1_i32_66⟩
def k0_mult13 (i : grid0.Coords) (k0_t4 : Fin (k0_t4_loop i).trips) : BitVec 32 :=
  let c0_i32_63 : BitVec 32 := 0#32
  let arg1 : BitVec 32 := BitVec.ofNat 32 (i 1).val
  let c1_i32_61 : BitVec 32 := 1#32
  let v226 : BitVec 32 := Scalar.addi arg1 c1_i32_61
  let v228 : BitVec 32 := Scalar.subi v226 c0_i32_63
  let c1_i32_64 : BitVec 32 := 1#32
  let v230 : BitVec 32 := Scalar.divsi v228 c1_i32_64
  let v231 : BitVec 32 := Scalar.muli v230 c1_i32_64
  let v232 : BitVec 32 := Scalar.addi c0_i32_63 v231
  let c1_i32_66 : BitVec 32 := 1#32
  let arg15 : BitVec 32 := Scf.iv v232 c1_i32_66 k0_t4
  let c256_i32_1184 : BitVec 32 := 256#32
  let v2359 : BitVec 32 := Scalar.muli arg15 c256_i32_1184
  v2359
def k0_off12 (i : grid0.Coords) (k0_t4 : Fin (k0_t4_loop i).trips) : Fin 2 → Nat :=
  let c0_i32_63 : BitVec 32 := 0#32
  let arg1 : BitVec 32 := BitVec.ofNat 32 (i 1).val
  let c1_i32_61 : BitVec 32 := 1#32
  let v226 : BitVec 32 := Scalar.addi arg1 c1_i32_61
  let v228 : BitVec 32 := Scalar.subi v226 c0_i32_63
  let c1_i32_64 : BitVec 32 := 1#32
  let v230 : BitVec 32 := Scalar.divsi v228 c1_i32_64
  let v231 : BitVec 32 := Scalar.muli v230 c1_i32_64
  let v232 : BitVec 32 := Scalar.addi c0_i32_63 v231
  let c1_i32_66 : BitVec 32 := 1#32
  let arg15 : BitVec 32 := Scf.iv v232 c1_i32_66 k0_t4
  let c256_i32_1184 : BitVec 32 := 256#32
  let v2359 : BitVec 32 := Scalar.muli arg15 c256_i32_1184
  let v2360 : BitVec 32 := v2359
  let v2361 : Index := Scalar.indexCast v2360
  let c0_1185 : Index := 0#32
  ![v2361.toNat, 0]
def k0_mult14 (i : grid0.Coords) (k0_t4 : Fin (k0_t4_loop i).trips) : BitVec 32 :=
  let c0_i32_63 : BitVec 32 := 0#32
  let arg1 : BitVec 32 := BitVec.ofNat 32 (i 1).val
  let c1_i32_61 : BitVec 32 := 1#32
  let v226 : BitVec 32 := Scalar.addi arg1 c1_i32_61
  let v228 : BitVec 32 := Scalar.subi v226 c0_i32_63
  let c1_i32_64 : BitVec 32 := 1#32
  let v230 : BitVec 32 := Scalar.divsi v228 c1_i32_64
  let v231 : BitVec 32 := Scalar.muli v230 c1_i32_64
  let v232 : BitVec 32 := Scalar.addi c0_i32_63 v231
  let c1_i32_66 : BitVec 32 := 1#32
  let arg15 : BitVec 32 := Scf.iv v232 c1_i32_66 k0_t4
  let c256_i32_1188 : BitVec 32 := 256#32
  let v2369 : BitVec 32 := Scalar.muli arg15 c256_i32_1188
  v2369
def k0_off13 (i : grid0.Coords) (k0_t4 : Fin (k0_t4_loop i).trips) : Fin 4 → Nat :=
  let c0_1189 : Index := 0#32
  let c0_1190 : Index := 0#32
  let c0_1191 : Index := 0#32
  let c0_i32_63 : BitVec 32 := 0#32
  let arg1 : BitVec 32 := BitVec.ofNat 32 (i 1).val
  let c1_i32_61 : BitVec 32 := 1#32
  let v226 : BitVec 32 := Scalar.addi arg1 c1_i32_61
  let v228 : BitVec 32 := Scalar.subi v226 c0_i32_63
  let c1_i32_64 : BitVec 32 := 1#32
  let v230 : BitVec 32 := Scalar.divsi v228 c1_i32_64
  let v231 : BitVec 32 := Scalar.muli v230 c1_i32_64
  let v232 : BitVec 32 := Scalar.addi c0_i32_63 v231
  let c1_i32_66 : BitVec 32 := 1#32
  let arg15 : BitVec 32 := Scf.iv v232 c1_i32_66 k0_t4
  let c256_i32_1188 : BitVec 32 := 256#32
  let v2369 : BitVec 32 := Scalar.muli arg15 c256_i32_1188
  let v2370 : BitVec 32 := v2369
  let v2371 : Index := Scalar.indexCast v2370
  ![0, 0, 0, v2371.toNat]
def k0_mult15 (i : grid0.Coords) : BitVec 32 :=
  let arg1 : BitVec 32 := BitVec.ofNat 32 (i 1).val
  let c256_i32_126 : BitVec 32 := 256#32
  let v369 : BitVec 32 := Scalar.muli arg1 c256_i32_126
  v369
def k0_off14 (i : grid0.Coords) : Fin 3 → Nat :=
  let c1_127 : Index := 1#32
  let arg1 : BitVec 32 := BitVec.ofNat 32 (i 1).val
  let c256_i32_126 : BitVec 32 := 256#32
  let v369 : BitVec 32 := Scalar.muli arg1 c256_i32_126
  let v370 : BitVec 32 := v369
  let v371 : Index := Scalar.indexCast v370
  let c0_128 : Index := 0#32
  ![1, v371.toNat, 0]
def k0_mult16 (i : grid0.Coords) : BitVec 32 :=
  let arg1 : BitVec 32 := BitVec.ofNat 32 (i 1).val
  let c256_i32_130 : BitVec 32 := 256#32
  let v377 : BitVec 32 := Scalar.muli arg1 c256_i32_130
  v377
def k0_off15 (i : grid0.Coords) : Fin 4 → Nat :=
  let c0_131 : Index := 0#32
  let c1_132 : Index := 1#32
  let arg1 : BitVec 32 := BitVec.ofNat 32 (i 1).val
  let c256_i32_130 : BitVec 32 := 256#32
  let v377 : BitVec 32 := Scalar.muli arg1 c256_i32_130
  let v378 : BitVec 32 := v377
  let v379 : Index := Scalar.indexCast v378
  let c0_133 : Index := 0#32
  ![0, 1, v379.toNat, 0]
def k0_mult17 (i : grid0.Coords) : BitVec 32 :=
  let arg1 : BitVec 32 := BitVec.ofNat 32 (i 1).val
  let c256_i32_139 : BitVec 32 := 256#32
  let v385 : BitVec 32 := Scalar.muli arg1 c256_i32_139
  v385
def k0_mult18 (i : grid0.Coords) : BitVec 32 :=
  let arg1 : BitVec 32 := BitVec.ofNat 32 (i 1).val
  let c256_i32_143 : BitVec 32 := 256#32
  let v394 : BitVec 32 := Scalar.muli arg1 c256_i32_143
  v394
@[reducible] def k0_t5_loop (i : grid0.Coords) : Scf.Loop 32 :=
  let c0_i32_145 : BitVec 32 := 0#32
  let arg1 : BitVec 32 := BitVec.ofNat 32 (i 1).val
  let v463 : BitVec 32 := Scalar.subi arg1 c0_i32_145
  let c1_i32_146 : BitVec 32 := 1#32
  let v465 : BitVec 32 := Scalar.divsi v463 c1_i32_146
  let v466 : BitVec 32 := Scalar.muli v465 c1_i32_146
  let v467 : BitVec 32 := Scalar.addi c0_i32_145 v466
  let c1_i32_147 : BitVec 32 := 1#32
  ⟨c0_i32_145, v467, c1_i32_147⟩
def k0_mult19 (i : grid0.Coords) (k0_t5 : Fin (k0_t5_loop i).trips) : BitVec 32 :=
  let c0_i32_145 : BitVec 32 := 0#32
  let c1_i32_147 : BitVec 32 := 1#32
  let arg15 : BitVec 32 := Scf.iv c0_i32_145 c1_i32_147 k0_t5
  let c256_i32_1184 : BitVec 32 := 256#32
  let v2359 : BitVec 32 := Scalar.muli arg15 c256_i32_1184
  v2359
def k0_off16 (i : grid0.Coords) (k0_t5 : Fin (k0_t5_loop i).trips) : Fin 4 → Nat :=
  let c0_1185 : Index := 0#32
  let c1_1186 : Index := 1#32
  let c0_i32_145 : BitVec 32 := 0#32
  let c1_i32_147 : BitVec 32 := 1#32
  let arg15 : BitVec 32 := Scf.iv c0_i32_145 c1_i32_147 k0_t5
  let c256_i32_1184 : BitVec 32 := 256#32
  let v2359 : BitVec 32 := Scalar.muli arg15 c256_i32_1184
  let v2360 : BitVec 32 := v2359
  let v2361 : Index := Scalar.indexCast v2360
  let c0_1187 : Index := 0#32
  ![0, 1, v2361.toNat, 0]
def k0_mult20 (i : grid0.Coords) (k0_t5 : Fin (k0_t5_loop i).trips) : BitVec 32 :=
  let c0_i32_145 : BitVec 32 := 0#32
  let c1_i32_147 : BitVec 32 := 1#32
  let arg15 : BitVec 32 := Scf.iv c0_i32_145 c1_i32_147 k0_t5
  let c256_i32_1193 : BitVec 32 := 256#32
  let v2367 : BitVec 32 := Scalar.muli arg15 c256_i32_1193
  v2367
def k0_off17 (i : grid0.Coords) (k0_t5 : Fin (k0_t5_loop i).trips) : Fin 3 → Nat :=
  let c1_1194 : Index := 1#32
  let c0_i32_145 : BitVec 32 := 0#32
  let c1_i32_147 : BitVec 32 := 1#32
  let arg15 : BitVec 32 := Scf.iv c0_i32_145 c1_i32_147 k0_t5
  let c256_i32_1193 : BitVec 32 := 256#32
  let v2367 : BitVec 32 := Scalar.muli arg15 c256_i32_1193
  let v2368 : BitVec 32 := v2367
  let v2369 : Index := Scalar.indexCast v2368
  let c0_1195 : Index := 0#32
  ![1, v2369.toNat, 0]
def k0_mult21 (i : grid0.Coords) (k0_t5 : Fin (k0_t5_loop i).trips) : BitVec 32 :=
  let c0_i32_145 : BitVec 32 := 0#32
  let c1_i32_147 : BitVec 32 := 1#32
  let arg15 : BitVec 32 := Scf.iv c0_i32_145 c1_i32_147 k0_t5
  let c256_i32_1196 : BitVec 32 := 256#32
  let v2374 : BitVec 32 := Scalar.muli arg15 c256_i32_1196
  v2374
def k0_off18 (i : grid0.Coords) (k0_t5 : Fin (k0_t5_loop i).trips) : Fin 2 → Nat :=
  let c0_i32_145 : BitVec 32 := 0#32
  let c1_i32_147 : BitVec 32 := 1#32
  let arg15 : BitVec 32 := Scf.iv c0_i32_145 c1_i32_147 k0_t5
  let c256_i32_1196 : BitVec 32 := 256#32
  let v2374 : BitVec 32 := Scalar.muli arg15 c256_i32_1196
  let v2375 : BitVec 32 := v2374
  let v2376 : Index := Scalar.indexCast v2375
  let c0_1197 : Index := 0#32
  ![v2376.toNat, 0]
@[reducible] def k0_t6_loop (i : grid0.Coords) : Scf.Loop 32 :=
  let c0_i32_145 : BitVec 32 := 0#32
  let arg1 : BitVec 32 := BitVec.ofNat 32 (i 1).val
  let v463 : BitVec 32 := Scalar.subi arg1 c0_i32_145
  let c1_i32_146 : BitVec 32 := 1#32
  let v465 : BitVec 32 := Scalar.divsi v463 c1_i32_146
  let v466 : BitVec 32 := Scalar.muli v465 c1_i32_146
  let v467 : BitVec 32 := Scalar.addi c0_i32_145 v466
  let v464 : BitVec 32 := Scalar.addi c0_i32_145 v463
  let c1_i32_148 : BitVec 32 := 1#32
  ⟨v467, v464, c1_i32_148⟩
def k0_mult22 (i : grid0.Coords) (k0_t6 : Fin (k0_t6_loop i).trips) : BitVec 32 :=
  let c0_i32_145 : BitVec 32 := 0#32
  let arg1 : BitVec 32 := BitVec.ofNat 32 (i 1).val
  let v463 : BitVec 32 := Scalar.subi arg1 c0_i32_145
  let c1_i32_146 : BitVec 32 := 1#32
  let v465 : BitVec 32 := Scalar.divsi v463 c1_i32_146
  let v466 : BitVec 32 := Scalar.muli v465 c1_i32_146
  let v467 : BitVec 32 := Scalar.addi c0_i32_145 v466
  let c1_i32_148 : BitVec 32 := 1#32
  let arg15 : BitVec 32 := Scf.iv v467 c1_i32_148 k0_t6
  let c256_i32_1184 : BitVec 32 := 256#32
  let v2359 : BitVec 32 := Scalar.muli arg15 c256_i32_1184
  v2359
def k0_off19 (i : grid0.Coords) (k0_t6 : Fin (k0_t6_loop i).trips) : Fin 4 → Nat :=
  let c0_1185 : Index := 0#32
  let c1_1186 : Index := 1#32
  let c0_i32_145 : BitVec 32 := 0#32
  let arg1 : BitVec 32 := BitVec.ofNat 32 (i 1).val
  let v463 : BitVec 32 := Scalar.subi arg1 c0_i32_145
  let c1_i32_146 : BitVec 32 := 1#32
  let v465 : BitVec 32 := Scalar.divsi v463 c1_i32_146
  let v466 : BitVec 32 := Scalar.muli v465 c1_i32_146
  let v467 : BitVec 32 := Scalar.addi c0_i32_145 v466
  let c1_i32_148 : BitVec 32 := 1#32
  let arg15 : BitVec 32 := Scf.iv v467 c1_i32_148 k0_t6
  let c256_i32_1184 : BitVec 32 := 256#32
  let v2359 : BitVec 32 := Scalar.muli arg15 c256_i32_1184
  let v2360 : BitVec 32 := v2359
  let v2361 : Index := Scalar.indexCast v2360
  let c0_1187 : Index := 0#32
  ![0, 1, v2361.toNat, 0]
def k0_mult23 (i : grid0.Coords) (k0_t6 : Fin (k0_t6_loop i).trips) : BitVec 32 :=
  let c0_i32_145 : BitVec 32 := 0#32
  let arg1 : BitVec 32 := BitVec.ofNat 32 (i 1).val
  let v463 : BitVec 32 := Scalar.subi arg1 c0_i32_145
  let c1_i32_146 : BitVec 32 := 1#32
  let v465 : BitVec 32 := Scalar.divsi v463 c1_i32_146
  let v466 : BitVec 32 := Scalar.muli v465 c1_i32_146
  let v467 : BitVec 32 := Scalar.addi c0_i32_145 v466
  let c1_i32_148 : BitVec 32 := 1#32
  let arg15 : BitVec 32 := Scf.iv v467 c1_i32_148 k0_t6
  let c256_i32_1193 : BitVec 32 := 256#32
  let v2367 : BitVec 32 := Scalar.muli arg15 c256_i32_1193
  v2367
def k0_off20 (i : grid0.Coords) (k0_t6 : Fin (k0_t6_loop i).trips) : Fin 3 → Nat :=
  let c1_1194 : Index := 1#32
  let c0_i32_145 : BitVec 32 := 0#32
  let arg1 : BitVec 32 := BitVec.ofNat 32 (i 1).val
  let v463 : BitVec 32 := Scalar.subi arg1 c0_i32_145
  let c1_i32_146 : BitVec 32 := 1#32
  let v465 : BitVec 32 := Scalar.divsi v463 c1_i32_146
  let v466 : BitVec 32 := Scalar.muli v465 c1_i32_146
  let v467 : BitVec 32 := Scalar.addi c0_i32_145 v466
  let c1_i32_148 : BitVec 32 := 1#32
  let arg15 : BitVec 32 := Scf.iv v467 c1_i32_148 k0_t6
  let c256_i32_1193 : BitVec 32 := 256#32
  let v2367 : BitVec 32 := Scalar.muli arg15 c256_i32_1193
  let v2368 : BitVec 32 := v2367
  let v2369 : Index := Scalar.indexCast v2368
  let c0_1195 : Index := 0#32
  ![1, v2369.toNat, 0]
def k0_mult24 (i : grid0.Coords) (k0_t6 : Fin (k0_t6_loop i).trips) : BitVec 32 :=
  let c0_i32_145 : BitVec 32 := 0#32
  let arg1 : BitVec 32 := BitVec.ofNat 32 (i 1).val
  let v463 : BitVec 32 := Scalar.subi arg1 c0_i32_145
  let c1_i32_146 : BitVec 32 := 1#32
  let v465 : BitVec 32 := Scalar.divsi v463 c1_i32_146
  let v466 : BitVec 32 := Scalar.muli v465 c1_i32_146
  let v467 : BitVec 32 := Scalar.addi c0_i32_145 v466
  let c1_i32_148 : BitVec 32 := 1#32
  let arg15 : BitVec 32 := Scf.iv v467 c1_i32_148 k0_t6
  let c256_i32_1196 : BitVec 32 := 256#32
  let v2374 : BitVec 32 := Scalar.muli arg15 c256_i32_1196
  v2374
def k0_off21 (i : grid0.Coords) (k0_t6 : Fin (k0_t6_loop i).trips) : Fin 2 → Nat :=
  let c0_i32_145 : BitVec 32 := 0#32
  let arg1 : BitVec 32 := BitVec.ofNat 32 (i 1).val
  let v463 : BitVec 32 := Scalar.subi arg1 c0_i32_145
  let c1_i32_146 : BitVec 32 := 1#32
  let v465 : BitVec 32 := Scalar.divsi v463 c1_i32_146
  let v466 : BitVec 32 := Scalar.muli v465 c1_i32_146
  let v467 : BitVec 32 := Scalar.addi c0_i32_145 v466
  let c1_i32_148 : BitVec 32 := 1#32
  let arg15 : BitVec 32 := Scf.iv v467 c1_i32_148 k0_t6
  let c256_i32_1196 : BitVec 32 := 256#32
  let v2374 : BitVec 32 := Scalar.muli arg15 c256_i32_1196
  let v2375 : BitVec 32 := v2374
  let v2376 : Index := Scalar.indexCast v2375
  let c0_1197 : Index := 0#32
  ![v2376.toNat, 0]
@[reducible] def k0_t7_loop (i : grid0.Coords) : Scf.Loop 32 :=
  let c0_i32_155 : BitVec 32 := 0#32
  let arg1 : BitVec 32 := BitVec.ofNat 32 (i 1).val
  let c1_i32_153 : BitVec 32 := 1#32
  let v476 : BitVec 32 := Scalar.addi arg1 c1_i32_153
  let v478 : BitVec 32 := Scalar.subi v476 c0_i32_155
  let c1_i32_156 : BitVec 32 := 1#32
  let v480 : BitVec 32 := Scalar.divsi v478 c1_i32_156
  let v481 : BitVec 32 := Scalar.muli v480 c1_i32_156
  let v482 : BitVec 32 := Scalar.addi c0_i32_155 v481
  let c1_i32_157 : BitVec 32 := 1#32
  ⟨c0_i32_155, v482, c1_i32_157⟩
def k0_mult25 (i : grid0.Coords) (k0_t7 : Fin (k0_t7_loop i).trips) : BitVec 32 :=
  let c0_i32_155 : BitVec 32 := 0#32
  let c1_i32_157 : BitVec 32 := 1#32
  let arg15 : BitVec 32 := Scf.iv c0_i32_155 c1_i32_157 k0_t7
  let c256_i32_1184 : BitVec 32 := 256#32
  let v2359 : BitVec 32 := Scalar.muli arg15 c256_i32_1184
  v2359
def k0_off22 (i : grid0.Coords) (k0_t7 : Fin (k0_t7_loop i).trips) : Fin 2 → Nat :=
  let c0_i32_155 : BitVec 32 := 0#32
  let c1_i32_157 : BitVec 32 := 1#32
  let arg15 : BitVec 32 := Scf.iv c0_i32_155 c1_i32_157 k0_t7
  let c256_i32_1184 : BitVec 32 := 256#32
  let v2359 : BitVec 32 := Scalar.muli arg15 c256_i32_1184
  let v2360 : BitVec 32 := v2359
  let v2361 : Index := Scalar.indexCast v2360
  let c0_1185 : Index := 0#32
  ![v2361.toNat, 0]
def k0_mult26 (i : grid0.Coords) (k0_t7 : Fin (k0_t7_loop i).trips) : BitVec 32 :=
  let c0_i32_155 : BitVec 32 := 0#32
  let c1_i32_157 : BitVec 32 := 1#32
  let arg15 : BitVec 32 := Scf.iv c0_i32_155 c1_i32_157 k0_t7
  let c256_i32_1188 : BitVec 32 := 256#32
  let v2369 : BitVec 32 := Scalar.muli arg15 c256_i32_1188
  v2369
def k0_off23 (i : grid0.Coords) (k0_t7 : Fin (k0_t7_loop i).trips) : Fin 4 → Nat :=
  let c0_1189 : Index := 0#32
  let c1_1190 : Index := 1#32
  let c0_1191 : Index := 0#32
  let c0_i32_155 : BitVec 32 := 0#32
  let c1_i32_157 : BitVec 32 := 1#32
  let arg15 : BitVec 32 := Scf.iv c0_i32_155 c1_i32_157 k0_t7
  let c256_i32_1188 : BitVec 32 := 256#32
  let v2369 : BitVec 32 := Scalar.muli arg15 c256_i32_1188
  let v2370 : BitVec 32 := v2369
  let v2371 : Index := Scalar.indexCast v2370
  ![0, 1, 0, v2371.toNat]
@[reducible] def k0_t8_loop (i : grid0.Coords) : Scf.Loop 32 :=
  let c0_i32_155 : BitVec 32 := 0#32
  let arg1 : BitVec 32 := BitVec.ofNat 32 (i 1).val
  let c1_i32_153 : BitVec 32 := 1#32
  let v476 : BitVec 32 := Scalar.addi arg1 c1_i32_153
  let v478 : BitVec 32 := Scalar.subi v476 c0_i32_155
  let c1_i32_156 : BitVec 32 := 1#32
  let v480 : BitVec 32 := Scalar.divsi v478 c1_i32_156
  let v481 : BitVec 32 := Scalar.muli v480 c1_i32_156
  let v482 : BitVec 32 := Scalar.addi c0_i32_155 v481
  let v479 : BitVec 32 := Scalar.addi c0_i32_155 v478
  let c1_i32_158 : BitVec 32 := 1#32
  ⟨v482, v479, c1_i32_158⟩
def k0_mult27 (i : grid0.Coords) (k0_t8 : Fin (k0_t8_loop i).trips) : BitVec 32 :=
  let c0_i32_155 : BitVec 32 := 0#32
  let arg1 : BitVec 32 := BitVec.ofNat 32 (i 1).val
  let c1_i32_153 : BitVec 32 := 1#32
  let v476 : BitVec 32 := Scalar.addi arg1 c1_i32_153
  let v478 : BitVec 32 := Scalar.subi v476 c0_i32_155
  let c1_i32_156 : BitVec 32 := 1#32
  let v480 : BitVec 32 := Scalar.divsi v478 c1_i32_156
  let v481 : BitVec 32 := Scalar.muli v480 c1_i32_156
  let v482 : BitVec 32 := Scalar.addi c0_i32_155 v481
  let c1_i32_158 : BitVec 32 := 1#32
  let arg15 : BitVec 32 := Scf.iv v482 c1_i32_158 k0_t8
  let c256_i32_1184 : BitVec 32 := 256#32
  let v2359 : BitVec 32 := Scalar.muli arg15 c256_i32_1184
  v2359
def k0_off24 (i : grid0.Coords) (k0_t8 : Fin (k0_t8_loop i).trips) : Fin 2 → Nat :=
  let c0_i32_155 : BitVec 32 := 0#32
  let arg1 : BitVec 32 := BitVec.ofNat 32 (i 1).val
  let c1_i32_153 : BitVec 32 := 1#32
  let v476 : BitVec 32 := Scalar.addi arg1 c1_i32_153
  let v478 : BitVec 32 := Scalar.subi v476 c0_i32_155
  let c1_i32_156 : BitVec 32 := 1#32
  let v480 : BitVec 32 := Scalar.divsi v478 c1_i32_156
  let v481 : BitVec 32 := Scalar.muli v480 c1_i32_156
  let v482 : BitVec 32 := Scalar.addi c0_i32_155 v481
  let c1_i32_158 : BitVec 32 := 1#32
  let arg15 : BitVec 32 := Scf.iv v482 c1_i32_158 k0_t8
  let c256_i32_1184 : BitVec 32 := 256#32
  let v2359 : BitVec 32 := Scalar.muli arg15 c256_i32_1184
  let v2360 : BitVec 32 := v2359
  let v2361 : Index := Scalar.indexCast v2360
  let c0_1185 : Index := 0#32
  ![v2361.toNat, 0]
def k0_mult28 (i : grid0.Coords) (k0_t8 : Fin (k0_t8_loop i).trips) : BitVec 32 :=
  let c0_i32_155 : BitVec 32 := 0#32
  let arg1 : BitVec 32 := BitVec.ofNat 32 (i 1).val
  let c1_i32_153 : BitVec 32 := 1#32
  let v476 : BitVec 32 := Scalar.addi arg1 c1_i32_153
  let v478 : BitVec 32 := Scalar.subi v476 c0_i32_155
  let c1_i32_156 : BitVec 32 := 1#32
  let v480 : BitVec 32 := Scalar.divsi v478 c1_i32_156
  let v481 : BitVec 32 := Scalar.muli v480 c1_i32_156
  let v482 : BitVec 32 := Scalar.addi c0_i32_155 v481
  let c1_i32_158 : BitVec 32 := 1#32
  let arg15 : BitVec 32 := Scf.iv v482 c1_i32_158 k0_t8
  let c256_i32_1188 : BitVec 32 := 256#32
  let v2369 : BitVec 32 := Scalar.muli arg15 c256_i32_1188
  v2369
def k0_off25 (i : grid0.Coords) (k0_t8 : Fin (k0_t8_loop i).trips) : Fin 4 → Nat :=
  let c0_1189 : Index := 0#32
  let c1_1190 : Index := 1#32
  let c0_1191 : Index := 0#32
  let c0_i32_155 : BitVec 32 := 0#32
  let arg1 : BitVec 32 := BitVec.ofNat 32 (i 1).val
  let c1_i32_153 : BitVec 32 := 1#32
  let v476 : BitVec 32 := Scalar.addi arg1 c1_i32_153
  let v478 : BitVec 32 := Scalar.subi v476 c0_i32_155
  let c1_i32_156 : BitVec 32 := 1#32
  let v480 : BitVec 32 := Scalar.divsi v478 c1_i32_156
  let v481 : BitVec 32 := Scalar.muli v480 c1_i32_156
  let v482 : BitVec 32 := Scalar.addi c0_i32_155 v481
  let c1_i32_158 : BitVec 32 := 1#32
  let arg15 : BitVec 32 := Scf.iv v482 c1_i32_158 k0_t8
  let c256_i32_1188 : BitVec 32 := 256#32
  let v2369 : BitVec 32 := Scalar.muli arg15 c256_i32_1188
  let v2370 : BitVec 32 := v2369
  let v2371 : Index := Scalar.indexCast v2370
  ![0, 1, 0, v2371.toNat]
def k0_mult29 (i : grid0.Coords) : BitVec 32 :=
  let arg1 : BitVec 32 := BitVec.ofNat 32 (i 1).val
  let c256_i32_331 : BitVec 32 := 256#32
  let v708 : BitVec 32 := Scalar.muli arg1 c256_i32_331
  v708
def k0_off26 (i : grid0.Coords) : Fin 3 → Nat :=
  let c2_332 : Index := 2#32
  let arg1 : BitVec 32 := BitVec.ofNat 32 (i 1).val
  let c256_i32_331 : BitVec 32 := 256#32
  let v708 : BitVec 32 := Scalar.muli arg1 c256_i32_331
  let v709 : BitVec 32 := v708
  let v710 : Index := Scalar.indexCast v709
  let c0_333 : Index := 0#32
  ![2, v710.toNat, 0]
def k0_mult30 (i : grid0.Coords) : BitVec 32 :=
  let arg1 : BitVec 32 := BitVec.ofNat 32 (i 1).val
  let c256_i32_335 : BitVec 32 := 256#32
  let v716 : BitVec 32 := Scalar.muli arg1 c256_i32_335
  v716
def k0_off27 (i : grid0.Coords) : Fin 4 → Nat :=
  let c0_336 : Index := 0#32
  let c2_337 : Index := 2#32
  let arg1 : BitVec 32 := BitVec.ofNat 32 (i 1).val
  let c256_i32_335 : BitVec 32 := 256#32
  let v716 : BitVec 32 := Scalar.muli arg1 c256_i32_335
  let v717 : BitVec 32 := v716
  let v718 : Index := Scalar.indexCast v717
  let c0_338 : Index := 0#32
  ![0, 2, v718.toNat, 0]
def k0_mult31 (i : grid0.Coords) : BitVec 32 :=
  let arg1 : BitVec 32 := BitVec.ofNat 32 (i 1).val
  let c256_i32_344 : BitVec 32 := 256#32
  let v724 : BitVec 32 := Scalar.muli arg1 c256_i32_344
  v724
def k0_mult32 (i : grid0.Coords) : BitVec 32 :=
  let arg1 : BitVec 32 := BitVec.ofNat 32 (i 1).val
  let c256_i32_348 : BitVec 32 := 256#32
  let v733 : BitVec 32 := Scalar.muli arg1 c256_i32_348
  v733
@[reducible] def k0_t9_loop (i : grid0.Coords) : Scf.Loop 32 :=
  let c0_i32_350 : BitVec 32 := 0#32
  let arg1 : BitVec 32 := BitVec.ofNat 32 (i 1).val
  let v802 : BitVec 32 := Scalar.subi arg1 c0_i32_350
  let c1_i32_351 : BitVec 32 := 1#32
  let v804 : BitVec 32 := Scalar.divsi v802 c1_i32_351
  let v805 : BitVec 32 := Scalar.muli v804 c1_i32_351
  let v806 : BitVec 32 := Scalar.addi c0_i32_350 v805
  let c1_i32_352 : BitVec 32 := 1#32
  ⟨c0_i32_350, v806, c1_i32_352⟩
def k0_mult33 (i : grid0.Coords) (k0_t9 : Fin (k0_t9_loop i).trips) : BitVec 32 :=
  let c0_i32_350 : BitVec 32 := 0#32
  let c1_i32_352 : BitVec 32 := 1#32
  let arg15 : BitVec 32 := Scf.iv c0_i32_350 c1_i32_352 k0_t9
  let c256_i32_1184 : BitVec 32 := 256#32
  let v2359 : BitVec 32 := Scalar.muli arg15 c256_i32_1184
  v2359
def k0_off28 (i : grid0.Coords) (k0_t9 : Fin (k0_t9_loop i).trips) : Fin 4 → Nat :=
  let c0_1185 : Index := 0#32
  let c2_1186 : Index := 2#32
  let c0_i32_350 : BitVec 32 := 0#32
  let c1_i32_352 : BitVec 32 := 1#32
  let arg15 : BitVec 32 := Scf.iv c0_i32_350 c1_i32_352 k0_t9
  let c256_i32_1184 : BitVec 32 := 256#32
  let v2359 : BitVec 32 := Scalar.muli arg15 c256_i32_1184
  let v2360 : BitVec 32 := v2359
  let v2361 : Index := Scalar.indexCast v2360
  let c0_1187 : Index := 0#32
  ![0, 2, v2361.toNat, 0]
def k0_mult34 (i : grid0.Coords) (k0_t9 : Fin (k0_t9_loop i).trips) : BitVec 32 :=
  let c0_i32_350 : BitVec 32 := 0#32
  let c1_i32_352 : BitVec 32 := 1#32
  let arg15 : BitVec 32 := Scf.iv c0_i32_350 c1_i32_352 k0_t9
  let c256_i32_1193 : BitVec 32 := 256#32
  let v2367 : BitVec 32 := Scalar.muli arg15 c256_i32_1193
  v2367
def k0_off29 (i : grid0.Coords) (k0_t9 : Fin (k0_t9_loop i).trips) : Fin 3 → Nat :=
  let c2_1194 : Index := 2#32
  let c0_i32_350 : BitVec 32 := 0#32
  let c1_i32_352 : BitVec 32 := 1#32
  let arg15 : BitVec 32 := Scf.iv c0_i32_350 c1_i32_352 k0_t9
  let c256_i32_1193 : BitVec 32 := 256#32
  let v2367 : BitVec 32 := Scalar.muli arg15 c256_i32_1193
  let v2368 : BitVec 32 := v2367
  let v2369 : Index := Scalar.indexCast v2368
  let c0_1195 : Index := 0#32
  ![2, v2369.toNat, 0]
def k0_mult35 (i : grid0.Coords) (k0_t9 : Fin (k0_t9_loop i).trips) : BitVec 32 :=
  let c0_i32_350 : BitVec 32 := 0#32
  let c1_i32_352 : BitVec 32 := 1#32
  let arg15 : BitVec 32 := Scf.iv c0_i32_350 c1_i32_352 k0_t9
  let c256_i32_1196 : BitVec 32 := 256#32
  let v2374 : BitVec 32 := Scalar.muli arg15 c256_i32_1196
  v2374
def k0_off30 (i : grid0.Coords) (k0_t9 : Fin (k0_t9_loop i).trips) : Fin 2 → Nat :=
  let c0_i32_350 : BitVec 32 := 0#32
  let c1_i32_352 : BitVec 32 := 1#32
  let arg15 : BitVec 32 := Scf.iv c0_i32_350 c1_i32_352 k0_t9
  let c256_i32_1196 : BitVec 32 := 256#32
  let v2374 : BitVec 32 := Scalar.muli arg15 c256_i32_1196
  let v2375 : BitVec 32 := v2374
  let v2376 : Index := Scalar.indexCast v2375
  let c0_1197 : Index := 0#32
  ![v2376.toNat, 0]
@[reducible] def k0_t10_loop (i : grid0.Coords) : Scf.Loop 32 :=
  let c0_i32_350 : BitVec 32 := 0#32
  let arg1 : BitVec 32 := BitVec.ofNat 32 (i 1).val
  let v802 : BitVec 32 := Scalar.subi arg1 c0_i32_350
  let c1_i32_351 : BitVec 32 := 1#32
  let v804 : BitVec 32 := Scalar.divsi v802 c1_i32_351
  let v805 : BitVec 32 := Scalar.muli v804 c1_i32_351
  let v806 : BitVec 32 := Scalar.addi c0_i32_350 v805
  let v803 : BitVec 32 := Scalar.addi c0_i32_350 v802
  let c1_i32_353 : BitVec 32 := 1#32
  ⟨v806, v803, c1_i32_353⟩
def k0_mult36 (i : grid0.Coords) (k0_t10 : Fin (k0_t10_loop i).trips) : BitVec 32 :=
  let c0_i32_350 : BitVec 32 := 0#32
  let arg1 : BitVec 32 := BitVec.ofNat 32 (i 1).val
  let v802 : BitVec 32 := Scalar.subi arg1 c0_i32_350
  let c1_i32_351 : BitVec 32 := 1#32
  let v804 : BitVec 32 := Scalar.divsi v802 c1_i32_351
  let v805 : BitVec 32 := Scalar.muli v804 c1_i32_351
  let v806 : BitVec 32 := Scalar.addi c0_i32_350 v805
  let c1_i32_353 : BitVec 32 := 1#32
  let arg15 : BitVec 32 := Scf.iv v806 c1_i32_353 k0_t10
  let c256_i32_1184 : BitVec 32 := 256#32
  let v2359 : BitVec 32 := Scalar.muli arg15 c256_i32_1184
  v2359
def k0_off31 (i : grid0.Coords) (k0_t10 : Fin (k0_t10_loop i).trips) : Fin 4 → Nat :=
  let c0_1185 : Index := 0#32
  let c2_1186 : Index := 2#32
  let c0_i32_350 : BitVec 32 := 0#32
  let arg1 : BitVec 32 := BitVec.ofNat 32 (i 1).val
  let v802 : BitVec 32 := Scalar.subi arg1 c0_i32_350
  let c1_i32_351 : BitVec 32 := 1#32
  let v804 : BitVec 32 := Scalar.divsi v802 c1_i32_351
  let v805 : BitVec 32 := Scalar.muli v804 c1_i32_351
  let v806 : BitVec 32 := Scalar.addi c0_i32_350 v805
  let c1_i32_353 : BitVec 32 := 1#32
  let arg15 : BitVec 32 := Scf.iv v806 c1_i32_353 k0_t10
  let c256_i32_1184 : BitVec 32 := 256#32
  let v2359 : BitVec 32 := Scalar.muli arg15 c256_i32_1184
  let v2360 : BitVec 32 := v2359
  let v2361 : Index := Scalar.indexCast v2360
  let c0_1187 : Index := 0#32
  ![0, 2, v2361.toNat, 0]
def k0_mult37 (i : grid0.Coords) (k0_t10 : Fin (k0_t10_loop i).trips) : BitVec 32 :=
  let c0_i32_350 : BitVec 32 := 0#32
  let arg1 : BitVec 32 := BitVec.ofNat 32 (i 1).val
  let v802 : BitVec 32 := Scalar.subi arg1 c0_i32_350
  let c1_i32_351 : BitVec 32 := 1#32
  let v804 : BitVec 32 := Scalar.divsi v802 c1_i32_351
  let v805 : BitVec 32 := Scalar.muli v804 c1_i32_351
  let v806 : BitVec 32 := Scalar.addi c0_i32_350 v805
  let c1_i32_353 : BitVec 32 := 1#32
  let arg15 : BitVec 32 := Scf.iv v806 c1_i32_353 k0_t10
  let c256_i32_1193 : BitVec 32 := 256#32
  let v2367 : BitVec 32 := Scalar.muli arg15 c256_i32_1193
  v2367
def k0_off32 (i : grid0.Coords) (k0_t10 : Fin (k0_t10_loop i).trips) : Fin 3 → Nat :=
  let c2_1194 : Index := 2#32
  let c0_i32_350 : BitVec 32 := 0#32
  let arg1 : BitVec 32 := BitVec.ofNat 32 (i 1).val
  let v802 : BitVec 32 := Scalar.subi arg1 c0_i32_350
  let c1_i32_351 : BitVec 32 := 1#32
  let v804 : BitVec 32 := Scalar.divsi v802 c1_i32_351
  let v805 : BitVec 32 := Scalar.muli v804 c1_i32_351
  let v806 : BitVec 32 := Scalar.addi c0_i32_350 v805
  let c1_i32_353 : BitVec 32 := 1#32
  let arg15 : BitVec 32 := Scf.iv v806 c1_i32_353 k0_t10
  let c256_i32_1193 : BitVec 32 := 256#32
  let v2367 : BitVec 32 := Scalar.muli arg15 c256_i32_1193
  let v2368 : BitVec 32 := v2367
  let v2369 : Index := Scalar.indexCast v2368
  let c0_1195 : Index := 0#32
  ![2, v2369.toNat, 0]
def k0_mult38 (i : grid0.Coords) (k0_t10 : Fin (k0_t10_loop i).trips) : BitVec 32 :=
  let c0_i32_350 : BitVec 32 := 0#32
  let arg1 : BitVec 32 := BitVec.ofNat 32 (i 1).val
  let v802 : BitVec 32 := Scalar.subi arg1 c0_i32_350
  let c1_i32_351 : BitVec 32 := 1#32
  let v804 : BitVec 32 := Scalar.divsi v802 c1_i32_351
  let v805 : BitVec 32 := Scalar.muli v804 c1_i32_351
  let v806 : BitVec 32 := Scalar.addi c0_i32_350 v805
  let c1_i32_353 : BitVec 32 := 1#32
  let arg15 : BitVec 32 := Scf.iv v806 c1_i32_353 k0_t10
  let c256_i32_1196 : BitVec 32 := 256#32
  let v2374 : BitVec 32 := Scalar.muli arg15 c256_i32_1196
  v2374
def k0_off33 (i : grid0.Coords) (k0_t10 : Fin (k0_t10_loop i).trips) : Fin 2 → Nat :=
  let c0_i32_350 : BitVec 32 := 0#32
  let arg1 : BitVec 32 := BitVec.ofNat 32 (i 1).val
  let v802 : BitVec 32 := Scalar.subi arg1 c0_i32_350
  let c1_i32_351 : BitVec 32 := 1#32
  let v804 : BitVec 32 := Scalar.divsi v802 c1_i32_351
  let v805 : BitVec 32 := Scalar.muli v804 c1_i32_351
  let v806 : BitVec 32 := Scalar.addi c0_i32_350 v805
  let c1_i32_353 : BitVec 32 := 1#32
  let arg15 : BitVec 32 := Scf.iv v806 c1_i32_353 k0_t10
  let c256_i32_1196 : BitVec 32 := 256#32
  let v2374 : BitVec 32 := Scalar.muli arg15 c256_i32_1196
  let v2375 : BitVec 32 := v2374
  let v2376 : Index := Scalar.indexCast v2375
  let c0_1197 : Index := 0#32
  ![v2376.toNat, 0]
@[reducible] def k0_t11_loop (i : grid0.Coords) : Scf.Loop 32 :=
  let c0_i32_360 : BitVec 32 := 0#32
  let arg1 : BitVec 32 := BitVec.ofNat 32 (i 1).val
  let c1_i32_358 : BitVec 32 := 1#32
  let v815 : BitVec 32 := Scalar.addi arg1 c1_i32_358
  let v817 : BitVec 32 := Scalar.subi v815 c0_i32_360
  let c1_i32_361 : BitVec 32 := 1#32
  let v819 : BitVec 32 := Scalar.divsi v817 c1_i32_361
  let v820 : BitVec 32 := Scalar.muli v819 c1_i32_361
  let v821 : BitVec 32 := Scalar.addi c0_i32_360 v820
  let c1_i32_362 : BitVec 32 := 1#32
  ⟨c0_i32_360, v821, c1_i32_362⟩
def k0_mult39 (i : grid0.Coords) (k0_t11 : Fin (k0_t11_loop i).trips) : BitVec 32 :=
  let c0_i32_360 : BitVec 32 := 0#32
  let c1_i32_362 : BitVec 32 := 1#32
  let arg15 : BitVec 32 := Scf.iv c0_i32_360 c1_i32_362 k0_t11
  let c256_i32_1184 : BitVec 32 := 256#32
  let v2359 : BitVec 32 := Scalar.muli arg15 c256_i32_1184
  v2359
def k0_off34 (i : grid0.Coords) (k0_t11 : Fin (k0_t11_loop i).trips) : Fin 2 → Nat :=
  let c0_i32_360 : BitVec 32 := 0#32
  let c1_i32_362 : BitVec 32 := 1#32
  let arg15 : BitVec 32 := Scf.iv c0_i32_360 c1_i32_362 k0_t11
  let c256_i32_1184 : BitVec 32 := 256#32
  let v2359 : BitVec 32 := Scalar.muli arg15 c256_i32_1184
  let v2360 : BitVec 32 := v2359
  let v2361 : Index := Scalar.indexCast v2360
  let c0_1185 : Index := 0#32
  ![v2361.toNat, 0]
def k0_mult40 (i : grid0.Coords) (k0_t11 : Fin (k0_t11_loop i).trips) : BitVec 32 :=
  let c0_i32_360 : BitVec 32 := 0#32
  let c1_i32_362 : BitVec 32 := 1#32
  let arg15 : BitVec 32 := Scf.iv c0_i32_360 c1_i32_362 k0_t11
  let c256_i32_1188 : BitVec 32 := 256#32
  let v2369 : BitVec 32 := Scalar.muli arg15 c256_i32_1188
  v2369
def k0_off35 (i : grid0.Coords) (k0_t11 : Fin (k0_t11_loop i).trips) : Fin 4 → Nat :=
  let c0_1189 : Index := 0#32
  let c2_1190 : Index := 2#32
  let c0_1191 : Index := 0#32
  let c0_i32_360 : BitVec 32 := 0#32
  let c1_i32_362 : BitVec 32 := 1#32
  let arg15 : BitVec 32 := Scf.iv c0_i32_360 c1_i32_362 k0_t11
  let c256_i32_1188 : BitVec 32 := 256#32
  let v2369 : BitVec 32 := Scalar.muli arg15 c256_i32_1188
  let v2370 : BitVec 32 := v2369
  let v2371 : Index := Scalar.indexCast v2370
  ![0, 2, 0, v2371.toNat]
@[reducible] def k0_t12_loop (i : grid0.Coords) : Scf.Loop 32 :=
  let c0_i32_360 : BitVec 32 := 0#32
  let arg1 : BitVec 32 := BitVec.ofNat 32 (i 1).val
  let c1_i32_358 : BitVec 32 := 1#32
  let v815 : BitVec 32 := Scalar.addi arg1 c1_i32_358
  let v817 : BitVec 32 := Scalar.subi v815 c0_i32_360
  let c1_i32_361 : BitVec 32 := 1#32
  let v819 : BitVec 32 := Scalar.divsi v817 c1_i32_361
  let v820 : BitVec 32 := Scalar.muli v819 c1_i32_361
  let v821 : BitVec 32 := Scalar.addi c0_i32_360 v820
  let v818 : BitVec 32 := Scalar.addi c0_i32_360 v817
  let c1_i32_363 : BitVec 32 := 1#32
  ⟨v821, v818, c1_i32_363⟩
def k0_mult41 (i : grid0.Coords) (k0_t12 : Fin (k0_t12_loop i).trips) : BitVec 32 :=
  let c0_i32_360 : BitVec 32 := 0#32
  let arg1 : BitVec 32 := BitVec.ofNat 32 (i 1).val
  let c1_i32_358 : BitVec 32 := 1#32
  let v815 : BitVec 32 := Scalar.addi arg1 c1_i32_358
  let v817 : BitVec 32 := Scalar.subi v815 c0_i32_360
  let c1_i32_361 : BitVec 32 := 1#32
  let v819 : BitVec 32 := Scalar.divsi v817 c1_i32_361
  let v820 : BitVec 32 := Scalar.muli v819 c1_i32_361
  let v821 : BitVec 32 := Scalar.addi c0_i32_360 v820
  let c1_i32_363 : BitVec 32 := 1#32
  let arg15 : BitVec 32 := Scf.iv v821 c1_i32_363 k0_t12
  let c256_i32_1184 : BitVec 32 := 256#32
  let v2359 : BitVec 32 := Scalar.muli arg15 c256_i32_1184
  v2359
def k0_off36 (i : grid0.Coords) (k0_t12 : Fin (k0_t12_loop i).trips) : Fin 2 → Nat :=
  let c0_i32_360 : BitVec 32 := 0#32
  let arg1 : BitVec 32 := BitVec.ofNat 32 (i 1).val
  let c1_i32_358 : BitVec 32 := 1#32
  let v815 : BitVec 32 := Scalar.addi arg1 c1_i32_358
  let v817 : BitVec 32 := Scalar.subi v815 c0_i32_360
  let c1_i32_361 : BitVec 32 := 1#32
  let v819 : BitVec 32 := Scalar.divsi v817 c1_i32_361
  let v820 : BitVec 32 := Scalar.muli v819 c1_i32_361
  let v821 : BitVec 32 := Scalar.addi c0_i32_360 v820
  let c1_i32_363 : BitVec 32 := 1#32
  let arg15 : BitVec 32 := Scf.iv v821 c1_i32_363 k0_t12
  let c256_i32_1184 : BitVec 32 := 256#32
  let v2359 : BitVec 32 := Scalar.muli arg15 c256_i32_1184
  let v2360 : BitVec 32 := v2359
  let v2361 : Index := Scalar.indexCast v2360
  let c0_1185 : Index := 0#32
  ![v2361.toNat, 0]
def k0_mult42 (i : grid0.Coords) (k0_t12 : Fin (k0_t12_loop i).trips) : BitVec 32 :=
  let c0_i32_360 : BitVec 32 := 0#32
  let arg1 : BitVec 32 := BitVec.ofNat 32 (i 1).val
  let c1_i32_358 : BitVec 32 := 1#32
  let v815 : BitVec 32 := Scalar.addi arg1 c1_i32_358
  let v817 : BitVec 32 := Scalar.subi v815 c0_i32_360
  let c1_i32_361 : BitVec 32 := 1#32
  let v819 : BitVec 32 := Scalar.divsi v817 c1_i32_361
  let v820 : BitVec 32 := Scalar.muli v819 c1_i32_361
  let v821 : BitVec 32 := Scalar.addi c0_i32_360 v820
  let c1_i32_363 : BitVec 32 := 1#32
  let arg15 : BitVec 32 := Scf.iv v821 c1_i32_363 k0_t12
  let c256_i32_1188 : BitVec 32 := 256#32
  let v2369 : BitVec 32 := Scalar.muli arg15 c256_i32_1188
  v2369
def k0_off37 (i : grid0.Coords) (k0_t12 : Fin (k0_t12_loop i).trips) : Fin 4 → Nat :=
  let c0_1189 : Index := 0#32
  let c2_1190 : Index := 2#32
  let c0_1191 : Index := 0#32
  let c0_i32_360 : BitVec 32 := 0#32
  let arg1 : BitVec 32 := BitVec.ofNat 32 (i 1).val
  let c1_i32_358 : BitVec 32 := 1#32
  let v815 : BitVec 32 := Scalar.addi arg1 c1_i32_358
  let v817 : BitVec 32 := Scalar.subi v815 c0_i32_360
  let c1_i32_361 : BitVec 32 := 1#32
  let v819 : BitVec 32 := Scalar.divsi v817 c1_i32_361
  let v820 : BitVec 32 := Scalar.muli v819 c1_i32_361
  let v821 : BitVec 32 := Scalar.addi c0_i32_360 v820
  let c1_i32_363 : BitVec 32 := 1#32
  let arg15 : BitVec 32 := Scf.iv v821 c1_i32_363 k0_t12
  let c256_i32_1188 : BitVec 32 := 256#32
  let v2369 : BitVec 32 := Scalar.muli arg15 c256_i32_1188
  let v2370 : BitVec 32 := v2369
  let v2371 : Index := Scalar.indexCast v2370
  ![0, 2, 0, v2371.toNat]
def k0_mult43 (i : grid0.Coords) : BitVec 32 :=
  let arg1 : BitVec 32 := BitVec.ofNat 32 (i 1).val
  let c256_i32_426 : BitVec 32 := 256#32
  let v958 : BitVec 32 := Scalar.muli arg1 c256_i32_426
  v958
def k0_off38 (i : grid0.Coords) : Fin 3 → Nat :=
  let c3_427 : Index := 3#32
  let arg1 : BitVec 32 := BitVec.ofNat 32 (i 1).val
  let c256_i32_426 : BitVec 32 := 256#32
  let v958 : BitVec 32 := Scalar.muli arg1 c256_i32_426
  let v959 : BitVec 32 := v958
  let v960 : Index := Scalar.indexCast v959
  let c0_428 : Index := 0#32
  ![3, v960.toNat, 0]
def k0_mult44 (i : grid0.Coords) : BitVec 32 :=
  let arg1 : BitVec 32 := BitVec.ofNat 32 (i 1).val
  let c256_i32_430 : BitVec 32 := 256#32
  let v966 : BitVec 32 := Scalar.muli arg1 c256_i32_430
  v966
def k0_off39 (i : grid0.Coords) : Fin 4 → Nat :=
  let c0_431 : Index := 0#32
  let c3_432 : Index := 3#32
  let arg1 : BitVec 32 := BitVec.ofNat 32 (i 1).val
  let c256_i32_430 : BitVec 32 := 256#32
  let v966 : BitVec 32 := Scalar.muli arg1 c256_i32_430
  let v967 : BitVec 32 := v966
  let v968 : Index := Scalar.indexCast v967
  let c0_433 : Index := 0#32
  ![0, 3, v968.toNat, 0]
def k0_mult45 (i : grid0.Coords) : BitVec 32 :=
  let arg1 : BitVec 32 := BitVec.ofNat 32 (i 1).val
  let c256_i32_439 : BitVec 32 := 256#32
  let v974 : BitVec 32 := Scalar.muli arg1 c256_i32_439
  v974
def k0_mult46 (i : grid0.Coords) : BitVec 32 :=
  let arg1 : BitVec 32 := BitVec.ofNat 32 (i 1).val
  let c256_i32_443 : BitVec 32 := 256#32
  let v983 : BitVec 32 := Scalar.muli arg1 c256_i32_443
  v983
@[reducible] def k0_t13_loop (i : grid0.Coords) : Scf.Loop 32 :=
  let c0_i32_445 : BitVec 32 := 0#32
  let arg1 : BitVec 32 := BitVec.ofNat 32 (i 1).val
  let v1052 : BitVec 32 := Scalar.subi arg1 c0_i32_445
  let c1_i32_446 : BitVec 32 := 1#32
  let v1054 : BitVec 32 := Scalar.divsi v1052 c1_i32_446
  let v1055 : BitVec 32 := Scalar.muli v1054 c1_i32_446
  let v1056 : BitVec 32 := Scalar.addi c0_i32_445 v1055
  let c1_i32_447 : BitVec 32 := 1#32
  ⟨c0_i32_445, v1056, c1_i32_447⟩
def k0_mult47 (i : grid0.Coords) (k0_t13 : Fin (k0_t13_loop i).trips) : BitVec 32 :=
  let c0_i32_445 : BitVec 32 := 0#32
  let c1_i32_447 : BitVec 32 := 1#32
  let arg15 : BitVec 32 := Scf.iv c0_i32_445 c1_i32_447 k0_t13
  let c256_i32_1184 : BitVec 32 := 256#32
  let v2359 : BitVec 32 := Scalar.muli arg15 c256_i32_1184
  v2359
def k0_off40 (i : grid0.Coords) (k0_t13 : Fin (k0_t13_loop i).trips) : Fin 4 → Nat :=
  let c0_1185 : Index := 0#32
  let c3_1186 : Index := 3#32
  let c0_i32_445 : BitVec 32 := 0#32
  let c1_i32_447 : BitVec 32 := 1#32
  let arg15 : BitVec 32 := Scf.iv c0_i32_445 c1_i32_447 k0_t13
  let c256_i32_1184 : BitVec 32 := 256#32
  let v2359 : BitVec 32 := Scalar.muli arg15 c256_i32_1184
  let v2360 : BitVec 32 := v2359
  let v2361 : Index := Scalar.indexCast v2360
  let c0_1187 : Index := 0#32
  ![0, 3, v2361.toNat, 0]
def k0_mult48 (i : grid0.Coords) (k0_t13 : Fin (k0_t13_loop i).trips) : BitVec 32 :=
  let c0_i32_445 : BitVec 32 := 0#32
  let c1_i32_447 : BitVec 32 := 1#32
  let arg15 : BitVec 32 := Scf.iv c0_i32_445 c1_i32_447 k0_t13
  let c256_i32_1193 : BitVec 32 := 256#32
  let v2367 : BitVec 32 := Scalar.muli arg15 c256_i32_1193
  v2367
def k0_off41 (i : grid0.Coords) (k0_t13 : Fin (k0_t13_loop i).trips) : Fin 3 → Nat :=
  let c3_1194 : Index := 3#32
  let c0_i32_445 : BitVec 32 := 0#32
  let c1_i32_447 : BitVec 32 := 1#32
  let arg15 : BitVec 32 := Scf.iv c0_i32_445 c1_i32_447 k0_t13
  let c256_i32_1193 : BitVec 32 := 256#32
  let v2367 : BitVec 32 := Scalar.muli arg15 c256_i32_1193
  let v2368 : BitVec 32 := v2367
  let v2369 : Index := Scalar.indexCast v2368
  let c0_1195 : Index := 0#32
  ![3, v2369.toNat, 0]
def k0_mult49 (i : grid0.Coords) (k0_t13 : Fin (k0_t13_loop i).trips) : BitVec 32 :=
  let c0_i32_445 : BitVec 32 := 0#32
  let c1_i32_447 : BitVec 32 := 1#32
  let arg15 : BitVec 32 := Scf.iv c0_i32_445 c1_i32_447 k0_t13
  let c256_i32_1196 : BitVec 32 := 256#32
  let v2374 : BitVec 32 := Scalar.muli arg15 c256_i32_1196
  v2374
def k0_off42 (i : grid0.Coords) (k0_t13 : Fin (k0_t13_loop i).trips) : Fin 2 → Nat :=
  let c0_i32_445 : BitVec 32 := 0#32
  let c1_i32_447 : BitVec 32 := 1#32
  let arg15 : BitVec 32 := Scf.iv c0_i32_445 c1_i32_447 k0_t13
  let c256_i32_1196 : BitVec 32 := 256#32
  let v2374 : BitVec 32 := Scalar.muli arg15 c256_i32_1196
  let v2375 : BitVec 32 := v2374
  let v2376 : Index := Scalar.indexCast v2375
  let c0_1197 : Index := 0#32
  ![v2376.toNat, 0]
@[reducible] def k0_t14_loop (i : grid0.Coords) : Scf.Loop 32 :=
  let c0_i32_445 : BitVec 32 := 0#32
  let arg1 : BitVec 32 := BitVec.ofNat 32 (i 1).val
  let v1052 : BitVec 32 := Scalar.subi arg1 c0_i32_445
  let c1_i32_446 : BitVec 32 := 1#32
  let v1054 : BitVec 32 := Scalar.divsi v1052 c1_i32_446
  let v1055 : BitVec 32 := Scalar.muli v1054 c1_i32_446
  let v1056 : BitVec 32 := Scalar.addi c0_i32_445 v1055
  let v1053 : BitVec 32 := Scalar.addi c0_i32_445 v1052
  let c1_i32_448 : BitVec 32 := 1#32
  ⟨v1056, v1053, c1_i32_448⟩
def k0_mult50 (i : grid0.Coords) (k0_t14 : Fin (k0_t14_loop i).trips) : BitVec 32 :=
  let c0_i32_445 : BitVec 32 := 0#32
  let arg1 : BitVec 32 := BitVec.ofNat 32 (i 1).val
  let v1052 : BitVec 32 := Scalar.subi arg1 c0_i32_445
  let c1_i32_446 : BitVec 32 := 1#32
  let v1054 : BitVec 32 := Scalar.divsi v1052 c1_i32_446
  let v1055 : BitVec 32 := Scalar.muli v1054 c1_i32_446
  let v1056 : BitVec 32 := Scalar.addi c0_i32_445 v1055
  let c1_i32_448 : BitVec 32 := 1#32
  let arg15 : BitVec 32 := Scf.iv v1056 c1_i32_448 k0_t14
  let c256_i32_1184 : BitVec 32 := 256#32
  let v2359 : BitVec 32 := Scalar.muli arg15 c256_i32_1184
  v2359
def k0_off43 (i : grid0.Coords) (k0_t14 : Fin (k0_t14_loop i).trips) : Fin 4 → Nat :=
  let c0_1185 : Index := 0#32
  let c3_1186 : Index := 3#32
  let c0_i32_445 : BitVec 32 := 0#32
  let arg1 : BitVec 32 := BitVec.ofNat 32 (i 1).val
  let v1052 : BitVec 32 := Scalar.subi arg1 c0_i32_445
  let c1_i32_446 : BitVec 32 := 1#32
  let v1054 : BitVec 32 := Scalar.divsi v1052 c1_i32_446
  let v1055 : BitVec 32 := Scalar.muli v1054 c1_i32_446
  let v1056 : BitVec 32 := Scalar.addi c0_i32_445 v1055
  let c1_i32_448 : BitVec 32 := 1#32
  let arg15 : BitVec 32 := Scf.iv v1056 c1_i32_448 k0_t14
  let c256_i32_1184 : BitVec 32 := 256#32
  let v2359 : BitVec 32 := Scalar.muli arg15 c256_i32_1184
  let v2360 : BitVec 32 := v2359
  let v2361 : Index := Scalar.indexCast v2360
  let c0_1187 : Index := 0#32
  ![0, 3, v2361.toNat, 0]
def k0_mult51 (i : grid0.Coords) (k0_t14 : Fin (k0_t14_loop i).trips) : BitVec 32 :=
  let c0_i32_445 : BitVec 32 := 0#32
  let arg1 : BitVec 32 := BitVec.ofNat 32 (i 1).val
  let v1052 : BitVec 32 := Scalar.subi arg1 c0_i32_445
  let c1_i32_446 : BitVec 32 := 1#32
  let v1054 : BitVec 32 := Scalar.divsi v1052 c1_i32_446
  let v1055 : BitVec 32 := Scalar.muli v1054 c1_i32_446
  let v1056 : BitVec 32 := Scalar.addi c0_i32_445 v1055
  let c1_i32_448 : BitVec 32 := 1#32
  let arg15 : BitVec 32 := Scf.iv v1056 c1_i32_448 k0_t14
  let c256_i32_1193 : BitVec 32 := 256#32
  let v2367 : BitVec 32 := Scalar.muli arg15 c256_i32_1193
  v2367
def k0_off44 (i : grid0.Coords) (k0_t14 : Fin (k0_t14_loop i).trips) : Fin 3 → Nat :=
  let c3_1194 : Index := 3#32
  let c0_i32_445 : BitVec 32 := 0#32
  let arg1 : BitVec 32 := BitVec.ofNat 32 (i 1).val
  let v1052 : BitVec 32 := Scalar.subi arg1 c0_i32_445
  let c1_i32_446 : BitVec 32 := 1#32
  let v1054 : BitVec 32 := Scalar.divsi v1052 c1_i32_446
  let v1055 : BitVec 32 := Scalar.muli v1054 c1_i32_446
  let v1056 : BitVec 32 := Scalar.addi c0_i32_445 v1055
  let c1_i32_448 : BitVec 32 := 1#32
  let arg15 : BitVec 32 := Scf.iv v1056 c1_i32_448 k0_t14
  let c256_i32_1193 : BitVec 32 := 256#32
  let v2367 : BitVec 32 := Scalar.muli arg15 c256_i32_1193
  let v2368 : BitVec 32 := v2367
  let v2369 : Index := Scalar.indexCast v2368
  let c0_1195 : Index := 0#32
  ![3, v2369.toNat, 0]
def k0_mult52 (i : grid0.Coords) (k0_t14 : Fin (k0_t14_loop i).trips) : BitVec 32 :=
  let c0_i32_445 : BitVec 32 := 0#32
  let arg1 : BitVec 32 := BitVec.ofNat 32 (i 1).val
  let v1052 : BitVec 32 := Scalar.subi arg1 c0_i32_445
  let c1_i32_446 : BitVec 32 := 1#32
  let v1054 : BitVec 32 := Scalar.divsi v1052 c1_i32_446
  let v1055 : BitVec 32 := Scalar.muli v1054 c1_i32_446
  let v1056 : BitVec 32 := Scalar.addi c0_i32_445 v1055
  let c1_i32_448 : BitVec 32 := 1#32
  let arg15 : BitVec 32 := Scf.iv v1056 c1_i32_448 k0_t14
  let c256_i32_1196 : BitVec 32 := 256#32
  let v2374 : BitVec 32 := Scalar.muli arg15 c256_i32_1196
  v2374
def k0_off45 (i : grid0.Coords) (k0_t14 : Fin (k0_t14_loop i).trips) : Fin 2 → Nat :=
  let c0_i32_445 : BitVec 32 := 0#32
  let arg1 : BitVec 32 := BitVec.ofNat 32 (i 1).val
  let v1052 : BitVec 32 := Scalar.subi arg1 c0_i32_445
  let c1_i32_446 : BitVec 32 := 1#32
  let v1054 : BitVec 32 := Scalar.divsi v1052 c1_i32_446
  let v1055 : BitVec 32 := Scalar.muli v1054 c1_i32_446
  let v1056 : BitVec 32 := Scalar.addi c0_i32_445 v1055
  let c1_i32_448 : BitVec 32 := 1#32
  let arg15 : BitVec 32 := Scf.iv v1056 c1_i32_448 k0_t14
  let c256_i32_1196 : BitVec 32 := 256#32
  let v2374 : BitVec 32 := Scalar.muli arg15 c256_i32_1196
  let v2375 : BitVec 32 := v2374
  let v2376 : Index := Scalar.indexCast v2375
  let c0_1197 : Index := 0#32
  ![v2376.toNat, 0]
@[reducible] def k0_t15_loop (i : grid0.Coords) : Scf.Loop 32 :=
  let c0_i32_455 : BitVec 32 := 0#32
  let arg1 : BitVec 32 := BitVec.ofNat 32 (i 1).val
  let c1_i32_453 : BitVec 32 := 1#32
  let v1065 : BitVec 32 := Scalar.addi arg1 c1_i32_453
  let v1067 : BitVec 32 := Scalar.subi v1065 c0_i32_455
  let c1_i32_456 : BitVec 32 := 1#32
  let v1069 : BitVec 32 := Scalar.divsi v1067 c1_i32_456
  let v1070 : BitVec 32 := Scalar.muli v1069 c1_i32_456
  let v1071 : BitVec 32 := Scalar.addi c0_i32_455 v1070
  let c1_i32_457 : BitVec 32 := 1#32
  ⟨c0_i32_455, v1071, c1_i32_457⟩
def k0_mult53 (i : grid0.Coords) (k0_t15 : Fin (k0_t15_loop i).trips) : BitVec 32 :=
  let c0_i32_455 : BitVec 32 := 0#32
  let c1_i32_457 : BitVec 32 := 1#32
  let arg15 : BitVec 32 := Scf.iv c0_i32_455 c1_i32_457 k0_t15
  let c256_i32_1184 : BitVec 32 := 256#32
  let v2359 : BitVec 32 := Scalar.muli arg15 c256_i32_1184
  v2359
def k0_off46 (i : grid0.Coords) (k0_t15 : Fin (k0_t15_loop i).trips) : Fin 2 → Nat :=
  let c0_i32_455 : BitVec 32 := 0#32
  let c1_i32_457 : BitVec 32 := 1#32
  let arg15 : BitVec 32 := Scf.iv c0_i32_455 c1_i32_457 k0_t15
  let c256_i32_1184 : BitVec 32 := 256#32
  let v2359 : BitVec 32 := Scalar.muli arg15 c256_i32_1184
  let v2360 : BitVec 32 := v2359
  let v2361 : Index := Scalar.indexCast v2360
  let c0_1185 : Index := 0#32
  ![v2361.toNat, 0]
def k0_mult54 (i : grid0.Coords) (k0_t15 : Fin (k0_t15_loop i).trips) : BitVec 32 :=
  let c0_i32_455 : BitVec 32 := 0#32
  let c1_i32_457 : BitVec 32 := 1#32
  let arg15 : BitVec 32 := Scf.iv c0_i32_455 c1_i32_457 k0_t15
  let c256_i32_1188 : BitVec 32 := 256#32
  let v2369 : BitVec 32 := Scalar.muli arg15 c256_i32_1188
  v2369
def k0_off47 (i : grid0.Coords) (k0_t15 : Fin (k0_t15_loop i).trips) : Fin 4 → Nat :=
  let c0_1189 : Index := 0#32
  let c3_1190 : Index := 3#32
  let c0_1191 : Index := 0#32
  let c0_i32_455 : BitVec 32 := 0#32
  let c1_i32_457 : BitVec 32 := 1#32
  let arg15 : BitVec 32 := Scf.iv c0_i32_455 c1_i32_457 k0_t15
  let c256_i32_1188 : BitVec 32 := 256#32
  let v2369 : BitVec 32 := Scalar.muli arg15 c256_i32_1188
  let v2370 : BitVec 32 := v2369
  let v2371 : Index := Scalar.indexCast v2370
  ![0, 3, 0, v2371.toNat]
@[reducible] def k0_t16_loop (i : grid0.Coords) : Scf.Loop 32 :=
  let c0_i32_455 : BitVec 32 := 0#32
  let arg1 : BitVec 32 := BitVec.ofNat 32 (i 1).val
  let c1_i32_453 : BitVec 32 := 1#32
  let v1065 : BitVec 32 := Scalar.addi arg1 c1_i32_453
  let v1067 : BitVec 32 := Scalar.subi v1065 c0_i32_455
  let c1_i32_456 : BitVec 32 := 1#32
  let v1069 : BitVec 32 := Scalar.divsi v1067 c1_i32_456
  let v1070 : BitVec 32 := Scalar.muli v1069 c1_i32_456
  let v1071 : BitVec 32 := Scalar.addi c0_i32_455 v1070
  let v1068 : BitVec 32 := Scalar.addi c0_i32_455 v1067
  let c1_i32_458 : BitVec 32 := 1#32
  ⟨v1071, v1068, c1_i32_458⟩
def k0_mult55 (i : grid0.Coords) (k0_t16 : Fin (k0_t16_loop i).trips) : BitVec 32 :=
  let c0_i32_455 : BitVec 32 := 0#32
  let arg1 : BitVec 32 := BitVec.ofNat 32 (i 1).val
  let c1_i32_453 : BitVec 32 := 1#32
  let v1065 : BitVec 32 := Scalar.addi arg1 c1_i32_453
  let v1067 : BitVec 32 := Scalar.subi v1065 c0_i32_455
  let c1_i32_456 : BitVec 32 := 1#32
  let v1069 : BitVec 32 := Scalar.divsi v1067 c1_i32_456
  let v1070 : BitVec 32 := Scalar.muli v1069 c1_i32_456
  let v1071 : BitVec 32 := Scalar.addi c0_i32_455 v1070
  let c1_i32_458 : BitVec 32 := 1#32
  let arg15 : BitVec 32 := Scf.iv v1071 c1_i32_458 k0_t16
  let c256_i32_1184 : BitVec 32 := 256#32
  let v2359 : BitVec 32 := Scalar.muli arg15 c256_i32_1184
  v2359
def k0_off48 (i : grid0.Coords) (k0_t16 : Fin (k0_t16_loop i).trips) : Fin 2 → Nat :=
  let c0_i32_455 : BitVec 32 := 0#32
  let arg1 : BitVec 32 := BitVec.ofNat 32 (i 1).val
  let c1_i32_453 : BitVec 32 := 1#32
  let v1065 : BitVec 32 := Scalar.addi arg1 c1_i32_453
  let v1067 : BitVec 32 := Scalar.subi v1065 c0_i32_455
  let c1_i32_456 : BitVec 32 := 1#32
  let v1069 : BitVec 32 := Scalar.divsi v1067 c1_i32_456
  let v1070 : BitVec 32 := Scalar.muli v1069 c1_i32_456
  let v1071 : BitVec 32 := Scalar.addi c0_i32_455 v1070
  let c1_i32_458 : BitVec 32 := 1#32
  let arg15 : BitVec 32 := Scf.iv v1071 c1_i32_458 k0_t16
  let c256_i32_1184 : BitVec 32 := 256#32
  let v2359 : BitVec 32 := Scalar.muli arg15 c256_i32_1184
  let v2360 : BitVec 32 := v2359
  let v2361 : Index := Scalar.indexCast v2360
  let c0_1185 : Index := 0#32
  ![v2361.toNat, 0]
def k0_mult56 (i : grid0.Coords) (k0_t16 : Fin (k0_t16_loop i).trips) : BitVec 32 :=
  let c0_i32_455 : BitVec 32 := 0#32
  let arg1 : BitVec 32 := BitVec.ofNat 32 (i 1).val
  let c1_i32_453 : BitVec 32 := 1#32
  let v1065 : BitVec 32 := Scalar.addi arg1 c1_i32_453
  let v1067 : BitVec 32 := Scalar.subi v1065 c0_i32_455
  let c1_i32_456 : BitVec 32 := 1#32
  let v1069 : BitVec 32 := Scalar.divsi v1067 c1_i32_456
  let v1070 : BitVec 32 := Scalar.muli v1069 c1_i32_456
  let v1071 : BitVec 32 := Scalar.addi c0_i32_455 v1070
  let c1_i32_458 : BitVec 32 := 1#32
  let arg15 : BitVec 32 := Scf.iv v1071 c1_i32_458 k0_t16
  let c256_i32_1188 : BitVec 32 := 256#32
  let v2369 : BitVec 32 := Scalar.muli arg15 c256_i32_1188
  v2369
def k0_off49 (i : grid0.Coords) (k0_t16 : Fin (k0_t16_loop i).trips) : Fin 4 → Nat :=
  let c0_1189 : Index := 0#32
  let c3_1190 : Index := 3#32
  let c0_1191 : Index := 0#32
  let c0_i32_455 : BitVec 32 := 0#32
  let arg1 : BitVec 32 := BitVec.ofNat 32 (i 1).val
  let c1_i32_453 : BitVec 32 := 1#32
  let v1065 : BitVec 32 := Scalar.addi arg1 c1_i32_453
  let v1067 : BitVec 32 := Scalar.subi v1065 c0_i32_455
  let c1_i32_456 : BitVec 32 := 1#32
  let v1069 : BitVec 32 := Scalar.divsi v1067 c1_i32_456
  let v1070 : BitVec 32 := Scalar.muli v1069 c1_i32_456
  let v1071 : BitVec 32 := Scalar.addi c0_i32_455 v1070
  let c1_i32_458 : BitVec 32 := 1#32
  let arg15 : BitVec 32 := Scf.iv v1071 c1_i32_458 k0_t16
  let c256_i32_1188 : BitVec 32 := 256#32
  let v2369 : BitVec 32 := Scalar.muli arg15 c256_i32_1188
  let v2370 : BitVec 32 := v2369
  let v2371 : Index := Scalar.indexCast v2370
  ![0, 3, 0, v2371.toNat]
def k0_mult57 (i : grid0.Coords) : BitVec 32 :=
  let arg1 : BitVec 32 := BitVec.ofNat 32 (i 1).val
  let c256_i32_632 : BitVec 32 := 256#32
  let v1297 : BitVec 32 := Scalar.muli arg1 c256_i32_632
  v1297
def k0_off50 (i : grid0.Coords) : Fin 3 → Nat :=
  let c4_633 : Index := 4#32
  let arg1 : BitVec 32 := BitVec.ofNat 32 (i 1).val
  let c256_i32_632 : BitVec 32 := 256#32
  let v1297 : BitVec 32 := Scalar.muli arg1 c256_i32_632
  let v1298 : BitVec 32 := v1297
  let v1299 : Index := Scalar.indexCast v1298
  let c0_634 : Index := 0#32
  ![4, v1299.toNat, 0]
def k0_mult58 (i : grid0.Coords) : BitVec 32 :=
  let arg1 : BitVec 32 := BitVec.ofNat 32 (i 1).val
  let c256_i32_636 : BitVec 32 := 256#32
  let v1305 : BitVec 32 := Scalar.muli arg1 c256_i32_636
  v1305
def k0_off51 (i : grid0.Coords) : Fin 4 → Nat :=
  let c0_637 : Index := 0#32
  let c4_638 : Index := 4#32
  let arg1 : BitVec 32 := BitVec.ofNat 32 (i 1).val
  let c256_i32_636 : BitVec 32 := 256#32
  let v1305 : BitVec 32 := Scalar.muli arg1 c256_i32_636
  let v1306 : BitVec 32 := v1305
  let v1307 : Index := Scalar.indexCast v1306
  let c0_639 : Index := 0#32
  ![0, 4, v1307.toNat, 0]
def k0_mult59 (i : grid0.Coords) : BitVec 32 :=
  let arg1 : BitVec 32 := BitVec.ofNat 32 (i 1).val
  let c256_i32_645 : BitVec 32 := 256#32
  let v1313 : BitVec 32 := Scalar.muli arg1 c256_i32_645
  v1313
def k0_mult60 (i : grid0.Coords) : BitVec 32 :=
  let arg1 : BitVec 32 := BitVec.ofNat 32 (i 1).val
  let c256_i32_649 : BitVec 32 := 256#32
  let v1322 : BitVec 32 := Scalar.muli arg1 c256_i32_649
  v1322
@[reducible] def k0_t17_loop (i : grid0.Coords) : Scf.Loop 32 :=
  let c0_i32_651 : BitVec 32 := 0#32
  let arg1 : BitVec 32 := BitVec.ofNat 32 (i 1).val
  let v1391 : BitVec 32 := Scalar.subi arg1 c0_i32_651
  let c1_i32_652 : BitVec 32 := 1#32
  let v1393 : BitVec 32 := Scalar.divsi v1391 c1_i32_652
  let v1394 : BitVec 32 := Scalar.muli v1393 c1_i32_652
  let v1395 : BitVec 32 := Scalar.addi c0_i32_651 v1394
  let c1_i32_653 : BitVec 32 := 1#32
  ⟨c0_i32_651, v1395, c1_i32_653⟩
def k0_mult61 (i : grid0.Coords) (k0_t17 : Fin (k0_t17_loop i).trips) : BitVec 32 :=
  let c0_i32_651 : BitVec 32 := 0#32
  let c1_i32_653 : BitVec 32 := 1#32
  let arg15 : BitVec 32 := Scf.iv c0_i32_651 c1_i32_653 k0_t17
  let c256_i32_1184 : BitVec 32 := 256#32
  let v2359 : BitVec 32 := Scalar.muli arg15 c256_i32_1184
  v2359
def k0_off52 (i : grid0.Coords) (k0_t17 : Fin (k0_t17_loop i).trips) : Fin 4 → Nat :=
  let c0_1185 : Index := 0#32
  let c4_1186 : Index := 4#32
  let c0_i32_651 : BitVec 32 := 0#32
  let c1_i32_653 : BitVec 32 := 1#32
  let arg15 : BitVec 32 := Scf.iv c0_i32_651 c1_i32_653 k0_t17
  let c256_i32_1184 : BitVec 32 := 256#32
  let v2359 : BitVec 32 := Scalar.muli arg15 c256_i32_1184
  let v2360 : BitVec 32 := v2359
  let v2361 : Index := Scalar.indexCast v2360
  let c0_1187 : Index := 0#32
  ![0, 4, v2361.toNat, 0]
def k0_mult62 (i : grid0.Coords) (k0_t17 : Fin (k0_t17_loop i).trips) : BitVec 32 :=
  let c0_i32_651 : BitVec 32 := 0#32
  let c1_i32_653 : BitVec 32 := 1#32
  let arg15 : BitVec 32 := Scf.iv c0_i32_651 c1_i32_653 k0_t17
  let c256_i32_1193 : BitVec 32 := 256#32
  let v2367 : BitVec 32 := Scalar.muli arg15 c256_i32_1193
  v2367
def k0_off53 (i : grid0.Coords) (k0_t17 : Fin (k0_t17_loop i).trips) : Fin 3 → Nat :=
  let c4_1194 : Index := 4#32
  let c0_i32_651 : BitVec 32 := 0#32
  let c1_i32_653 : BitVec 32 := 1#32
  let arg15 : BitVec 32 := Scf.iv c0_i32_651 c1_i32_653 k0_t17
  let c256_i32_1193 : BitVec 32 := 256#32
  let v2367 : BitVec 32 := Scalar.muli arg15 c256_i32_1193
  let v2368 : BitVec 32 := v2367
  let v2369 : Index := Scalar.indexCast v2368
  let c0_1195 : Index := 0#32
  ![4, v2369.toNat, 0]
def k0_mult63 (i : grid0.Coords) (k0_t17 : Fin (k0_t17_loop i).trips) : BitVec 32 :=
  let c0_i32_651 : BitVec 32 := 0#32
  let c1_i32_653 : BitVec 32 := 1#32
  let arg15 : BitVec 32 := Scf.iv c0_i32_651 c1_i32_653 k0_t17
  let c256_i32_1196 : BitVec 32 := 256#32
  let v2374 : BitVec 32 := Scalar.muli arg15 c256_i32_1196
  v2374
def k0_off54 (i : grid0.Coords) (k0_t17 : Fin (k0_t17_loop i).trips) : Fin 2 → Nat :=
  let c0_i32_651 : BitVec 32 := 0#32
  let c1_i32_653 : BitVec 32 := 1#32
  let arg15 : BitVec 32 := Scf.iv c0_i32_651 c1_i32_653 k0_t17
  let c256_i32_1196 : BitVec 32 := 256#32
  let v2374 : BitVec 32 := Scalar.muli arg15 c256_i32_1196
  let v2375 : BitVec 32 := v2374
  let v2376 : Index := Scalar.indexCast v2375
  let c0_1197 : Index := 0#32
  ![v2376.toNat, 0]
@[reducible] def k0_t18_loop (i : grid0.Coords) : Scf.Loop 32 :=
  let c0_i32_651 : BitVec 32 := 0#32
  let arg1 : BitVec 32 := BitVec.ofNat 32 (i 1).val
  let v1391 : BitVec 32 := Scalar.subi arg1 c0_i32_651
  let c1_i32_652 : BitVec 32 := 1#32
  let v1393 : BitVec 32 := Scalar.divsi v1391 c1_i32_652
  let v1394 : BitVec 32 := Scalar.muli v1393 c1_i32_652
  let v1395 : BitVec 32 := Scalar.addi c0_i32_651 v1394
  let v1392 : BitVec 32 := Scalar.addi c0_i32_651 v1391
  let c1_i32_654 : BitVec 32 := 1#32
  ⟨v1395, v1392, c1_i32_654⟩
def k0_mult64 (i : grid0.Coords) (k0_t18 : Fin (k0_t18_loop i).trips) : BitVec 32 :=
  let c0_i32_651 : BitVec 32 := 0#32
  let arg1 : BitVec 32 := BitVec.ofNat 32 (i 1).val
  let v1391 : BitVec 32 := Scalar.subi arg1 c0_i32_651
  let c1_i32_652 : BitVec 32 := 1#32
  let v1393 : BitVec 32 := Scalar.divsi v1391 c1_i32_652
  let v1394 : BitVec 32 := Scalar.muli v1393 c1_i32_652
  let v1395 : BitVec 32 := Scalar.addi c0_i32_651 v1394
  let c1_i32_654 : BitVec 32 := 1#32
  let arg15 : BitVec 32 := Scf.iv v1395 c1_i32_654 k0_t18
  let c256_i32_1184 : BitVec 32 := 256#32
  let v2359 : BitVec 32 := Scalar.muli arg15 c256_i32_1184
  v2359
def k0_off55 (i : grid0.Coords) (k0_t18 : Fin (k0_t18_loop i).trips) : Fin 4 → Nat :=
  let c0_1185 : Index := 0#32
  let c4_1186 : Index := 4#32
  let c0_i32_651 : BitVec 32 := 0#32
  let arg1 : BitVec 32 := BitVec.ofNat 32 (i 1).val
  let v1391 : BitVec 32 := Scalar.subi arg1 c0_i32_651
  let c1_i32_652 : BitVec 32 := 1#32
  let v1393 : BitVec 32 := Scalar.divsi v1391 c1_i32_652
  let v1394 : BitVec 32 := Scalar.muli v1393 c1_i32_652
  let v1395 : BitVec 32 := Scalar.addi c0_i32_651 v1394
  let c1_i32_654 : BitVec 32 := 1#32
  let arg15 : BitVec 32 := Scf.iv v1395 c1_i32_654 k0_t18
  let c256_i32_1184 : BitVec 32 := 256#32
  let v2359 : BitVec 32 := Scalar.muli arg15 c256_i32_1184
  let v2360 : BitVec 32 := v2359
  let v2361 : Index := Scalar.indexCast v2360
  let c0_1187 : Index := 0#32
  ![0, 4, v2361.toNat, 0]
def k0_mult65 (i : grid0.Coords) (k0_t18 : Fin (k0_t18_loop i).trips) : BitVec 32 :=
  let c0_i32_651 : BitVec 32 := 0#32
  let arg1 : BitVec 32 := BitVec.ofNat 32 (i 1).val
  let v1391 : BitVec 32 := Scalar.subi arg1 c0_i32_651
  let c1_i32_652 : BitVec 32 := 1#32
  let v1393 : BitVec 32 := Scalar.divsi v1391 c1_i32_652
  let v1394 : BitVec 32 := Scalar.muli v1393 c1_i32_652
  let v1395 : BitVec 32 := Scalar.addi c0_i32_651 v1394
  let c1_i32_654 : BitVec 32 := 1#32
  let arg15 : BitVec 32 := Scf.iv v1395 c1_i32_654 k0_t18
  let c256_i32_1193 : BitVec 32 := 256#32
  let v2367 : BitVec 32 := Scalar.muli arg15 c256_i32_1193
  v2367
def k0_off56 (i : grid0.Coords) (k0_t18 : Fin (k0_t18_loop i).trips) : Fin 3 → Nat :=
  let c4_1194 : Index := 4#32
  let c0_i32_651 : BitVec 32 := 0#32
  let arg1 : BitVec 32 := BitVec.ofNat 32 (i 1).val
  let v1391 : BitVec 32 := Scalar.subi arg1 c0_i32_651
  let c1_i32_652 : BitVec 32 := 1#32
  let v1393 : BitVec 32 := Scalar.divsi v1391 c1_i32_652
  let v1394 : BitVec 32 := Scalar.muli v1393 c1_i32_652
  let v1395 : BitVec 32 := Scalar.addi c0_i32_651 v1394
  let c1_i32_654 : BitVec 32 := 1#32
  let arg15 : BitVec 32 := Scf.iv v1395 c1_i32_654 k0_t18
  let c256_i32_1193 : BitVec 32 := 256#32
  let v2367 : BitVec 32 := Scalar.muli arg15 c256_i32_1193
  let v2368 : BitVec 32 := v2367
  let v2369 : Index := Scalar.indexCast v2368
  let c0_1195 : Index := 0#32
  ![4, v2369.toNat, 0]
def k0_mult66 (i : grid0.Coords) (k0_t18 : Fin (k0_t18_loop i).trips) : BitVec 32 :=
  let c0_i32_651 : BitVec 32 := 0#32
  let arg1 : BitVec 32 := BitVec.ofNat 32 (i 1).val
  let v1391 : BitVec 32 := Scalar.subi arg1 c0_i32_651
  let c1_i32_652 : BitVec 32 := 1#32
  let v1393 : BitVec 32 := Scalar.divsi v1391 c1_i32_652
  let v1394 : BitVec 32 := Scalar.muli v1393 c1_i32_652
  let v1395 : BitVec 32 := Scalar.addi c0_i32_651 v1394
  let c1_i32_654 : BitVec 32 := 1#32
  let arg15 : BitVec 32 := Scf.iv v1395 c1_i32_654 k0_t18
  let c256_i32_1196 : BitVec 32 := 256#32
  let v2374 : BitVec 32 := Scalar.muli arg15 c256_i32_1196
  v2374
def k0_off57 (i : grid0.Coords) (k0_t18 : Fin (k0_t18_loop i).trips) : Fin 2 → Nat :=
  let c0_i32_651 : BitVec 32 := 0#32
  let arg1 : BitVec 32 := BitVec.ofNat 32 (i 1).val
  let v1391 : BitVec 32 := Scalar.subi arg1 c0_i32_651
  let c1_i32_652 : BitVec 32 := 1#32
  let v1393 : BitVec 32 := Scalar.divsi v1391 c1_i32_652
  let v1394 : BitVec 32 := Scalar.muli v1393 c1_i32_652
  let v1395 : BitVec 32 := Scalar.addi c0_i32_651 v1394
  let c1_i32_654 : BitVec 32 := 1#32
  let arg15 : BitVec 32 := Scf.iv v1395 c1_i32_654 k0_t18
  let c256_i32_1196 : BitVec 32 := 256#32
  let v2374 : BitVec 32 := Scalar.muli arg15 c256_i32_1196
  let v2375 : BitVec 32 := v2374
  let v2376 : Index := Scalar.indexCast v2375
  let c0_1197 : Index := 0#32
  ![v2376.toNat, 0]
@[reducible] def k0_t19_loop (i : grid0.Coords) : Scf.Loop 32 :=
  let c0_i32_661 : BitVec 32 := 0#32
  let arg1 : BitVec 32 := BitVec.ofNat 32 (i 1).val
  let c1_i32_659 : BitVec 32 := 1#32
  let v1404 : BitVec 32 := Scalar.addi arg1 c1_i32_659
  let v1406 : BitVec 32 := Scalar.subi v1404 c0_i32_661
  let c1_i32_662 : BitVec 32 := 1#32
  let v1408 : BitVec 32 := Scalar.divsi v1406 c1_i32_662
  let v1409 : BitVec 32 := Scalar.muli v1408 c1_i32_662
  let v1410 : BitVec 32 := Scalar.addi c0_i32_661 v1409
  let c1_i32_663 : BitVec 32 := 1#32
  ⟨c0_i32_661, v1410, c1_i32_663⟩
def k0_mult67 (i : grid0.Coords) (k0_t19 : Fin (k0_t19_loop i).trips) : BitVec 32 :=
  let c0_i32_661 : BitVec 32 := 0#32
  let c1_i32_663 : BitVec 32 := 1#32
  let arg15 : BitVec 32 := Scf.iv c0_i32_661 c1_i32_663 k0_t19
  let c256_i32_1184 : BitVec 32 := 256#32
  let v2359 : BitVec 32 := Scalar.muli arg15 c256_i32_1184
  v2359
def k0_off58 (i : grid0.Coords) (k0_t19 : Fin (k0_t19_loop i).trips) : Fin 2 → Nat :=
  let c0_i32_661 : BitVec 32 := 0#32
  let c1_i32_663 : BitVec 32 := 1#32
  let arg15 : BitVec 32 := Scf.iv c0_i32_661 c1_i32_663 k0_t19
  let c256_i32_1184 : BitVec 32 := 256#32
  let v2359 : BitVec 32 := Scalar.muli arg15 c256_i32_1184
  let v2360 : BitVec 32 := v2359
  let v2361 : Index := Scalar.indexCast v2360
  let c0_1185 : Index := 0#32
  ![v2361.toNat, 0]
def k0_mult68 (i : grid0.Coords) (k0_t19 : Fin (k0_t19_loop i).trips) : BitVec 32 :=
  let c0_i32_661 : BitVec 32 := 0#32
  let c1_i32_663 : BitVec 32 := 1#32
  let arg15 : BitVec 32 := Scf.iv c0_i32_661 c1_i32_663 k0_t19
  let c256_i32_1188 : BitVec 32 := 256#32
  let v2369 : BitVec 32 := Scalar.muli arg15 c256_i32_1188
  v2369
def k0_off59 (i : grid0.Coords) (k0_t19 : Fin (k0_t19_loop i).trips) : Fin 4 → Nat :=
  let c0_1189 : Index := 0#32
  let c4_1190 : Index := 4#32
  let c0_1191 : Index := 0#32
  let c0_i32_661 : BitVec 32 := 0#32
  let c1_i32_663 : BitVec 32 := 1#32
  let arg15 : BitVec 32 := Scf.iv c0_i32_661 c1_i32_663 k0_t19
  let c256_i32_1188 : BitVec 32 := 256#32
  let v2369 : BitVec 32 := Scalar.muli arg15 c256_i32_1188
  let v2370 : BitVec 32 := v2369
  let v2371 : Index := Scalar.indexCast v2370
  ![0, 4, 0, v2371.toNat]
@[reducible] def k0_t20_loop (i : grid0.Coords) : Scf.Loop 32 :=
  let c0_i32_661 : BitVec 32 := 0#32
  let arg1 : BitVec 32 := BitVec.ofNat 32 (i 1).val
  let c1_i32_659 : BitVec 32 := 1#32
  let v1404 : BitVec 32 := Scalar.addi arg1 c1_i32_659
  let v1406 : BitVec 32 := Scalar.subi v1404 c0_i32_661
  let c1_i32_662 : BitVec 32 := 1#32
  let v1408 : BitVec 32 := Scalar.divsi v1406 c1_i32_662
  let v1409 : BitVec 32 := Scalar.muli v1408 c1_i32_662
  let v1410 : BitVec 32 := Scalar.addi c0_i32_661 v1409
  let v1407 : BitVec 32 := Scalar.addi c0_i32_661 v1406
  let c1_i32_664 : BitVec 32 := 1#32
  ⟨v1410, v1407, c1_i32_664⟩
def k0_mult69 (i : grid0.Coords) (k0_t20 : Fin (k0_t20_loop i).trips) : BitVec 32 :=
  let c0_i32_661 : BitVec 32 := 0#32
  let arg1 : BitVec 32 := BitVec.ofNat 32 (i 1).val
  let c1_i32_659 : BitVec 32 := 1#32
  let v1404 : BitVec 32 := Scalar.addi arg1 c1_i32_659
  let v1406 : BitVec 32 := Scalar.subi v1404 c0_i32_661
  let c1_i32_662 : BitVec 32 := 1#32
  let v1408 : BitVec 32 := Scalar.divsi v1406 c1_i32_662
  let v1409 : BitVec 32 := Scalar.muli v1408 c1_i32_662
  let v1410 : BitVec 32 := Scalar.addi c0_i32_661 v1409
  let c1_i32_664 : BitVec 32 := 1#32
  let arg15 : BitVec 32 := Scf.iv v1410 c1_i32_664 k0_t20
  let c256_i32_1184 : BitVec 32 := 256#32
  let v2359 : BitVec 32 := Scalar.muli arg15 c256_i32_1184
  v2359
def k0_off60 (i : grid0.Coords) (k0_t20 : Fin (k0_t20_loop i).trips) : Fin 2 → Nat :=
  let c0_i32_661 : BitVec 32 := 0#32
  let arg1 : BitVec 32 := BitVec.ofNat 32 (i 1).val
  let c1_i32_659 : BitVec 32 := 1#32
  let v1404 : BitVec 32 := Scalar.addi arg1 c1_i32_659
  let v1406 : BitVec 32 := Scalar.subi v1404 c0_i32_661
  let c1_i32_662 : BitVec 32 := 1#32
  let v1408 : BitVec 32 := Scalar.divsi v1406 c1_i32_662
  let v1409 : BitVec 32 := Scalar.muli v1408 c1_i32_662
  let v1410 : BitVec 32 := Scalar.addi c0_i32_661 v1409
  let c1_i32_664 : BitVec 32 := 1#32
  let arg15 : BitVec 32 := Scf.iv v1410 c1_i32_664 k0_t20
  let c256_i32_1184 : BitVec 32 := 256#32
  let v2359 : BitVec 32 := Scalar.muli arg15 c256_i32_1184
  let v2360 : BitVec 32 := v2359
  let v2361 : Index := Scalar.indexCast v2360
  let c0_1185 : Index := 0#32
  ![v2361.toNat, 0]
def k0_mult70 (i : grid0.Coords) (k0_t20 : Fin (k0_t20_loop i).trips) : BitVec 32 :=
  let c0_i32_661 : BitVec 32 := 0#32
  let arg1 : BitVec 32 := BitVec.ofNat 32 (i 1).val
  let c1_i32_659 : BitVec 32 := 1#32
  let v1404 : BitVec 32 := Scalar.addi arg1 c1_i32_659
  let v1406 : BitVec 32 := Scalar.subi v1404 c0_i32_661
  let c1_i32_662 : BitVec 32 := 1#32
  let v1408 : BitVec 32 := Scalar.divsi v1406 c1_i32_662
  let v1409 : BitVec 32 := Scalar.muli v1408 c1_i32_662
  let v1410 : BitVec 32 := Scalar.addi c0_i32_661 v1409
  let c1_i32_664 : BitVec 32 := 1#32
  let arg15 : BitVec 32 := Scf.iv v1410 c1_i32_664 k0_t20
  let c256_i32_1188 : BitVec 32 := 256#32
  let v2369 : BitVec 32 := Scalar.muli arg15 c256_i32_1188
  v2369
def k0_off61 (i : grid0.Coords) (k0_t20 : Fin (k0_t20_loop i).trips) : Fin 4 → Nat :=
  let c0_1189 : Index := 0#32
  let c4_1190 : Index := 4#32
  let c0_1191 : Index := 0#32
  let c0_i32_661 : BitVec 32 := 0#32
  let arg1 : BitVec 32 := BitVec.ofNat 32 (i 1).val
  let c1_i32_659 : BitVec 32 := 1#32
  let v1404 : BitVec 32 := Scalar.addi arg1 c1_i32_659
  let v1406 : BitVec 32 := Scalar.subi v1404 c0_i32_661
  let c1_i32_662 : BitVec 32 := 1#32
  let v1408 : BitVec 32 := Scalar.divsi v1406 c1_i32_662
  let v1409 : BitVec 32 := Scalar.muli v1408 c1_i32_662
  let v1410 : BitVec 32 := Scalar.addi c0_i32_661 v1409
  let c1_i32_664 : BitVec 32 := 1#32
  let arg15 : BitVec 32 := Scf.iv v1410 c1_i32_664 k0_t20
  let c256_i32_1188 : BitVec 32 := 256#32
  let v2369 : BitVec 32 := Scalar.muli arg15 c256_i32_1188
  let v2370 : BitVec 32 := v2369
  let v2371 : Index := Scalar.indexCast v2370
  ![0, 4, 0, v2371.toNat]
def k0_mult71 (i : grid0.Coords) : BitVec 32 :=
  let arg1 : BitVec 32 := BitVec.ofNat 32 (i 1).val
  let c256_i32_726 : BitVec 32 := 256#32
  let v1547 : BitVec 32 := Scalar.muli arg1 c256_i32_726
  v1547
def k0_off62 (i : grid0.Coords) : Fin 3 → Nat :=
  let c5_727 : Index := 5#32
  let arg1 : BitVec 32 := BitVec.ofNat 32 (i 1).val
  let c256_i32_726 : BitVec 32 := 256#32
  let v1547 : BitVec 32 := Scalar.muli arg1 c256_i32_726
  let v1548 : BitVec 32 := v1547
  let v1549 : Index := Scalar.indexCast v1548
  let c0_728 : Index := 0#32
  ![5, v1549.toNat, 0]
def k0_mult72 (i : grid0.Coords) : BitVec 32 :=
  let arg1 : BitVec 32 := BitVec.ofNat 32 (i 1).val
  let c256_i32_730 : BitVec 32 := 256#32
  let v1555 : BitVec 32 := Scalar.muli arg1 c256_i32_730
  v1555
def k0_off63 (i : grid0.Coords) : Fin 4 → Nat :=
  let c0_731 : Index := 0#32
  let c5_732 : Index := 5#32
  let arg1 : BitVec 32 := BitVec.ofNat 32 (i 1).val
  let c256_i32_730 : BitVec 32 := 256#32
  let v1555 : BitVec 32 := Scalar.muli arg1 c256_i32_730
  let v1556 : BitVec 32 := v1555
  let v1557 : Index := Scalar.indexCast v1556
  let c0_733 : Index := 0#32
  ![0, 5, v1557.toNat, 0]
def k0_mult73 (i : grid0.Coords) : BitVec 32 :=
  let arg1 : BitVec 32 := BitVec.ofNat 32 (i 1).val
  let c256_i32_739 : BitVec 32 := 256#32
  let v1563 : BitVec 32 := Scalar.muli arg1 c256_i32_739
  v1563
def k0_mult74 (i : grid0.Coords) : BitVec 32 :=
  let arg1 : BitVec 32 := BitVec.ofNat 32 (i 1).val
  let c256_i32_743 : BitVec 32 := 256#32
  let v1572 : BitVec 32 := Scalar.muli arg1 c256_i32_743
  v1572
@[reducible] def k0_t21_loop (i : grid0.Coords) : Scf.Loop 32 :=
  let c0_i32_745 : BitVec 32 := 0#32
  let arg1 : BitVec 32 := BitVec.ofNat 32 (i 1).val
  let v1641 : BitVec 32 := Scalar.subi arg1 c0_i32_745
  let c1_i32_746 : BitVec 32 := 1#32
  let v1643 : BitVec 32 := Scalar.divsi v1641 c1_i32_746
  let v1644 : BitVec 32 := Scalar.muli v1643 c1_i32_746
  let v1645 : BitVec 32 := Scalar.addi c0_i32_745 v1644
  let c1_i32_747 : BitVec 32 := 1#32
  ⟨c0_i32_745, v1645, c1_i32_747⟩
def k0_mult75 (i : grid0.Coords) (k0_t21 : Fin (k0_t21_loop i).trips) : BitVec 32 :=
  let c0_i32_745 : BitVec 32 := 0#32
  let c1_i32_747 : BitVec 32 := 1#32
  let arg15 : BitVec 32 := Scf.iv c0_i32_745 c1_i32_747 k0_t21
  let c256_i32_1184 : BitVec 32 := 256#32
  let v2359 : BitVec 32 := Scalar.muli arg15 c256_i32_1184
  v2359
def k0_off64 (i : grid0.Coords) (k0_t21 : Fin (k0_t21_loop i).trips) : Fin 4 → Nat :=
  let c0_1185 : Index := 0#32
  let c5_1186 : Index := 5#32
  let c0_i32_745 : BitVec 32 := 0#32
  let c1_i32_747 : BitVec 32 := 1#32
  let arg15 : BitVec 32 := Scf.iv c0_i32_745 c1_i32_747 k0_t21
  let c256_i32_1184 : BitVec 32 := 256#32
  let v2359 : BitVec 32 := Scalar.muli arg15 c256_i32_1184
  let v2360 : BitVec 32 := v2359
  let v2361 : Index := Scalar.indexCast v2360
  let c0_1187 : Index := 0#32
  ![0, 5, v2361.toNat, 0]
def k0_mult76 (i : grid0.Coords) (k0_t21 : Fin (k0_t21_loop i).trips) : BitVec 32 :=
  let c0_i32_745 : BitVec 32 := 0#32
  let c1_i32_747 : BitVec 32 := 1#32
  let arg15 : BitVec 32 := Scf.iv c0_i32_745 c1_i32_747 k0_t21
  let c256_i32_1193 : BitVec 32 := 256#32
  let v2367 : BitVec 32 := Scalar.muli arg15 c256_i32_1193
  v2367
def k0_off65 (i : grid0.Coords) (k0_t21 : Fin (k0_t21_loop i).trips) : Fin 3 → Nat :=
  let c5_1194 : Index := 5#32
  let c0_i32_745 : BitVec 32 := 0#32
  let c1_i32_747 : BitVec 32 := 1#32
  let arg15 : BitVec 32 := Scf.iv c0_i32_745 c1_i32_747 k0_t21
  let c256_i32_1193 : BitVec 32 := 256#32
  let v2367 : BitVec 32 := Scalar.muli arg15 c256_i32_1193
  let v2368 : BitVec 32 := v2367
  let v2369 : Index := Scalar.indexCast v2368
  let c0_1195 : Index := 0#32
  ![5, v2369.toNat, 0]
def k0_mult77 (i : grid0.Coords) (k0_t21 : Fin (k0_t21_loop i).trips) : BitVec 32 :=
  let c0_i32_745 : BitVec 32 := 0#32
  let c1_i32_747 : BitVec 32 := 1#32
  let arg15 : BitVec 32 := Scf.iv c0_i32_745 c1_i32_747 k0_t21
  let c256_i32_1196 : BitVec 32 := 256#32
  let v2374 : BitVec 32 := Scalar.muli arg15 c256_i32_1196
  v2374
def k0_off66 (i : grid0.Coords) (k0_t21 : Fin (k0_t21_loop i).trips) : Fin 2 → Nat :=
  let c0_i32_745 : BitVec 32 := 0#32
  let c1_i32_747 : BitVec 32 := 1#32
  let arg15 : BitVec 32 := Scf.iv c0_i32_745 c1_i32_747 k0_t21
  let c256_i32_1196 : BitVec 32 := 256#32
  let v2374 : BitVec 32 := Scalar.muli arg15 c256_i32_1196
  let v2375 : BitVec 32 := v2374
  let v2376 : Index := Scalar.indexCast v2375
  let c0_1197 : Index := 0#32
  ![v2376.toNat, 0]
@[reducible] def k0_t22_loop (i : grid0.Coords) : Scf.Loop 32 :=
  let c0_i32_745 : BitVec 32 := 0#32
  let arg1 : BitVec 32 := BitVec.ofNat 32 (i 1).val
  let v1641 : BitVec 32 := Scalar.subi arg1 c0_i32_745
  let c1_i32_746 : BitVec 32 := 1#32
  let v1643 : BitVec 32 := Scalar.divsi v1641 c1_i32_746
  let v1644 : BitVec 32 := Scalar.muli v1643 c1_i32_746
  let v1645 : BitVec 32 := Scalar.addi c0_i32_745 v1644
  let v1642 : BitVec 32 := Scalar.addi c0_i32_745 v1641
  let c1_i32_748 : BitVec 32 := 1#32
  ⟨v1645, v1642, c1_i32_748⟩
def k0_mult78 (i : grid0.Coords) (k0_t22 : Fin (k0_t22_loop i).trips) : BitVec 32 :=
  let c0_i32_745 : BitVec 32 := 0#32
  let arg1 : BitVec 32 := BitVec.ofNat 32 (i 1).val
  let v1641 : BitVec 32 := Scalar.subi arg1 c0_i32_745
  let c1_i32_746 : BitVec 32 := 1#32
  let v1643 : BitVec 32 := Scalar.divsi v1641 c1_i32_746
  let v1644 : BitVec 32 := Scalar.muli v1643 c1_i32_746
  let v1645 : BitVec 32 := Scalar.addi c0_i32_745 v1644
  let c1_i32_748 : BitVec 32 := 1#32
  let arg15 : BitVec 32 := Scf.iv v1645 c1_i32_748 k0_t22
  let c256_i32_1184 : BitVec 32 := 256#32
  let v2359 : BitVec 32 := Scalar.muli arg15 c256_i32_1184
  v2359
def k0_off67 (i : grid0.Coords) (k0_t22 : Fin (k0_t22_loop i).trips) : Fin 4 → Nat :=
  let c0_1185 : Index := 0#32
  let c5_1186 : Index := 5#32
  let c0_i32_745 : BitVec 32 := 0#32
  let arg1 : BitVec 32 := BitVec.ofNat 32 (i 1).val
  let v1641 : BitVec 32 := Scalar.subi arg1 c0_i32_745
  let c1_i32_746 : BitVec 32 := 1#32
  let v1643 : BitVec 32 := Scalar.divsi v1641 c1_i32_746
  let v1644 : BitVec 32 := Scalar.muli v1643 c1_i32_746
  let v1645 : BitVec 32 := Scalar.addi c0_i32_745 v1644
  let c1_i32_748 : BitVec 32 := 1#32
  let arg15 : BitVec 32 := Scf.iv v1645 c1_i32_748 k0_t22
  let c256_i32_1184 : BitVec 32 := 256#32
  let v2359 : BitVec 32 := Scalar.muli arg15 c256_i32_1184
  let v2360 : BitVec 32 := v2359
  let v2361 : Index := Scalar.indexCast v2360
  let c0_1187 : Index := 0#32
  ![0, 5, v2361.toNat, 0]
def k0_mult79 (i : grid0.Coords) (k0_t22 : Fin (k0_t22_loop i).trips) : BitVec 32 :=
  let c0_i32_745 : BitVec 32 := 0#32
  let arg1 : BitVec 32 := BitVec.ofNat 32 (i 1).val
  let v1641 : BitVec 32 := Scalar.subi arg1 c0_i32_745
  let c1_i32_746 : BitVec 32 := 1#32
  let v1643 : BitVec 32 := Scalar.divsi v1641 c1_i32_746
  let v1644 : BitVec 32 := Scalar.muli v1643 c1_i32_746
  let v1645 : BitVec 32 := Scalar.addi c0_i32_745 v1644
  let c1_i32_748 : BitVec 32 := 1#32
  let arg15 : BitVec 32 := Scf.iv v1645 c1_i32_748 k0_t22
  let c256_i32_1193 : BitVec 32 := 256#32
  let v2367 : BitVec 32 := Scalar.muli arg15 c256_i32_1193
  v2367
def k0_off68 (i : grid0.Coords) (k0_t22 : Fin (k0_t22_loop i).trips) : Fin 3 → Nat :=
  let c5_1194 : Index := 5#32
  let c0_i32_745 : BitVec 32 := 0#32
  let arg1 : BitVec 32 := BitVec.ofNat 32 (i 1).val
  let v1641 : BitVec 32 := Scalar.subi arg1 c0_i32_745
  let c1_i32_746 : BitVec 32 := 1#32
  let v1643 : BitVec 32 := Scalar.divsi v1641 c1_i32_746
  let v1644 : BitVec 32 := Scalar.muli v1643 c1_i32_746
  let v1645 : BitVec 32 := Scalar.addi c0_i32_745 v1644
  let c1_i32_748 : BitVec 32 := 1#32
  let arg15 : BitVec 32 := Scf.iv v1645 c1_i32_748 k0_t22
  let c256_i32_1193 : BitVec 32 := 256#32
  let v2367 : BitVec 32 := Scalar.muli arg15 c256_i32_1193
  let v2368 : BitVec 32 := v2367
  let v2369 : Index := Scalar.indexCast v2368
  let c0_1195 : Index := 0#32
  ![5, v2369.toNat, 0]
def k0_mult80 (i : grid0.Coords) (k0_t22 : Fin (k0_t22_loop i).trips) : BitVec 32 :=
  let c0_i32_745 : BitVec 32 := 0#32
  let arg1 : BitVec 32 := BitVec.ofNat 32 (i 1).val
  let v1641 : BitVec 32 := Scalar.subi arg1 c0_i32_745
  let c1_i32_746 : BitVec 32 := 1#32
  let v1643 : BitVec 32 := Scalar.divsi v1641 c1_i32_746
  let v1644 : BitVec 32 := Scalar.muli v1643 c1_i32_746
  let v1645 : BitVec 32 := Scalar.addi c0_i32_745 v1644
  let c1_i32_748 : BitVec 32 := 1#32
  let arg15 : BitVec 32 := Scf.iv v1645 c1_i32_748 k0_t22
  let c256_i32_1196 : BitVec 32 := 256#32
  let v2374 : BitVec 32 := Scalar.muli arg15 c256_i32_1196
  v2374
def k0_off69 (i : grid0.Coords) (k0_t22 : Fin (k0_t22_loop i).trips) : Fin 2 → Nat :=
  let c0_i32_745 : BitVec 32 := 0#32
  let arg1 : BitVec 32 := BitVec.ofNat 32 (i 1).val
  let v1641 : BitVec 32 := Scalar.subi arg1 c0_i32_745
  let c1_i32_746 : BitVec 32 := 1#32
  let v1643 : BitVec 32 := Scalar.divsi v1641 c1_i32_746
  let v1644 : BitVec 32 := Scalar.muli v1643 c1_i32_746
  let v1645 : BitVec 32 := Scalar.addi c0_i32_745 v1644
  let c1_i32_748 : BitVec 32 := 1#32
  let arg15 : BitVec 32 := Scf.iv v1645 c1_i32_748 k0_t22
  let c256_i32_1196 : BitVec 32 := 256#32
  let v2374 : BitVec 32 := Scalar.muli arg15 c256_i32_1196
  let v2375 : BitVec 32 := v2374
  let v2376 : Index := Scalar.indexCast v2375
  let c0_1197 : Index := 0#32
  ![v2376.toNat, 0]
@[reducible] def k0_t23_loop (i : grid0.Coords) : Scf.Loop 32 :=
  let c0_i32_755 : BitVec 32 := 0#32
  let arg1 : BitVec 32 := BitVec.ofNat 32 (i 1).val
  let c1_i32_753 : BitVec 32 := 1#32
  let v1654 : BitVec 32 := Scalar.addi arg1 c1_i32_753
  let v1656 : BitVec 32 := Scalar.subi v1654 c0_i32_755
  let c1_i32_756 : BitVec 32 := 1#32
  let v1658 : BitVec 32 := Scalar.divsi v1656 c1_i32_756
  let v1659 : BitVec 32 := Scalar.muli v1658 c1_i32_756
  let v1660 : BitVec 32 := Scalar.addi c0_i32_755 v1659
  let c1_i32_757 : BitVec 32 := 1#32
  ⟨c0_i32_755, v1660, c1_i32_757⟩
def k0_mult81 (i : grid0.Coords) (k0_t23 : Fin (k0_t23_loop i).trips) : BitVec 32 :=
  let c0_i32_755 : BitVec 32 := 0#32
  let c1_i32_757 : BitVec 32 := 1#32
  let arg15 : BitVec 32 := Scf.iv c0_i32_755 c1_i32_757 k0_t23
  let c256_i32_1184 : BitVec 32 := 256#32
  let v2359 : BitVec 32 := Scalar.muli arg15 c256_i32_1184
  v2359
def k0_off70 (i : grid0.Coords) (k0_t23 : Fin (k0_t23_loop i).trips) : Fin 2 → Nat :=
  let c0_i32_755 : BitVec 32 := 0#32
  let c1_i32_757 : BitVec 32 := 1#32
  let arg15 : BitVec 32 := Scf.iv c0_i32_755 c1_i32_757 k0_t23
  let c256_i32_1184 : BitVec 32 := 256#32
  let v2359 : BitVec 32 := Scalar.muli arg15 c256_i32_1184
  let v2360 : BitVec 32 := v2359
  let v2361 : Index := Scalar.indexCast v2360
  let c0_1185 : Index := 0#32
  ![v2361.toNat, 0]
def k0_mult82 (i : grid0.Coords) (k0_t23 : Fin (k0_t23_loop i).trips) : BitVec 32 :=
  let c0_i32_755 : BitVec 32 := 0#32
  let c1_i32_757 : BitVec 32 := 1#32
  let arg15 : BitVec 32 := Scf.iv c0_i32_755 c1_i32_757 k0_t23
  let c256_i32_1188 : BitVec 32 := 256#32
  let v2369 : BitVec 32 := Scalar.muli arg15 c256_i32_1188
  v2369
def k0_off71 (i : grid0.Coords) (k0_t23 : Fin (k0_t23_loop i).trips) : Fin 4 → Nat :=
  let c0_1189 : Index := 0#32
  let c5_1190 : Index := 5#32
  let c0_1191 : Index := 0#32
  let c0_i32_755 : BitVec 32 := 0#32
  let c1_i32_757 : BitVec 32 := 1#32
  let arg15 : BitVec 32 := Scf.iv c0_i32_755 c1_i32_757 k0_t23
  let c256_i32_1188 : BitVec 32 := 256#32
  let v2369 : BitVec 32 := Scalar.muli arg15 c256_i32_1188
  let v2370 : BitVec 32 := v2369
  let v2371 : Index := Scalar.indexCast v2370
  ![0, 5, 0, v2371.toNat]
@[reducible] def k0_t24_loop (i : grid0.Coords) : Scf.Loop 32 :=
  let c0_i32_755 : BitVec 32 := 0#32
  let arg1 : BitVec 32 := BitVec.ofNat 32 (i 1).val
  let c1_i32_753 : BitVec 32 := 1#32
  let v1654 : BitVec 32 := Scalar.addi arg1 c1_i32_753
  let v1656 : BitVec 32 := Scalar.subi v1654 c0_i32_755
  let c1_i32_756 : BitVec 32 := 1#32
  let v1658 : BitVec 32 := Scalar.divsi v1656 c1_i32_756
  let v1659 : BitVec 32 := Scalar.muli v1658 c1_i32_756
  let v1660 : BitVec 32 := Scalar.addi c0_i32_755 v1659
  let v1657 : BitVec 32 := Scalar.addi c0_i32_755 v1656
  let c1_i32_758 : BitVec 32 := 1#32
  ⟨v1660, v1657, c1_i32_758⟩
def k0_mult83 (i : grid0.Coords) (k0_t24 : Fin (k0_t24_loop i).trips) : BitVec 32 :=
  let c0_i32_755 : BitVec 32 := 0#32
  let arg1 : BitVec 32 := BitVec.ofNat 32 (i 1).val
  let c1_i32_753 : BitVec 32 := 1#32
  let v1654 : BitVec 32 := Scalar.addi arg1 c1_i32_753
  let v1656 : BitVec 32 := Scalar.subi v1654 c0_i32_755
  let c1_i32_756 : BitVec 32 := 1#32
  let v1658 : BitVec 32 := Scalar.divsi v1656 c1_i32_756
  let v1659 : BitVec 32 := Scalar.muli v1658 c1_i32_756
  let v1660 : BitVec 32 := Scalar.addi c0_i32_755 v1659
  let c1_i32_758 : BitVec 32 := 1#32
  let arg15 : BitVec 32 := Scf.iv v1660 c1_i32_758 k0_t24
  let c256_i32_1184 : BitVec 32 := 256#32
  let v2359 : BitVec 32 := Scalar.muli arg15 c256_i32_1184
  v2359
def k0_off72 (i : grid0.Coords) (k0_t24 : Fin (k0_t24_loop i).trips) : Fin 2 → Nat :=
  let c0_i32_755 : BitVec 32 := 0#32
  let arg1 : BitVec 32 := BitVec.ofNat 32 (i 1).val
  let c1_i32_753 : BitVec 32 := 1#32
  let v1654 : BitVec 32 := Scalar.addi arg1 c1_i32_753
  let v1656 : BitVec 32 := Scalar.subi v1654 c0_i32_755
  let c1_i32_756 : BitVec 32 := 1#32
  let v1658 : BitVec 32 := Scalar.divsi v1656 c1_i32_756
  let v1659 : BitVec 32 := Scalar.muli v1658 c1_i32_756
  let v1660 : BitVec 32 := Scalar.addi c0_i32_755 v1659
  let c1_i32_758 : BitVec 32 := 1#32
  let arg15 : BitVec 32 := Scf.iv v1660 c1_i32_758 k0_t24
  let c256_i32_1184 : BitVec 32 := 256#32
  let v2359 : BitVec 32 := Scalar.muli arg15 c256_i32_1184
  let v2360 : BitVec 32 := v2359
  let v2361 : Index := Scalar.indexCast v2360
  let c0_1185 : Index := 0#32
  ![v2361.toNat, 0]
def k0_mult84 (i : grid0.Coords) (k0_t24 : Fin (k0_t24_loop i).trips) : BitVec 32 :=
  let c0_i32_755 : BitVec 32 := 0#32
  let arg1 : BitVec 32 := BitVec.ofNat 32 (i 1).val
  let c1_i32_753 : BitVec 32 := 1#32
  let v1654 : BitVec 32 := Scalar.addi arg1 c1_i32_753
  let v1656 : BitVec 32 := Scalar.subi v1654 c0_i32_755
  let c1_i32_756 : BitVec 32 := 1#32
  let v1658 : BitVec 32 := Scalar.divsi v1656 c1_i32_756
  let v1659 : BitVec 32 := Scalar.muli v1658 c1_i32_756
  let v1660 : BitVec 32 := Scalar.addi c0_i32_755 v1659
  let c1_i32_758 : BitVec 32 := 1#32
  let arg15 : BitVec 32 := Scf.iv v1660 c1_i32_758 k0_t24
  let c256_i32_1188 : BitVec 32 := 256#32
  let v2369 : BitVec 32 := Scalar.muli arg15 c256_i32_1188
  v2369
def k0_off73 (i : grid0.Coords) (k0_t24 : Fin (k0_t24_loop i).trips) : Fin 4 → Nat :=
  let c0_1189 : Index := 0#32
  let c5_1190 : Index := 5#32
  let c0_1191 : Index := 0#32
  let c0_i32_755 : BitVec 32 := 0#32
  let arg1 : BitVec 32 := BitVec.ofNat 32 (i 1).val
  let c1_i32_753 : BitVec 32 := 1#32
  let v1654 : BitVec 32 := Scalar.addi arg1 c1_i32_753
  let v1656 : BitVec 32 := Scalar.subi v1654 c0_i32_755
  let c1_i32_756 : BitVec 32 := 1#32
  let v1658 : BitVec 32 := Scalar.divsi v1656 c1_i32_756
  let v1659 : BitVec 32 := Scalar.muli v1658 c1_i32_756
  let v1660 : BitVec 32 := Scalar.addi c0_i32_755 v1659
  let c1_i32_758 : BitVec 32 := 1#32
  let arg15 : BitVec 32 := Scf.iv v1660 c1_i32_758 k0_t24
  let c256_i32_1188 : BitVec 32 := 256#32
  let v2369 : BitVec 32 := Scalar.muli arg15 c256_i32_1188
  let v2370 : BitVec 32 := v2369
  let v2371 : Index := Scalar.indexCast v2370
  ![0, 5, 0, v2371.toNat]
def k0_mult85 (i : grid0.Coords) : BitVec 32 :=
  let arg1 : BitVec 32 := BitVec.ofNat 32 (i 1).val
  let c256_i32_932 : BitVec 32 := 256#32
  let v1886 : BitVec 32 := Scalar.muli arg1 c256_i32_932
  v1886
def k0_off74 (i : grid0.Coords) : Fin 3 → Nat :=
  let c6_933 : Index := 6#32
  let arg1 : BitVec 32 := BitVec.ofNat 32 (i 1).val
  let c256_i32_932 : BitVec 32 := 256#32
  let v1886 : BitVec 32 := Scalar.muli arg1 c256_i32_932
  let v1887 : BitVec 32 := v1886
  let v1888 : Index := Scalar.indexCast v1887
  let c0_934 : Index := 0#32
  ![6, v1888.toNat, 0]
def k0_mult86 (i : grid0.Coords) : BitVec 32 :=
  let arg1 : BitVec 32 := BitVec.ofNat 32 (i 1).val
  let c256_i32_936 : BitVec 32 := 256#32
  let v1894 : BitVec 32 := Scalar.muli arg1 c256_i32_936
  v1894
def k0_off75 (i : grid0.Coords) : Fin 4 → Nat :=
  let c0_937 : Index := 0#32
  let c6_938 : Index := 6#32
  let arg1 : BitVec 32 := BitVec.ofNat 32 (i 1).val
  let c256_i32_936 : BitVec 32 := 256#32
  let v1894 : BitVec 32 := Scalar.muli arg1 c256_i32_936
  let v1895 : BitVec 32 := v1894
  let v1896 : Index := Scalar.indexCast v1895
  let c0_939 : Index := 0#32
  ![0, 6, v1896.toNat, 0]
def k0_mult87 (i : grid0.Coords) : BitVec 32 :=
  let arg1 : BitVec 32 := BitVec.ofNat 32 (i 1).val
  let c256_i32_945 : BitVec 32 := 256#32
  let v1902 : BitVec 32 := Scalar.muli arg1 c256_i32_945
  v1902
def k0_mult88 (i : grid0.Coords) : BitVec 32 :=
  let arg1 : BitVec 32 := BitVec.ofNat 32 (i 1).val
  let c256_i32_949 : BitVec 32 := 256#32
  let v1911 : BitVec 32 := Scalar.muli arg1 c256_i32_949
  v1911
@[reducible] def k0_t25_loop (i : grid0.Coords) : Scf.Loop 32 :=
  let c0_i32_951 : BitVec 32 := 0#32
  let arg1 : BitVec 32 := BitVec.ofNat 32 (i 1).val
  let v1980 : BitVec 32 := Scalar.subi arg1 c0_i32_951
  let c1_i32_952 : BitVec 32 := 1#32
  let v1982 : BitVec 32 := Scalar.divsi v1980 c1_i32_952
  let v1983 : BitVec 32 := Scalar.muli v1982 c1_i32_952
  let v1984 : BitVec 32 := Scalar.addi c0_i32_951 v1983
  let c1_i32_953 : BitVec 32 := 1#32
  ⟨c0_i32_951, v1984, c1_i32_953⟩
def k0_mult89 (i : grid0.Coords) (k0_t25 : Fin (k0_t25_loop i).trips) : BitVec 32 :=
  let c0_i32_951 : BitVec 32 := 0#32
  let c1_i32_953 : BitVec 32 := 1#32
  let arg15 : BitVec 32 := Scf.iv c0_i32_951 c1_i32_953 k0_t25
  let c256_i32_1184 : BitVec 32 := 256#32
  let v2359 : BitVec 32 := Scalar.muli arg15 c256_i32_1184
  v2359
def k0_off76 (i : grid0.Coords) (k0_t25 : Fin (k0_t25_loop i).trips) : Fin 4 → Nat :=
  let c0_1185 : Index := 0#32
  let c6_1186 : Index := 6#32
  let c0_i32_951 : BitVec 32 := 0#32
  let c1_i32_953 : BitVec 32 := 1#32
  let arg15 : BitVec 32 := Scf.iv c0_i32_951 c1_i32_953 k0_t25
  let c256_i32_1184 : BitVec 32 := 256#32
  let v2359 : BitVec 32 := Scalar.muli arg15 c256_i32_1184
  let v2360 : BitVec 32 := v2359
  let v2361 : Index := Scalar.indexCast v2360
  let c0_1187 : Index := 0#32
  ![0, 6, v2361.toNat, 0]
def k0_mult90 (i : grid0.Coords) (k0_t25 : Fin (k0_t25_loop i).trips) : BitVec 32 :=
  let c0_i32_951 : BitVec 32 := 0#32
  let c1_i32_953 : BitVec 32 := 1#32
  let arg15 : BitVec 32 := Scf.iv c0_i32_951 c1_i32_953 k0_t25
  let c256_i32_1193 : BitVec 32 := 256#32
  let v2367 : BitVec 32 := Scalar.muli arg15 c256_i32_1193
  v2367
def k0_off77 (i : grid0.Coords) (k0_t25 : Fin (k0_t25_loop i).trips) : Fin 3 → Nat :=
  let c6_1194 : Index := 6#32
  let c0_i32_951 : BitVec 32 := 0#32
  let c1_i32_953 : BitVec 32 := 1#32
  let arg15 : BitVec 32 := Scf.iv c0_i32_951 c1_i32_953 k0_t25
  let c256_i32_1193 : BitVec 32 := 256#32
  let v2367 : BitVec 32 := Scalar.muli arg15 c256_i32_1193
  let v2368 : BitVec 32 := v2367
  let v2369 : Index := Scalar.indexCast v2368
  let c0_1195 : Index := 0#32
  ![6, v2369.toNat, 0]
def k0_mult91 (i : grid0.Coords) (k0_t25 : Fin (k0_t25_loop i).trips) : BitVec 32 :=
  let c0_i32_951 : BitVec 32 := 0#32
  let c1_i32_953 : BitVec 32 := 1#32
  let arg15 : BitVec 32 := Scf.iv c0_i32_951 c1_i32_953 k0_t25
  let c256_i32_1196 : BitVec 32 := 256#32
  let v2374 : BitVec 32 := Scalar.muli arg15 c256_i32_1196
  v2374
def k0_off78 (i : grid0.Coords) (k0_t25 : Fin (k0_t25_loop i).trips) : Fin 2 → Nat :=
  let c0_i32_951 : BitVec 32 := 0#32
  let c1_i32_953 : BitVec 32 := 1#32
  let arg15 : BitVec 32 := Scf.iv c0_i32_951 c1_i32_953 k0_t25
  let c256_i32_1196 : BitVec 32 := 256#32
  let v2374 : BitVec 32 := Scalar.muli arg15 c256_i32_1196
  let v2375 : BitVec 32 := v2374
  let v2376 : Index := Scalar.indexCast v2375
  let c0_1197 : Index := 0#32
  ![v2376.toNat, 0]
@[reducible] def k0_t26_loop (i : grid0.Coords) : Scf.Loop 32 :=
  let c0_i32_951 : BitVec 32 := 0#32
  let arg1 : BitVec 32 := BitVec.ofNat 32 (i 1).val
  let v1980 : BitVec 32 := Scalar.subi arg1 c0_i32_951
  let c1_i32_952 : BitVec 32 := 1#32
  let v1982 : BitVec 32 := Scalar.divsi v1980 c1_i32_952
  let v1983 : BitVec 32 := Scalar.muli v1982 c1_i32_952
  let v1984 : BitVec 32 := Scalar.addi c0_i32_951 v1983
  let v1981 : BitVec 32 := Scalar.addi c0_i32_951 v1980
  let c1_i32_954 : BitVec 32 := 1#32
  ⟨v1984, v1981, c1_i32_954⟩
def k0_mult92 (i : grid0.Coords) (k0_t26 : Fin (k0_t26_loop i).trips) : BitVec 32 :=
  let c0_i32_951 : BitVec 32 := 0#32
  let arg1 : BitVec 32 := BitVec.ofNat 32 (i 1).val
  let v1980 : BitVec 32 := Scalar.subi arg1 c0_i32_951
  let c1_i32_952 : BitVec 32 := 1#32
  let v1982 : BitVec 32 := Scalar.divsi v1980 c1_i32_952
  let v1983 : BitVec 32 := Scalar.muli v1982 c1_i32_952
  let v1984 : BitVec 32 := Scalar.addi c0_i32_951 v1983
  let c1_i32_954 : BitVec 32 := 1#32
  let arg15 : BitVec 32 := Scf.iv v1984 c1_i32_954 k0_t26
  let c256_i32_1184 : BitVec 32 := 256#32
  let v2359 : BitVec 32 := Scalar.muli arg15 c256_i32_1184
  v2359
def k0_off79 (i : grid0.Coords) (k0_t26 : Fin (k0_t26_loop i).trips) : Fin 4 → Nat :=
  let c0_1185 : Index := 0#32
  let c6_1186 : Index := 6#32
  let c0_i32_951 : BitVec 32 := 0#32
  let arg1 : BitVec 32 := BitVec.ofNat 32 (i 1).val
  let v1980 : BitVec 32 := Scalar.subi arg1 c0_i32_951
  let c1_i32_952 : BitVec 32 := 1#32
  let v1982 : BitVec 32 := Scalar.divsi v1980 c1_i32_952
  let v1983 : BitVec 32 := Scalar.muli v1982 c1_i32_952
  let v1984 : BitVec 32 := Scalar.addi c0_i32_951 v1983
  let c1_i32_954 : BitVec 32 := 1#32
  let arg15 : BitVec 32 := Scf.iv v1984 c1_i32_954 k0_t26
  let c256_i32_1184 : BitVec 32 := 256#32
  let v2359 : BitVec 32 := Scalar.muli arg15 c256_i32_1184
  let v2360 : BitVec 32 := v2359
  let v2361 : Index := Scalar.indexCast v2360
  let c0_1187 : Index := 0#32
  ![0, 6, v2361.toNat, 0]
def k0_mult93 (i : grid0.Coords) (k0_t26 : Fin (k0_t26_loop i).trips) : BitVec 32 :=
  let c0_i32_951 : BitVec 32 := 0#32
  let arg1 : BitVec 32 := BitVec.ofNat 32 (i 1).val
  let v1980 : BitVec 32 := Scalar.subi arg1 c0_i32_951
  let c1_i32_952 : BitVec 32 := 1#32
  let v1982 : BitVec 32 := Scalar.divsi v1980 c1_i32_952
  let v1983 : BitVec 32 := Scalar.muli v1982 c1_i32_952
  let v1984 : BitVec 32 := Scalar.addi c0_i32_951 v1983
  let c1_i32_954 : BitVec 32 := 1#32
  let arg15 : BitVec 32 := Scf.iv v1984 c1_i32_954 k0_t26
  let c256_i32_1193 : BitVec 32 := 256#32
  let v2367 : BitVec 32 := Scalar.muli arg15 c256_i32_1193
  v2367
def k0_off80 (i : grid0.Coords) (k0_t26 : Fin (k0_t26_loop i).trips) : Fin 3 → Nat :=
  let c6_1194 : Index := 6#32
  let c0_i32_951 : BitVec 32 := 0#32
  let arg1 : BitVec 32 := BitVec.ofNat 32 (i 1).val
  let v1980 : BitVec 32 := Scalar.subi arg1 c0_i32_951
  let c1_i32_952 : BitVec 32 := 1#32
  let v1982 : BitVec 32 := Scalar.divsi v1980 c1_i32_952
  let v1983 : BitVec 32 := Scalar.muli v1982 c1_i32_952
  let v1984 : BitVec 32 := Scalar.addi c0_i32_951 v1983
  let c1_i32_954 : BitVec 32 := 1#32
  let arg15 : BitVec 32 := Scf.iv v1984 c1_i32_954 k0_t26
  let c256_i32_1193 : BitVec 32 := 256#32
  let v2367 : BitVec 32 := Scalar.muli arg15 c256_i32_1193
  let v2368 : BitVec 32 := v2367
  let v2369 : Index := Scalar.indexCast v2368
  let c0_1195 : Index := 0#32
  ![6, v2369.toNat, 0]
def k0_mult94 (i : grid0.Coords) (k0_t26 : Fin (k0_t26_loop i).trips) : BitVec 32 :=
  let c0_i32_951 : BitVec 32 := 0#32
  let arg1 : BitVec 32 := BitVec.ofNat 32 (i 1).val
  let v1980 : BitVec 32 := Scalar.subi arg1 c0_i32_951
  let c1_i32_952 : BitVec 32 := 1#32
  let v1982 : BitVec 32 := Scalar.divsi v1980 c1_i32_952
  let v1983 : BitVec 32 := Scalar.muli v1982 c1_i32_952
  let v1984 : BitVec 32 := Scalar.addi c0_i32_951 v1983
  let c1_i32_954 : BitVec 32 := 1#32
  let arg15 : BitVec 32 := Scf.iv v1984 c1_i32_954 k0_t26
  let c256_i32_1196 : BitVec 32 := 256#32
  let v2374 : BitVec 32 := Scalar.muli arg15 c256_i32_1196
  v2374
def k0_off81 (i : grid0.Coords) (k0_t26 : Fin (k0_t26_loop i).trips) : Fin 2 → Nat :=
  let c0_i32_951 : BitVec 32 := 0#32
  let arg1 : BitVec 32 := BitVec.ofNat 32 (i 1).val
  let v1980 : BitVec 32 := Scalar.subi arg1 c0_i32_951
  let c1_i32_952 : BitVec 32 := 1#32
  let v1982 : BitVec 32 := Scalar.divsi v1980 c1_i32_952
  let v1983 : BitVec 32 := Scalar.muli v1982 c1_i32_952
  let v1984 : BitVec 32 := Scalar.addi c0_i32_951 v1983
  let c1_i32_954 : BitVec 32 := 1#32
  let arg15 : BitVec 32 := Scf.iv v1984 c1_i32_954 k0_t26
  let c256_i32_1196 : BitVec 32 := 256#32
  let v2374 : BitVec 32 := Scalar.muli arg15 c256_i32_1196
  let v2375 : BitVec 32 := v2374
  let v2376 : Index := Scalar.indexCast v2375
  let c0_1197 : Index := 0#32
  ![v2376.toNat, 0]
@[reducible] def k0_t27_loop (i : grid0.Coords) : Scf.Loop 32 :=
  let c0_i32_961 : BitVec 32 := 0#32
  let arg1 : BitVec 32 := BitVec.ofNat 32 (i 1).val
  let c1_i32_959 : BitVec 32 := 1#32
  let v1993 : BitVec 32 := Scalar.addi arg1 c1_i32_959
  let v1995 : BitVec 32 := Scalar.subi v1993 c0_i32_961
  let c1_i32_962 : BitVec 32 := 1#32
  let v1997 : BitVec 32 := Scalar.divsi v1995 c1_i32_962
  let v1998 : BitVec 32 := Scalar.muli v1997 c1_i32_962
  let v1999 : BitVec 32 := Scalar.addi c0_i32_961 v1998
  let c1_i32_963 : BitVec 32 := 1#32
  ⟨c0_i32_961, v1999, c1_i32_963⟩
def k0_mult95 (i : grid0.Coords) (k0_t27 : Fin (k0_t27_loop i).trips) : BitVec 32 :=
  let c0_i32_961 : BitVec 32 := 0#32
  let c1_i32_963 : BitVec 32 := 1#32
  let arg15 : BitVec 32 := Scf.iv c0_i32_961 c1_i32_963 k0_t27
  let c256_i32_1184 : BitVec 32 := 256#32
  let v2359 : BitVec 32 := Scalar.muli arg15 c256_i32_1184
  v2359
def k0_off82 (i : grid0.Coords) (k0_t27 : Fin (k0_t27_loop i).trips) : Fin 2 → Nat :=
  let c0_i32_961 : BitVec 32 := 0#32
  let c1_i32_963 : BitVec 32 := 1#32
  let arg15 : BitVec 32 := Scf.iv c0_i32_961 c1_i32_963 k0_t27
  let c256_i32_1184 : BitVec 32 := 256#32
  let v2359 : BitVec 32 := Scalar.muli arg15 c256_i32_1184
  let v2360 : BitVec 32 := v2359
  let v2361 : Index := Scalar.indexCast v2360
  let c0_1185 : Index := 0#32
  ![v2361.toNat, 0]
def k0_mult96 (i : grid0.Coords) (k0_t27 : Fin (k0_t27_loop i).trips) : BitVec 32 :=
  let c0_i32_961 : BitVec 32 := 0#32
  let c1_i32_963 : BitVec 32 := 1#32
  let arg15 : BitVec 32 := Scf.iv c0_i32_961 c1_i32_963 k0_t27
  let c256_i32_1188 : BitVec 32 := 256#32
  let v2369 : BitVec 32 := Scalar.muli arg15 c256_i32_1188
  v2369
def k0_off83 (i : grid0.Coords) (k0_t27 : Fin (k0_t27_loop i).trips) : Fin 4 → Nat :=
  let c0_1189 : Index := 0#32
  let c6_1190 : Index := 6#32
  let c0_1191 : Index := 0#32
  let c0_i32_961 : BitVec 32 := 0#32
  let c1_i32_963 : BitVec 32 := 1#32
  let arg15 : BitVec 32 := Scf.iv c0_i32_961 c1_i32_963 k0_t27
  let c256_i32_1188 : BitVec 32 := 256#32
  let v2369 : BitVec 32 := Scalar.muli arg15 c256_i32_1188
  let v2370 : BitVec 32 := v2369
  let v2371 : Index := Scalar.indexCast v2370
  ![0, 6, 0, v2371.toNat]
@[reducible] def k0_t28_loop (i : grid0.Coords) : Scf.Loop 32 :=
  let c0_i32_961 : BitVec 32 := 0#32
  let arg1 : BitVec 32 := BitVec.ofNat 32 (i 1).val
  let c1_i32_959 : BitVec 32 := 1#32
  let v1993 : BitVec 32 := Scalar.addi arg1 c1_i32_959
  let v1995 : BitVec 32 := Scalar.subi v1993 c0_i32_961
  let c1_i32_962 : BitVec 32 := 1#32
  let v1997 : BitVec 32 := Scalar.divsi v1995 c1_i32_962
  let v1998 : BitVec 32 := Scalar.muli v1997 c1_i32_962
  let v1999 : BitVec 32 := Scalar.addi c0_i32_961 v1998
  let v1996 : BitVec 32 := Scalar.addi c0_i32_961 v1995
  let c1_i32_964 : BitVec 32 := 1#32
  ⟨v1999, v1996, c1_i32_964⟩
def k0_mult97 (i : grid0.Coords) (k0_t28 : Fin (k0_t28_loop i).trips) : BitVec 32 :=
  let c0_i32_961 : BitVec 32 := 0#32
  let arg1 : BitVec 32 := BitVec.ofNat 32 (i 1).val
  let c1_i32_959 : BitVec 32 := 1#32
  let v1993 : BitVec 32 := Scalar.addi arg1 c1_i32_959
  let v1995 : BitVec 32 := Scalar.subi v1993 c0_i32_961
  let c1_i32_962 : BitVec 32 := 1#32
  let v1997 : BitVec 32 := Scalar.divsi v1995 c1_i32_962
  let v1998 : BitVec 32 := Scalar.muli v1997 c1_i32_962
  let v1999 : BitVec 32 := Scalar.addi c0_i32_961 v1998
  let c1_i32_964 : BitVec 32 := 1#32
  let arg15 : BitVec 32 := Scf.iv v1999 c1_i32_964 k0_t28
  let c256_i32_1184 : BitVec 32 := 256#32
  let v2359 : BitVec 32 := Scalar.muli arg15 c256_i32_1184
  v2359
def k0_off84 (i : grid0.Coords) (k0_t28 : Fin (k0_t28_loop i).trips) : Fin 2 → Nat :=
  let c0_i32_961 : BitVec 32 := 0#32
  let arg1 : BitVec 32 := BitVec.ofNat 32 (i 1).val
  let c1_i32_959 : BitVec 32 := 1#32
  let v1993 : BitVec 32 := Scalar.addi arg1 c1_i32_959
  let v1995 : BitVec 32 := Scalar.subi v1993 c0_i32_961
  let c1_i32_962 : BitVec 32 := 1#32
  let v1997 : BitVec 32 := Scalar.divsi v1995 c1_i32_962
  let v1998 : BitVec 32 := Scalar.muli v1997 c1_i32_962
  let v1999 : BitVec 32 := Scalar.addi c0_i32_961 v1998
  let c1_i32_964 : BitVec 32 := 1#32
  let arg15 : BitVec 32 := Scf.iv v1999 c1_i32_964 k0_t28
  let c256_i32_1184 : BitVec 32 := 256#32
  let v2359 : BitVec 32 := Scalar.muli arg15 c256_i32_1184
  let v2360 : BitVec 32 := v2359
  let v2361 : Index := Scalar.indexCast v2360
  let c0_1185 : Index := 0#32
  ![v2361.toNat, 0]
def k0_mult98 (i : grid0.Coords) (k0_t28 : Fin (k0_t28_loop i).trips) : BitVec 32 :=
  let c0_i32_961 : BitVec 32 := 0#32
  let arg1 : BitVec 32 := BitVec.ofNat 32 (i 1).val
  let c1_i32_959 : BitVec 32 := 1#32
  let v1993 : BitVec 32 := Scalar.addi arg1 c1_i32_959
  let v1995 : BitVec 32 := Scalar.subi v1993 c0_i32_961
  let c1_i32_962 : BitVec 32 := 1#32
  let v1997 : BitVec 32 := Scalar.divsi v1995 c1_i32_962
  let v1998 : BitVec 32 := Scalar.muli v1997 c1_i32_962
  let v1999 : BitVec 32 := Scalar.addi c0_i32_961 v1998
  let c1_i32_964 : BitVec 32 := 1#32
  let arg15 : BitVec 32 := Scf.iv v1999 c1_i32_964 k0_t28
  let c256_i32_1188 : BitVec 32 := 256#32
  let v2369 : BitVec 32 := Scalar.muli arg15 c256_i32_1188
  v2369
def k0_off85 (i : grid0.Coords) (k0_t28 : Fin (k0_t28_loop i).trips) : Fin 4 → Nat :=
  let c0_1189 : Index := 0#32
  let c6_1190 : Index := 6#32
  let c0_1191 : Index := 0#32
  let c0_i32_961 : BitVec 32 := 0#32
  let arg1 : BitVec 32 := BitVec.ofNat 32 (i 1).val
  let c1_i32_959 : BitVec 32 := 1#32
  let v1993 : BitVec 32 := Scalar.addi arg1 c1_i32_959
  let v1995 : BitVec 32 := Scalar.subi v1993 c0_i32_961
  let c1_i32_962 : BitVec 32 := 1#32
  let v1997 : BitVec 32 := Scalar.divsi v1995 c1_i32_962
  let v1998 : BitVec 32 := Scalar.muli v1997 c1_i32_962
  let v1999 : BitVec 32 := Scalar.addi c0_i32_961 v1998
  let c1_i32_964 : BitVec 32 := 1#32
  let arg15 : BitVec 32 := Scf.iv v1999 c1_i32_964 k0_t28
  let c256_i32_1188 : BitVec 32 := 256#32
  let v2369 : BitVec 32 := Scalar.muli arg15 c256_i32_1188
  let v2370 : BitVec 32 := v2369
  let v2371 : Index := Scalar.indexCast v2370
  ![0, 6, 0, v2371.toNat]
def k0_mult99 (i : grid0.Coords) : BitVec 32 :=
  let arg1 : BitVec 32 := BitVec.ofNat 32 (i 1).val
  let c256_i32_1026 : BitVec 32 := 256#32
  let v2136 : BitVec 32 := Scalar.muli arg1 c256_i32_1026
  v2136
def k0_off86 (i : grid0.Coords) : Fin 3 → Nat :=
  let c7_1027 : Index := 7#32
  let arg1 : BitVec 32 := BitVec.ofNat 32 (i 1).val
  let c256_i32_1026 : BitVec 32 := 256#32
  let v2136 : BitVec 32 := Scalar.muli arg1 c256_i32_1026
  let v2137 : BitVec 32 := v2136
  let v2138 : Index := Scalar.indexCast v2137
  let c0_1028 : Index := 0#32
  ![7, v2138.toNat, 0]
def k0_mult100 (i : grid0.Coords) : BitVec 32 :=
  let arg1 : BitVec 32 := BitVec.ofNat 32 (i 1).val
  let c256_i32_1030 : BitVec 32 := 256#32
  let v2144 : BitVec 32 := Scalar.muli arg1 c256_i32_1030
  v2144
def k0_off87 (i : grid0.Coords) : Fin 4 → Nat :=
  let c0_1031 : Index := 0#32
  let c7_1032 : Index := 7#32
  let arg1 : BitVec 32 := BitVec.ofNat 32 (i 1).val
  let c256_i32_1030 : BitVec 32 := 256#32
  let v2144 : BitVec 32 := Scalar.muli arg1 c256_i32_1030
  let v2145 : BitVec 32 := v2144
  let v2146 : Index := Scalar.indexCast v2145
  let c0_1033 : Index := 0#32
  ![0, 7, v2146.toNat, 0]
def k0_mult101 (i : grid0.Coords) : BitVec 32 :=
  let arg1 : BitVec 32 := BitVec.ofNat 32 (i 1).val
  let c256_i32_1039 : BitVec 32 := 256#32
  let v2152 : BitVec 32 := Scalar.muli arg1 c256_i32_1039
  v2152
def k0_mult102 (i : grid0.Coords) : BitVec 32 :=
  let arg1 : BitVec 32 := BitVec.ofNat 32 (i 1).val
  let c256_i32_1043 : BitVec 32 := 256#32
  let v2161 : BitVec 32 := Scalar.muli arg1 c256_i32_1043
  v2161
@[reducible] def k0_t29_loop (i : grid0.Coords) : Scf.Loop 32 :=
  let c0_i32_1045 : BitVec 32 := 0#32
  let arg1 : BitVec 32 := BitVec.ofNat 32 (i 1).val
  let v2230 : BitVec 32 := Scalar.subi arg1 c0_i32_1045
  let c1_i32_1046 : BitVec 32 := 1#32
  let v2232 : BitVec 32 := Scalar.divsi v2230 c1_i32_1046
  let v2233 : BitVec 32 := Scalar.muli v2232 c1_i32_1046
  let v2234 : BitVec 32 := Scalar.addi c0_i32_1045 v2233
  let c1_i32_1047 : BitVec 32 := 1#32
  ⟨c0_i32_1045, v2234, c1_i32_1047⟩
def k0_mult103 (i : grid0.Coords) (k0_t29 : Fin (k0_t29_loop i).trips) : BitVec 32 :=
  let c0_i32_1045 : BitVec 32 := 0#32
  let c1_i32_1047 : BitVec 32 := 1#32
  let arg15 : BitVec 32 := Scf.iv c0_i32_1045 c1_i32_1047 k0_t29
  let c256_i32_1184 : BitVec 32 := 256#32
  let v2359 : BitVec 32 := Scalar.muli arg15 c256_i32_1184
  v2359
def k0_off88 (i : grid0.Coords) (k0_t29 : Fin (k0_t29_loop i).trips) : Fin 4 → Nat :=
  let c0_1185 : Index := 0#32
  let c7_1186 : Index := 7#32
  let c0_i32_1045 : BitVec 32 := 0#32
  let c1_i32_1047 : BitVec 32 := 1#32
  let arg15 : BitVec 32 := Scf.iv c0_i32_1045 c1_i32_1047 k0_t29
  let c256_i32_1184 : BitVec 32 := 256#32
  let v2359 : BitVec 32 := Scalar.muli arg15 c256_i32_1184
  let v2360 : BitVec 32 := v2359
  let v2361 : Index := Scalar.indexCast v2360
  let c0_1187 : Index := 0#32
  ![0, 7, v2361.toNat, 0]
def k0_mult104 (i : grid0.Coords) (k0_t29 : Fin (k0_t29_loop i).trips) : BitVec 32 :=
  let c0_i32_1045 : BitVec 32 := 0#32
  let c1_i32_1047 : BitVec 32 := 1#32
  let arg15 : BitVec 32 := Scf.iv c0_i32_1045 c1_i32_1047 k0_t29
  let c256_i32_1193 : BitVec 32 := 256#32
  let v2367 : BitVec 32 := Scalar.muli arg15 c256_i32_1193
  v2367
def k0_off89 (i : grid0.Coords) (k0_t29 : Fin (k0_t29_loop i).trips) : Fin 3 → Nat :=
  let c7_1194 : Index := 7#32
  let c0_i32_1045 : BitVec 32 := 0#32
  let c1_i32_1047 : BitVec 32 := 1#32
  let arg15 : BitVec 32 := Scf.iv c0_i32_1045 c1_i32_1047 k0_t29
  let c256_i32_1193 : BitVec 32 := 256#32
  let v2367 : BitVec 32 := Scalar.muli arg15 c256_i32_1193
  let v2368 : BitVec 32 := v2367
  let v2369 : Index := Scalar.indexCast v2368
  let c0_1195 : Index := 0#32
  ![7, v2369.toNat, 0]
def k0_mult105 (i : grid0.Coords) (k0_t29 : Fin (k0_t29_loop i).trips) : BitVec 32 :=
  let c0_i32_1045 : BitVec 32 := 0#32
  let c1_i32_1047 : BitVec 32 := 1#32
  let arg15 : BitVec 32 := Scf.iv c0_i32_1045 c1_i32_1047 k0_t29
  let c256_i32_1196 : BitVec 32 := 256#32
  let v2374 : BitVec 32 := Scalar.muli arg15 c256_i32_1196
  v2374
def k0_off90 (i : grid0.Coords) (k0_t29 : Fin (k0_t29_loop i).trips) : Fin 2 → Nat :=
  let c0_i32_1045 : BitVec 32 := 0#32
  let c1_i32_1047 : BitVec 32 := 1#32
  let arg15 : BitVec 32 := Scf.iv c0_i32_1045 c1_i32_1047 k0_t29
  let c256_i32_1196 : BitVec 32 := 256#32
  let v2374 : BitVec 32 := Scalar.muli arg15 c256_i32_1196
  let v2375 : BitVec 32 := v2374
  let v2376 : Index := Scalar.indexCast v2375
  let c0_1197 : Index := 0#32
  ![v2376.toNat, 0]
@[reducible] def k0_t30_loop (i : grid0.Coords) : Scf.Loop 32 :=
  let c0_i32_1045 : BitVec 32 := 0#32
  let arg1 : BitVec 32 := BitVec.ofNat 32 (i 1).val
  let v2230 : BitVec 32 := Scalar.subi arg1 c0_i32_1045
  let c1_i32_1046 : BitVec 32 := 1#32
  let v2232 : BitVec 32 := Scalar.divsi v2230 c1_i32_1046
  let v2233 : BitVec 32 := Scalar.muli v2232 c1_i32_1046
  let v2234 : BitVec 32 := Scalar.addi c0_i32_1045 v2233
  let v2231 : BitVec 32 := Scalar.addi c0_i32_1045 v2230
  let c1_i32_1048 : BitVec 32 := 1#32
  ⟨v2234, v2231, c1_i32_1048⟩
def k0_mult106 (i : grid0.Coords) (k0_t30 : Fin (k0_t30_loop i).trips) : BitVec 32 :=
  let c0_i32_1045 : BitVec 32 := 0#32
  let arg1 : BitVec 32 := BitVec.ofNat 32 (i 1).val
  let v2230 : BitVec 32 := Scalar.subi arg1 c0_i32_1045
  let c1_i32_1046 : BitVec 32 := 1#32
  let v2232 : BitVec 32 := Scalar.divsi v2230 c1_i32_1046
  let v2233 : BitVec 32 := Scalar.muli v2232 c1_i32_1046
  let v2234 : BitVec 32 := Scalar.addi c0_i32_1045 v2233
  let c1_i32_1048 : BitVec 32 := 1#32
  let arg15 : BitVec 32 := Scf.iv v2234 c1_i32_1048 k0_t30
  let c256_i32_1184 : BitVec 32 := 256#32
  let v2359 : BitVec 32 := Scalar.muli arg15 c256_i32_1184
  v2359
def k0_off91 (i : grid0.Coords) (k0_t30 : Fin (k0_t30_loop i).trips) : Fin 4 → Nat :=
  let c0_1185 : Index := 0#32
  let c7_1186 : Index := 7#32
  let c0_i32_1045 : BitVec 32 := 0#32
  let arg1 : BitVec 32 := BitVec.ofNat 32 (i 1).val
  let v2230 : BitVec 32 := Scalar.subi arg1 c0_i32_1045
  let c1_i32_1046 : BitVec 32 := 1#32
  let v2232 : BitVec 32 := Scalar.divsi v2230 c1_i32_1046
  let v2233 : BitVec 32 := Scalar.muli v2232 c1_i32_1046
  let v2234 : BitVec 32 := Scalar.addi c0_i32_1045 v2233
  let c1_i32_1048 : BitVec 32 := 1#32
  let arg15 : BitVec 32 := Scf.iv v2234 c1_i32_1048 k0_t30
  let c256_i32_1184 : BitVec 32 := 256#32
  let v2359 : BitVec 32 := Scalar.muli arg15 c256_i32_1184
  let v2360 : BitVec 32 := v2359
  let v2361 : Index := Scalar.indexCast v2360
  let c0_1187 : Index := 0#32
  ![0, 7, v2361.toNat, 0]
def k0_mult107 (i : grid0.Coords) (k0_t30 : Fin (k0_t30_loop i).trips) : BitVec 32 :=
  let c0_i32_1045 : BitVec 32 := 0#32
  let arg1 : BitVec 32 := BitVec.ofNat 32 (i 1).val
  let v2230 : BitVec 32 := Scalar.subi arg1 c0_i32_1045
  let c1_i32_1046 : BitVec 32 := 1#32
  let v2232 : BitVec 32 := Scalar.divsi v2230 c1_i32_1046
  let v2233 : BitVec 32 := Scalar.muli v2232 c1_i32_1046
  let v2234 : BitVec 32 := Scalar.addi c0_i32_1045 v2233
  let c1_i32_1048 : BitVec 32 := 1#32
  let arg15 : BitVec 32 := Scf.iv v2234 c1_i32_1048 k0_t30
  let c256_i32_1193 : BitVec 32 := 256#32
  let v2367 : BitVec 32 := Scalar.muli arg15 c256_i32_1193
  v2367
def k0_off92 (i : grid0.Coords) (k0_t30 : Fin (k0_t30_loop i).trips) : Fin 3 → Nat :=
  let c7_1194 : Index := 7#32
  let c0_i32_1045 : BitVec 32 := 0#32
  let arg1 : BitVec 32 := BitVec.ofNat 32 (i 1).val
  let v2230 : BitVec 32 := Scalar.subi arg1 c0_i32_1045
  let c1_i32_1046 : BitVec 32 := 1#32
  let v2232 : BitVec 32 := Scalar.divsi v2230 c1_i32_1046
  let v2233 : BitVec 32 := Scalar.muli v2232 c1_i32_1046
  let v2234 : BitVec 32 := Scalar.addi c0_i32_1045 v2233
  let c1_i32_1048 : BitVec 32 := 1#32
  let arg15 : BitVec 32 := Scf.iv v2234 c1_i32_1048 k0_t30
  let c256_i32_1193 : BitVec 32 := 256#32
  let v2367 : BitVec 32 := Scalar.muli arg15 c256_i32_1193
  let v2368 : BitVec 32 := v2367
  let v2369 : Index := Scalar.indexCast v2368
  let c0_1195 : Index := 0#32
  ![7, v2369.toNat, 0]
def k0_mult108 (i : grid0.Coords) (k0_t30 : Fin (k0_t30_loop i).trips) : BitVec 32 :=
  let c0_i32_1045 : BitVec 32 := 0#32
  let arg1 : BitVec 32 := BitVec.ofNat 32 (i 1).val
  let v2230 : BitVec 32 := Scalar.subi arg1 c0_i32_1045
  let c1_i32_1046 : BitVec 32 := 1#32
  let v2232 : BitVec 32 := Scalar.divsi v2230 c1_i32_1046
  let v2233 : BitVec 32 := Scalar.muli v2232 c1_i32_1046
  let v2234 : BitVec 32 := Scalar.addi c0_i32_1045 v2233
  let c1_i32_1048 : BitVec 32 := 1#32
  let arg15 : BitVec 32 := Scf.iv v2234 c1_i32_1048 k0_t30
  let c256_i32_1196 : BitVec 32 := 256#32
  let v2374 : BitVec 32 := Scalar.muli arg15 c256_i32_1196
  v2374
def k0_off93 (i : grid0.Coords) (k0_t30 : Fin (k0_t30_loop i).trips) : Fin 2 → Nat :=
  let c0_i32_1045 : BitVec 32 := 0#32
  let arg1 : BitVec 32 := BitVec.ofNat 32 (i 1).val
  let v2230 : BitVec 32 := Scalar.subi arg1 c0_i32_1045
  let c1_i32_1046 : BitVec 32 := 1#32
  let v2232 : BitVec 32 := Scalar.divsi v2230 c1_i32_1046
  let v2233 : BitVec 32 := Scalar.muli v2232 c1_i32_1046
  let v2234 : BitVec 32 := Scalar.addi c0_i32_1045 v2233
  let c1_i32_1048 : BitVec 32 := 1#32
  let arg15 : BitVec 32 := Scf.iv v2234 c1_i32_1048 k0_t30
  let c256_i32_1196 : BitVec 32 := 256#32
  let v2374 : BitVec 32 := Scalar.muli arg15 c256_i32_1196
  let v2375 : BitVec 32 := v2374
  let v2376 : Index := Scalar.indexCast v2375
  let c0_1197 : Index := 0#32
  ![v2376.toNat, 0]
@[reducible] def k0_t31_loop (i : grid0.Coords) : Scf.Loop 32 :=
  let c0_i32_1055 : BitVec 32 := 0#32
  let arg1 : BitVec 32 := BitVec.ofNat 32 (i 1).val
  let c1_i32_1053 : BitVec 32 := 1#32
  let v2243 : BitVec 32 := Scalar.addi arg1 c1_i32_1053
  let v2245 : BitVec 32 := Scalar.subi v2243 c0_i32_1055
  let c1_i32_1056 : BitVec 32 := 1#32
  let v2247 : BitVec 32 := Scalar.divsi v2245 c1_i32_1056
  let v2248 : BitVec 32 := Scalar.muli v2247 c1_i32_1056
  let v2249 : BitVec 32 := Scalar.addi c0_i32_1055 v2248
  let c1_i32_1057 : BitVec 32 := 1#32
  ⟨c0_i32_1055, v2249, c1_i32_1057⟩
def k0_mult109 (i : grid0.Coords) (k0_t31 : Fin (k0_t31_loop i).trips) : BitVec 32 :=
  let c0_i32_1055 : BitVec 32 := 0#32
  let c1_i32_1057 : BitVec 32 := 1#32
  let arg15 : BitVec 32 := Scf.iv c0_i32_1055 c1_i32_1057 k0_t31
  let c256_i32_1184 : BitVec 32 := 256#32
  let v2359 : BitVec 32 := Scalar.muli arg15 c256_i32_1184
  v2359
def k0_off94 (i : grid0.Coords) (k0_t31 : Fin (k0_t31_loop i).trips) : Fin 2 → Nat :=
  let c0_i32_1055 : BitVec 32 := 0#32
  let c1_i32_1057 : BitVec 32 := 1#32
  let arg15 : BitVec 32 := Scf.iv c0_i32_1055 c1_i32_1057 k0_t31
  let c256_i32_1184 : BitVec 32 := 256#32
  let v2359 : BitVec 32 := Scalar.muli arg15 c256_i32_1184
  let v2360 : BitVec 32 := v2359
  let v2361 : Index := Scalar.indexCast v2360
  let c0_1185 : Index := 0#32
  ![v2361.toNat, 0]
def k0_mult110 (i : grid0.Coords) (k0_t31 : Fin (k0_t31_loop i).trips) : BitVec 32 :=
  let c0_i32_1055 : BitVec 32 := 0#32
  let c1_i32_1057 : BitVec 32 := 1#32
  let arg15 : BitVec 32 := Scf.iv c0_i32_1055 c1_i32_1057 k0_t31
  let c256_i32_1188 : BitVec 32 := 256#32
  let v2369 : BitVec 32 := Scalar.muli arg15 c256_i32_1188
  v2369
def k0_off95 (i : grid0.Coords) (k0_t31 : Fin (k0_t31_loop i).trips) : Fin 4 → Nat :=
  let c0_1189 : Index := 0#32
  let c7_1190 : Index := 7#32
  let c0_1191 : Index := 0#32
  let c0_i32_1055 : BitVec 32 := 0#32
  let c1_i32_1057 : BitVec 32 := 1#32
  let arg15 : BitVec 32 := Scf.iv c0_i32_1055 c1_i32_1057 k0_t31
  let c256_i32_1188 : BitVec 32 := 256#32
  let v2369 : BitVec 32 := Scalar.muli arg15 c256_i32_1188
  let v2370 : BitVec 32 := v2369
  let v2371 : Index := Scalar.indexCast v2370
  ![0, 7, 0, v2371.toNat]
@[reducible] def k0_t32_loop (i : grid0.Coords) : Scf.Loop 32 :=
  let c0_i32_1055 : BitVec 32 := 0#32
  let arg1 : BitVec 32 := BitVec.ofNat 32 (i 1).val
  let c1_i32_1053 : BitVec 32 := 1#32
  let v2243 : BitVec 32 := Scalar.addi arg1 c1_i32_1053
  let v2245 : BitVec 32 := Scalar.subi v2243 c0_i32_1055
  let c1_i32_1056 : BitVec 32 := 1#32
  let v2247 : BitVec 32 := Scalar.divsi v2245 c1_i32_1056
  let v2248 : BitVec 32 := Scalar.muli v2247 c1_i32_1056
  let v2249 : BitVec 32 := Scalar.addi c0_i32_1055 v2248
  let v2246 : BitVec 32 := Scalar.addi c0_i32_1055 v2245
  let c1_i32_1058 : BitVec 32 := 1#32
  ⟨v2249, v2246, c1_i32_1058⟩
def k0_mult111 (i : grid0.Coords) (k0_t32 : Fin (k0_t32_loop i).trips) : BitVec 32 :=
  let c0_i32_1055 : BitVec 32 := 0#32
  let arg1 : BitVec 32 := BitVec.ofNat 32 (i 1).val
  let c1_i32_1053 : BitVec 32 := 1#32
  let v2243 : BitVec 32 := Scalar.addi arg1 c1_i32_1053
  let v2245 : BitVec 32 := Scalar.subi v2243 c0_i32_1055
  let c1_i32_1056 : BitVec 32 := 1#32
  let v2247 : BitVec 32 := Scalar.divsi v2245 c1_i32_1056
  let v2248 : BitVec 32 := Scalar.muli v2247 c1_i32_1056
  let v2249 : BitVec 32 := Scalar.addi c0_i32_1055 v2248
  let c1_i32_1058 : BitVec 32 := 1#32
  let arg15 : BitVec 32 := Scf.iv v2249 c1_i32_1058 k0_t32
  let c256_i32_1184 : BitVec 32 := 256#32
  let v2359 : BitVec 32 := Scalar.muli arg15 c256_i32_1184
  v2359
def k0_off96 (i : grid0.Coords) (k0_t32 : Fin (k0_t32_loop i).trips) : Fin 2 → Nat :=
  let c0_i32_1055 : BitVec 32 := 0#32
  let arg1 : BitVec 32 := BitVec.ofNat 32 (i 1).val
  let c1_i32_1053 : BitVec 32 := 1#32
  let v2243 : BitVec 32 := Scalar.addi arg1 c1_i32_1053
  let v2245 : BitVec 32 := Scalar.subi v2243 c0_i32_1055
  let c1_i32_1056 : BitVec 32 := 1#32
  let v2247 : BitVec 32 := Scalar.divsi v2245 c1_i32_1056
  let v2248 : BitVec 32 := Scalar.muli v2247 c1_i32_1056
  let v2249 : BitVec 32 := Scalar.addi c0_i32_1055 v2248
  let c1_i32_1058 : BitVec 32 := 1#32
  let arg15 : BitVec 32 := Scf.iv v2249 c1_i32_1058 k0_t32
  let c256_i32_1184 : BitVec 32 := 256#32
  let v2359 : BitVec 32 := Scalar.muli arg15 c256_i32_1184
  let v2360 : BitVec 32 := v2359
  let v2361 : Index := Scalar.indexCast v2360
  let c0_1185 : Index := 0#32
  ![v2361.toNat, 0]
def k0_mult112 (i : grid0.Coords) (k0_t32 : Fin (k0_t32_loop i).trips) : BitVec 32 :=
  let c0_i32_1055 : BitVec 32 := 0#32
  let arg1 : BitVec 32 := BitVec.ofNat 32 (i 1).val
  let c1_i32_1053 : BitVec 32 := 1#32
  let v2243 : BitVec 32 := Scalar.addi arg1 c1_i32_1053
  let v2245 : BitVec 32 := Scalar.subi v2243 c0_i32_1055
  let c1_i32_1056 : BitVec 32 := 1#32
  let v2247 : BitVec 32 := Scalar.divsi v2245 c1_i32_1056
  let v2248 : BitVec 32 := Scalar.muli v2247 c1_i32_1056
  let v2249 : BitVec 32 := Scalar.addi c0_i32_1055 v2248
  let c1_i32_1058 : BitVec 32 := 1#32
  let arg15 : BitVec 32 := Scf.iv v2249 c1_i32_1058 k0_t32
  let c256_i32_1188 : BitVec 32 := 256#32
  let v2369 : BitVec 32 := Scalar.muli arg15 c256_i32_1188
  v2369
def k0_off97 (i : grid0.Coords) (k0_t32 : Fin (k0_t32_loop i).trips) : Fin 4 → Nat :=
  let c0_1189 : Index := 0#32
  let c7_1190 : Index := 7#32
  let c0_1191 : Index := 0#32
  let c0_i32_1055 : BitVec 32 := 0#32
  let arg1 : BitVec 32 := BitVec.ofNat 32 (i 1).val
  let c1_i32_1053 : BitVec 32 := 1#32
  let v2243 : BitVec 32 := Scalar.addi arg1 c1_i32_1053
  let v2245 : BitVec 32 := Scalar.subi v2243 c0_i32_1055
  let c1_i32_1056 : BitVec 32 := 1#32
  let v2247 : BitVec 32 := Scalar.divsi v2245 c1_i32_1056
  let v2248 : BitVec 32 := Scalar.muli v2247 c1_i32_1056
  let v2249 : BitVec 32 := Scalar.addi c0_i32_1055 v2248
  let c1_i32_1058 : BitVec 32 := 1#32
  let arg15 : BitVec 32 := Scf.iv v2249 c1_i32_1058 k0_t32
  let c256_i32_1188 : BitVec 32 := 256#32
  let v2369 : BitVec 32 := Scalar.muli arg15 c256_i32_1188
  let v2370 : BitVec 32 := v2369
  let v2371 : Index := Scalar.indexCast v2370
  ![0, 7, 0, v2371.toNat]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x8x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x64x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x4096x192 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x128x4096 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x8x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x192x256 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AttnIdeal.lean ====
abbrev S512x128 : Shape := ⟨2, ![512, 128]⟩
variable {F : FTy → Type} [FloatOps F] [Named F]
def κ : String → Option EReal := fun
  | "qmul" => some (((Real.sqrt 192)⁻¹ * (Real.log 2)⁻¹ : ℝ) : EReal)
  | _ => none
-- ==== RefIdeal.lean ====
abbrev S9x4096x8x128 : Shape := ⟨4, ![9, 4096, 8, 128]⟩
abbrev S9x8x64x4096 : Shape := ⟨4, ![9, 8, 64, 4096]⟩
abbrev S9x8x4096x192 : Shape := ⟨4, ![9, 8, 4096, 192]⟩
abbrev S9x8x128x4096 : Shape := ⟨4, ![9, 8, 128, 4096]⟩
abbrev S9x8x4096 : Shape := ⟨3, ![9, 8, 4096]⟩
abbrev S9x8x8x128 : Shape := ⟨4, ![9, 8, 8, 128]⟩
abbrev S9x8x192x4096 : Shape := ⟨4, ![9, 8, 192, 4096]⟩
abbrev S72x128x4096 : Shape := ⟨3, ![72, 128, 4096]⟩
abbrev S72x64x4096 : Shape := ⟨3, ![72, 64, 4096]⟩
abbrev S72x192x4096 : Shape := ⟨3, ![72, 192, 4096]⟩
abbrev S72x4096 : Shape := ⟨2, ![72, 4096]⟩
abbrev S72x1x4096 : Shape := ⟨3, ![72, 1, 4096]⟩
abbrev S72x4096x192 : Shape := ⟨3, ![72, 4096, 192]⟩
abbrev S72x4096x4096 : Shape := ⟨3, ![72, 4096, 4096]⟩
abbrev S72x4096x1 : Shape := ⟨3, ![72, 4096, 1]⟩
abbrev S72x8x128 : Shape := ⟨3, ![72, 8, 128]⟩
abbrev S72x128x128 : Shape := ⟨3, ![72, 128, 128]⟩
abbrev S72x32x4x4096 : Shape := ⟨4, ![72, 32, 4, 4096]⟩
abbrev S72x4x32x4096 : Shape := ⟨4, ![72, 4, 32, 4096]⟩

abbrev nBuf : Space → Nat
  | .hbm => 9
  | .vmem => 9
  | .smem => 0
  | _ => 0

abbrev bufTy : (tb : Table) → Fin (tcTables nBuf tb) → BufTy
  | .hbm, ⟨0, _⟩ => ⟨S9x4096x8x128, .bf16⟩
  | .hbm, ⟨1, _⟩ => ⟨S9x8x64x4096, .bf16⟩
  | .hbm, ⟨2, _⟩ => ⟨S9x8x4096x192, .fp8e4m3⟩
  | .hbm, ⟨3, _⟩ => ⟨S9x8x128x4096, .fp8e4m3⟩
  | .hbm, ⟨4, _⟩ => ⟨S9x8x4096, .f32⟩
  | .hbm, ⟨5, _⟩ => ⟨S9x8x8x128, .f32⟩
  | .hbm, ⟨6, _⟩ => ⟨S9x4096x8x128, .bf16⟩
  | .hbm, ⟨7, _⟩ => ⟨S9x8x192x4096, .fp8e4m3⟩
  | .hbm, ⟨8, _⟩ => ⟨S9x8x4096, .f32⟩
  | .local _ .vmem, ⟨0, _⟩ => ⟨S9x4096x8x128, .bf16⟩
  | .local _ .vmem, ⟨1, _⟩ => ⟨S9x8x64x4096, .bf16⟩
  | .local _ .vmem, ⟨2, _⟩ => ⟨S9x8x4096x192, .fp8e4m3⟩
  | .local _ .vmem, ⟨3, _⟩ => ⟨S9x8x128x4096, .fp8e4m3⟩
  | .local _ .vmem, ⟨4, _⟩ => ⟨S9x8x4096, .f32⟩
  | .local _ .vmem, ⟨5, _⟩ => ⟨S9x8x8x128, .f32⟩
  | .local _ .vmem, ⟨6, _⟩ => ⟨S9x4096x8x128, .bf16⟩
  | .local _ .vmem, ⟨7, _⟩ => ⟨S9x8x192x4096, .fp8e4m3⟩
  | .local _ .vmem, ⟨8, _⟩ => ⟨S9x8x4096, .f32⟩
  | _, _ => ⟨S9x4096x8x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F] [Named F]

def κ : String → Option EReal := fun
  | "ln2" => some ((Real.log 2 : ℝ) : EReal)
  | "sm_scale" => some (((Real.sqrt 192)⁻¹ : ℝ) : EReal)
  | _ => none

abbrev grid0 : Pipeline.Grid := .none

abbrev stage0_0 : Fin 1 → Memref sig .tc .vmem S9x4096x8x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9x8x64x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9x8x4096x192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S9x8x128x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S9x8x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S9x8x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S9x4096x8x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S9x8x192x4096 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S9x8x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.BodyBits.lean ====
module

public import proofs.«01_k».proof.Proof.Gen.Attn.Skeleton
public import proofs.«01_k».proof.Proof.Gen.Attn.Loops
public import Idealize.ShloMosaic.Lib.Tactic

@[expose] public section

noncomputable section

namespace Cert.Attn.Hand

open Cert.Attn Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- What the body touches: its six blocks, and its outputs and scratch at some contents. -/
abbrev Held (c : Dev nD) (arg2 : Memref sig .tc .vmem S1x256x8x128 .bf16) (harg2 : arg2.IsWhole) (arg3 : Memref sig .tc .vmem S1x8x64x256 .bf16) (harg3 : arg3.IsWhole) (arg4 : Memref sig .tc .vmem S1x8x4096x192 .fp8e4m3) (harg4 : arg4.IsWhole) (arg5 : Memref sig .tc .vmem S1x8x128x4096 .fp8e4m3) (harg5 : arg5.IsWhole) (arg6 : Memref sig .tc .vmem S1x8x256 .f32) (harg6 : arg6.IsWhole) (arg7 : Memref sig .tc .vmem S1x8x8x128 .f32) (harg7 : arg7.IsWhole) (arg8 : Memref sig .tc .vmem S1x256x8x128 .bf16) (harg8 : arg8.IsWhole) (arg9 : Memref sig .tc .vmem S1x8x192x256 .fp8e4m3) (harg9 : arg9.IsWhole) (arg10 : Memref sig .tc .vmem S1x8x256 .f32) (harg10 : arg10.IsWhole) (arg11 : Memref sig .tc .vmem S8x4096x128 .f32) (harg11 : arg11.IsWhole) (arg12 : Memref sig .tc .vmem S4096x256 .f32) (harg12 : arg12.IsWhole) (arg13 : Memref sig .tc .vmem S128x256 .f32) (harg13 : arg13.IsWhole) (arg14 : Memref sig .tc .vmem S2x2x128x128 .f32) (harg14 : arg14.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) : sProp 𝕄 :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)))

set_option maxHeartbeats 4000000 in
theorem body_run (c : Dev nD) (i : grid0.Coords) (arg2 : Memref sig .tc .vmem S1x256x8x128 .bf16) (harg2 : arg2.IsWhole) (arg3 : Memref sig .tc .vmem S1x8x64x256 .bf16) (harg3 : arg3.IsWhole) (arg4 : Memref sig .tc .vmem S1x8x4096x192 .fp8e4m3) (harg4 : arg4.IsWhole) (arg5 : Memref sig .tc .vmem S1x8x128x4096 .fp8e4m3) (harg5 : arg5.IsWhole) (arg6 : Memref sig .tc .vmem S1x8x256 .f32) (harg6 : arg6.IsWhole) (arg7 : Memref sig .tc .vmem S1x8x8x128 .f32) (harg7 : arg7.IsWhole) (arg8 : Memref sig .tc .vmem S1x256x8x128 .bf16) (harg8 : arg8.IsWhole) (arg9 : Memref sig .tc .vmem S1x8x192x256 .fp8e4m3) (harg9 : arg9.IsWhole) (arg10 : Memref sig .tc .vmem S1x8x256 .f32) (harg10 : arg10.IsWhole) (arg11 : Memref sig .tc .vmem S8x4096x128 .f32) (harg11 : arg11.IsWhole) (arg12 : Memref sig .tc .vmem S4096x256 .f32) (harg12 : arg12.IsWhole) (arg13 : Memref sig .tc .vmem S128x256 .f32) (harg13 : arg13.IsWhole) (arg14 : Memref sig .tc .vmem S2x2x128x128 .f32) (harg14 : arg14.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (K : PUnit → sProp 𝕄) :
    iprop(Held (F := F) c arg2 harg2 arg3 harg3 arg4 harg4 arg5 harg5 arg6 harg6 arg7 harg7 arg8 harg8 arg9 harg9 arg10 harg10 arg11 harg11 arg12 harg12 arg13 harg13 arg14 harg14 X_arg2 X_arg3 X_arg4 X_arg5 X_arg6 X_arg7 ∗ (Held (F := F) c arg2 harg2 arg3 harg3 arg4 harg4 arg5 harg5 arg6 harg6 arg7 harg7 arg8 harg8 arg9 harg9 arg10 harg10 arg11 harg11 arg12 harg12 arg13 harg13 arg14 harg14 X_arg2 X_arg3 X_arg4 X_arg5 X_arg6 X_arg7 -∗ K ⟨⟩))
      ⊢ wp frame (wpE (defs₀ (F := F)) Variants.none (c : Thread nD τ) none) Set.univ (cc0_attn (F := F) i arg2 harg2 arg3 harg3 arg4 harg4 arg5 harg5 arg6 harg6 arg7 harg7 arg8 harg8 arg9 harg9 arg10 harg10 arg11 harg11 arg12 harg12 arg13 harg13 arg14 harg14) K := by
  rw [cc0_attn_eq_skeleton]; unfold cc0_attn_skel
  iintro ⟨⟨Harg2, Harg3, Harg4, Harg5, Harg6, Harg7, ⟨%f_arg8, Harg8⟩, ⟨%f_arg9, Harg9⟩, ⟨%f_arg10, Harg10⟩, ⟨%f_arg11, Harg11⟩, ⟨%f_arg12, Harg12⟩, ⟨%f_arg13, Harg13⟩, ⟨%f_arg14, Harg14⟩⟩, HK⟩
  sl_exec_parts
  sl_step
  iapply HK
  isplitl [Harg2]; · iexact Harg2
  isplitl [Harg3]; · iexact Harg3
  isplitl [Harg4]; · iexact Harg4
  isplitl [Harg5]; · iexact Harg5
  isplitl [Harg6]; · iexact Harg6
  isplitl [Harg7]; · iexact Harg7
  isplitl [Harg8]; · iexists _; iexact Harg8
  isplitl [Harg9]; · iexists _; iexact Harg9
  isplitl [Harg10]; · iexists _; iexact Harg10
  isplitl [Harg11]; · iexists _; iexact Harg11
  isplitl [Harg12]; · iexists _; iexact Harg12
  isplitl [Harg13]; · iexists _; iexact Harg13
  iexists _; iexact Harg14

end Cert.Attn.Hand

end
-- ==== Proof.FrameBits.lean ====
module

public import proofs.«01_k».proof.Proof.BodyBits
public import proofs.«01_k».proof.Proof.Gen.Attn.Launch
public import proofs.«01_k».proof.Proof.Gen.Attn.Points
public import proofs.«01_k».proof.Proof.Gen.Attn.Frame
public import Idealize.ShloMosaic.Lib.Pipeline.FrameBody

@[expose] public section

noncomputable section

namespace Cert.Attn.Hand

open Cert.Attn Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose RDat)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The windows the frame says nothing of: the three results. -/
def forgets : Fin cfg0.W → Bool
  | ⟨6, _⟩ => true
  | ⟨7, _⟩ => true
  | ⟨8, _⟩ => true
  | _ => false

/-- The proof data: the arrays as launched, every input block left in place, the results not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => fun _ => Classical.arbitrary _
    | ⟨7, _⟩ => fun _ => Classical.arbitrary _
    | ⟨8, _⟩ => fun _ => Classical.arbitrary _
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem before0_0 (c : Dev nD) (t : Fin cfg0.N) (d) : (dats m 0 c).before 0 t d = iblk m c 0 t :=
  before0_0_of m (dats m 0 c) (by dsimp only [dats]) (fun t => after0_0 m c t) t d
theorem before0_1 (c : Dev nD) (t : Fin cfg0.N) (d) : (dats m 0 c).before 1 t d = iblk m c 1 t :=
  before0_1_of m (dats m 0 c) (by dsimp only [dats]) (fun t => after0_1 m c t) t d
theorem before0_2 (c : Dev nD) (t : Fin cfg0.N) (d) : (dats m 0 c).before 2 t d = iblk m c 2 t :=
  before0_2_of m (dats m 0 c) (by dsimp only [dats]) (fun t => after0_2 m c t) t d
theorem before0_3 (c : Dev nD) (t : Fin cfg0.N) (d) : (dats m 0 c).before 3 t d = iblk m c 3 t :=
  before0_3_of m (dats m 0 c) (by dsimp only [dats]) (fun t => after0_3 m c t) t d
theorem before0_4 (c : Dev nD) (t : Fin cfg0.N) (d) : (dats m 0 c).before 4 t d = iblk m c 4 t :=
  before0_4_of m (dats m 0 c) (by dsimp only [dats]) (fun t => after0_4 m c t) t d
theorem before0_5 (c : Dev nD) (t : Fin cfg0.N) (d) : (dats m 0 c).before 5 t d = iblk m c 5 t :=
  before0_5_of m (dats m 0 c) (by dsimp only [dats]) (fun t => after0_5 m c t) t d

def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ X, owns (c : Thread nD τ) (st0_6 t) fullShare X) ∗ (∃ X, owns (c : Thread nD τ) (st0_7 t) fullShare X) ∗ (∃ X, owns (c : Thread nD τ) (st0_8 t) fullShare X))
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ (∃ X, owns (c : Thread nD τ) (st0_6 t) fullShare X) ∗ (∃ X, owns (c : Thread nD τ) (st0_7 t) fullShare X) ∗ (∃ X, owns (c : Thread nD τ) (st0_8 t) fullShare X))

theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [before0_0, before0_1, before0_2, before0_3, before0_4, before0_5, after0_0, after0_1, after0_2, after0_3, after0_4, after0_5]
  rw [show (dats m 0 c).owesAt () t.succ = (dats m 0 c).owesAt () t.castSucc from rfl,
    show (dats m 0 c).Φ t.succ = (dats m 0 c).Φ t.castSucc from rfl,
    show (dats m 0 c).Φ t.castSucc = Pipeline.ΦA spec0 c from rfl]
  unfold Pipeline.ΦA
  rw [scopedRest0_eq]
  unfold owns
  iintro ⟨⟨⟨⟨%g0, S0⟩, ⟨%g1, S1⟩, ⟨%g2, S2⟩, ⟨%g3, S3⟩⟩, Hg⟩, HW, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, -, H6⟩, ⟨%d7, %f7, -, H7⟩, ⟨%d8, %f8, -, H8⟩⟩
  iapply (body_run (F := F) c (grid0.coords t) _ _ _ _ _ _ _ _ _ _ _ _ _ _ _ _ _ _ (Memref.whole cc0_scratch0) (Memref.isWhole_whole _) (Memref.whole cc0_scratch1) (Memref.isWhole_whole _) (Memref.whole cc0_scratch2) (Memref.isWhole_whole _) (Memref.whole cc0_scratch3) (Memref.isWhole_whole _) f0 f1 f2 f3 f4 f5)
  isplitl [H0 H1 H2 H3 H4 H5 H6 H7 H8 S0 S1 S2 S3]
  · isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    simp only [Memref.view_whole, View.set_whole]
    isplitl [S0]; · iexists g0; iexact S0
    isplitl [S1]; · iexists g1; iexact S1
    isplitl [S2]; · iexists g2; iexact S2
    iexists g3; iexact S3
  simp only [Held, Memref.view_whole, View.set_whole]
  iintro ⟨H0, H1, H2, H3, H4, H5, ⟨%f6, H6⟩, ⟨%f7, H7⟩, ⟨%f8, H8⟩, ⟨%g0, S0⟩, ⟨%g1, S1⟩, ⟨%g2, S2⟩, ⟨%g3, S3⟩⟩
  isplitl [S0 S1 S2 S3 Hg]
  · isplitl [S0 S1 S2 S3]
    · isplitl [S0]; · iexists g0; iexact S0
      isplitl [S1]; · iexists g1; iexact S1
      isplitl [S2]; · iexists g2; iexact S2
      iexists g3; iexact S3
    iexact Hg
  isplitl [HW]; · iexact HW
  isplitl [H0]
  · iexists f0; isplitr; swap; · iexact H0
    ipureintro; exact e0
  isplitl [H1]
  · iexists f1; isplitr; swap; · iexact H1
    ipureintro; exact e1
  isplitl [H2]
  · iexists f2; isplitr; swap; · iexact H2
    ipureintro; exact e2
  isplitl [H3]
  · iexists f3; isplitr; swap; · iexact H3
    ipureintro; exact e3
  isplitl [H4]
  · iexists f4; isplitr; swap; · iexact H4
    ipureintro; exact e4
  isplitl [H5]
  · iexists f5; isplitr; swap; · iexact H5
    ipureintro; exact e5
  isplitl [H6]
  · iexists _, f6; isplitr; swap; · iexact H6
    ipureintro; rfl
  isplitl [H7]
  · iexists _, f7; isplitr; swap; · iexact H7
    ipureintro; rfl
  iexists _, f8; isplitr; swap; · iexact H8
  ipureintro; rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ)
    (fun r => RDat.FramePost cfg0 (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => body_obligation m c) (hshare := fun c => (dats m 0 c).share_full fun _ => rfl)
    (howed := fun _ _ => rfl) (V := V m) (hmain := hmain m Variants.none) (hA := A_eq m)
    (hΦ := fun _ _ => rfl)

/-- The program terminates, its arguments end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨(h.1.arr_in c 0 rfl).trans (A_eq m c 0), (h.1.arr_in c 1 rfl).trans (A_eq m c 1), (h.1.arr_in c 2 rfl).trans (A_eq m c 2), (h.1.arr_in c 3 rfl).trans (A_eq m c 3), (h.1.arr_in c 4 rfl).trans (A_eq m c 4), (h.1.arr_in c 5 rfl).trans (A_eq m c 5)⟩, h.2⟩) (run_main m ρ)

end Cert.Attn.Hand

end
-- ==== Proof.SkelIdeal.lean ====
module

public import proofs.«01_k».proof.Proof.Gen.AttnIdeal.Skeleton

@[expose] public section

/-! Each printed part of the body, read over the extended reals, is its skeleton: the generated equations at `Ideal`. -/

namespace Cert.AttnIdeal

open Idealize.ShloMosaic

theorem k0_part1_eq_skeleton : k0_part1 (F := Ideal) = Gen.k0_part1_skel (F := Ideal) := Gen.k0_part1_eq_skeleton
theorem k0_part2_eq_skeleton : k0_part2 (F := Ideal) = Gen.k0_part2_skel (F := Ideal) := Gen.k0_part2_eq_skeleton
theorem k0_part3_eq_skeleton : k0_part3 (F := Ideal) = Gen.k0_part3_skel (F := Ideal) := Gen.k0_part3_eq_skeleton
theorem k0_part4_eq_skeleton : k0_part4 (F := Ideal) = Gen.k0_part4_skel (F := Ideal) := Gen.k0_part4_eq_skeleton
theorem k0_part5_eq_skeleton : k0_part5 (F := Ideal) = Gen.k0_part5_skel (F := Ideal) := Gen.k0_part5_eq_skeleton
theorem k0_part6_eq_skeleton : k0_part6 (F := Ideal) = Gen.k0_part6_skel (F := Ideal) := Gen.k0_part6_eq_skeleton
theorem k0_part7_eq_skeleton : k0_part7 (F := Ideal) = Gen.k0_part7_skel (F := Ideal) := Gen.k0_part7_eq_skeleton
theorem k0_part8_eq_skeleton : k0_part8 (F := Ideal) = Gen.k0_part8_skel (F := Ideal) := Gen.k0_part8_eq_skeleton
theorem k0_part9_eq_skeleton : k0_part9 (F := Ideal) = Gen.k0_part9_skel (F := Ideal) := Gen.k0_part9_eq_skeleton
theorem k0_part10_eq_skeleton : k0_part10 (F := Ideal) = Gen.k0_part10_skel (F := Ideal) := Gen.k0_part10_eq_skeleton
theorem k0_part11_eq_skeleton : k0_part11 (F := Ideal) = Gen.k0_part11_skel (F := Ideal) := Gen.k0_part11_eq_skeleton
theorem k0_part12_eq_skeleton : k0_part12 (F := Ideal) = Gen.k0_part12_skel (F := Ideal) := Gen.k0_part12_eq_skeleton
theorem k0_part13_eq_skeleton : k0_part13 (F := Ideal) = Gen.k0_part13_skel (F := Ideal) := Gen.k0_part13_eq_skeleton
theorem k0_part14_eq_skeleton : k0_part14 (F := Ideal) = Gen.k0_part14_skel (F := Ideal) := Gen.k0_part14_eq_skeleton
theorem k0_part15_eq_skeleton : k0_part15 (F := Ideal) = Gen.k0_part15_skel (F := Ideal) := Gen.k0_part15_eq_skeleton
theorem k0_part16_eq_skeleton : k0_part16 (F := Ideal) = Gen.k0_part16_skel (F := Ideal) := Gen.k0_part16_eq_skeleton
theorem k0_part17_eq_skeleton : k0_part17 (F := Ideal) = Gen.k0_part17_skel (F := Ideal) := Gen.k0_part17_eq_skeleton
theorem k0_part18_eq_skeleton : k0_part18 (F := Ideal) = Gen.k0_part18_skel (F := Ideal) := Gen.k0_part18_eq_skeleton
theorem k0_part19_eq_skeleton : k0_part19 (F := Ideal) = Gen.k0_part19_skel (F := Ideal) := Gen.k0_part19_eq_skeleton
theorem k0_part20_eq_skeleton : k0_part20 (F := Ideal) = Gen.k0_part20_skel (F := Ideal) := Gen.k0_part20_eq_skeleton
theorem k0_part21_eq_skeleton : k0_part21 (F := Ideal) = Gen.k0_part21_skel (F := Ideal) := Gen.k0_part21_eq_skeleton
theorem k0_part22_eq_skeleton : k0_part22 (F := Ideal) = Gen.k0_part22_skel (F := Ideal) := Gen.k0_part22_eq_skeleton
theorem k0_part23_eq_skeleton : k0_part23 (F := Ideal) = Gen.k0_part23_skel (F := Ideal) := Gen.k0_part23_eq_skeleton
theorem k0_part24_eq_skeleton : k0_part24 (F := Ideal) = Gen.k0_part24_skel (F := Ideal) := Gen.k0_part24_eq_skeleton
theorem k0_part25_eq_skeleton : k0_part25 (F := Ideal) = Gen.k0_part25_skel (F := Ideal) := Gen.k0_part25_eq_skeleton
theorem k0_part26_eq_skeleton : k0_part26 (F := Ideal) = Gen.k0_part26_skel (F := Ideal) := Gen.k0_part26_eq_skeleton
theorem k0_part27_eq_skeleton : k0_part27 (F := Ideal) = Gen.k0_part27_skel (F := Ideal) := Gen.k0_part27_eq_skeleton
theorem k0_part28_eq_skeleton : k0_part28 (F := Ideal) = Gen.k0_part28_skel (F := Ideal) := Gen.k0_part28_eq_skeleton
theorem k0_part29_eq_skeleton : k0_part29 (F := Ideal) = Gen.k0_part29_skel (F := Ideal) := Gen.k0_part29_eq_skeleton
theorem k0_part30_eq_skeleton : k0_part30 (F := Ideal) = Gen.k0_part30_skel (F := Ideal) := Gen.k0_part30_eq_skeleton
theorem k0_part31_eq_skeleton : k0_part31 (F := Ideal) = Gen.k0_part31_skel (F := Ideal) := Gen.k0_part31_eq_skeleton
theorem k0_part32_eq_skeleton : k0_part32 (F := Ideal) = Gen.k0_part32_skel (F := Ideal) := Gen.k0_part32_eq_skeleton
theorem k0_part33_eq_skeleton : k0_part33 (F := Ideal) = Gen.k0_part33_skel (F := Ideal) := Gen.k0_part33_eq_skeleton
theorem k0_part34_eq_skeleton : k0_part34 (F := Ideal) = Gen.k0_part34_skel (F := Ideal) := Gen.k0_part34_eq_skeleton
theorem k0_part35_eq_skeleton : k0_part35 (F := Ideal) = Gen.k0_part35_skel (F := Ideal) := Gen.k0_part35_eq_skeleton
theorem k0_part36_eq_skeleton : k0_part36 (F := Ideal) = Gen.k0_part36_skel (F := Ideal) := Gen.k0_part36_eq_skeleton
theorem k0_part37_eq_skeleton : k0_part37 (F := Ideal) = Gen.k0_part37_skel (F := Ideal) := Gen.k0_part37_eq_skeleton
theorem k0_part38_eq_skeleton : k0_part38 (F := Ideal) = Gen.k0_part38_skel (F := Ideal) := Gen.k0_part38_eq_skeleton
theorem k0_part39_eq_skeleton : k0_part39 (F := Ideal) = Gen.k0_part39_skel (F := Ideal) := Gen.k0_part39_eq_skeleton
theorem k0_part40_eq_skeleton : k0_part40 (F := Ideal) = Gen.k0_part40_skel (F := Ideal) := Gen.k0_part40_eq_skeleton
theorem k0_part41_eq_skeleton : k0_part41 (F := Ideal) = Gen.k0_part41_skel (F := Ideal) := Gen.k0_part41_eq_skeleton
theorem k0_part42_eq_skeleton : k0_part42 (F := Ideal) = Gen.k0_part42_skel (F := Ideal) := Gen.k0_part42_eq_skeleton
theorem k0_part43_eq_skeleton : k0_part43 (F := Ideal) = Gen.k0_part43_skel (F := Ideal) := Gen.k0_part43_eq_skeleton
theorem k0_part44_eq_skeleton : k0_part44 (F := Ideal) = Gen.k0_part44_skel (F := Ideal) := Gen.k0_part44_eq_skeleton
theorem k0_part45_eq_skeleton : k0_part45 (F := Ideal) = Gen.k0_part45_skel (F := Ideal) := Gen.k0_part45_eq_skeleton
theorem k0_part46_eq_skeleton : k0_part46 (F := Ideal) = Gen.k0_part46_skel (F := Ideal) := Gen.k0_part46_eq_skeleton
theorem k0_part47_eq_skeleton : k0_part47 (F := Ideal) = Gen.k0_part47_skel (F := Ideal) := Gen.k0_part47_eq_skeleton
theorem k0_part48_eq_skeleton : k0_part48 (F := Ideal) = Gen.k0_part48_skel (F := Ideal) := Gen.k0_part48_eq_skeleton
theorem k0_part49_eq_skeleton : k0_part49 (F := Ideal) = Gen.k0_part49_skel (F := Ideal) := Gen.k0_part49_eq_skeleton
theorem k0_part50_eq_skeleton : k0_part50 (F := Ideal) = Gen.k0_part50_skel (F := Ideal) := Gen.k0_part50_eq_skeleton
theorem k0_part51_eq_skeleton : k0_part51 (F := Ideal) = Gen.k0_part51_skel (F := Ideal) := Gen.k0_part51_eq_skeleton
theorem k0_part52_eq_skeleton : k0_part52 (F := Ideal) = Gen.k0_part52_skel (F := Ideal) := Gen.k0_part52_eq_skeleton
theorem k0_part53_eq_skeleton : k0_part53 (F := Ideal) = Gen.k0_part53_skel (F := Ideal) := Gen.k0_part53_eq_skeleton
theorem k0_part54_eq_skeleton : k0_part54 (F := Ideal) = Gen.k0_part54_skel (F := Ideal) := Gen.k0_part54_eq_skeleton
theorem k0_part55_eq_skeleton : k0_part55 (F := Ideal) = Gen.k0_part55_skel (F := Ideal) := Gen.k0_part55_eq_skeleton
theorem k0_part56_eq_skeleton : k0_part56 (F := Ideal) = Gen.k0_part56_skel (F := Ideal) := Gen.k0_part56_eq_skeleton
theorem k0_part57_eq_skeleton : k0_part57 (F := Ideal) = Gen.k0_part57_skel (F := Ideal) := Gen.k0_part57_eq_skeleton
theorem k0_part58_eq_skeleton : k0_part58 (F := Ideal) = Gen.k0_part58_skel (F := Ideal) := Gen.k0_part58_eq_skeleton
theorem k0_part59_eq_skeleton : k0_part59 (F := Ideal) = Gen.k0_part59_skel (F := Ideal) := Gen.k0_part59_eq_skeleton
theorem k0_part60_eq_skeleton : k0_part60 (F := Ideal) = Gen.k0_part60_skel (F := Ideal) := Gen.k0_part60_eq_skeleton
theorem k0_part61_eq_skeleton : k0_part61 (F := Ideal) = Gen.k0_part61_skel (F := Ideal) := Gen.k0_part61_eq_skeleton
theorem k0_part62_eq_skeleton : k0_part62 (F := Ideal) = Gen.k0_part62_skel (F := Ideal) := Gen.k0_part62_eq_skeleton
theorem k0_part63_eq_skeleton : k0_part63 (F := Ideal) = Gen.k0_part63_skel (F := Ideal) := Gen.k0_part63_eq_skeleton
theorem k0_part64_eq_skeleton : k0_part64 (F := Ideal) = Gen.k0_part64_skel (F := Ideal) := Gen.k0_part64_eq_skeleton
theorem k0_part65_eq_skeleton : k0_part65 (F := Ideal) = Gen.k0_part65_skel (F := Ideal) := Gen.k0_part65_eq_skeleton
theorem k0_part66_eq_skeleton : k0_part66 (F := Ideal) = Gen.k0_part66_skel (F := Ideal) := Gen.k0_part66_eq_skeleton
theorem k0_part67_eq_skeleton : k0_part67 (F := Ideal) = Gen.k0_part67_skel (F := Ideal) := Gen.k0_part67_eq_skeleton
theorem k0_part68_eq_skeleton : k0_part68 (F := Ideal) = Gen.k0_part68_skel (F := Ideal) := Gen.k0_part68_eq_skeleton
theorem k0_part69_eq_skeleton : k0_part69 (F := Ideal) = Gen.k0_part69_skel (F := Ideal) := Gen.k0_part69_eq_skeleton
theorem k0_part70_eq_skeleton : k0_part70 (F := Ideal) = Gen.k0_part70_skel (F := Ideal) := Gen.k0_part70_eq_skeleton
theorem k0_part71_eq_skeleton : k0_part71 (F := Ideal) = Gen.k0_part71_skel (F := Ideal) := Gen.k0_part71_eq_skeleton
theorem k0_part72_eq_skeleton : k0_part72 (F := Ideal) = Gen.k0_part72_skel (F := Ideal) := Gen.k0_part72_eq_skeleton
theorem k0_part73_eq_skeleton : k0_part73 (F := Ideal) = Gen.k0_part73_skel (F := Ideal) := Gen.k0_part73_eq_skeleton
theorem k0_part74_eq_skeleton : k0_part74 (F := Ideal) = Gen.k0_part74_skel (F := Ideal) := Gen.k0_part74_eq_skeleton
theorem k0_part75_eq_skeleton : k0_part75 (F := Ideal) = Gen.k0_part75_skel (F := Ideal) := Gen.k0_part75_eq_skeleton
theorem k0_part76_eq_skeleton : k0_part76 (F := Ideal) = Gen.k0_part76_skel (F := Ideal) := Gen.k0_part76_eq_skeleton
theorem k0_part77_eq_skeleton : k0_part77 (F := Ideal) = Gen.k0_part77_skel (F := Ideal) := Gen.k0_part77_eq_skeleton
theorem k0_part78_eq_skeleton : k0_part78 (F := Ideal) = Gen.k0_part78_skel (F := Ideal) := Gen.k0_part78_eq_skeleton
theorem k0_part79_eq_skeleton : k0_part79 (F := Ideal) = Gen.k0_part79_skel (F := Ideal) := Gen.k0_part79_eq_skeleton
theorem k0_part80_eq_skeleton : k0_part80 (F := Ideal) = Gen.k0_part80_skel (F := Ideal) := Gen.k0_part80_eq_skeleton
theorem k0_part81_eq_skeleton : k0_part81 (F := Ideal) = Gen.k0_part81_skel (F := Ideal) := Gen.k0_part81_eq_skeleton
theorem k0_part82_eq_skeleton : k0_part82 (F := Ideal) = Gen.k0_part82_skel (F := Ideal) := Gen.k0_part82_eq_skeleton
theorem k0_part83_eq_skeleton : k0_part83 (F := Ideal) = Gen.k0_part83_skel (F := Ideal) := Gen.k0_part83_eq_skeleton
theorem k0_part84_eq_skeleton : k0_part84 (F := Ideal) = Gen.k0_part84_skel (F := Ideal) := Gen.k0_part84_eq_skeleton
theorem k0_part85_eq_skeleton : k0_part85 (F := Ideal) = Gen.k0_part85_skel (F := Ideal) := Gen.k0_part85_eq_skeleton
theorem k0_part86_eq_skeleton : k0_part86 (F := Ideal) = Gen.k0_part86_skel (F := Ideal) := Gen.k0_part86_eq_skeleton
theorem k0_part87_eq_skeleton : k0_part87 (F := Ideal) = Gen.k0_part87_skel (F := Ideal) := Gen.k0_part87_eq_skeleton
theorem k0_part88_eq_skeleton : k0_part88 (F := Ideal) = Gen.k0_part88_skel (F := Ideal) := Gen.k0_part88_eq_skeleton
theorem k0_part89_eq_skeleton : k0_part89 (F := Ideal) = Gen.k0_part89_skel (F := Ideal) := Gen.k0_part89_eq_skeleton
theorem k0_part90_eq_skeleton : k0_part90 (F := Ideal) = Gen.k0_part90_skel (F := Ideal) := Gen.k0_part90_eq_skeleton
theorem k0_part91_eq_skeleton : k0_part91 (F := Ideal) = Gen.k0_part91_skel (F := Ideal) := Gen.k0_part91_eq_skeleton
theorem k0_part92_eq_skeleton : k0_part92 (F := Ideal) = Gen.k0_part92_skel (F := Ideal) := Gen.k0_part92_eq_skeleton
theorem k0_part93_eq_skeleton : k0_part93 (F := Ideal) = Gen.k0_part93_skel (F := Ideal) := Gen.k0_part93_eq_skeleton

end Cert.AttnIdeal
-- ==== Proof.LoopsValue.lean ====
module

public import proofs.«01_k».proof.Proof.SkelIdeal
public import proofs.«01_k».proof.Proof.Gen.AttnIdeal.Frame
public import Idealize.ShloMosaic.Lib.Tactic
public import Idealize.ShloMosaic.Lib.LoopRemainder

@[expose] public section

noncomputable section

namespace Cert.AttnIdeal.Val

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-! ## Where a tile lies -/

/-- The first key row of tile `k`, as the body computes it. -/
abbrev rowWord (k : ℕ) : ℕ := (Scalar.indexCast (Scalar.muli (Scf.iv 0#32 1#32 k) 256#32)).toNat

theorem rowWord_eq (k : ℕ) (hk : k < 16) : rowWord k = 256 * k := by
  have : ∀ k : Fin 16, rowWord k.val = 256 * k.val := by decide
  exact this ⟨k, hk⟩

abbrev offK (h : Fin 8) (k : ℕ) : Fin 4 → ℕ := ![0, h.val, rowWord k, 0]
abbrev offQ (h : Fin 8) : Fin 4 → ℕ := ![0, h.val, 0, 0]
abbrev offW (h : Fin 8) (k : ℕ) : Fin 3 → ℕ := ![h.val, rowWord k, 0]
abbrev offX (k : ℕ) : Fin 2 → ℕ := ![rowWord k, 0]
abbrev offV (h : Fin 8) (k : ℕ) : Fin 4 → ℕ := ![0, h.val, 0, rowWord k]

theorem offK_inb (h : Fin 8) (k : ℕ) (hk : k < 16) : ∀ a, offK h k a + S1x1x256x192.size a ≤ S1x8x4096x192.size a := by
  have e := rowWord_eq k hk
  intro a; fin_cases a
  · show 0 + 1 ≤ 1; omega
  · show h.val + 1 ≤ 8; omega
  · show rowWord k + 256 ≤ 4096; omega
  · show 0 + 192 ≤ 192; omega

theorem offQ_inb (h : Fin 8) : ∀ a, offQ h a + S1x1x192x256.size a ≤ S1x8x192x256.size a := by
  intro a; fin_cases a
  · show 0 + 1 ≤ 1; omega
  · show h.val + 1 ≤ 8; omega
  · show 0 + 192 ≤ 192; omega
  · show 0 + 256 ≤ 256; omega

theorem offW_inb (h : Fin 8) (k : ℕ) (hk : k < 16) : ∀ a, offW h k a + S1x256x128.size a ≤ S8x4096x128.size a := by
  have e := rowWord_eq k hk
  intro a; fin_cases a
  · show h.val + 1 ≤ 8; omega
  · show rowWord k + 256 ≤ 4096; omega
  · show 0 + 128 ≤ 128; omega

theorem offX_inb (k : ℕ) (hk : k < 16) : ∀ a, offX k a + S256x256.size a ≤ S4096x256.size a := by
  have e := rowWord_eq k hk
  intro a; fin_cases a
  · show rowWord k + 256 ≤ 4096; omega
  · show 0 + 256 ≤ 256; omega

theorem offV_inb (h : Fin 8) (k : ℕ) (hk : k < 16) : ∀ a, offV h k a + S1x1x128x256.size a ≤ S1x8x128x4096.size a := by
  have e := rowWord_eq k hk
  intro a; fin_cases a
  · show 0 + 1 ≤ 1; omega
  · show h.val + 1 ≤ 8; omega
  · show 0 + 128 ≤ 128; omega
  · show rowWord k + 256 ≤ 4096; omega

theorem lt16 (i : grid0.Coords) (k : ℕ) (hk : k < (i 1).val) : k < 16 := by
  have : (i 1).val < 16 := (i 1).isLt
  omega

theorem lt16s (i : grid0.Coords) (k : ℕ) (hk : k < (i 1).val + 1) : k < 16 := by
  have : (i 1).val < 16 := (i 1).isLt
  omega

/-- A loop over the key tiles up to query tile `i` makes `i + 1` trips. -/
theorem trips_eq2 (i : grid0.Coords) : (k0_t3_loop i).trips = (i 1).val + 1 := by
  have : ∀ n : Fin 16, Scf.trips 0#32 (Scalar.addi 0#32 (Scalar.muli (Scalar.divsi (Scalar.subi (Scalar.addi (BitVec.ofNat 32 n.val) 1#32) 0#32) 1#32) 1#32)) 1#32 = n.val + 1 := by decide
  exact this (i 1)

/-- A loop over the key tiles before query tile `i` makes `i` trips. -/
theorem trips_eq (i : grid0.Coords) : (k0_t1_loop i).trips = (i 1).val := by
  have : ∀ n : Fin 16, Scf.trips 0#32 (Scalar.addi 0#32 (Scalar.muli (Scalar.divsi (Scalar.subi (BitVec.ofNat 32 n.val) 0#32) 1#32) 1#32)) 1#32 = n.val := by decide
  exact this (i 1)

/-- A state after `k` steps from `x`. -/
@[reducible] def after {α : Type} (step : ℕ → α → α) (x : α) (k : ℕ) : α := Nat.rec (motive := fun _ => α) x step k

theorem after_succ {α : Type} (step : ℕ → α → α) (x : α) (k : ℕ) : after step x (k + 1) = step k (after step x k) := rfl

/-! ## The two passes over the key tiles, as recursions -/

section Passes
variable (i : grid0.Coords) (h : Fin 8)
  (arg4 : Memref sig .tc .vmem S1x8x4096x192 .fp8e4m3) (arg5 : Memref sig .tc .vmem S1x8x128x4096 .fp8e4m3)
  (arg9 : Memref sig .tc .vmem S1x8x192x256 .fp8e4m3) (arg11 : Memref sig .tc .vmem S8x4096x128 .f32)
  (arg12 : Memref sig .tc .vmem S4096x256 .f32) (arg13 : Memref sig .tc .vmem S128x256 .f32)
  (X4 : BufTy.Contents (Elt Ideal) arg4.view.ty) (X5 : BufTy.Contents (Elt Ideal) arg5.view.ty) (X9 : BufTy.Contents (Elt Ideal) arg9.view.ty)
  (X11 : BufTy.Contents (Elt Ideal) arg11.view.ty) (X12 : BufTy.Contents (Elt Ideal) arg12.view.ty)

/-- The key tile `k` of head `h`. -/
abbrev tileK (k : ℕ) (hk : k < 16) : Vec Ideal S1x1x256x192 .fp8e4m3 :=
  View.readAt (Elt Ideal) arg4.view (Rect.unit (s := S1x8x4096x192) (offK h k) S1x1x256x192.size (offK_inb h k hk)).toLoadRect X4
/-- The query codes of head `h`. -/
abbrev tileQ : Vec Ideal S1x1x192x256 .fp8e4m3 :=
  View.readAt (Elt Ideal) arg9.view (Rect.unit (s := S1x8x192x256) (offQ h) S1x1x192x256.size (offQ_inb h)).toLoadRect X9
/-- The key scales of tile `k` of head `h`, repeated along the lanes. -/
abbrev tileW (k : ℕ) (hk : k < 16) : Vec Ideal S1x256x128 .f32 :=
  View.readAt (Elt Ideal) arg11.view (Rect.unit (s := S8x4096x128) (offW h k) S1x256x128.size (offW_inb h k hk)).toLoadRect X11
/-- The value tile `k` of head `h`. -/
abbrev tileV (k : ℕ) (hk : k < 16) : Vec Ideal S1x1x128x256 .fp8e4m3 :=
  View.readAt (Elt Ideal) arg5.view (Rect.unit (s := S1x8x128x4096) (offV h k) S1x1x128x256.size (offV_inb h k hk)).toLoadRect X5
/-- The scores of tile `k`. -/
abbrev tileX (k : ℕ) (hk : k < 16) : Vec Ideal S256x256 .f32 :=
  View.readAt (Elt Ideal) arg12.view (Rect.unit (s := S4096x256) (offX k) S256x256.size (offX_inb k hk)).toLoadRect X12

/-- The whole accumulator block. -/
abbrev rectO : Rect S128x256 := Rect.unit (s := S128x256) ![0, 0] S128x256.size inb_S128x256_S128x256_0_0

/-- One tile of pass one: the scores written at its rows. -/
def p1fStep (k : ℕ) (f : BufTy.Contents (Elt Ideal) arg12.view.ty) : BufTy.Contents (Elt Ideal) arg12.view.ty :=
  if hk : k < (i 1).val then
      arg12.view.writes (Elt Ideal) f [⟨Rect.unit (s := S4096x256) (offX k) S256x256.size (offX_inb k (lt16 i k hk)),
          k0_pay3 (tileK h arg4 X4 k (lt16 i k hk)) (tileQ h arg9 X9) (tileW h arg11 X11 k (lt16 i k hk))⟩]
    else f

/-- One tile of pass one: the running maxima. -/
def p1mStep (k : ℕ) (m : FVec Ideal S8x256 .f32) : FVec Ideal S8x256 .f32 :=
  if hk : k < (i 1).val then
        k0_pay134 m (k0_pay2 (tileK h arg4 X4 k (lt16 i k hk)) (tileQ h arg9 X9) (tileW h arg11 X11 k (lt16 i k hk)))
          (k0_pay4 (tileK h arg4 X4 k (lt16 i k hk)) (tileQ h arg9 X9) (tileW h arg11 X11 k (lt16 i k hk)))
    else m

/-- One tile of pass two: its products added to the accumulator block. -/
def p2fStep (qm mx : FVec Ideal S1x256 .f32) (k : ℕ) (f : BufTy.Contents (Elt Ideal) arg13.view.ty) : BufTy.Contents (Elt Ideal) arg13.view.ty :=
  if hk : k < (i 1).val + 1 then
      arg13.view.writes (Elt Ideal) f [⟨rectO,
          k0_pay9 qm mx (tileX arg12 X12 k (lt16s i k hk)) (View.readAt (Elt Ideal) arg13.view rectO.toLoadRect f)
            (tileV h arg5 X5 k (lt16s i k hk))⟩]
    else f

/-- One tile of pass two: the running sums. -/
def p2lStep (qm mx : FVec Ideal S1x256 .f32) (k : ℕ) (l : FVec Ideal S8x256 .f32) : FVec Ideal S8x256 .f32 :=
  if hk : k < (i 1).val + 1 then
        k0_pay139 l (k0_pay8 qm mx (tileX arg12 X12 k (lt16s i k hk)))
          (k0_pay10 qm mx (tileX arg12 X12 k (lt16s i k hk))) (k0_pay11 qm mx (tileX arg12 X12 k (lt16s i k hk)))
    else l

end Passes

/-! ## The loops by their invariants -/

variable (𝒱 : Variants) (c : Dev nD) (bd : Option 𝒱.V) (E : Set ℕ) (i : grid0.Coords) (arg2 : Memref sig .tc .vmem S1x256x8x128 .bf16) (harg2 : arg2.IsWhole) (arg3 : Memref sig .tc .vmem S1x8x64x256 .bf16) (harg3 : arg3.IsWhole) (arg4 : Memref sig .tc .vmem S1x8x4096x192 .fp8e4m3) (harg4 : arg4.IsWhole) (arg5 : Memref sig .tc .vmem S1x8x128x4096 .fp8e4m3) (harg5 : arg5.IsWhole) (arg6 : Memref sig .tc .vmem S1x8x256 .f32) (harg6 : arg6.IsWhole) (arg7 : Memref sig .tc .vmem S1x8x8x128 .f32) (harg7 : arg7.IsWhole) (arg8 : Memref sig .tc .vmem S1x256x8x128 .bf16) (harg8 : arg8.IsWhole) (arg9 : Memref sig .tc .vmem S1x8x192x256 .fp8e4m3) (harg9 : arg9.IsWhole) (arg10 : Memref sig .tc .vmem S1x8x256 .f32) (harg10 : arg10.IsWhole) (arg11 : Memref sig .tc .vmem S8x4096x128 .f32) (harg11 : arg11.IsWhole) (arg12 : Memref sig .tc .vmem S4096x256 .f32) (harg12 : arg12.IsWhole) (arg13 : Memref sig .tc .vmem S128x256 .f32) (harg13 : arg13.IsWhole) (arg14 : Memref sig .tc .vmem S2x2x128x128 .f32) (harg14 : arg14.IsWhole)

@[sl_loop, instance_reducible] def loop1 (arg1 : BitVec 32) (v143 : FVec Ideal S256x256 .f32) (v164 : FVec Ideal S8x256 .f32) (X4 : BufTy.Contents (Elt Ideal) arg4.view.ty)
    (X9 : BufTy.Contents (Elt Ideal) arg9.view.ty) (X11 : BufTy.Contents (Elt Ideal) arg11.view.ty) (f0 : BufTy.Contents (Elt Ideal) arg12.view.ty)
    (init : FVec Ideal S8x256 .f32) :
    Idealize.ShloMosaic.LoopInv (M := 𝕄) Idealize.ShloMosaic.frame (wpE (defs₀ (F := Ideal)) 𝒱 (c : Thread nD τ) bd) E
      (k0_t1_loop i).lb (k0_t1_loop i).ub (k0_t1_loop i).st (k0_t1_ok i) init
      (k0_t1_body (F := Ideal) i arg2 harg2 arg3 harg3 arg4 harg4 arg5 harg5 arg6 harg6 arg7 harg7 arg8 harg8 arg9 harg9 arg10 harg10 arg11 harg11 arg12 harg12 arg13 harg13 arg14 harg14 arg1 v143 v164) where
  inv k acc := iprop((arg4.view.loc (c : Thread nD τ) ↦[arg4.view.set]{fullShare} X4) ∗ (arg9.view.loc (c : Thread nD τ) ↦[arg9.view.set]{fullShare} X9)
    ∗ (arg11.view.loc (c : Thread nD τ) ↦[arg11.view.set]{fullShare} X11)
    ∗ (∃ f, (arg12.view.loc (c : Thread nD τ) ↦[arg12.view.set]{fullShare} f) ∗ ⌜f = after (p1fStep i 0 arg4 arg9 arg11 arg12 X4 X9 X11) f0 k⌝) ∗ ⌜acc = after (p1mStep i 0 arg4 arg9 arg11 X4 X9 X11) init k⌝)
  step k acc := by
    have hk : k.val < (i 1).val := lt_of_lt_of_eq k.isLt (trips_eq i)
    rw [after_succ (p1fStep i 0 arg4 arg9 arg11 arg12 X4 X9 X11), after_succ (p1mStep i 0 arg4 arg9 arg11 X4 X9 X11)]
    rw [show p1fStep i 0 arg4 arg9 arg11 arg12 X4 X9 X11 k.val (after (p1fStep i 0 arg4 arg9 arg11 arg12 X4 X9 X11) f0 k.val) = _ from dif_pos hk,
      show p1mStep i 0 arg4 arg9 arg11 X4 X9 X11 k.val (after (p1mStep i 0 arg4 arg9 arg11 X4 X9 X11) init k.val) = _ from dif_pos hk]
    unfold k0_t1_body
    iintro ⟨H4, H9, H11, ⟨%f, H12, %hf⟩, %h⟩
    subst h; subst hf
    sl_exec
    sl_step
    isplitl [H4]; · iexact H4
    isplitl [H9]; · iexact H9
    isplitl [H11]; · iexact H11
    isplitl [H12]
    · iexists _; isplitl [H12]; · iexact H12
      ipureintro; rfl
    ipureintro; rfl

@[sl_loop, instance_reducible] def loop3 (arg1 : BitVec 32) (v126 : FVec Ideal S1x256 .f32) (v219 : FVec Ideal S8x256 .f32) (X5 : BufTy.Contents (Elt Ideal) arg5.view.ty)
    (X12 : BufTy.Contents (Elt Ideal) arg12.view.ty) (f0 : BufTy.Contents (Elt Ideal) arg13.view.ty)
    (init : FVec Ideal S8x256 .f32) :
    Idealize.ShloMosaic.LoopInv (M := 𝕄) Idealize.ShloMosaic.frame (wpE (defs₀ (F := Ideal)) 𝒱 (c : Thread nD τ) bd) E
      (k0_t3_loop i).lb (k0_t3_loop i).ub (k0_t3_loop i).st (k0_t3_ok i) init
      (k0_t3_body (F := Ideal) i arg2 harg2 arg3 harg3 arg4 harg4 arg5 harg5 arg6 harg6 arg7 harg7 arg8 harg8 arg9 harg9 arg10 harg10 arg11 harg11 arg12 harg12 arg13 harg13 arg14 harg14 arg1 v126 v219) where
  inv k acc := iprop((arg5.view.loc (c : Thread nD τ) ↦[arg5.view.set]{fullShare} X5) ∗ (arg12.view.loc (c : Thread nD τ) ↦[arg12.view.set]{fullShare} X12)
    ∗ (∃ f, (arg13.view.loc (c : Thread nD τ) ↦[arg13.view.set]{fullShare} f) ∗ ⌜f = after (p2fStep i 0 arg5 arg12 arg13 X5 X12 v126 (k0_pay136 v219)) f0 k⌝) ∗ ⌜acc = after (p2lStep i arg12 X12 v126 (k0_pay136 v219)) init k⌝)
  step k acc := by
    have hk : k.val < (i 1).val + 1 := lt_of_lt_of_eq k.isLt (trips_eq2 i)
    rw [after_succ (p2fStep i 0 arg5 arg12 arg13 X5 X12 v126 (k0_pay136 v219)), after_succ (p2lStep i arg12 X12 v126 (k0_pay136 v219))]
    rw [show p2fStep i 0 arg5 arg12 arg13 X5 X12 v126 (k0_pay136 v219) k.val (after (p2fStep i 0 arg5 arg12 arg13 X5 X12 v126 (k0_pay136 v219)) f0 k.val) = _ from dif_pos hk,
      show p2lStep i arg12 X12 v126 (k0_pay136 v219) k.val (after (p2lStep i arg12 X12 v126 (k0_pay136 v219)) init k.val) = _ from dif_pos hk]
    unfold k0_t3_body
    iintro ⟨H5, H12, ⟨%f, H13, %hf⟩, %h⟩
    subst h; subst hf
    sl_exec
    sl_step
    isplitl [H5]; · iexact H5
    isplitl [H12]; · iexact H12
    isplitl [H13]
    · iexists _; isplitl [H13]; · iexact H13
      ipureintro; rfl
    ipureintro; rfl

@[sl_loop, instance_reducible] def loop5 (arg1 : BitVec 32) (v393 : FVec Ideal S256x256 .f32) (v422 : FVec Ideal S8x256 .f32) (v423 : FVec Ideal S8x256 .f32) (X4 : BufTy.Contents (Elt Ideal) arg4.view.ty)
    (X9 : BufTy.Contents (Elt Ideal) arg9.view.ty) (X11 : BufTy.Contents (Elt Ideal) arg11.view.ty) (f0 : BufTy.Contents (Elt Ideal) arg12.view.ty)
    (init : FVec Ideal S8x256 .f32) :
    Idealize.ShloMosaic.LoopInv (M := 𝕄) Idealize.ShloMosaic.frame (wpE (defs₀ (F := Ideal)) 𝒱 (c : Thread nD τ) bd) E
      (k0_t5_loop i).lb (k0_t5_loop i).ub (k0_t5_loop i).st (k0_t5_ok i) init
      (k0_t5_body (F := Ideal) i arg2 harg2 arg3 harg3 arg4 harg4 arg5 harg5 arg6 harg6 arg7 harg7 arg8 harg8 arg9 harg9 arg10 harg10 arg11 harg11 arg12 harg12 arg13 harg13 arg14 harg14 arg1 v393 v422 v423) where
  inv k acc := iprop((arg4.view.loc (c : Thread nD τ) ↦[arg4.view.set]{fullShare} X4) ∗ (arg9.view.loc (c : Thread nD τ) ↦[arg9.view.set]{fullShare} X9)
    ∗ (arg11.view.loc (c : Thread nD τ) ↦[arg11.view.set]{fullShare} X11)
    ∗ (∃ f, (arg12.view.loc (c : Thread nD τ) ↦[arg12.view.set]{fullShare} f) ∗ ⌜f = after (p1fStep i 1 arg4 arg9 arg11 arg12 X4 X9 X11) f0 k⌝) ∗ ⌜acc = after (p1mStep i 1 arg4 arg9 arg11 X4 X9 X11) init k⌝)
  step k acc := by
    have hk : k.val < (i 1).val := lt_of_lt_of_eq k.isLt (trips_eq i)
    rw [after_succ (p1fStep i 1 arg4 arg9 arg11 arg12 X4 X9 X11), after_succ (p1mStep i 1 arg4 arg9 arg11 X4 X9 X11)]
    rw [show p1fStep i 1 arg4 arg9 arg11 arg12 X4 X9 X11 k.val (after (p1fStep i 1 arg4 arg9 arg11 arg12 X4 X9 X11) f0 k.val) = _ from dif_pos hk,
      show p1mStep i 1 arg4 arg9 arg11 X4 X9 X11 k.val (after (p1mStep i 1 arg4 arg9 arg11 X4 X9 X11) init k.val) = _ from dif_pos hk]
    unfold k0_t5_body
    iintro ⟨H4, H9, H11, ⟨%f, H12, %hf⟩, %h⟩
    subst h; subst hf
    sl_exec
    sl_step
    isplitl [H4]; · iexact H4
    isplitl [H9]; · iexact H9
    isplitl [H11]; · iexact H11
    isplitl [H12]
    · iexists _; isplitl [H12]; · iexact H12
      ipureintro; rfl
    ipureintro; rfl

@[sl_loop, instance_reducible] def loop7 (arg1 : BitVec 32) (v376 : FVec Ideal S1x256 .f32) (v471 : FVec Ideal S1x256 .f32) (v475 : FVec Ideal S128x256 .f32) (X5 : BufTy.Contents (Elt Ideal) arg5.view.ty)
    (X12 : BufTy.Contents (Elt Ideal) arg12.view.ty) (f0 : BufTy.Contents (Elt Ideal) arg13.view.ty)
    (init : FVec Ideal S8x256 .f32) :
    Idealize.ShloMosaic.LoopInv (M := 𝕄) Idealize.ShloMosaic.frame (wpE (defs₀ (F := Ideal)) 𝒱 (c : Thread nD τ) bd) E
      (k0_t7_loop i).lb (k0_t7_loop i).ub (k0_t7_loop i).st (k0_t7_ok i) init
      (k0_t7_body (F := Ideal) i arg2 harg2 arg3 harg3 arg4 harg4 arg5 harg5 arg6 harg6 arg7 harg7 arg8 harg8 arg9 harg9 arg10 harg10 arg11 harg11 arg12 harg12 arg13 harg13 arg14 harg14 arg1 v376 v471 v475) where
  inv k acc := iprop((arg5.view.loc (c : Thread nD τ) ↦[arg5.view.set]{fullShare} X5) ∗ (arg12.view.loc (c : Thread nD τ) ↦[arg12.view.set]{fullShare} X12)
    ∗ (∃ f, (arg13.view.loc (c : Thread nD τ) ↦[arg13.view.set]{fullShare} f) ∗ ⌜f = after (p2fStep i 1 arg5 arg12 arg13 X5 X12 v376 v471) f0 k⌝) ∗ ⌜acc = after (p2lStep i arg12 X12 v376 v471) init k⌝)
  step k acc := by
    have hk : k.val < (i 1).val + 1 := lt_of_lt_of_eq k.isLt (trips_eq2 i)
    rw [after_succ (p2fStep i 1 arg5 arg12 arg13 X5 X12 v376 v471), after_succ (p2lStep i arg12 X12 v376 v471)]
    rw [show p2fStep i 1 arg5 arg12 arg13 X5 X12 v376 v471 k.val (after (p2fStep i 1 arg5 arg12 arg13 X5 X12 v376 v471) f0 k.val) = _ from dif_pos hk,
      show p2lStep i arg12 X12 v376 v471 k.val (after (p2lStep i arg12 X12 v376 v471) init k.val) = _ from dif_pos hk]
    unfold k0_t7_body
    iintro ⟨H5, H12, ⟨%f, H13, %hf⟩, %h⟩
    subst h; subst hf
    sl_exec
    sl_step
    isplitl [H5]; · iexact H5
    isplitl [H12]; · iexact H12
    isplitl [H13]
    · iexists _; isplitl [H13]; · iexact H13
      ipureintro; rfl
    ipureintro; rfl

@[sl_loop, instance_reducible] def loop9 (arg1 : BitVec 32) (v732 : FVec Ideal S256x256 .f32) (v751 : FVec Ideal S8x256 .f32) (v752 : FVec Ideal S8x256 .f32) (X4 : BufTy.Contents (Elt Ideal) arg4.view.ty)
    (X9 : BufTy.Contents (Elt Ideal) arg9.view.ty) (X11 : BufTy.Contents (Elt Ideal) arg11.view.ty) (f0 : BufTy.Contents (Elt Ideal) arg12.view.ty)
    (init : FVec Ideal S8x256 .f32) :
    Idealize.ShloMosaic.LoopInv (M := 𝕄) Idealize.ShloMosaic.frame (wpE (defs₀ (F := Ideal)) 𝒱 (c : Thread nD τ) bd) E
      (k0_t9_loop i).lb (k0_t9_loop i).ub (k0_t9_loop i).st (k0_t9_ok i) init
      (k0_t9_body (F := Ideal) i arg2 harg2 arg3 harg3 arg4 harg4 arg5 harg5 arg6 harg6 arg7 harg7 arg8 harg8 arg9 harg9 arg10 harg10 arg11 harg11 arg12 harg12 arg13 harg13 arg14 harg14 arg1 v732 v751 v752) where
  inv k acc := iprop((arg4.view.loc (c : Thread nD τ) ↦[arg4.view.set]{fullShare} X4) ∗ (arg9.view.loc (c : Thread nD τ) ↦[arg9.view.set]{fullShare} X9)
    ∗ (arg11.view.loc (c : Thread nD τ) ↦[arg11.view.set]{fullShare} X11)
    ∗ (∃ f, (arg12.view.loc (c : Thread nD τ) ↦[arg12.view.set]{fullShare} f) ∗ ⌜f = after (p1fStep i 2 arg4 arg9 arg11 arg12 X4 X9 X11) f0 k⌝) ∗ ⌜acc = after (p1mStep i 2 arg4 arg9 arg11 X4 X9 X11) init k⌝)
  step k acc := by
    have hk : k.val < (i 1).val := lt_of_lt_of_eq k.isLt (trips_eq i)
    rw [after_succ (p1fStep i 2 arg4 arg9 arg11 arg12 X4 X9 X11), after_succ (p1mStep i 2 arg4 arg9 arg11 X4 X9 X11)]
    rw [show p1fStep i 2 arg4 arg9 arg11 arg12 X4 X9 X11 k.val (after (p1fStep i 2 arg4 arg9 arg11 arg12 X4 X9 X11) f0 k.val) = _ from dif_pos hk,
      show p1mStep i 2 arg4 arg9 arg11 X4 X9 X11 k.val (after (p1mStep i 2 arg4 arg9 arg11 X4 X9 X11) init k.val) = _ from dif_pos hk]
    unfold k0_t9_body
    iintro ⟨H4, H9, H11, ⟨%f, H12, %hf⟩, %h⟩
    subst h; subst hf
    sl_exec
    sl_step
    isplitl [H4]; · iexact H4
    isplitl [H9]; · iexact H9
    isplitl [H11]; · iexact H11
    isplitl [H12]
    · iexists _; isplitl [H12]; · iexact H12
      ipureintro; rfl
    ipureintro; rfl

@[sl_loop, instance_reducible] def loop11 (arg1 : BitVec 32) (v715 : FVec Ideal S1x256 .f32) (v808 : FVec Ideal S8x256 .f32) (X5 : BufTy.Contents (Elt Ideal) arg5.view.ty)
    (X12 : BufTy.Contents (Elt Ideal) arg12.view.ty) (f0 : BufTy.Contents (Elt Ideal) arg13.view.ty)
    (init : FVec Ideal S8x256 .f32) :
    Idealize.ShloMosaic.LoopInv (M := 𝕄) Idealize.ShloMosaic.frame (wpE (defs₀ (F := Ideal)) 𝒱 (c : Thread nD τ) bd) E
      (k0_t11_loop i).lb (k0_t11_loop i).ub (k0_t11_loop i).st (k0_t11_ok i) init
      (k0_t11_body (F := Ideal) i arg2 harg2 arg3 harg3 arg4 harg4 arg5 harg5 arg6 harg6 arg7 harg7 arg8 harg8 arg9 harg9 arg10 harg10 arg11 harg11 arg12 harg12 arg13 harg13 arg14 harg14 arg1 v715 v808) where
  inv k acc := iprop((arg5.view.loc (c : Thread nD τ) ↦[arg5.view.set]{fullShare} X5) ∗ (arg12.view.loc (c : Thread nD τ) ↦[arg12.view.set]{fullShare} X12)
    ∗ (∃ f, (arg13.view.loc (c : Thread nD τ) ↦[arg13.view.set]{fullShare} f) ∗ ⌜f = after (p2fStep i 2 arg5 arg12 arg13 X5 X12 v715 (k0_pay202 v808)) f0 k⌝) ∗ ⌜acc = after (p2lStep i arg12 X12 v715 (k0_pay202 v808)) init k⌝)
  step k acc := by
    have hk : k.val < (i 1).val + 1 := lt_of_lt_of_eq k.isLt (trips_eq2 i)
    rw [after_succ (p2fStep i 2 arg5 arg12 arg13 X5 X12 v715 (k0_pay202 v808)), after_succ (p2lStep i arg12 X12 v715 (k0_pay202 v808))]
    rw [show p2fStep i 2 arg5 arg12 arg13 X5 X12 v715 (k0_pay202 v808) k.val (after (p2fStep i 2 arg5 arg12 arg13 X5 X12 v715 (k0_pay202 v808)) f0 k.val) = _ from dif_pos hk,
      show p2lStep i arg12 X12 v715 (k0_pay202 v808) k.val (after (p2lStep i arg12 X12 v715 (k0_pay202 v808)) init k.val) = _ from dif_pos hk]
    unfold k0_t11_body
    iintro ⟨H5, H12, ⟨%f, H13, %hf⟩, %h⟩
    subst h; subst hf
    sl_exec
    sl_step
    isplitl [H5]; · iexact H5
    isplitl [H12]; · iexact H12
    isplitl [H13]
    · iexists _; isplitl [H13]; · iexact H13
      ipureintro; rfl
    ipureintro; rfl

@[sl_loop, instance_reducible] def loop13 (arg1 : BitVec 32) (v982 : FVec Ideal S256x256 .f32) (v1011 : FVec Ideal S8x256 .f32) (X4 : BufTy.Contents (Elt Ideal) arg4.view.ty)
    (X9 : BufTy.Contents (Elt Ideal) arg9.view.ty) (X11 : BufTy.Contents (Elt Ideal) arg11.view.ty) (f0 : BufTy.Contents (Elt Ideal) arg12.view.ty)
    (init : FVec Ideal S8x256 .f32) :
    Idealize.ShloMosaic.LoopInv (M := 𝕄) Idealize.ShloMosaic.frame (wpE (defs₀ (F := Ideal)) 𝒱 (c : Thread nD τ) bd) E
      (k0_t13_loop i).lb (k0_t13_loop i).ub (k0_t13_loop i).st (k0_t13_ok i) init
      (k0_t13_body (F := Ideal) i arg2 harg2 arg3 harg3 arg4 harg4 arg5 harg5 arg6 harg6 arg7 harg7 arg8 harg8 arg9 harg9 arg10 harg10 arg11 harg11 arg12 harg12 arg13 harg13 arg14 harg14 arg1 v982 v1011) where
  inv k acc := iprop((arg4.view.loc (c : Thread nD τ) ↦[arg4.view.set]{fullShare} X4) ∗ (arg9.view.loc (c : Thread nD τ) ↦[arg9.view.set]{fullShare} X9)
    ∗ (arg11.view.loc (c : Thread nD τ) ↦[arg11.view.set]{fullShare} X11)
    ∗ (∃ f, (arg12.view.loc (c : Thread nD τ) ↦[arg12.view.set]{fullShare} f) ∗ ⌜f = after (p1fStep i 3 arg4 arg9 arg11 arg12 X4 X9 X11) f0 k⌝) ∗ ⌜acc = after (p1mStep i 3 arg4 arg9 arg11 X4 X9 X11) init k⌝)
  step k acc := by
    have hk : k.val < (i 1).val := lt_of_lt_of_eq k.isLt (trips_eq i)
    rw [after_succ (p1fStep i 3 arg4 arg9 arg11 arg12 X4 X9 X11), after_succ (p1mStep i 3 arg4 arg9 arg11 X4 X9 X11)]
    rw [show p1fStep i 3 arg4 arg9 arg11 arg12 X4 X9 X11 k.val (after (p1fStep i 3 arg4 arg9 arg11 arg12 X4 X9 X11) f0 k.val) = _ from dif_pos hk,
      show p1mStep i 3 arg4 arg9 arg11 X4 X9 X11 k.val (after (p1mStep i 3 arg4 arg9 arg11 X4 X9 X11) init k.val) = _ from dif_pos hk]
    unfold k0_t13_body
    iintro ⟨H4, H9, H11, ⟨%f, H12, %hf⟩, %h⟩
    subst h; subst hf
    sl_exec
    sl_step
    isplitl [H4]; · iexact H4
    isplitl [H9]; · iexact H9
    isplitl [H11]; · iexact H11
    isplitl [H12]
    · iexists _; isplitl [H12]; · iexact H12
      ipureintro; rfl
    ipureintro; rfl

@[sl_loop, instance_reducible] def loop15 (arg1 : BitVec 32) (v965 : FVec Ideal S1x256 .f32) (v1060 : FVec Ideal S1x256 .f32) (v1061 : FVec Ideal S128x256 .f32) (X5 : BufTy.Contents (Elt Ideal) arg5.view.ty)
    (X12 : BufTy.Contents (Elt Ideal) arg12.view.ty) (f0 : BufTy.Contents (Elt Ideal) arg13.view.ty)
    (init : FVec Ideal S8x256 .f32) :
    Idealize.ShloMosaic.LoopInv (M := 𝕄) Idealize.ShloMosaic.frame (wpE (defs₀ (F := Ideal)) 𝒱 (c : Thread nD τ) bd) E
      (k0_t15_loop i).lb (k0_t15_loop i).ub (k0_t15_loop i).st (k0_t15_ok i) init
      (k0_t15_body (F := Ideal) i arg2 harg2 arg3 harg3 arg4 harg4 arg5 harg5 arg6 harg6 arg7 harg7 arg8 harg8 arg9 harg9 arg10 harg10 arg11 harg11 arg12 harg12 arg13 harg13 arg14 harg14 arg1 v965 v1060 v1061) where
  inv k acc := iprop((arg5.view.loc (c : Thread nD τ) ↦[arg5.view.set]{fullShare} X5) ∗ (arg12.view.loc (c : Thread nD τ) ↦[arg12.view.set]{fullShare} X12)
    ∗ (∃ f, (arg13.view.loc (c : Thread nD τ) ↦[arg13.view.set]{fullShare} f) ∗ ⌜f = after (p2fStep i 3 arg5 arg12 arg13 X5 X12 v965 v1060) f0 k⌝) ∗ ⌜acc = after (p2lStep i arg12 X12 v965 v1060) init k⌝)
  step k acc := by
    have hk : k.val < (i 1).val + 1 := lt_of_lt_of_eq k.isLt (trips_eq2 i)
    rw [after_succ (p2fStep i 3 arg5 arg12 arg13 X5 X12 v965 v1060), after_succ (p2lStep i arg12 X12 v965 v1060)]
    rw [show p2fStep i 3 arg5 arg12 arg13 X5 X12 v965 v1060 k.val (after (p2fStep i 3 arg5 arg12 arg13 X5 X12 v965 v1060) f0 k.val) = _ from dif_pos hk,
      show p2lStep i arg12 X12 v965 v1060 k.val (after (p2lStep i arg12 X12 v965 v1060) init k.val) = _ from dif_pos hk]
    unfold k0_t15_body
    iintro ⟨H5, H12, ⟨%f, H13, %hf⟩, %h⟩
    subst h; subst hf
    sl_exec
    sl_step
    isplitl [H5]; · iexact H5
    isplitl [H12]; · iexact H12
    isplitl [H13]
    · iexists _; isplitl [H13]; · iexact H13
      ipureintro; rfl
    ipureintro; rfl

@[sl_loop, instance_reducible] def loop17 (arg1 : BitVec 32) (v1321 : FVec Ideal S256x256 .f32) (v1340 : FVec Ideal S8x256 .f32) (X4 : BufTy.Contents (Elt Ideal) arg4.view.ty)
    (X9 : BufTy.Contents (Elt Ideal) arg9.view.ty) (X11 : BufTy.Contents (Elt Ideal) arg11.view.ty) (f0 : BufTy.Contents (Elt Ideal) arg12.view.ty)
    (init : FVec Ideal S8x256 .f32) :
    Idealize.ShloMosaic.LoopInv (M := 𝕄) Idealize.ShloMosaic.frame (wpE (defs₀ (F := Ideal)) 𝒱 (c : Thread nD τ) bd) E
      (k0_t17_loop i).lb (k0_t17_loop i).ub (k0_t17_loop i).st (k0_t17_ok i) init
      (k0_t17_body (F := Ideal) i arg2 harg2 arg3 harg3 arg4 harg4 arg5 harg5 arg6 harg6 arg7 harg7 arg8 harg8 arg9 harg9 arg10 harg10 arg11 harg11 arg12 harg12 arg13 harg13 arg14 harg14 arg1 v1321 v1340) where
  inv k acc := iprop((arg4.view.loc (c : Thread nD τ) ↦[arg4.view.set]{fullShare} X4) ∗ (arg9.view.loc (c : Thread nD τ) ↦[arg9.view.set]{fullShare} X9)
    ∗ (arg11.view.loc (c : Thread nD τ) ↦[arg11.view.set]{fullShare} X11)
    ∗ (∃ f, (arg12.view.loc (c : Thread nD τ) ↦[arg12.view.set]{fullShare} f) ∗ ⌜f = after (p1fStep i 4 arg4 arg9 arg11 arg12 X4 X9 X11) f0 k⌝) ∗ ⌜acc = after (p1mStep i 4 arg4 arg9 arg11 X4 X9 X11) init k⌝)
  step k acc := by
    have hk : k.val < (i 1).val := lt_of_lt_of_eq k.isLt (trips_eq i)
    rw [after_succ (p1fStep i 4 arg4 arg9 arg11 arg12 X4 X9 X11), after_succ (p1mStep i 4 arg4 arg9 arg11 X4 X9 X11)]
    rw [show p1fStep i 4 arg4 arg9 arg11 arg12 X4 X9 X11 k.val (after (p1fStep i 4 arg4 arg9 arg11 arg12 X4 X9 X11) f0 k.val) = _ from dif_pos hk,
      show p1mStep i 4 arg4 arg9 arg11 X4 X9 X11 k.val (after (p1mStep i 4 arg4 arg9 arg11 X4 X9 X11) init k.val) = _ from dif_pos hk]
    unfold k0_t17_body
    iintro ⟨H4, H9, H11, ⟨%f, H12, %hf⟩, %h⟩
    subst h; subst hf
    sl_exec
    sl_step
    isplitl [H4]; · iexact H4
    isplitl [H9]; · iexact H9
    isplitl [H11]; · iexact H11
    isplitl [H12]
    · iexists _; isplitl [H12]; · iexact H12
      ipureintro; rfl
    ipureintro; rfl

@[sl_loop, instance_reducible] def loop19 (arg1 : BitVec 32) (v1304 : FVec Ideal S1x256 .f32) (v1395 : BitVec 32) (v1396 : FVec Ideal S8x256 .f32) (c1_i32_654 : BitVec 32) (v1397 : FVec Ideal S8x256 .f32) (X5 : BufTy.Contents (Elt Ideal) arg5.view.ty)
    (X12 : BufTy.Contents (Elt Ideal) arg12.view.ty) (f0 : BufTy.Contents (Elt Ideal) arg13.view.ty)
    (init : FVec Ideal S8x256 .f32) :
    Idealize.ShloMosaic.LoopInv (M := 𝕄) Idealize.ShloMosaic.frame (wpE (defs₀ (F := Ideal)) 𝒱 (c : Thread nD τ) bd) E
      (k0_t19_loop i).lb (k0_t19_loop i).ub (k0_t19_loop i).st (k0_t19_ok i) init
      (k0_t19_body (F := Ideal) i arg2 harg2 arg3 harg3 arg4 harg4 arg5 harg5 arg6 harg6 arg7 harg7 arg8 harg8 arg9 harg9 arg10 harg10 arg11 harg11 arg12 harg12 arg13 harg13 arg14 harg14 arg1 v1304 v1395 v1396 c1_i32_654 v1397) where
  inv k acc := iprop((arg5.view.loc (c : Thread nD τ) ↦[arg5.view.set]{fullShare} X5) ∗ (arg12.view.loc (c : Thread nD τ) ↦[arg12.view.set]{fullShare} X12)
    ∗ (∃ f, (arg13.view.loc (c : Thread nD τ) ↦[arg13.view.set]{fullShare} f) ∗ ⌜f = after (p2fStep i 4 arg5 arg12 arg13 X5 X12 v1304 (k0_pay265 v1397)) f0 k⌝) ∗ ⌜acc = after (p2lStep i arg12 X12 v1304 (k0_pay265 v1397)) init k⌝)
  step k acc := by
    have hk : k.val < (i 1).val + 1 := lt_of_lt_of_eq k.isLt (trips_eq2 i)
    rw [after_succ (p2fStep i 4 arg5 arg12 arg13 X5 X12 v1304 (k0_pay265 v1397)), after_succ (p2lStep i arg12 X12 v1304 (k0_pay265 v1397))]
    rw [show p2fStep i 4 arg5 arg12 arg13 X5 X12 v1304 (k0_pay265 v1397) k.val (after (p2fStep i 4 arg5 arg12 arg13 X5 X12 v1304 (k0_pay265 v1397)) f0 k.val) = _ from dif_pos hk,
      show p2lStep i arg12 X12 v1304 (k0_pay265 v1397) k.val (after (p2lStep i arg12 X12 v1304 (k0_pay265 v1397)) init k.val) = _ from dif_pos hk]
    unfold k0_t19_body
    iintro ⟨H5, H12, ⟨%f, H13, %hf⟩, %h⟩
    subst h; subst hf
    sl_exec
    sl_step
    isplitl [H5]; · iexact H5
    isplitl [H12]; · iexact H12
    isplitl [H13]
    · iexists _; isplitl [H13]; · iexact H13
      ipureintro; rfl
    ipureintro; rfl

@[sl_loop, instance_reducible] def loop21 (arg1 : BitVec 32) (v1571 : FVec Ideal S256x256 .f32) (v1598 : FVec Ideal S8x256 .f32) (v1599 : FVec Ideal S8x256 .f32) (X4 : BufTy.Contents (Elt Ideal) arg4.view.ty)
    (X9 : BufTy.Contents (Elt Ideal) arg9.view.ty) (X11 : BufTy.Contents (Elt Ideal) arg11.view.ty) (f0 : BufTy.Contents (Elt Ideal) arg12.view.ty)
    (init : FVec Ideal S8x256 .f32) :
    Idealize.ShloMosaic.LoopInv (M := 𝕄) Idealize.ShloMosaic.frame (wpE (defs₀ (F := Ideal)) 𝒱 (c : Thread nD τ) bd) E
      (k0_t21_loop i).lb (k0_t21_loop i).ub (k0_t21_loop i).st (k0_t21_ok i) init
      (k0_t21_body (F := Ideal) i arg2 harg2 arg3 harg3 arg4 harg4 arg5 harg5 arg6 harg6 arg7 harg7 arg8 harg8 arg9 harg9 arg10 harg10 arg11 harg11 arg12 harg12 arg13 harg13 arg14 harg14 arg1 v1571 v1598 v1599) where
  inv k acc := iprop((arg4.view.loc (c : Thread nD τ) ↦[arg4.view.set]{fullShare} X4) ∗ (arg9.view.loc (c : Thread nD τ) ↦[arg9.view.set]{fullShare} X9)
    ∗ (arg11.view.loc (c : Thread nD τ) ↦[arg11.view.set]{fullShare} X11)
    ∗ (∃ f, (arg12.view.loc (c : Thread nD τ) ↦[arg12.view.set]{fullShare} f) ∗ ⌜f = after (p1fStep i 5 arg4 arg9 arg11 arg12 X4 X9 X11) f0 k⌝) ∗ ⌜acc = after (p1mStep i 5 arg4 arg9 arg11 X4 X9 X11) init k⌝)
  step k acc := by
    have hk : k.val < (i 1).val := lt_of_lt_of_eq k.isLt (trips_eq i)
    rw [after_succ (p1fStep i 5 arg4 arg9 arg11 arg12 X4 X9 X11), after_succ (p1mStep i 5 arg4 arg9 arg11 X4 X9 X11)]
    rw [show p1fStep i 5 arg4 arg9 arg11 arg12 X4 X9 X11 k.val (after (p1fStep i 5 arg4 arg9 arg11 arg12 X4 X9 X11) f0 k.val) = _ from dif_pos hk,
      show p1mStep i 5 arg4 arg9 arg11 X4 X9 X11 k.val (after (p1mStep i 5 arg4 arg9 arg11 X4 X9 X11) init k.val) = _ from dif_pos hk]
    unfold k0_t21_body
    iintro ⟨H4, H9, H11, ⟨%f, H12, %hf⟩, %h⟩
    subst h; subst hf
    sl_exec
    sl_step
    isplitl [H4]; · iexact H4
    isplitl [H9]; · iexact H9
    isplitl [H11]; · iexact H11
    isplitl [H12]
    · iexists _; isplitl [H12]; · iexact H12
      ipureintro; rfl
    ipureintro; rfl

@[sl_loop, instance_reducible] def loop23 (arg1 : BitVec 32) (v1554 : FVec Ideal S1x256 .f32) (v1649 : FVec Ideal S1x256 .f32) (v1650 : FVec Ideal S128x256 .f32) (v1651 : Vec Ideal S128x256 .f32) (X5 : BufTy.Contents (Elt Ideal) arg5.view.ty)
    (X12 : BufTy.Contents (Elt Ideal) arg12.view.ty) (f0 : BufTy.Contents (Elt Ideal) arg13.view.ty)
    (init : FVec Ideal S8x256 .f32) :
    Idealize.ShloMosaic.LoopInv (M := 𝕄) Idealize.ShloMosaic.frame (wpE (defs₀ (F := Ideal)) 𝒱 (c : Thread nD τ) bd) E
      (k0_t23_loop i).lb (k0_t23_loop i).ub (k0_t23_loop i).st (k0_t23_ok i) init
      (k0_t23_body (F := Ideal) i arg2 harg2 arg3 harg3 arg4 harg4 arg5 harg5 arg6 harg6 arg7 harg7 arg8 harg8 arg9 harg9 arg10 harg10 arg11 harg11 arg12 harg12 arg13 harg13 arg14 harg14 arg1 v1554 v1649 v1650 v1651) where
  inv k acc := iprop((arg5.view.loc (c : Thread nD τ) ↦[arg5.view.set]{fullShare} X5) ∗ (arg12.view.loc (c : Thread nD τ) ↦[arg12.view.set]{fullShare} X12)
    ∗ (∃ f, (arg13.view.loc (c : Thread nD τ) ↦[arg13.view.set]{fullShare} f) ∗ ⌜f = after (p2fStep i 5 arg5 arg12 arg13 X5 X12 v1554 v1649) f0 k⌝) ∗ ⌜acc = after (p2lStep i arg12 X12 v1554 v1649) init k⌝)
  step k acc := by
    have hk : k.val < (i 1).val + 1 := lt_of_lt_of_eq k.isLt (trips_eq2 i)
    rw [after_succ (p2fStep i 5 arg5 arg12 arg13 X5 X12 v1554 v1649), after_succ (p2lStep i arg12 X12 v1554 v1649)]
    rw [show p2fStep i 5 arg5 arg12 arg13 X5 X12 v1554 v1649 k.val (after (p2fStep i 5 arg5 arg12 arg13 X5 X12 v1554 v1649) f0 k.val) = _ from dif_pos hk,
      show p2lStep i arg12 X12 v1554 v1649 k.val (after (p2lStep i arg12 X12 v1554 v1649) init k.val) = _ from dif_pos hk]
    unfold k0_t23_body
    iintro ⟨H5, H12, ⟨%f, H13, %hf⟩, %h⟩
    subst h; subst hf
    sl_exec
    sl_step
    isplitl [H5]; · iexact H5
    isplitl [H12]; · iexact H12
    isplitl [H13]
    · iexists _; isplitl [H13]; · iexact H13
      ipureintro; rfl
    ipureintro; rfl

@[sl_loop, instance_reducible] def loop25 (arg1 : BitVec 32) (v1910 : FVec Ideal S256x256 .f32) (v1927 : FVec Ideal S8x256 .f32) (v1928 : FVec Ideal S8x256 .f32) (X4 : BufTy.Contents (Elt Ideal) arg4.view.ty)
    (X9 : BufTy.Contents (Elt Ideal) arg9.view.ty) (X11 : BufTy.Contents (Elt Ideal) arg11.view.ty) (f0 : BufTy.Contents (Elt Ideal) arg12.view.ty)
    (init : FVec Ideal S8x256 .f32) :
    Idealize.ShloMosaic.LoopInv (M := 𝕄) Idealize.ShloMosaic.frame (wpE (defs₀ (F := Ideal)) 𝒱 (c : Thread nD τ) bd) E
      (k0_t25_loop i).lb (k0_t25_loop i).ub (k0_t25_loop i).st (k0_t25_ok i) init
      (k0_t25_body (F := Ideal) i arg2 harg2 arg3 harg3 arg4 harg4 arg5 harg5 arg6 harg6 arg7 harg7 arg8 harg8 arg9 harg9 arg10 harg10 arg11 harg11 arg12 harg12 arg13 harg13 arg14 harg14 arg1 v1910 v1927 v1928) where
  inv k acc := iprop((arg4.view.loc (c : Thread nD τ) ↦[arg4.view.set]{fullShare} X4) ∗ (arg9.view.loc (c : Thread nD τ) ↦[arg9.view.set]{fullShare} X9)
    ∗ (arg11.view.loc (c : Thread nD τ) ↦[arg11.view.set]{fullShare} X11)
    ∗ (∃ f, (arg12.view.loc (c : Thread nD τ) ↦[arg12.view.set]{fullShare} f) ∗ ⌜f = after (p1fStep i 6 arg4 arg9 arg11 arg12 X4 X9 X11) f0 k⌝) ∗ ⌜acc = after (p1mStep i 6 arg4 arg9 arg11 X4 X9 X11) init k⌝)
  step k acc := by
    have hk : k.val < (i 1).val := lt_of_lt_of_eq k.isLt (trips_eq i)
    rw [after_succ (p1fStep i 6 arg4 arg9 arg11 arg12 X4 X9 X11), after_succ (p1mStep i 6 arg4 arg9 arg11 X4 X9 X11)]
    rw [show p1fStep i 6 arg4 arg9 arg11 arg12 X4 X9 X11 k.val (after (p1fStep i 6 arg4 arg9 arg11 arg12 X4 X9 X11) f0 k.val) = _ from dif_pos hk,
      show p1mStep i 6 arg4 arg9 arg11 X4 X9 X11 k.val (after (p1mStep i 6 arg4 arg9 arg11 X4 X9 X11) init k.val) = _ from dif_pos hk]
    unfold k0_t25_body
    iintro ⟨H4, H9, H11, ⟨%f, H12, %hf⟩, %h⟩
    subst h; subst hf
    sl_exec
    sl_step
    isplitl [H4]; · iexact H4
    isplitl [H9]; · iexact H9
    isplitl [H11]; · iexact H11
    isplitl [H12]
    · iexists _; isplitl [H12]; · iexact H12
      ipureintro; rfl
    ipureintro; rfl

@[sl_loop, instance_reducible] def loop27 (arg1 : BitVec 32) (v1893 : FVec Ideal S1x256 .f32) (v1984 : BitVec 32) (v1985 : FVec Ideal S8x256 .f32) (v1986 : FVec Ideal S8x256 .f32) (X5 : BufTy.Contents (Elt Ideal) arg5.view.ty)
    (X12 : BufTy.Contents (Elt Ideal) arg12.view.ty) (f0 : BufTy.Contents (Elt Ideal) arg13.view.ty)
    (init : FVec Ideal S8x256 .f32) :
    Idealize.ShloMosaic.LoopInv (M := 𝕄) Idealize.ShloMosaic.frame (wpE (defs₀ (F := Ideal)) 𝒱 (c : Thread nD τ) bd) E
      (k0_t27_loop i).lb (k0_t27_loop i).ub (k0_t27_loop i).st (k0_t27_ok i) init
      (k0_t27_body (F := Ideal) i arg2 harg2 arg3 harg3 arg4 harg4 arg5 harg5 arg6 harg6 arg7 harg7 arg8 harg8 arg9 harg9 arg10 harg10 arg11 harg11 arg12 harg12 arg13 harg13 arg14 harg14 arg1 v1893 v1984 v1985 v1986) where
  inv k acc := iprop((arg5.view.loc (c : Thread nD τ) ↦[arg5.view.set]{fullShare} X5) ∗ (arg12.view.loc (c : Thread nD τ) ↦[arg12.view.set]{fullShare} X12)
    ∗ (∃ f, (arg13.view.loc (c : Thread nD τ) ↦[arg13.view.set]{fullShare} f) ∗ ⌜f = after (p2fStep i 6 arg5 arg12 arg13 X5 X12 v1893 (k0_pay331 v1986)) f0 k⌝) ∗ ⌜acc = after (p2lStep i arg12 X12 v1893 (k0_pay331 v1986)) init k⌝)
  step k acc := by
    have hk : k.val < (i 1).val + 1 := lt_of_lt_of_eq k.isLt (trips_eq2 i)
    rw [after_succ (p2fStep i 6 arg5 arg12 arg13 X5 X12 v1893 (k0_pay331 v1986)), after_succ (p2lStep i arg12 X12 v1893 (k0_pay331 v1986))]
    rw [show p2fStep i 6 arg5 arg12 arg13 X5 X12 v1893 (k0_pay331 v1986) k.val (after (p2fStep i 6 arg5 arg12 arg13 X5 X12 v1893 (k0_pay331 v1986)) f0 k.val) = _ from dif_pos hk,
      show p2lStep i arg12 X12 v1893 (k0_pay331 v1986) k.val (after (p2lStep i arg12 X12 v1893 (k0_pay331 v1986)) init k.val) = _ from dif_pos hk]
    unfold k0_t27_body
    iintro ⟨H5, H12, ⟨%f, H13, %hf⟩, %h⟩
    subst h; subst hf
    sl_exec
    sl_step
    isplitl [H5]; · iexact H5
    isplitl [H12]; · iexact H12
    isplitl [H13]
    · iexists _; isplitl [H13]; · iexact H13
      ipureintro; rfl
    ipureintro; rfl

@[sl_loop, instance_reducible] def loop29 (arg1 : BitVec 32) (v2160 : FVec Ideal S256x256 .f32) (v2187 : FVec Ideal S8x256 .f32) (X4 : BufTy.Contents (Elt Ideal) arg4.view.ty)
    (X9 : BufTy.Contents (Elt Ideal) arg9.view.ty) (X11 : BufTy.Contents (Elt Ideal) arg11.view.ty) (f0 : BufTy.Contents (Elt Ideal) arg12.view.ty)
    (init : FVec Ideal S8x256 .f32) :
    Idealize.ShloMosaic.LoopInv (M := 𝕄) Idealize.ShloMosaic.frame (wpE (defs₀ (F := Ideal)) 𝒱 (c : Thread nD τ) bd) E
      (k0_t29_loop i).lb (k0_t29_loop i).ub (k0_t29_loop i).st (k0_t29_ok i) init
      (k0_t29_body (F := Ideal) i arg2 harg2 arg3 harg3 arg4 harg4 arg5 harg5 arg6 harg6 arg7 harg7 arg8 harg8 arg9 harg9 arg10 harg10 arg11 harg11 arg12 harg12 arg13 harg13 arg14 harg14 arg1 v2160 v2187) where
  inv k acc := iprop((arg4.view.loc (c : Thread nD τ) ↦[arg4.view.set]{fullShare} X4) ∗ (arg9.view.loc (c : Thread nD τ) ↦[arg9.view.set]{fullShare} X9)
    ∗ (arg11.view.loc (c : Thread nD τ) ↦[arg11.view.set]{fullShare} X11)
    ∗ (∃ f, (arg12.view.loc (c : Thread nD τ) ↦[arg12.view.set]{fullShare} f) ∗ ⌜f = after (p1fStep i 7 arg4 arg9 arg11 arg12 X4 X9 X11) f0 k⌝) ∗ ⌜acc = after (p1mStep i 7 arg4 arg9 arg11 X4 X9 X11) init k⌝)
  step k acc := by
    have hk : k.val < (i 1).val := lt_of_lt_of_eq k.isLt (trips_eq i)
    rw [after_succ (p1fStep i 7 arg4 arg9 arg11 arg12 X4 X9 X11), after_succ (p1mStep i 7 arg4 arg9 arg11 X4 X9 X11)]
    rw [show p1fStep i 7 arg4 arg9 arg11 arg12 X4 X9 X11 k.val (after (p1fStep i 7 arg4 arg9 arg11 arg12 X4 X9 X11) f0 k.val) = _ from dif_pos hk,
      show p1mStep i 7 arg4 arg9 arg11 X4 X9 X11 k.val (after (p1mStep i 7 arg4 arg9 arg11 X4 X9 X11) init k.val) = _ from dif_pos hk]
    unfold k0_t29_body
    iintro ⟨H4, H9, H11, ⟨%f, H12, %hf⟩, %h⟩
    subst h; subst hf
    sl_exec
    sl_step
    isplitl [H4]; · iexact H4
    isplitl [H9]; · iexact H9
    isplitl [H11]; · iexact H11
    isplitl [H12]
    · iexists _; isplitl [H12]; · iexact H12
      ipureintro; rfl
    ipureintro; rfl

@[sl_loop, instance_reducible] def loop31 (arg1 : BitVec 32) (v2143 : FVec Ideal S1x256 .f32) (v2238 : FVec Ideal S1x256 .f32) (v2239 : FVec Ideal S128x256 .f32) (X5 : BufTy.Contents (Elt Ideal) arg5.view.ty)
    (X12 : BufTy.Contents (Elt Ideal) arg12.view.ty) (f0 : BufTy.Contents (Elt Ideal) arg13.view.ty)
    (init : FVec Ideal S8x256 .f32) :
    Idealize.ShloMosaic.LoopInv (M := 𝕄) Idealize.ShloMosaic.frame (wpE (defs₀ (F := Ideal)) 𝒱 (c : Thread nD τ) bd) E
      (k0_t31_loop i).lb (k0_t31_loop i).ub (k0_t31_loop i).st (k0_t31_ok i) init
      (k0_t31_body (F := Ideal) i arg2 harg2 arg3 harg3 arg4 harg4 arg5 harg5 arg6 harg6 arg7 harg7 arg8 harg8 arg9 harg9 arg10 harg10 arg11 harg11 arg12 harg12 arg13 harg13 arg14 harg14 arg1 v2143 v2238 v2239) where
  inv k acc := iprop((arg5.view.loc (c : Thread nD τ) ↦[arg5.view.set]{fullShare} X5) ∗ (arg12.view.loc (c : Thread nD τ) ↦[arg12.view.set]{fullShare} X12)
    ∗ (∃ f, (arg13.view.loc (c : Thread nD τ) ↦[arg13.view.set]{fullShare} f) ∗ ⌜f = after (p2fStep i 7 arg5 arg12 arg13 X5 X12 v2143 v2238) f0 k⌝) ∗ ⌜acc = after (p2lStep i arg12 X12 v2143 v2238) init k⌝)
  step k acc := by
    have hk : k.val < (i 1).val + 1 := lt_of_lt_of_eq k.isLt (trips_eq2 i)
    rw [after_succ (p2fStep i 7 arg5 arg12 arg13 X5 X12 v2143 v2238), after_succ (p2lStep i arg12 X12 v2143 v2238)]
    rw [show p2fStep i 7 arg5 arg12 arg13 X5 X12 v2143 v2238 k.val (after (p2fStep i 7 arg5 arg12 arg13 X5 X12 v2143 v2238) f0 k.val) = _ from dif_pos hk,
      show p2lStep i arg12 X12 v2143 v2238 k.val (after (p2lStep i arg12 X12 v2143 v2238) init k.val) = _ from dif_pos hk]
    unfold k0_t31_body
    iintro ⟨H5, H12, ⟨%f, H13, %hf⟩, %h⟩
    subst h; subst hf
    sl_exec
    sl_step
    isplitl [H5]; · iexact H5
    isplitl [H12]; · iexact H12
    isplitl [H13]
    · iexists _; isplitl [H13]; · iexact H13
      ipureintro; rfl
    ipureintro; rfl

end Cert.AttnIdeal.Val

end
-- ==== Proof.BodySpec.lean ====
module

public import proofs.«01_k».proof.Proof.LoopsValue
public import Idealize.ShloMosaic.Lib.Tactic

@[expose] public section

noncomputable section

/-! The body of the attention call, stated once for every head: what it writes, as functions of its blocks. -/

namespace Cert.AttnIdeal.Spec

open Cert.AttnIdeal Cert.AttnIdeal.Gen Cert.AttnIdeal.Val
open Idealize.ShloMosaic Idealize.ShloMosaic.TcCoe

/-! ## The quantiser of one head -/

/-- The nope channels of the head of parity `p` of a pair, channels by tokens. -/
def nopeC (p : Fin 2) (raw : Vec Ideal S1x256x2x128 .bf16) : FVec Ideal S128x256 .f32 :=
  transpose S128x256 [1, 0] (extf .f32 (shapeCast S256x128 (rowsOfParity p S1x256x1x128 raw bitcasts_S1x256x2x128_w16_S1x256x1x128_w32)
    shapeCasts_S1x256x1x128_S256x128 : FVec Ideal S256x128 .bf16)) transposes_S256x128_p1_0_S128x256

/-- The scaled absolute maximum of each token. -/
def yC (hi : FVec Ideal S128x256 .f32) (lo : FVec Ideal S64x256 .f32) : FVec Ideal S1x256 .f32 :=
  mulf (maximumf (shapeCast S1x256 (multiReduction .maximumf [0] S256 (absf hi) 0xFF800000#32 reduces_S128x256_S256 (.inl rfl) rfl) shapeCasts_S256_S1x256)
      (shapeCast S1x256 (multiReduction .maximumf [0] S256 (absf lo) 0xFF800000#32 reduces_S64x256_S256 (.inl rfl) rfl) shapeCasts_S256_S1x256))
    (broadcast S1x256 (Scalar.ofBits .f32 0x3B124925#32))

/-- One step of the search for the exponent. -/
def eC (y : FVec Ideal S1x256 .f32) (e : IVec S1x256 32) (b : BitVec 32) : IVec S1x256 32 :=
  select (cmpf .olt y (bitcastToFloat .f32 (shli (addi e (broadcast S1x256 b)) (broadcast S1x256 23#32)))) e (addi e (broadcast S1x256 b))

/-- The exponent bits, in place. -/
def wC (y : FVec Ideal S1x256 .f32) : IVec S1x256 32 :=
  shli (eC y (eC y (eC y (eC y (eC y (eC y (eC y (eC y (broadcast S1x256 0#32) 128#32) 64#32) 32#32) 16#32) 8#32) 4#32) 2#32) 1#32) (broadcast S1x256 23#32)

/-- The scale of each token. -/
def sC (y : FVec Ideal S1x256 .f32) : FVec Ideal S1x256 .f32 :=
  select (cmpi .eq (wC y) (broadcast S1x256 0#32)) (broadcast S1x256 (Scalar.ofBits (F := Ideal) .f32 0x3F800000#32))
    (bitcastToFloat .f32 (addi (wC y) (broadcast S1x256 8388608#32)))

/-- The reciprocal of the scale of each token. -/
def vC (y : FVec Ideal S1x256 .f32) : FVec Ideal S1x256 .f32 :=
  select (cmpi .eq (wC y) (broadcast S1x256 0#32)) (broadcast S1x256 (Scalar.ofBits (F := Ideal) .f32 0x3F800000#32))
    (bitcastToFloat .f32 (subi (broadcast S1x256 2122317824#32) (wC y)))

/-- The codes of one head. -/
def codesC (hi : FVec Ideal S128x256 .f32) (lo : FVec Ideal S64x256 .f32) (v : FVec Ideal S1x256 .f32) : FVec Ideal S1x1x192x256 .fp8e4m3 :=
  shapeCast S1x1x192x256 (concatenate S192x256 0
    [⟨S128x256, truncf .fp8e4m3 (minimumf (broadcast S128x256 (Scalar.ofBits .f32 0x43E00000#32)) (maximumf (broadcast S128x256 (Scalar.ofBits .f32 0xC3E00000#32))
        (mulf hi (broadcastTo S128x256 v broadcasts_S1x256_S128x256)))) bitsLt_fp8e4m3_f32⟩,
     ⟨S64x256, truncf .fp8e4m3 (minimumf (broadcast S64x256 (Scalar.ofBits .f32 0x43E00000#32)) (maximumf (broadcast S64x256 (Scalar.ofBits .f32 0xC3E00000#32))
        (mulf lo (broadcastTo S64x256 v broadcasts_S1x256_S64x256)))) bitsLt_fp8e4m3_f32⟩] concatenates_S128x256_S64x256_S192x256_d0)
    shapeCasts_S192x256_S1x1x192x256

section Body

variable (i : grid0.Coords)
  (arg2 : Memref sig .tc .vmem S1x256x8x128 .bf16) (arg3 : Memref sig .tc .vmem S1x8x64x256 .bf16)
  (arg4 : Memref sig .tc .vmem S1x8x4096x192 .fp8e4m3) (arg5 : Memref sig .tc .vmem S1x8x128x4096 .fp8e4m3)
  (arg6 : Memref sig .tc .vmem S1x8x256 .f32) (arg7 : Memref sig .tc .vmem S1x8x8x128 .f32)
  (arg9 : Memref sig .tc .vmem S1x8x192x256 .fp8e4m3) (arg11 : Memref sig .tc .vmem S8x4096x128 .f32)
  (arg12 : Memref sig .tc .vmem S4096x256 .f32) (arg13 : Memref sig .tc .vmem S128x256 .f32)
  (arg14 : Memref sig .tc .vmem S2x2x128x128 .f32)
  (X2 : BufTy.Contents (Elt Ideal) arg2.view.ty) (X3 : BufTy.Contents (Elt Ideal) arg3.view.ty)
  (X4 : BufTy.Contents (Elt Ideal) arg4.view.ty) (X5 : BufTy.Contents (Elt Ideal) arg5.view.ty)
  (X6 : BufTy.Contents (Elt Ideal) arg6.view.ty) (X7 : BufTy.Contents (Elt Ideal) arg7.view.ty)
  (f9 : Fin 8 → BufTy.Contents (Elt Ideal) arg9.view.ty) (f11 : BufTy.Contents (Elt Ideal) arg11.view.ty)
  (f12 : BufTy.Contents (Elt Ideal) arg12.view.ty)

/-! ## Where the pieces lie -/

/-- The first row of the query tile, as the body computes it. -/
abbrev rowI : ℕ := (Scalar.indexCast (Scalar.muli (BitVec.ofNat 32 (i 1).val) 256#32)).toNat

theorem rowI_eq : rowI i = 256 * (i 1).val := by
  have : ∀ n : Fin 16, (Scalar.indexCast (Scalar.muli (BitVec.ofNat 32 n.val) 256#32)).toNat = 256 * n.val := by decide
  exact this (i 1)

theorem n_le : (i 1).val < 16 := (i 1).isLt

abbrev rQ (h : Fin 8) : Rect S1x8x192x256 := Rect.unit (s := S1x8x192x256) (offQ h) S1x1x192x256.size (offQ_inb h)

theorem inbS (h : Fin 8) : ∀ a, (![0, h.val, 0] : Fin 3 → ℕ) a + S1x1x256.size a ≤ S1x8x256.size a := by
  intro a; fin_cases a
  · show 0 + 1 ≤ 1; omega
  · show h.val + 1 ≤ 8; omega
  · show 0 + 256 ≤ 256; omega
abbrev rS (h : Fin 8) : Rect S1x8x256 := Rect.unit (s := S1x8x256) ![0, h.val, 0] S1x1x256.size (inbS h)

theorem inbW (h : Fin 8) : ∀ a, (![h.val, rowI i, 0] : Fin 3 → ℕ) a + S1x256x128.size a ≤ S8x4096x128.size a := by
  have e := rowI_eq i
  have n := n_le i
  intro a; fin_cases a
  · show h.val + 1 ≤ 8; omega
  · show rowI i + 256 ≤ 4096; omega
  · show 0 + 128 ≤ 128; omega
abbrev rW (h : Fin 8) : Rect S8x4096x128 := Rect.unit (s := S8x4096x128) ![h.val, rowI i, 0] S1x256x128.size (inbW i h)

theorem inbK (h : Fin 8) : ∀ a, (![0, h.val, rowI i, 0] : Fin 4 → ℕ) a + S1x1x256x192.size a ≤ S1x8x4096x192.size a := by
  have e := rowI_eq i
  have n := n_le i
  intro a; fin_cases a
  · show 0 + 1 ≤ 1; omega
  · show h.val + 1 ≤ 8; omega
  · show rowI i + 256 ≤ 4096; omega
  · show 0 + 192 ≤ 192; omega
abbrev rK (h : Fin 8) : Rect S1x8x4096x192 := Rect.unit (s := S1x8x4096x192) ![0, h.val, rowI i, 0] S1x1x256x192.size (inbK i h)

theorem inbX : ∀ a, (![rowI i, 0] : Fin 2 → ℕ) a + S256x256.size a ≤ S4096x256.size a := by
  have e := rowI_eq i
  have n := n_le i
  intro a; fin_cases a
  · show rowI i + 256 ≤ 4096; omega
  · show 0 + 256 ≤ 256; omega
abbrev rX : Rect S4096x256 := Rect.unit (s := S4096x256) ![rowI i, 0] S256x256.size (inbX i)

theorem inbN (p : Fin 4) : ∀ a, (![0, 0, 2 * p.val, 0] : Fin 4 → ℕ) a + S1x256x2x128.size a ≤ S1x256x8x128.size a := by
  intro a; fin_cases a
  · show 0 + 1 ≤ 1; omega
  · show 0 + 256 ≤ 256; omega
  · show 2 * p.val + 2 ≤ 8; omega
  · show 0 + 128 ≤ 128; omega
theorem inbR (h : Fin 8) : ∀ a, (![0, h.val, 0, 0] : Fin 4 → ℕ) a + S1x1x64x256.size a ≤ S1x8x64x256.size a := by
  intro a; fin_cases a
  · show 0 + 1 ≤ 1; omega
  · show h.val + 1 ≤ 8; omega
  · show 0 + 64 ≤ 64; omega
  · show 0 + 256 ≤ 256; omega
theorem inbV (h : Fin 8) : ∀ a, (![0, h.val, 0, 0] : Fin 4 → ℕ) a + S1x1x8x128.size a ≤ S1x8x8x128.size a := by
  intro a; fin_cases a
  · show 0 + 1 ≤ 1; omega
  · show h.val + 1 ≤ 8; omega
  · show 0 + 8 ≤ 8; omega
  · show 0 + 128 ≤ 128; omega
theorem inbB (s c : Fin 2) : ∀ a, (![s.val, c.val, 0, 0] : Fin 4 → ℕ) a + S1x1x128x128.size a ≤ S2x2x128x128.size a := by
  intro a; fin_cases a
  · show s.val + 1 ≤ 2; omega
  · show c.val + 1 ≤ 2; omega
  · show 0 + 128 ≤ 128; omega
  · show 0 + 128 ≤ 128; omega
abbrev rB (s c : Fin 2) : Rect S2x2x128x128 := Rect.unit (s := S2x2x128x128) ![s.val, c.val, 0, 0] S1x1x128x128.size (inbB s c)
theorem inbO (p : Fin 4) (c : Fin 2) : ∀ a, (![0, 128 * c.val, 2 * p.val, 0] : Fin 4 → ℕ) a + S1x128x2x128.size a ≤ S1x256x8x128.size a := by
  intro a; fin_cases a
  · show 0 + 1 ≤ 1; omega
  · show 128 * c.val + 128 ≤ 256; omega
  · show 2 * p.val + 2 ≤ 8; omega
  · show 0 + 128 ≤ 128; omega
abbrev rOut (p : Fin 4) (c : Fin 2) : Rect S1x256x8x128 := Rect.unit (s := S1x256x8x128) ![0, 128 * c.val, 2 * p.val, 0] S1x128x2x128.size (inbO p c)

/-! ## The blocks of one head -/

def rawB (h : Fin 8) : Vec Ideal S1x256x2x128 .bf16 :=
  View.readAt (Elt Ideal) arg2.view (Rect.unit (s := S1x256x8x128) ![0, 0, 2 * (h.val / 2), 0] S1x256x2x128.size (inbN ⟨h.val / 2, by omega⟩)).toLoadRect X2
def hiB (h : Fin 8) : FVec Ideal S128x256 .f32 := nopeC ⟨h.val % 2, by omega⟩ (rawB arg2 X2 h)
def loB (h : Fin 8) : FVec Ideal S64x256 .f32 :=
  k0_pay117 (View.readAt (Elt Ideal) arg3.view (Rect.unit (s := S1x8x64x256) ![0, h.val, 0, 0] S1x1x64x256.size (inbR h)).toLoadRect X3)
def yB (h : Fin 8) : FVec Ideal S1x256 .f32 := yC (hiB arg2 X2 h) (loB arg3 X3 h)
def codesB (h : Fin 8) : FVec Ideal S1x1x192x256 .fp8e4m3 := codesC (hiB arg2 X2 h) (loB arg3 X3 h) (vC (yB arg2 arg3 X2 X3 h))
def scaleB (h : Fin 8) : FVec Ideal S1x1x256 .f32 := shapeCast S1x1x256 (sC (yB arg2 arg3 X2 X3 h)) shapeCasts_S1x256_S1x1x256
def qmB (h : Fin 8) : FVec Ideal S1x256 .f32 := k0_pay129 (sC (yB arg2 arg3 X2 X3 h))
def ksB (h : Fin 8) : FVec Ideal S1x256x128 .f32 :=
  k0_pay128 (k0_pay127 (View.readAt (Elt Ideal) arg6.view (rS h).toLoadRect X6))

/-- The codes written by the first `n` heads. -/
def L9 : (n : ℕ) → n ≤ 8 → List (View.Piece (Elt Ideal) S1x8x192x256 .fp8e4m3)
  | 0, _ => []
  | n + 1, hn => ⟨rQ ⟨n, hn⟩, codesB arg2 arg3 X2 X3 ⟨n, hn⟩⟩ :: L9 n (Nat.le_of_succ_le hn)
/-- The scales written by the first `n` heads. -/
def L10 : (n : ℕ) → n ≤ 8 → List (View.Piece (Elt Ideal) S1x8x256 .f32)
  | 0, _ => []
  | n + 1, hn => ⟨rS ⟨n, hn⟩, scaleB arg2 arg3 X2 X3 ⟨n, hn⟩⟩ :: L10 n (Nat.le_of_succ_le hn)
/-- The key scales repeated by the first `n` heads. -/
def L11 : (n : ℕ) → n ≤ 8 → List (View.Piece (Elt Ideal) S8x4096x128 .f32)
  | 0, _ => []
  | n + 1, hn => ⟨rW i ⟨n, hn⟩, ksB arg6 X6 ⟨n, hn⟩⟩ :: L11 n (Nat.le_of_succ_le hn)

/-! ## The softmax of one head -/

def A9 (h : Fin 8) : BufTy.Contents (Elt Ideal) arg9.view.ty := arg9.view.writes (Elt Ideal) (f9 h) (L9 arg2 arg3 X2 X3 (h.val + 1) h.isLt)
def A11 (h : Fin 8) : BufTy.Contents (Elt Ideal) arg11.view.ty := arg11.view.writes (Elt Ideal) f11 (L11 i arg6 X6 (h.val + 1) h.isLt)
def kD (h : Fin 8) : Vec Ideal S1x1x256x192 .fp8e4m3 := View.readAt (Elt Ideal) arg4.view (rK i h).toLoadRect X4
def qD (h : Fin 8) : Vec Ideal S1x1x192x256 .fp8e4m3 := arg9.view.readCov (L9 arg2 arg3 X2 X3 (h.val + 1) h.isLt) (rQ h).toLoadRect
def wD (h : Fin 8) : Vec Ideal S1x256x128 .f32 := arg11.view.readCov (L11 i arg6 X6 (h.val + 1) h.isLt) (rW i h).toLoadRect
/-- The maxima of the diagonal tile. -/
def m0B (h : Fin 8) : FVec Ideal S8x256 .f32 :=
  k0_pay133 (k0_pay130 k0_pay114 (kD i arg4 X4 h) (qD arg2 arg3 arg9 X2 X3 h) (wD i arg6 arg11 X6 h))
    (k0_pay132 k0_pay114 (kD i arg4 X4 h) (qD arg2 arg3 arg9 X2 X3 h) (wD i arg6 arg11 X6 h))
/-- The scores with the diagonal tile of head `h` written over `f`. -/
def dgB (h : Fin 8) (f : BufTy.Contents (Elt Ideal) arg12.view.ty) : BufTy.Contents (Elt Ideal) arg12.view.ty :=
  arg12.view.writes (Elt Ideal) f [⟨rX i, k0_pay131 k0_pay114 (kD i arg4 X4 h) (qD arg2 arg3 arg9 X2 X3 h) (wD i arg6 arg11 X6 h)⟩]
/-- The trips of the two passes. -/
abbrev n1 : ℕ := Scf.trips (k0_t1_loop i).lb (k0_t1_loop i).ub (k0_t1_loop i).st
abbrev n2 : ℕ := Scf.trips (k0_t3_loop i).lb (k0_t3_loop i).ub (k0_t3_loop i).st
/-- The scores of head `h` over what the heads before left. -/
def x1B (h : Fin 8) (f : BufTy.Contents (Elt Ideal) arg12.view.ty) : BufTy.Contents (Elt Ideal) arg12.view.ty :=
  after (p1fStep i h arg4 arg9 arg11 arg12 X4 (A9 arg2 arg3 arg9 X2 X3 f9 h) (A11 i arg6 arg11 X6 f11 h))
    (dgB i arg2 arg3 arg4 arg6 arg9 arg11 arg12 X2 X3 X4 X6 h f) (n1 i)
/-- The scores left by the first `n` heads. -/
def xs : (n : ℕ) → n ≤ 8 → BufTy.Contents (Elt Ideal) arg12.view.ty
  | 0, _ => f12
  | n + 1, hn => x1B i arg2 arg3 arg4 arg6 arg9 arg11 arg12 X2 X3 X4 X6 f9 f11 ⟨n, hn⟩ (xs n (Nat.le_of_succ_le hn))
def xB (h : Fin 8) : BufTy.Contents (Elt Ideal) arg12.view.ty :=
  xs i arg2 arg3 arg4 arg6 arg9 arg11 arg12 X2 X3 X4 X6 f9 f11 f12 (h.val + 1) h.isLt
/-- The maxima of head `h`. -/
def mxB (h : Fin 8) : FVec Ideal S1x256 .f32 :=
  k0_pay136 (after (p1mStep i h arg4 arg9 arg11 X4 (A9 arg2 arg3 arg9 X2 X3 f9 h) (A11 i arg6 arg11 X6 f11 h))
    (m0B i arg2 arg3 arg4 arg6 arg9 arg11 X2 X3 X4 X6 h) (n1 i))
/-- The sums of head `h`. -/
def lB (h : Fin 8) : FVec Ideal S8x256 .f32 :=
  after (p2lStep i arg12 (xB i arg2 arg3 arg4 arg6 arg9 arg11 arg12 X2 X3 X4 X6 f9 f11 f12 h) (qmB arg2 arg3 X2 X3 h)
    (mxB i arg2 arg3 arg4 arg6 arg9 arg11 X2 X3 X4 X6 f9 f11 h)) k0_pay138 (n2 i)
/-- The products of head `h` with the values. -/
def oB (h : Fin 8) : BufTy.Contents (Elt Ideal) arg13.view.ty :=
  after (p2fStep i h arg5 arg12 arg13 X5 (xB i arg2 arg3 arg4 arg6 arg9 arg11 arg12 X2 X3 X4 X6 f9 f11 f12 h) (qmB arg2 arg3 X2 X3 h)
    (mxB i arg2 arg3 arg4 arg6 arg9 arg11 X2 X3 X4 X6 f9 f11 h)) (arg13.view.writes (Elt Ideal) arg13.view.junk
      [⟨Rect.unit (s := S128x256) ![0, 0] S128x256.size inb_S128x256_S128x256_0_0, (k0_pay137 : FVec Ideal S128x256 .f32)⟩]) (n2 i)
def vsB (h : Fin 8) : Vec Ideal S1x1x8x128 .f32 :=
  View.readAt (Elt Ideal) arg7.view (Rect.unit (s := S1x8x8x128) ![0, h.val, 0, 0] S1x1x8x128.size (inbV h)).toLoadRect X7
/-- The quotients of head `h`, token columns below 128 and from 128. -/
def b0B (h : Fin 8) : FVec Ideal S1x1x128x128 .f32 :=
  k0_pay143 (lB i arg2 arg3 arg4 arg6 arg9 arg11 arg12 X2 X3 X4 X6 f9 f11 f12 h) (vsB arg7 X7 h)
    (View.readAt (Elt Ideal) arg13.view (Rect.unit (s := S128x256) ![0, 0] S128x128.size inb_S128x256_S128x128_0_0).toLoadRect
      (oB i arg2 arg3 arg4 arg5 arg6 arg9 arg11 arg12 arg13 X2 X3 X4 X5 X6 f9 f11 f12 h))
def b1B (h : Fin 8) : FVec Ideal S1x1x128x128 .f32 :=
  k0_pay145 (k0_pay144 (lB i arg2 arg3 arg4 arg6 arg9 arg11 arg12 X2 X3 X4 X6 f9 f11 f12 h) (vsB arg7 X7 h)
    (View.readAt (Elt Ideal) arg13.view (Rect.unit (s := S128x256) ![0, 128] S128x128.size inb_S128x256_S128x128_0_128).toLoadRect
      (oB i arg2 arg3 arg4 arg5 arg6 arg9 arg11 arg12 arg13 X2 X3 X4 X5 X6 f9 f11 f12 h)))
/-- The quotients stored by the first `n` heads. -/
def L14 : (n : ℕ) → n ≤ 8 → List (View.Piece (Elt Ideal) S2x2x128x128 .f32)
  | 0, _ => []
  | n + 1, hn =>
    ⟨rB ⟨n % 2, Nat.mod_lt _ (by decide)⟩ 1, b1B i arg2 arg3 arg4 arg5 arg6 arg7 arg9 arg11 arg12 arg13 X2 X3 X4 X5 X6 X7 f9 f11 f12 ⟨n, hn⟩⟩
      :: ⟨rB ⟨n % 2, Nat.mod_lt _ (by decide)⟩ 0, b0B i arg2 arg3 arg4 arg5 arg6 arg7 arg9 arg11 arg12 arg13 X2 X3 X4 X5 X6 X7 f9 f11 f12 ⟨n, hn⟩⟩
      :: L14 n (Nat.le_of_succ_le hn)

theorem inbT (b : Fin 4) : ∀ a, S32x128.size a = 0 ∨ (![b.val, 0] : Fin 2 → ℕ) a + (![4, 1] : Fin 2 → ℕ) a * (S32x128.size a - 1) < S128x128.size a := by
  intro a; right; fin_cases a
  · show b.val + 4 * (32 - 1) < 128; omega
  · show 0 + 1 * (128 - 1) < 128; omega

/-- Every fourth row of a half, from row `b`. -/
def ldB (f : BufTy.Contents (Elt Ideal) arg14.view.ty) (s c : Fin 2) (b : Fin 4) : Vec Ideal S32x128 .f32 :=
  View.readAt (Elt Ideal) ((arg14.slice (rB s c) (fun _ => rfl)).squeeze S128x128 squeezes_S1x1x128x128_S128x128).view
    (⟨![b.val, 0], S32x128.size, ![4, 1], inbT b⟩ : LoadRect S128x128) f
/-- One half of one head, tokens by channels. -/
def halfB (f : BufTy.Contents (Elt Ideal) arg14.view.ty) (s c : Fin 2) : FVec Ideal S1x128x1x128 .f32 :=
  k0_pay175 (ldB arg14 f s c 0) (ldB arg14 f s c 1) (ldB arg14 f s c 2) (ldB arg14 f s c 3)
/-- One half of a pair of heads, as stored. -/
def pairB (f : BufTy.Contents (Elt Ideal) arg14.view.ty) (c : Fin 2) : Vec Ideal S1x128x2x128 .bf16 :=
  k0_pay1 (halfB arg14 f 0 c) (halfB arg14 f 1 c)
/-- The quotients after pair `p`. -/
def A14 (p : Fin 4) : BufTy.Contents (Elt Ideal) arg14.view.ty :=
  arg14.view.writes (Elt Ideal) arg14.view.junk
    (L14 i arg2 arg3 arg4 arg5 arg6 arg7 arg9 arg11 arg12 arg13 X2 X3 X4 X5 X6 X7 f9 f11 f12 (2 * p.val + 2) (by omega))
/-- The result, by the first `n` pairs of heads. -/
def L8 : (n : ℕ) → n ≤ 4 → List (View.Piece (Elt Ideal) S1x256x8x128 .bf16)
  | 0, _ => []
  | n + 1, hn =>
    ⟨rOut ⟨n, hn⟩ 1, pairB arg14 (A14 i arg2 arg3 arg4 arg5 arg6 arg7 arg9 arg11 arg12 arg13 arg14 X2 X3 X4 X5 X6 X7 f9 f11 f12 ⟨n, hn⟩) 1⟩
      :: ⟨rOut ⟨n, hn⟩ 0, pairB arg14 (A14 i arg2 arg3 arg4 arg5 arg6 arg7 arg9 arg11 arg12 arg13 arg14 X2 X3 X4 X5 X6 X7 f9 f11 f12 ⟨n, hn⟩) 0⟩
      :: L8 n (Nat.le_of_succ_le hn)

end Body

end Cert.AttnIdeal.Spec
end
-- ==== Proof.BodyIdeal.lean ====
module

public import proofs.«01_k».proof.Proof.Gen.AttnIdeal.Skeleton
public import proofs.«01_k».proof.Proof.BodySpec
public import Idealize.ShloMosaic.Lib.Tactic

@[expose] public section

noncomputable section

/-! The body of the attention call, run once on symbolic contents: this names what every store leaves. -/

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- What the body touches: its six blocks, its outputs and its scratch, at given contents. -/
abbrev Held (c : Dev nD) (arg2 : Memref sig .tc .vmem S1x256x8x128 .bf16) (harg2 : arg2.IsWhole) (arg3 : Memref sig .tc .vmem S1x8x64x256 .bf16) (harg3 : arg3.IsWhole) (arg4 : Memref sig .tc .vmem S1x8x4096x192 .fp8e4m3) (harg4 : arg4.IsWhole) (arg5 : Memref sig .tc .vmem S1x8x128x4096 .fp8e4m3) (harg5 : arg5.IsWhole) (arg6 : Memref sig .tc .vmem S1x8x256 .f32) (harg6 : arg6.IsWhole) (arg7 : Memref sig .tc .vmem S1x8x8x128 .f32) (harg7 : arg7.IsWhole) (arg8 : Memref sig .tc .vmem S1x256x8x128 .bf16) (harg8 : arg8.IsWhole) (arg9 : Memref sig .tc .vmem S1x8x192x256 .fp8e4m3) (harg9 : arg9.IsWhole) (arg10 : Memref sig .tc .vmem S1x8x256 .f32) (harg10 : arg10.IsWhole) (arg11 : Memref sig .tc .vmem S8x4096x128 .f32) (harg11 : arg11.IsWhole) (arg12 : Memref sig .tc .vmem S4096x256 .f32) (harg12 : arg12.IsWhole) (arg13 : Memref sig .tc .vmem S128x256 .f32) (harg13 : arg13.IsWhole) (arg14 : Memref sig .tc .vmem S2x2x128x128 .f32) (harg14 : arg14.IsWhole) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (f_arg8 : BufTy.Contents (Elt Ideal) arg8.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty) (f_arg13 : BufTy.Contents (Elt Ideal) arg13.view.ty) (f_arg14 : BufTy.Contents (Elt Ideal) arg14.view.ty) : sProp 𝕄 :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} f_arg8) ∗ (arg9.view.loc (c : Thread nD τ) ↦[arg9.view.set]{fullShare} f_arg9) ∗ (arg10.view.loc (c : Thread nD τ) ↦[arg10.view.set]{fullShare} f_arg10) ∗ (arg11.view.loc (c : Thread nD τ) ↦[arg11.view.set]{fullShare} f_arg11) ∗ (arg12.view.loc (c : Thread nD τ) ↦[arg12.view.set]{fullShare} f_arg12) ∗ (arg13.view.loc (c : Thread nD τ) ↦[arg13.view.set]{fullShare} f_arg13) ∗ (arg14.view.loc (c : Thread nD τ) ↦[arg14.view.set]{fullShare} f_arg14))

/-- What the query codes' block holds below the pieces when head `h` reads them: all of it is covered from the last head on. -/
abbrev base9 (arg9 : Memref sig .tc .vmem S1x8x192x256 .fp8e4m3) (f9 : BufTy.Contents (Elt Ideal) arg9.view.ty) :
    Fin 8 → BufTy.Contents (Elt Ideal) arg9.view.ty := fun h => if h.val = 7 then arg9.view.junk else f9

attribute [local irreducible] Scf.trips Val.p1fStep Val.p1mStep Val.p2fStep Val.p2lStep View.writes View.readAt View.readCov

set_option maxRecDepth 16384 in
set_option maxHeartbeats 4000000 in
theorem exec (c : Dev nD) (i : grid0.Coords) (arg2 : Memref sig .tc .vmem S1x256x8x128 .bf16) (harg2 : arg2.IsWhole) (arg3 : Memref sig .tc .vmem S1x8x64x256 .bf16) (harg3 : arg3.IsWhole) (arg4 : Memref sig .tc .vmem S1x8x4096x192 .fp8e4m3) (harg4 : arg4.IsWhole) (arg5 : Memref sig .tc .vmem S1x8x128x4096 .fp8e4m3) (harg5 : arg5.IsWhole) (arg6 : Memref sig .tc .vmem S1x8x256 .f32) (harg6 : arg6.IsWhole) (arg7 : Memref sig .tc .vmem S1x8x8x128 .f32) (harg7 : arg7.IsWhole) (arg8 : Memref sig .tc .vmem S1x256x8x128 .bf16) (harg8 : arg8.IsWhole) (arg9 : Memref sig .tc .vmem S1x8x192x256 .fp8e4m3) (harg9 : arg9.IsWhole) (arg10 : Memref sig .tc .vmem S1x8x256 .f32) (harg10 : arg10.IsWhole) (arg11 : Memref sig .tc .vmem S8x4096x128 .f32) (harg11 : arg11.IsWhole) (arg12 : Memref sig .tc .vmem S4096x256 .f32) (harg12 : arg12.IsWhole) (arg13 : Memref sig .tc .vmem S128x256 .f32) (harg13 : arg13.IsWhole) (arg14 : Memref sig .tc .vmem S2x2x128x128 .f32) (harg14 : arg14.IsWhole) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (f_arg8 : BufTy.Contents (Elt Ideal) arg8.view.ty) (f_arg9 : BufTy.Contents (Elt Ideal) arg9.view.ty) (f_arg10 : BufTy.Contents (Elt Ideal) arg10.view.ty) (f_arg11 : BufTy.Contents (Elt Ideal) arg11.view.ty) (f_arg12 : BufTy.Contents (Elt Ideal) arg12.view.ty) (f_arg13 : BufTy.Contents (Elt Ideal) arg13.view.ty) (f_arg14 : BufTy.Contents (Elt Ideal) arg14.view.ty) (K : PUnit → sProp 𝕄) :
    iprop(Held c arg2 harg2 arg3 harg3 arg4 harg4 arg5 harg5 arg6 harg6 arg7 harg7 arg8 harg8 arg9 harg9 arg10 harg10 arg11 harg11 arg12 harg12 arg13 harg13 arg14 harg14 X_arg2 X_arg3 X_arg4 X_arg5 X_arg6 X_arg7 f_arg8 f_arg9 f_arg10 f_arg11 f_arg12 f_arg13 f_arg14 ∗ ((∃ g_arg12 g_arg13 g_arg14, Held c arg2 harg2 arg3 harg3 arg4 harg4 arg5 harg5 arg6 harg6 arg7 harg7 arg8 harg8 arg9 harg9 arg10 harg10 arg11 harg11 arg12 harg12 arg13 harg13 arg14 harg14 X_arg2 X_arg3 X_arg4 X_arg5 X_arg6 X_arg7
        (arg8.view.writes (Elt Ideal) f_arg8 (Spec.L8 i arg2 arg3 arg4 arg5 arg6 arg7 arg9 arg11 arg12 arg13 arg14 X_arg2 X_arg3 X_arg4 X_arg5 X_arg6 X_arg7 (base9 arg9 f_arg9) f_arg11 f_arg12 4 (by decide)))
        (arg9.view.writes (Elt Ideal) arg9.view.junk (Spec.L9 arg2 arg3 X_arg2 X_arg3 8 (by decide)))
        (arg10.view.writes (Elt Ideal) arg10.view.junk (Spec.L10 arg2 arg3 X_arg2 X_arg3 8 (by decide)))
        (arg11.view.writes (Elt Ideal) f_arg11 (Spec.L11 i arg6 X_arg6 8 (by decide)))
        g_arg12 g_arg13 g_arg14) -∗ K ⟨⟩))
      ⊢ wp frame (wpE (defs₀ (F := Ideal)) Variants.none (c : Thread nD τ) none) Set.univ (cc0_attn (F := Ideal) i arg2 harg2 arg3 harg3 arg4 harg4 arg5 harg5 arg6 harg6 arg7 harg7 arg8 harg8 arg9 harg9 arg10 harg10 arg11 harg11 arg12 harg12 arg13 harg13 arg14 harg14) K := by
  rw [cc0_attn_eq_skeleton]; unfold cc0_attn_skel
  iintro ⟨⟨Harg2, Harg3, Harg4, Harg5, Harg6, Harg7, Harg8, Harg9, Harg10, Harg11, Harg12, Harg13, Harg14⟩, HK⟩
  sl_exec_parts
  sl_step
  iapply HK
  iexists _, _, _
  isplitl [Harg2]; · iexact Harg2
  isplitl [Harg3]; · iexact Harg3
  isplitl [Harg4]; · iexact Harg4
  isplitl [Harg5]; · iexact Harg5
  isplitl [Harg6]; · iexact Harg6
  isplitl [Harg7]; · iexact Harg7
  isplitl [Harg8]; · iexact Harg8
  isplitl [Harg9]; · iexact Harg9
  isplitl [Harg10]; · iexact Harg10
  isplitl [Harg11]; · iexact Harg11
  isplitl [Harg12]; · iexact Harg12
  isplitl [Harg13]; · iexact Harg13
  iexact Harg14

end Cert.AttnIdeal.Hand

end
-- ==== Proof.FrameIdeal.lean ====
module

public import proofs.«01_k».proof.Proof.BodyIdeal
public import proofs.«01_k».proof.Proof.Gen.AttnIdeal.Launch
public import proofs.«01_k».proof.Proof.Gen.AttnIdeal.Points
public import proofs.«01_k».proof.Proof.Gen.AttnIdeal.Frame
public import Idealize.ShloMosaic.Lib.Pipeline.FrameBody

@[expose] public section

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose RDat)

local notation "𝕄" => MT nD τ sig Unit (Elt Ideal) ℕ (UR sig nD τ) ℕ

variable (m : (ℓ : Loc nD τ sig) → Buf (Elt Ideal) ℓ) (ρ : Dev nD → PrngReg)

/-- The windows the frame says nothing of: the three results. -/
def forgets : Fin cfg0.W → Bool
  | ⟨6, _⟩ => true
  | ⟨7, _⟩ => true
  | ⟨8, _⟩ => true
  | _ => false

/-- The proof data: the arrays as launched, every input block left in place, the results not named. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => fun _ => Classical.arbitrary _
    | ⟨7, _⟩ => fun _ => Classical.arbitrary _
    | ⟨8, _⟩ => fun _ => Classical.arbitrary _
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem before0_0 (c : Dev nD) (t : Fin cfg0.N) (d) : (dats m 0 c).before 0 t d = iblk m c 0 t :=
  before0_0_of m (dats m 0 c) (by dsimp only [dats]) (fun t => after0_0 m c t) t d
theorem before0_1 (c : Dev nD) (t : Fin cfg0.N) (d) : (dats m 0 c).before 1 t d = iblk m c 1 t :=
  before0_1_of m (dats m 0 c) (by dsimp only [dats]) (fun t => after0_1 m c t) t d
theorem before0_2 (c : Dev nD) (t : Fin cfg0.N) (d) : (dats m 0 c).before 2 t d = iblk m c 2 t :=
  before0_2_of m (dats m 0 c) (by dsimp only [dats]) (fun t => after0_2 m c t) t d
theorem before0_3 (c : Dev nD) (t : Fin cfg0.N) (d) : (dats m 0 c).before 3 t d = iblk m c 3 t :=
  before0_3_of m (dats m 0 c) (by dsimp only [dats]) (fun t => after0_3 m c t) t d
theorem before0_4 (c : Dev nD) (t : Fin cfg0.N) (d) : (dats m 0 c).before 4 t d = iblk m c 4 t :=
  before0_4_of m (dats m 0 c) (by dsimp only [dats]) (fun t => after0_4 m c t) t d
theorem before0_5 (c : Dev nD) (t : Fin cfg0.N) (d) : (dats m 0 c).before 5 t d = iblk m c 5 t :=
  before0_5_of m (dats m 0 c) (by dsimp only [dats]) (fun t => after0_5 m c t) t d

def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ X, owns (c : Thread nD τ) (st0_6 t) fullShare X) ∗ (∃ X, owns (c : Thread nD τ) (st0_7 t) fullShare X) ∗ (∃ X, owns (c : Thread nD τ) (st0_8 t) fullShare X))
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ (∃ X, owns (c : Thread nD τ) (st0_6 t) fullShare X) ∗ (∃ X, owns (c : Thread nD τ) (st0_7 t) fullShare X) ∗ (∃ X, owns (c : Thread nD τ) (st0_8 t) fullShare X))

theorem sound_body (c : Dev nD) (t : Fin cfg0.N) :
    bodyPre m c t ⊢ wp frame (wpE (defs₀ (F := Ideal)) Variants.none (c : Thread nD τ) none) Set.univ (bodyAt0 t) (fun _ => bodyPost m c t) := by
  unfold bodyPre bodyPost bodyAt0
  simp only [before0_0, before0_1, before0_2, before0_3, before0_4, before0_5, after0_0, after0_1, after0_2, after0_3, after0_4, after0_5]
  rw [show (dats m 0 c).owesAt () t.succ = (dats m 0 c).owesAt () t.castSucc from rfl,
    show (dats m 0 c).Φ t.succ = (dats m 0 c).Φ t.castSucc from rfl,
    show (dats m 0 c).Φ t.castSucc = Pipeline.ΦA spec0 c from rfl]
  unfold Pipeline.ΦA
  rw [scopedRest0_eq]
  unfold owns
  iintro ⟨⟨⟨⟨%g0, S0⟩, ⟨%g1, S1⟩, ⟨%g2, S2⟩, ⟨%g3, S3⟩⟩, Hg⟩, HW, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, -, H6⟩, ⟨%d7, %f7, -, H7⟩, ⟨%d8, %f8, -, H8⟩⟩
  iapply (exec c (grid0.coords t) _ _ _ _ _ _ _ _ _ _ _ _ _ _ _ _ _ _ (Memref.whole cc0_scratch0) (Memref.isWhole_whole _) (Memref.whole cc0_scratch1) (Memref.isWhole_whole _) (Memref.whole cc0_scratch2) (Memref.isWhole_whole _) (Memref.whole cc0_scratch3) (Memref.isWhole_whole _) f0 f1 f2 f3 f4 f5 f6 f7 f8 g0 g1 g2 g3)
  isplitl [H0 H1 H2 H3 H4 H5 H6 H7 H8 S0 S1 S2 S3]
  · simp only [Held, Memref.view_whole, View.set_whole]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [S0]; · iexact S0
    isplitl [S1]; · iexact S1
    isplitl [S2]; · iexact S2
    iexact S3
  simp only [Held, Memref.view_whole, View.set_whole]
  iintro ⟨%h1, %h2, %h3, H0, H1, H2, H3, H4, H5, H6, H7, H8, S0, S1, S2, S3⟩
  isplitl [S0 S1 S2 S3 Hg]
  · isplitl [S0 S1 S2 S3]
    · isplitl [S0]; · iexists _; iexact S0
      isplitl [S1]; · iexists _; iexact S1
      isplitl [S2]; · iexists _; iexact S2
      iexists _; iexact S3
    iexact Hg
  isplitl [HW]; · iexact HW
  isplitl [H0]
  · iexists f0; isplitr; swap; · iexact H0
    ipureintro; exact e0
  isplitl [H1]
  · iexists f1; isplitr; swap; · iexact H1
    ipureintro; exact e1
  isplitl [H2]
  · iexists f2; isplitr; swap; · iexact H2
    ipureintro; exact e2
  isplitl [H3]
  · iexists f3; isplitr; swap; · iexact H3
    ipureintro; exact e3
  isplitl [H4]
  · iexists f4; isplitr; swap; · iexact H4
    ipureintro; exact e4
  isplitl [H5]
  · iexists f5; isplitr; swap; · iexact H5
    ipureintro; exact e5
  isplitl [H6]
  · iexists _, _; isplitr; swap; · iexact H6
    ipureintro; rfl
  isplitl [H7]
  · iexists _, _; isplitr; swap; · iexact H7
    ipureintro; rfl
  iexists _, _; isplitr; swap; · iexact H8
  ipureintro; rfl

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligationLoose (dats m 0 c) (defs₀ (F := Ideal)) Variants.none () Set.univ forgets := fun t => by
  rw [bigSep_W0, bigSep_W0, defs₀_row]
  exact triple_restated (sound_body m c t) rfl .rfl fun _ => .rfl

set_option backward.isDefEq.respectTransparency.types false in
theorem run_main : θ_run defs (onTc (τ := τ) (main (F := Ideal))) (s₀ m ρ)
    (fun r => RDat.FramePost cfg0 (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => body_obligation m c) (hshare := fun c => (dats m 0 c).share_full fun _ => rfl)
    (howed := fun _ _ => rfl) (V := V m) (hmain := hmain m Variants.none) (hA := A_eq m)
    (hΦ := fun _ _ => rfl)

/-- The program terminates, its arguments end unchanged and every semaphore counter ends at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨(h.1.arr_in c 0 rfl).trans (A_eq m c 0), (h.1.arr_in c 1 rfl).trans (A_eq m c 1), (h.1.arr_in c 2 rfl).trans (A_eq m c 2), (h.1.arr_in c 3 rfl).trans (A_eq m c 3), (h.1.arr_in c 4 rfl).trans (A_eq m c 4), (h.1.arr_in c 5 rfl).trans (A_eq m c 5)⟩, h.2⟩) (run_main m ρ)

end Cert.AttnIdeal.Hand

end
-- ==== Proof.TileValue.lean ====
module

public import proofs.«01_k».proof.Proof.LoopsValue
public import Idealize.ShloMosaic.Lib.IdealHost
public import Idealize.ShloMosaic.Lib.Pointwise
public import Idealize.ShloMosaic.Lib.WordCmp
public import Mathlib.Data.Fin.Tuple.Reflection

@[expose] public section

set_option maxRecDepth 16384

noncomputable section

/-! What one tile of the two passes computes, element by element, over the extended reals. -/

namespace Cert.AttnIdeal.Tile

open Cert.AttnIdeal Cert.AttnIdeal.Gen
open Idealize.ShloMosaic

/-- A product tile times the keys' scales. -/
theorem pay2_apply (K : Vec Ideal S1x1x256x192 .fp8e4m3) (Q : Vec Ideal S1x1x192x256 .fp8e4m3) (W : Vec Ideal S1x256x128 .f32)
    (w : EReal) (a c : Fin 256) (hw : ∀ l : Fin 128, W (ix3 0 a l) = w) :
    k0_pay2 K Q W (ix2 a c) = (∑ d : Fin 192, K (ix4 0 0 a d) * Q (ix4 0 0 d c)) * w := by
  pointwise [k0_pay2]
  split <;> rw [hw]

theorem pay8_apply (qm mx : FVec Ideal S1x256 .f32) (X : Vec Ideal S256x256 .f32) (a c : Fin 256) :
    k0_pay8 qm mx X (ix2 a c) = Ideal.exp2 ((X (ix2 a c) - mx (ix2 0 c)) * qm (ix2 0 c)) := by
  pointwise [k0_pay8]
  rfl

theorem pay9_apply (qm mx : FVec Ideal S1x256 .f32) (X : Vec Ideal S256x256 .f32) (A : Vec Ideal S128x256 .f32)
    (V : Vec Ideal S1x1x128x256 .fp8e4m3) (d : Fin 128) (c : Fin 256) :
    k0_pay9 qm mx X A V (ix2 d c) = A (ix2 d c) + ∑ a : Fin 256, V (ix4 0 0 d a)
      * min (Ideal.ofBits .f32 0x43E00000#32) (max (Ideal.ofBits .f32 0xC3E00000#32) (k0_pay8 qm mx X (ix2 a c))) := by
  pointwise [k0_pay9]

theorem ofBits_ninf : Ideal.ofBits .f32 0xFF800000#32 = ⊥ := by
  simp [Ideal.ofBits, Ideal.ieee]

theorem pay136_le (M : FVec Ideal S8x256 .f32) (c : Fin 256) (z : EReal) :
    k0_pay136 M (ix2 0 c) ≤ z ↔ ∀ s : Fin 8, M (ix2 s c) ≤ z := by
  pointwise [k0_pay136]
  rw [Finset.fold_max_le]
  simp only [Finset.mem_univ, forall_true_left, and_iff_right_iff_imp]
  intro _
  rw [ofBits_ninf]; exact bot_le

theorem pay141_apply (L : FVec Ideal S8x256 .f32) (c : Fin 256) :
    k0_pay141 L (ix2 0 c) = ∑ s : Fin 8, L (ix2 s c) := by
  pointwise [k0_pay141]

theorem pay142_apply (v : Vec Ideal S1x1x8x128 .f32) (d t : Fin 128) :
    k0_pay142 v (ix2 d t) = v (ix4 0 0 ⟨d % 8, by omega⟩ t) := by
  unfold k0_pay142
  refine (concatenate_replicate_apply (s₁ := S8x128) (t := S128x128) 0 16 _ _ rfl (ix2 d t) (ix2 ⟨d % 8, by omega⟩ t) ?_ ?_).trans ?_
  · rfl
  · intro b hb
    match b, hb with
    | ⟨0, _⟩, hb => exact absurd rfl hb
    | ⟨1, _⟩, _ => rfl
  · pointwise

theorem pay143_apply (L : FVec Ideal S8x256 .f32) (v : Vec Ideal S1x1x8x128 .f32) (A : Vec Ideal S128x128 .f32) (d t : Fin 128) :
    k0_pay143 L v A (ix4 0 0 d t) = Ideal.div (A (ix2 d t) * v (ix4 0 0 ⟨d % 8, by omega⟩ t)) (k0_pay141 L (ix2 0 ⟨t, by omega⟩)) := by
  rw [← pay142_apply v d t]
  unfold k0_pay143
  generalize k0_pay142 v = v'
  generalize k0_pay141 L = L'
  pointwise

theorem pay144_apply (L : FVec Ideal S8x256 .f32) (v : Vec Ideal S1x1x8x128 .f32) (A : Vec Ideal S128x128 .f32) (d t : Fin 128) :
    k0_pay145 (k0_pay144 L v A) (ix4 0 0 d t) = Ideal.div (A (ix2 d t) * v (ix4 0 0 ⟨d % 8, by omega⟩ t)) (k0_pay141 L (ix2 0 ⟨128 + t, by omega⟩)) := by
  rw [← pay142_apply v d t]
  unfold k0_pay145 k0_pay144
  generalize k0_pay142 v = v'
  generalize k0_pay141 L = L'
  pointwise

/-- Thirty-two bounds in a row are one bound for all. -/
theorem bounds32 (T : FVec Ideal S256x256 .f32) (s : Fin 8) (c : Fin 256) (z : EReal) :
    (∀ j : Fin 32, T (ix2 ⟨8 * j + s, by omega⟩ c) ≤ z) ↔
    ((((((((((((((((((((((((((((((((T (ix2 ⟨s, by omega⟩ c) ≤ z ∧ T (ix2 ⟨8 + s, by omega⟩ c) ≤ z) ∧ T (ix2 ⟨16 + s, by omega⟩ c) ≤ z) ∧ T (ix2 ⟨24 + s, by omega⟩ c) ≤ z) ∧ T (ix2 ⟨32 + s, by omega⟩ c) ≤ z) ∧ T (ix2 ⟨40 + s, by omega⟩ c) ≤ z) ∧ T (ix2 ⟨48 + s, by omega⟩ c) ≤ z) ∧ T (ix2 ⟨56 + s, by omega⟩ c) ≤ z) ∧ T (ix2 ⟨64 + s, by omega⟩ c) ≤ z) ∧ T (ix2 ⟨72 + s, by omega⟩ c) ≤ z) ∧ T (ix2 ⟨80 + s, by omega⟩ c) ≤ z) ∧ T (ix2 ⟨88 + s, by omega⟩ c) ≤ z) ∧ T (ix2 ⟨96 + s, by omega⟩ c) ≤ z) ∧ T (ix2 ⟨104 + s, by omega⟩ c) ≤ z) ∧ T (ix2 ⟨112 + s, by omega⟩ c) ≤ z) ∧ T (ix2 ⟨120 + s, by omega⟩ c) ≤ z) ∧ T (ix2 ⟨128 + s, by omega⟩ c) ≤ z) ∧ T (ix2 ⟨136 + s, by omega⟩ c) ≤ z) ∧ T (ix2 ⟨144 + s, by omega⟩ c) ≤ z) ∧ T (ix2 ⟨152 + s, by omega⟩ c) ≤ z) ∧ T (ix2 ⟨160 + s, by omega⟩ c) ≤ z) ∧ T (ix2 ⟨168 + s, by omega⟩ c) ≤ z) ∧ T (ix2 ⟨176 + s, by omega⟩ c) ≤ z) ∧ T (ix2 ⟨184 + s, by omega⟩ c) ≤ z) ∧ T (ix2 ⟨192 + s, by omega⟩ c) ≤ z) ∧ T (ix2 ⟨200 + s, by omega⟩ c) ≤ z) ∧ T (ix2 ⟨208 + s, by omega⟩ c) ≤ z) ∧ T (ix2 ⟨216 + s, by omega⟩ c) ≤ z) ∧ T (ix2 ⟨224 + s, by omega⟩ c) ≤ z) ∧ T (ix2 ⟨232 + s, by omega⟩ c) ≤ z) ∧ T (ix2 ⟨240 + s, by omega⟩ c) ≤ z) ∧ T (ix2 ⟨248 + s, by omega⟩ c) ≤ z)) := by
  constructor
  · intro h
    have k : ∀ (n : ℕ) (hn : n < 32) (m : ℕ) (hm : m < 256), m = 8 * n + s.val → T (ix2 ⟨m, hm⟩ c) ≤ z := by
      intro n hn m hm e; subst e; exact h ⟨n, hn⟩
    exact ⟨⟨⟨⟨⟨⟨⟨⟨⟨⟨⟨⟨⟨⟨⟨⟨⟨⟨⟨⟨⟨⟨⟨⟨⟨⟨⟨⟨⟨⟨⟨k 0 (by omega) _ _ (by omega), k 1 (by omega) _ _ (by omega)⟩, k 2 (by omega) _ _ (by omega)⟩, k 3 (by omega) _ _ (by omega)⟩, k 4 (by omega) _ _ (by omega)⟩, k 5 (by omega) _ _ (by omega)⟩, k 6 (by omega) _ _ (by omega)⟩, k 7 (by omega) _ _ (by omega)⟩, k 8 (by omega) _ _ (by omega)⟩, k 9 (by omega) _ _ (by omega)⟩, k 10 (by omega) _ _ (by omega)⟩, k 11 (by omega) _ _ (by omega)⟩, k 12 (by omega) _ _ (by omega)⟩, k 13 (by omega) _ _ (by omega)⟩, k 14 (by omega) _ _ (by omega)⟩, k 15 (by omega) _ _ (by omega)⟩, k 16 (by omega) _ _ (by omega)⟩, k 17 (by omega) _ _ (by omega)⟩, k 18 (by omega) _ _ (by omega)⟩, k 19 (by omega) _ _ (by omega)⟩, k 20 (by omega) _ _ (by omega)⟩, k 21 (by omega) _ _ (by omega)⟩, k 22 (by omega) _ _ (by omega)⟩, k 23 (by omega) _ _ (by omega)⟩, k 24 (by omega) _ _ (by omega)⟩, k 25 (by omega) _ _ (by omega)⟩, k 26 (by omega) _ _ (by omega)⟩, k 27 (by omega) _ _ (by omega)⟩, k 28 (by omega) _ _ (by omega)⟩, k 29 (by omega) _ _ (by omega)⟩, k 30 (by omega) _ _ (by omega)⟩, k 31 (by omega) _ _ (by omega)⟩
  · intro h j
    casesm* _ ∧ _
    fin_vals j with hj
    all_goals (simp only [hj, Nat.reduceMul, Nat.zero_add]; assumption)

theorem pay134_le (m : FVec Ideal S8x256 .f32) (K : Vec Ideal S1x1x256x192 .fp8e4m3) (Q : Vec Ideal S1x1x192x256 .fp8e4m3) (W : Vec Ideal S1x256x128 .f32)
    (s : Fin 8) (c : Fin 256) (z : EReal) :
    k0_pay134 m (k0_pay2 K Q W) (k0_pay4 K Q W) (ix2 s c) ≤ z
      ↔ m (ix2 s c) ≤ z ∧ ∀ j : Fin 32, k0_pay2 K Q W (ix2 ⟨8 * j + s, by omega⟩ c) ≤ z := by
  unfold k0_pay134 k0_pay4
  generalize k0_pay2 K Q W = T
  pointwise
  simp only [max_le_iff, bounds32]

theorem pay139_apply (l : FVec Ideal S8x256 .f32) (qm mx : FVec Ideal S1x256 .f32) (X : Vec Ideal S256x256 .f32)
    (s : Fin 8) (c : Fin 256) :
    k0_pay139 l (k0_pay8 qm mx X) (k0_pay10 qm mx X) (k0_pay11 qm mx X) (ix2 s c)
      = l (ix2 s c) + ∑ j : Fin 32, k0_pay8 qm mx X (ix2 ⟨8 * j + s, by omega⟩ c) := by
  unfold k0_pay139 k0_pay10 k0_pay11
  generalize k0_pay8 qm mx X = T
  pointwise
  simp only [Fin.sum_univ_ofNat, Fin.coe_ofNat_eq_mod, Nat.reduceMod, Nat.reduceMul, Nat.zero_add]

theorem pay133_le (v : IVec S256x256 1) (K : Vec Ideal S1x1x256x192 .fp8e4m3) (Q : Vec Ideal S1x1x192x256 .fp8e4m3) (W : Vec Ideal S1x256x128 .f32)
    (s : Fin 8) (c : Fin 256) (z : EReal) :
    k0_pay133 (k0_pay130 v K Q W) (k0_pay132 v K Q W) (ix2 s c) ≤ z
      ↔ ∀ j : Fin 32, k0_pay130 v K Q W (ix2 ⟨8 * j + s, by omega⟩ c) ≤ z := by
  unfold k0_pay133 k0_pay132
  generalize k0_pay130 v K Q W = T
  pointwise
  simp only [max_le_iff, bounds32]

/-- A choice by a signed comparison of two small numbers. -/
theorem select_le {α : Type} (a b : ℕ) (ha : a < 2 ^ 31) (hb : b < 2 ^ 31) (x y : α) :
    Scalar.select (IntOp.cmpi .sle (BitVec.ofNat 32 a) (BitVec.ofNat 32 b)) x y = if a ≤ b then x else y := by
  have h := WordCmp.cmpi_sle_ofNat_eq_one_iff (w := 32) (a := a) (b := b) ha hb
  unfold Scalar.select
  split
  · rename_i h1; rw [if_pos (h.mp h1)]
  · rename_i h1; rw [if_neg (fun hh => h1 (h.mpr hh))]

theorem pay130_apply (K : Vec Ideal S1x1x256x192 .fp8e4m3) (Q : Vec Ideal S1x1x192x256 .fp8e4m3) (W : Vec Ideal S1x256x128 .f32)
    (w : EReal) (a c : Fin 256) (hw : ∀ l : Fin 128, W (ix3 0 a l) = w) :
    k0_pay130 k0_pay114 K Q W (ix2 a c) = if a ≤ c then (∑ d : Fin 192, K (ix4 0 0 a d) * Q (ix4 0 0 d c)) * w else ⊥ := by
  rw [← pay2_apply K Q W w a c hw]
  show select k0_pay114 (k0_pay2 K Q W) (broadcast S256x256 (Scalar.ofBits .f32 0xFF800000#32)) (ix2 a c) = _
  generalize k0_pay2 K Q W = T
  pointwise [k0_pay114]
  rw [select_le _ _ (by omega) (by omega), ofBits_ninf]
  simp only [Fin.val_fin_le]

theorem pay3_apply (K : Vec Ideal S1x1x256x192 .fp8e4m3) (Q : Vec Ideal S1x1x192x256 .fp8e4m3) (W : Vec Ideal S1x256x128 .f32)
    (a c : Fin 256) : k0_pay3 K Q W (ix2 a c) = k0_pay2 K Q W (ix2 a c) := by
  unfold k0_pay3
  pointwise

theorem pay131_apply (v : IVec S256x256 1) (K : Vec Ideal S1x1x256x192 .fp8e4m3) (Q : Vec Ideal S1x1x192x256 .fp8e4m3) (W : Vec Ideal S1x256x128 .f32)
    (a c : Fin 256) : k0_pay131 v K Q W (ix2 a c) = k0_pay130 v K Q W (ix2 a c) := by
  unfold k0_pay131
  pointwise

end Cert.AttnIdeal.Tile
end
-- ==== Proof.PassValue.lean ====
module

public import proofs.«01_k».proof.Proof.TileValue
public import Idealize.ShloMosaic.Lib.WritesUnit
public import Idealize.ShloMosaic.Lib.Pipeline.ValueKit

@[expose] public section

set_option maxRecDepth 16384

noncomputable section

/-! What the two passes of one head leave, element by element: the scores, their maximum, the sum of the
exponentials and the products with the values. -/

namespace Cert.AttnIdeal.Pass

open Cert.AttnIdeal Cert.AttnIdeal.Gen Cert.AttnIdeal.Val Cert.AttnIdeal.Tile
open Idealize.ShloMosaic

variable (K : Fin 4096 → Fin 192 → EReal) (Q : Fin 192 → Fin 256 → EReal) (W : Fin 4096 → EReal) (V : Fin 128 → Fin 4096 → EReal)

/-- The score of a key against a query of the tile, before the softmax scale. -/
def score (r : Fin 4096) (c : Fin 256) : EReal := (∑ d, K r d * Q d c) * W r

/-- The masked score: query tile `n`. -/
def xval (n : ℕ) (r : Fin 4096) (c : Fin 256) : EReal := if r.val ≤ 256 * n + c.val then score K Q W r c else ⊥

/-- The exponential of a masked score under a maximum and a scale. -/
def pval (n : ℕ) (mx q : Fin 256 → EReal) (r : Fin 4096) (c : Fin 256) : EReal :=
  Ideal.exp2 ((xval K Q W n r c - mx c) * q c)

/-- The clip to the fp8 range. -/
def clip (x : EReal) : EReal := min (Ideal.ofBits .f32 0x43E00000#32) (max (Ideal.ofBits .f32 0xC3E00000#32) x)

theorem clip_zero : clip 0 = 0 := by
  have h1 : Ideal.ofBits .f32 0x43E00000#32 = ((448 : ℝ) : EReal) := by
    simp [Ideal.ofBits, Ideal.ieee, -EReal.coe_mul]; norm_num
  have h2 : Ideal.ofBits .f32 0xC3E00000#32 = ((-448 : ℝ) : EReal) := by
    simp [Ideal.ofBits, Ideal.ieee, -EReal.coe_mul, -EReal.coe_neg]; norm_num
  unfold clip
  rw [h1, h2, max_eq_right, min_eq_right]
  · exact_mod_cast (by norm_num : (0 : ℝ) ≤ 448)
  · exact_mod_cast (by norm_num : (-448 : ℝ) ≤ 0)

theorem pval_masked (n : ℕ) (mx q : Fin 256 → EReal) (hq : ∀ c, 0 < q c) (r : Fin 4096) (c : Fin 256)
    (h : ¬ r.val ≤ 256 * n + c.val) : pval K Q W n mx q r c = 0 := by
  unfold pval xval
  rw [if_neg h, sub_eq_add_neg, EReal.bot_add, EReal.bot_mul_of_pos (hq c)]
  rfl

/-- A sum over the keys, tile by tile. -/
theorem sum_tiles (G : Fin 4096 → EReal) :
    ∑ r, G r = ∑ k : Fin 16, ∑ a : Fin 256, G ⟨256 * k + a, by omega⟩ := by
  rw [← Fintype.sum_prod_type']
  refine (Fintype.sum_equiv (finProdFinEquiv (m := 16) (n := 256)) _ _ fun x => ?_).symm
  congr 1
  apply Fin.ext
  show 256 * x.1.val + x.2.val = x.2.val + 256 * x.1.val
  omega

/-- A sum over the rows of a tile, by residues of eight. -/
theorem sum_rows (G : Fin 256 → EReal) :
    ∑ a, G a = ∑ s : Fin 8, ∑ j : Fin 32, G ⟨8 * j + s, by omega⟩ := by
  rw [Finset.sum_comm, ← Fintype.sum_prod_type']
  refine (Fintype.sum_equiv (finProdFinEquiv (m := 32) (n := 8)) _ _ fun x => ?_).symm
  congr 1
  apply Fin.ext
  show 8 * x.1.val + x.2.val = x.2.val + 8 * x.1.val
  omega

/-- A sum over the keys that vanishes past tile `n` is the sum of its first `n + 1` tiles. -/
theorem sum_first (G : Fin 4096 → EReal) (n : ℕ) (hn : n < 16) (h0 : ∀ r : Fin 4096, 256 * (n + 1) ≤ r.val → G r = 0) :
    ∑ r, G r = ∑ k ∈ Finset.range (n + 1), if hk : k < 16 then ∑ a : Fin 256, G ⟨256 * k + a, by omega⟩ else 0 := by
  rw [sum_tiles]
  have : ∑ k : Fin 16, ∑ a : Fin 256, G ⟨256 * k + a, by omega⟩
      = ∑ k ∈ Finset.range 16, if hk : k < 16 then ∑ a : Fin 256, G ⟨256 * k + a, by omega⟩ else 0 := by
    rw [Finset.sum_range]
    refine Finset.sum_congr rfl fun k _ => ?_
    rw [dif_pos k.isLt]
  rw [this]
  symm
  refine Finset.sum_subset (fun x hx => ?_) fun x hx hx' => ?_
  · rw [Finset.mem_range] at *; omega
  · rw [Finset.mem_range] at *
    rw [dif_pos hx]
    exact Finset.sum_eq_zero fun a _ => h0 _ (by show 256 * (n + 1) ≤ 256 * x + a.val; omega)

section Head

variable (i : grid0.Coords) (h : Fin 8)
  (arg4 : Memref sig .tc .vmem S1x8x4096x192 .fp8e4m3) (arg5 : Memref sig .tc .vmem S1x8x128x4096 .fp8e4m3)
  (arg9 : Memref sig .tc .vmem S1x8x192x256 .fp8e4m3) (arg11 : Memref sig .tc .vmem S8x4096x128 .f32)
  (arg12 : Memref sig .tc .vmem S4096x256 .f32) (arg13 : Memref sig .tc .vmem S128x256 .f32)
  (X4 : BufTy.Contents (Elt Ideal) arg4.view.ty) (X5 : BufTy.Contents (Elt Ideal) arg5.view.ty)
  (X9 : BufTy.Contents (Elt Ideal) arg9.view.ty) (X11 : BufTy.Contents (Elt Ideal) arg11.view.ty)

theorem n_lt : (i 1).val < 16 := (i 1).isLt

theorem tileX_apply (f : BufTy.Contents (Elt Ideal) arg12.view.ty) (k : ℕ) (hk : k < 16) (a c : Fin 256) :
    tileX arg12 f k hk (ix2 a c) = View.read (Elt Ideal) arg12.view f (ix2 ⟨256 * k + a, by omega⟩ c) := by
  refine (View.readAt_apply _ _ _).trans ?_
  congr 1
  funext b
  apply Fin.ext
  match b with
  | ⟨0, _⟩ => exact (Rect.idx_unit_val _ _ _ _ _).trans (by show rowWord k + a.val = 256 * k + a.val; rw [rowWord_eq k hk])
  | ⟨1, _⟩ => exact (Rect.idx_unit_val _ _ _ _ _).trans (by show 0 + c.val = c.val; omega)

theorem p1fStep_pos (k : ℕ) (hk : k < (i 1).val) (f : BufTy.Contents (Elt Ideal) arg12.view.ty) :
    p1fStep i h arg4 arg9 arg11 arg12 X4 X9 X11 k f
      = arg12.view.writes (Elt Ideal) f [⟨Rect.unit (s := S4096x256) (offX k) S256x256.size (offX_inb k (lt16 i k hk)),
          k0_pay3 (tileK h arg4 X4 k (lt16 i k hk)) (tileQ h arg9 X9) (tileW h arg11 X11 k (lt16 i k hk))⟩] := dif_pos hk

theorem p1mStep_pos (k : ℕ) (hk : k < (i 1).val) (m : FVec Ideal S8x256 .f32) :
    p1mStep i h arg4 arg9 arg11 X4 X9 X11 k m
      = k0_pay134 m (k0_pay2 (tileK h arg4 X4 k (lt16 i k hk)) (tileQ h arg9 X9) (tileW h arg11 X11 k (lt16 i k hk)))
          (k0_pay4 (tileK h arg4 X4 k (lt16 i k hk)) (tileQ h arg9 X9) (tileW h arg11 X11 k (lt16 i k hk))) := dif_pos hk

theorem p2fStep_pos (X12 : BufTy.Contents (Elt Ideal) arg12.view.ty) (qm mx : FVec Ideal S1x256 .f32) (k : ℕ)
    (hk : k < (i 1).val + 1) (f : BufTy.Contents (Elt Ideal) arg13.view.ty) :
    p2fStep i h arg5 arg12 arg13 X5 X12 qm mx k f
      = arg13.view.writes (Elt Ideal) f [⟨rectO,
          k0_pay9 qm mx (tileX arg12 X12 k (lt16s i k hk)) (View.readAt (Elt Ideal) arg13.view rectO.toLoadRect f)
            (tileV h arg5 X5 k (lt16s i k hk))⟩] := dif_pos hk

theorem p2lStep_pos (X12 : BufTy.Contents (Elt Ideal) arg12.view.ty) (qm mx : FVec Ideal S1x256 .f32) (k : ℕ)
    (hk : k < (i 1).val + 1) (l : FVec Ideal S8x256 .f32) :
    p2lStep i arg12 X12 qm mx k l
      = k0_pay139 l (k0_pay8 qm mx (tileX arg12 X12 k (lt16s i k hk)))
          (k0_pay10 qm mx (tileX arg12 X12 k (lt16s i k hk))) (k0_pay11 qm mx (tileX arg12 X12 k (lt16s i k hk))) := dif_pos hk

/-- What is known of one head's blocks. -/
structure Blocks (K : Fin 4096 → Fin 192 → EReal) (Q : Fin 192 → Fin 256 → EReal) (W : Fin 4096 → EReal) : Prop where
  hK : ∀ (k : ℕ) (hk : k < 16) (a : Fin 256) (d : Fin 192), tileK h arg4 X4 k hk (ix4 0 0 a d) = K ⟨256 * k + a, by omega⟩ d
  hQ : ∀ (d : Fin 192) (c : Fin 256), tileQ h arg9 X9 (ix4 0 0 d c) = Q d c
  hW : ∀ (k : ℕ) (hk : k < 16) (_ : k < (i 1).val) (a : Fin 256) (l : Fin 128), tileW h arg11 X11 k hk (ix3 0 a l) = W ⟨256 * k + a, by omega⟩

variable {K Q W V i h arg4 arg5 arg9 arg11 arg12 arg13 X4 X5 X9 X11}
variable (B : Blocks i h arg4 arg9 arg11 X4 X9 X11 K Q W)
include B

theorem tile_score (k : ℕ) (hk : k < (i 1).val) (a c : Fin 256) :
    k0_pay2 (tileK h arg4 X4 k (lt16 i k hk)) (tileQ h arg9 X9) (tileW h arg11 X11 k (lt16 i k hk)) (ix2 a c)
      = score K Q W ⟨256 * k + a, by have := lt16 i k hk; omega⟩ c := by
  rw [pay2_apply _ _ _ (W ⟨256 * k + a, by have := lt16 i k hk; omega⟩) a c (fun l => B.hW k _ hk a l)]
  unfold score
  congr 1
  refine Finset.sum_congr rfl fun d _ => ?_
  rw [B.hK, B.hQ]

theorem p1f_read (f0 : BufTy.Contents (Elt Ideal) arg12.view.ty) (n : ℕ) (hn : n ≤ (i 1).val) (r : Fin 4096) (c : Fin 256) :
    View.read (Elt Ideal) arg12.view (after (p1fStep i h arg4 arg9 arg11 arg12 X4 X9 X11) f0 n) (ix2 r c)
      = if r.val < 256 * n then score K Q W r c else View.read (Elt Ideal) arg12.view f0 (ix2 r c) := by
  induction n with
  | zero => exact (if_neg (by omega)).symm
  | succ n ih =>
    have hk : n < (i 1).val := by omega
    have h16 := lt16 i n hk
    rw [after_succ, p1fStep_pos i h arg4 arg9 arg11 arg12 X4 X9 X11 n hk]
    by_cases hr : 256 * n ≤ r.val ∧ r.val < 256 * n + 256
    · rw [View.read_writes_cons_unit_of_mem arg12.view _ (off' := ![256 * n, 0]) (size := S256x256.size) _ _ _ _ (ix2 ⟨r.val - 256 * n, by omega⟩ c)
        (by rw [← rowWord_eq n h16])
        (fun a => by
          match a with
          | ⟨0, _⟩ => show r.val = 256 * n + (r.val - 256 * n); omega
          | ⟨1, _⟩ => show c.val = 0 + c.val; omega)]
      rw [pay3_apply, tile_score B n hk, if_pos (by omega)]
      congr 1
      apply Fin.ext
      show 256 * n + (r.val - 256 * n) = r.val
      omega
    · rw [View.read_writes_cons_unit_of_not_mem arg12.view _ (off' := ![256 * n, 0]) (size := S256x256.size) _ _ _ _ (by rw [← rowWord_eq n h16]) 0
        (by show r.val < 256 * n ∨ 256 * n + 256 ≤ r.val; omega), View.writes_nil]
      refine (ih (by omega)).trans ?_
      by_cases h1 : r.val < 256 * n
      · rw [if_pos h1, if_pos (by omega)]
      · rw [if_neg h1, if_neg (by omega)]

/-- After pass one every tile up to the diagonal holds its masked scores. -/
theorem p1f_tile (f0 : BufTy.Contents (Elt Ideal) arg12.view.ty)
    (hD : ∀ a c : Fin 256, tileX arg12 f0 (i 1).val (n_lt i) (ix2 a c) = xval K Q W (i 1).val ⟨256 * (i 1).val + a, by have := n_lt i; omega⟩ c)
    (k : ℕ) (hk : k < (i 1).val + 1) (a c : Fin 256) :
    tileX arg12 (after (p1fStep i h arg4 arg9 arg11 arg12 X4 X9 X11) f0 (i 1).val) k (lt16s i k hk) (ix2 a c)
      = xval K Q W (i 1).val ⟨256 * k + a, by have := lt16s i k hk; omega⟩ c := by
  have h16 := lt16s i k hk
  rw [tileX_apply, p1f_read B f0 _ (le_refl _)]
  by_cases hlt : k < (i 1).val
  · rw [if_pos (by show 256 * k + a.val < _; omega)]
    unfold xval
    rw [if_pos (by show 256 * k + a.val ≤ _; omega)]
  · have : k = (i 1).val := by omega
    subst this
    rw [if_neg (by show ¬ 256 * (i 1).val + a.val < _; omega), ← hD, tileX_apply]

theorem p1m_le (m0 : FVec Ideal S8x256 .f32)
    (hm : ∀ (s : Fin 8) (c : Fin 256) (z : EReal), m0 (ix2 s c) ≤ z ↔ ∀ j : Fin 32, xval K Q W (i 1).val ⟨256 * (i 1).val + (8 * j + s), by have := n_lt i; omega⟩ c ≤ z)
    (n : ℕ) (hn : n ≤ (i 1).val) (s : Fin 8) (c : Fin 256) (z : EReal) :
    after (p1mStep i h arg4 arg9 arg11 X4 X9 X11) m0 n (ix2 s c) ≤ z
      ↔ (∀ j : Fin 32, xval K Q W (i 1).val ⟨256 * (i 1).val + (8 * j + s), by have := n_lt i; omega⟩ c ≤ z)
        ∧ ∀ (k : ℕ) (hk : k < n) (j : Fin 32), xval K Q W (i 1).val ⟨256 * k + (8 * j + s), by have := n_lt i; omega⟩ c ≤ z := by
  induction n with
  | zero =>
    refine (hm s c z).trans ⟨fun h => ⟨h, fun k hk => absurd hk (by omega)⟩, fun h => h.1⟩
  | succ n ih =>
    have hk : n < (i 1).val := by omega
    have h16 := lt16 i n hk
    rw [after_succ, p1mStep_pos i h arg4 arg9 arg11 X4 X9 X11 n hk, pay134_le]
    have e : ∀ j : Fin 32, k0_pay2 (tileK h arg4 X4 n (lt16 i n hk)) (tileQ h arg9 X9) (tileW h arg11 X11 n (lt16 i n hk)) (ix2 ⟨8 * j + s, by omega⟩ c)
        = xval K Q W (i 1).val ⟨256 * n + (8 * j + s), by omega⟩ c := by
      intro j
      rw [tile_score B n hk]
      unfold xval
      rw [if_pos (by show 256 * n + (8 * j.val + s.val) ≤ _; omega)]
    refine (and_congr (ih (by omega)) (forall_congr' fun j => by rw [e j])).trans ?_
    constructor
    · rintro ⟨⟨h1, h2⟩, h3⟩
      refine ⟨h1, fun k hk' j => ?_⟩
      rcases Nat.lt_or_ge k n with hlt | hge
      · exact h2 k hlt j
      · have : k = n := by omega
        subst this
        exact h3 j
    · rintro ⟨h1, h2⟩
      exact ⟨⟨h1, fun k hk' j => h2 k (by omega) j⟩, fun j => h2 n (by omega) j⟩

/-- The maximum the second pass subtracts. -/
theorem p1m_max (m0 : FVec Ideal S8x256 .f32)
    (hm : ∀ (s : Fin 8) (c : Fin 256) (z : EReal), m0 (ix2 s c) ≤ z ↔ ∀ j : Fin 32, xval K Q W (i 1).val ⟨256 * (i 1).val + (8 * j + s), by have := n_lt i; omega⟩ c ≤ z)
    (c : Fin 256) :
    k0_pay136 (after (p1mStep i h arg4 arg9 arg11 X4 X9 X11) m0 (i 1).val) (ix2 0 c) = ⨆ r, xval K Q W (i 1).val r c := by
  have hn := n_lt i
  refine eq_of_forall_ge_iff fun z => ?_
  rw [pay136_le, iSup_le_iff]
  constructor
  · intro H r
    by_cases hr : r.val < 256 * ((i 1).val + 1)
    · have := (p1m_le B m0 hm _ (le_refl _) ⟨r.val % 8, by omega⟩ c z).mp (H _)
      by_cases hk : r.val < 256 * (i 1).val
      · have := this.2 (r.val / 256) (by omega) ⟨r.val % 256 / 8, by omega⟩
        convert this using 2
        apply Fin.ext
        show r.val = 256 * (r.val / 256) + (8 * (r.val % 256 / 8) + r.val % 8)
        omega
      · have := this.1 ⟨r.val % 256 / 8, by omega⟩
        convert this using 2
        apply Fin.ext
        show r.val = 256 * (i 1).val + (8 * (r.val % 256 / 8) + r.val % 8)
        omega
    · unfold xval
      rw [if_neg (by omega)]
      exact bot_le
  · intro H s
    exact (p1m_le B m0 hm _ (le_refl _) s c z).mpr ⟨fun j => H _, fun k hk j => H _⟩

omit B in
theorem p2l_sum (X12 : BufTy.Contents (Elt Ideal) arg12.view.ty) (qm mx : FVec Ideal S1x256 .f32)
    (hX : ∀ (k : ℕ) (hk : k < (i 1).val + 1) (a c : Fin 256), tileX arg12 X12 k (lt16s i k hk) (ix2 a c) = xval K Q W (i 1).val ⟨256 * k + a, by have := lt16s i k hk; omega⟩ c)
    (l0 : FVec Ideal S8x256 .f32) (hl : ∀ s c, l0 (ix2 s c) = 0) (hq : ∀ c, 0 < qm (ix2 0 c)) (c : Fin 256) :
    k0_pay141 (after (p2lStep i arg12 X12 qm mx) l0 ((i 1).val + 1)) (ix2 0 c)
      = ∑ r, pval K Q W (i 1).val (fun c => mx (ix2 0 c)) (fun c => qm (ix2 0 c)) r c := by
  have hn := n_lt i
  have key : ∀ n, n ≤ (i 1).val + 1 → ∀ s, after (p2lStep i arg12 X12 qm mx) l0 n (ix2 s c)
      = ∑ k ∈ Finset.range n, if hk : k < 16 then ∑ j : Fin 32, pval K Q W (i 1).val (fun c => mx (ix2 0 c)) (fun c => qm (ix2 0 c)) ⟨256 * k + (8 * j + s), by omega⟩ c else 0 := by
    intro n
    induction n with
    | zero => intro _ s; rw [Finset.range_zero, Finset.sum_empty]; exact hl s c
    | succ n ih =>
      intro hle s
      rw [after_succ, Finset.sum_range_succ, ← ih (by omega) s]
      have hk : n < (i 1).val + 1 := by omega
      rw [p2lStep_pos i arg12 X12 qm mx n hk, pay139_apply, dif_pos (lt16s i n hk)]
      congr 1
      refine Finset.sum_congr rfl fun j _ => ?_
      rw [pay8_apply, hX n hk]
      rfl
  rw [pay141_apply, sum_first _ (i 1).val hn (fun r hr => pval_masked K Q W _ _ _ hq r c (by omega))]
  rw [Finset.sum_congr rfl fun s _ => key _ (le_refl _) s, Finset.sum_comm]
  refine Finset.sum_congr rfl fun k hk => ?_
  rw [Finset.mem_range] at hk
  have h16 : k < 16 := by omega
  simp only [dif_pos h16]
  exact (sum_rows (fun a => pval K Q W (i 1).val (fun c => mx (ix2 0 c)) (fun c => qm (ix2 0 c)) ⟨256 * k + a, by omega⟩ c)).symm

omit B in
theorem p2f_sum (X12 : BufTy.Contents (Elt Ideal) arg12.view.ty) (qm mx : FVec Ideal S1x256 .f32)
    (hX : ∀ (k : ℕ) (hk : k < (i 1).val + 1) (a c : Fin 256), tileX arg12 X12 k (lt16s i k hk) (ix2 a c) = xval K Q W (i 1).val ⟨256 * k + a, by have := lt16s i k hk; omega⟩ c)
    (hV : ∀ (k : ℕ) (hk : k < 16) (d : Fin 128) (a : Fin 256), tileV h arg5 X5 k hk (ix4 0 0 d a) = V d ⟨256 * k + a, by omega⟩)
    (f0 : BufTy.Contents (Elt Ideal) arg13.view.ty) (hf : ∀ d c, View.read (Elt Ideal) arg13.view f0 (ix2 d c) = 0)
    (hq : ∀ c, 0 < qm (ix2 0 c)) (d : Fin 128) (c : Fin 256) :
    View.read (Elt Ideal) arg13.view (after (p2fStep i h arg5 arg12 arg13 X5 X12 qm mx) f0 ((i 1).val + 1)) (ix2 d c)
      = ∑ r, V d r * clip (pval K Q W (i 1).val (fun c => mx (ix2 0 c)) (fun c => qm (ix2 0 c)) r c) := by
  have hn := n_lt i
  have key : ∀ n, n ≤ (i 1).val + 1 → View.read (Elt Ideal) arg13.view (after (p2fStep i h arg5 arg12 arg13 X5 X12 qm mx) f0 n) (ix2 d c)
      = ∑ k ∈ Finset.range n, if hk : k < 16 then ∑ a : Fin 256, V d ⟨256 * k + a, by omega⟩ * clip (pval K Q W (i 1).val (fun c => mx (ix2 0 c)) (fun c => qm (ix2 0 c)) ⟨256 * k + a, by omega⟩ c) else 0 := by
    intro n
    induction n with
    | zero => intro _; rw [Finset.range_zero, Finset.sum_empty]; exact hf d c
    | succ n ih =>
      intro hle
      rw [after_succ, Finset.sum_range_succ, ← ih (by omega)]
      have hk : n < (i 1).val + 1 := by omega
      rw [p2fStep_pos i h arg5 arg12 arg13 X5 X12 qm mx n hk]
      rw [View.read_writes_cons_unit_of_mem arg13.view _ (off' := ![0, 0]) (size := S128x256.size) _ _ _ _ (ix2 d c) rfl
        (fun a => by
          match a with
          | ⟨0, _⟩ => show d.val = 0 + d.val; omega
          | ⟨1, _⟩ => show c.val = 0 + c.val; omega)]
      rw [pay9_apply, dif_pos (lt16s i n hk)]
      congr 1
      · rw [View.readAt_apply]
        congr 1
        funext b
        apply Fin.ext
        match b with
        | ⟨0, _⟩ => exact (Rect.idx_unit_val _ _ _ _ _).trans (by show 0 + d.val = d.val; omega)
        | ⟨1, _⟩ => exact (Rect.idx_unit_val _ _ _ _ _).trans (by show 0 + c.val = c.val; omega)
      · refine Finset.sum_congr rfl fun a _ => ?_
        rw [pay8_apply, hX n hk, hV]
        rfl
  rw [key _ (le_refl _), sum_first _ (i 1).val hn]
  intro r hr
  rw [pval_masked K Q W _ _ _ hq r c (by omega), clip_zero, mul_zero]

end Head

end Cert.AttnIdeal.Pass
end
-- ==== Proof.Quant.lean ====
module

public import Idealize.ShloMosaic.Lib.IdealHost
public import Idealize.ShloMosaic.Lib.Pointwise

@[expose] public section

set_option maxRecDepth 16384

noncomputable section

/-! The power-of-two scale of the quantiser, found by a search over exponent fields, is the one the reference
takes from a logarithm. -/

namespace Cert.Quant

open Idealize.ShloMosaic

/-- The extended real of the word whose exponent field is `n`. -/
def pw (n : ℕ) : EReal := Ideal.ofBits .f32 (BitVec.ofNat 32 (n * 2 ^ 23))

theorem pw_zero : pw 0 = 0 := by
  unfold pw; exact Ideal.ofBits_zero_f32

theorem fields (n : ℕ) (h : n ≤ 255) :
    ((BitVec.ofNat 32 (n * 2 ^ 23)).extractLsb' 31 1 == 1#1) = false
    ∧ ((BitVec.ofNat 32 (n * 2 ^ 23)).extractLsb' 23 8).toNat = n
    ∧ ((BitVec.ofNat 32 (n * 2 ^ 23)).extractLsb' 0 23).toNat = 0 := by
  have hx : (BitVec.ofNat 32 (n * 2 ^ 23)).toNat = n * 2 ^ 23 := by
    rw [BitVec.toNat_ofNat]; omega
  refine ⟨?_, ?_, ?_⟩
  · rw [beq_eq_false_iff_ne]
    intro hh
    have := congrArg BitVec.toNat hh
    rw [BitVec.extractLsb'_toNat, hx, Nat.shiftRight_eq_div_pow] at this
    simp at this
    omega
  · rw [BitVec.extractLsb'_toNat, hx, Nat.shiftRight_eq_div_pow]; omega
  · rw [BitVec.extractLsb'_toNat, hx, Nat.shiftRight_eq_div_pow]; omega

theorem pw_eq (n : ℕ) (h1 : 1 ≤ n) (h2 : n ≤ 254) : pw n = (((2 : ℝ) ^ ((n : ℤ) - 127) : ℝ) : EReal) := by
  obtain ⟨f1, f2, f3⟩ := fields n (by omega)
  unfold pw
  show Ideal.ieee 8 23 _ = _
  unfold Ideal.ieee
  simp only [f1, f2, f3]
  rw [if_neg (by norm_num; omega), if_neg (by omega)]
  congr 1
  simp only [Bool.false_eq_true, ↓reduceIte, one_mul, Nat.cast_add, Nat.cast_zero, add_zero, Nat.cast_pow, Nat.cast_ofNat]
  rw [← zpow_natCast, ← zpow_add₀ (by norm_num)]
  congr 1
  norm_num

theorem pw_top : pw 255 = ⊤ := by
  simp [pw, Ideal.ofBits, Ideal.ieee]

/-- One step of the search, on numbers. -/
def stepN (y : EReal) (e b : ℕ) : ℕ := if y < pw (e + b) then e else e + b

/-- The exponent field the search ends at. -/
def expN (y : EReal) : ℕ :=
  stepN y (stepN y (stepN y (stepN y (stepN y (stepN y (stepN y (stepN y 0 128) 64) 32) 16) 8) 4) 2) 1

/-- One step of the search, on words. -/
def stepW (y : EReal) (e b : BitVec 32) : BitVec 32 :=
  if y < Ideal.ofBits .f32 ((e + b) <<< (23 : ℕ)) then e else e + b

def expW (y : EReal) : BitVec 32 :=
  stepW y (stepW y (stepW y (stepW y (stepW y (stepW y (stepW y (stepW y 0#32 128#32) 64#32) 32#32) 16#32) 8#32) 4#32) 2#32) 1#32

theorem shift_eq (n : ℕ) (h : n < 256) : (BitVec.ofNat 32 n) <<< (23 : ℕ) = BitVec.ofNat 32 (n * 2 ^ 23) := by
  apply BitVec.eq_of_toNat_eq
  rw [BitVec.toNat_shiftLeft, BitVec.toNat_ofNat, BitVec.toNat_ofNat, Nat.shiftLeft_eq]
  omega

theorem stepW_eq (y : EReal) (e b : ℕ) (h : e + b < 256) :
    stepW y (BitVec.ofNat 32 e) (BitVec.ofNat 32 b) = BitVec.ofNat 32 (stepN y e b) := by
  unfold stepW stepN pw
  rw [← BitVec.ofNat_add, shift_eq _ h]
  split <;> rfl

theorem stepN_le (y : EReal) (e b : ℕ) : stepN y e b ≤ e + b := by
  unfold stepN; split <;> omega

/-- What the search keeps: the found field is a lower bound, and the next unknown bit's carry an upper one. -/
def Inv (y : EReal) (e b : ℕ) : Prop := pw e ≤ y ∧ e + b ≤ 256 ∧ (e + b ≠ 256 → y < pw (e + b))

theorem Inv.step {y : EReal} {e b : ℕ} (h : Inv y e (2 * b)) (hb : 1 ≤ b) : Inv y (stepN y e b) b := by
  obtain ⟨h1, h2, h3⟩ := h
  unfold stepN
  split
  · rename_i hlt
    exact ⟨h1, by omega, fun _ => hlt⟩
  · rename_i hge
    refine ⟨not_lt.mp hge, by omega, fun hne => ?_⟩
    have : e + b + b = e + 2 * b := by ring
    rw [this] at hne ⊢
    exact h3 hne

theorem expN_inv (y : EReal) (h : 0 ≤ y) : Inv y (expN y) 1 := by
  have h0 : Inv y 0 (2 * 128) := ⟨by rw [pw_zero]; exact h, by omega, fun h => absurd rfl h⟩
  have h1 : Inv y _ (2 * 64) := h0.step (by omega)
  have h2 : Inv y _ (2 * 32) := h1.step (by omega)
  have h3 : Inv y _ (2 * 16) := h2.step (by omega)
  have h4 : Inv y _ (2 * 8) := h3.step (by omega)
  have h5 : Inv y _ (2 * 4) := h4.step (by omega)
  have h6 : Inv y _ (2 * 2) := h5.step (by omega)
  have h7 : Inv y _ (2 * 1) := h6.step (by omega)
  exact h7.step (by omega)

theorem expW_eq (y : EReal) : expW y = BitVec.ofNat 32 (expN y) := by
  have a1 := stepN_le y 0 128
  have a2 := stepN_le y (stepN y 0 128) 64
  have a3 := stepN_le y (stepN y (stepN y 0 128) 64) 32
  have a4 := stepN_le y (stepN y (stepN y (stepN y 0 128) 64) 32) 16
  have a5 := stepN_le y (stepN y (stepN y (stepN y (stepN y 0 128) 64) 32) 16) 8
  have a6 := stepN_le y (stepN y (stepN y (stepN y (stepN y (stepN y 0 128) 64) 32) 16) 8) 4
  have a7 := stepN_le y (stepN y (stepN y (stepN y (stepN y (stepN y (stepN y 0 128) 64) 32) 16) 8) 4) 2
  unfold expW expN
  rw [stepW_eq y 0 128 (by omega), stepW_eq y _ 64 (by omega), stepW_eq y _ 32 (by omega), stepW_eq y _ 16 (by omega),
    stepW_eq y _ 8 (by omega), stepW_eq y _ 4 (by omega), stepW_eq y _ 2 (by omega), stepW_eq y _ 1 (by omega)]

/-- The kernel's scale and its inverse, from the word of the exponent field. -/
def scaleW (w : BitVec 32) : EReal := if w = 0#32 then 1 else Ideal.ofBits .f32 (w + 8388608#32)
def invW (w : BitVec 32) : EReal := if w = 0#32 then 1 else Ideal.ofBits .f32 (2122317824#32 - w)

/-- The reference's exponent. -/
def refE (y : EReal) : EReal :=
  if y < Ideal.ofBits .f32 0x00800000#32 then 0
  else Ideal.liftRound Int.floor (Ideal.div (Ideal.log y) ((Real.log 2 : ℝ) : EReal)) + 1

theorem exp2_zero : Ideal.exp2 0 = 1 := by
  show (Real.rpow 2 0 : EReal) = 1
  norm_num

theorem exp2_int (n : ℤ) : Ideal.exp2 ((n : ℝ) : EReal) = (((2 : ℝ) ^ n : ℝ) : EReal) := by
  show ((Real.rpow 2 (n : ℝ) : ℝ) : EReal) = _
  congr 1
  exact Real.rpow_intCast 2 n

theorem quant (r : ℝ) (h0 : 0 ≤ r) (h1 : r < 2 ^ (120 : ℤ)) :
    ∃ n : ℤ, refE (r : EReal) = ((n : ℝ) : EReal)
      ∧ scaleW (expW (r : EReal) <<< (23 : ℕ)) = (((2 : ℝ) ^ n : ℝ) : EReal)
      ∧ invW (expW (r : EReal) <<< (23 : ℕ)) = (((2 : ℝ) ^ (-n) : ℝ) : EReal) := by
  obtain ⟨i1, i2, i3⟩ := expN_inv (r : EReal) (by exact_mod_cast h0)
  rw [expW_eq]
  generalize expN (r : EReal) = e at *
  have he : e < 248 := by
    by_contra hge
    have hge : 248 ≤ e := by omega
    rcases Nat.lt_or_ge e 255 with h | h
    · rw [pw_eq e (by omega) (by omega), EReal.coe_le_coe_iff] at i1
      have : (2 : ℝ) ^ (120 : ℤ) ≤ (2 : ℝ) ^ ((e : ℤ) - 127) := zpow_le_zpow_right₀ (by norm_num) (by omega)
      linarith
    · have : e = 255 := by omega
      subst this
      rw [pw_top] at i1
      exact absurd i1 (by simp)
  have i3 := i3 (by omega)
  rw [pw_eq (e + 1) (by omega) (by omega), EReal.coe_lt_coe_iff] at i3
  rw [shift_eq e (by omega)]
  have hz : (BitVec.ofNat 32 (e * 2 ^ 23) = 0#32) ↔ e = 0 := by
    constructor
    · intro h
      have := congrArg BitVec.toNat h
      rw [BitVec.toNat_ofNat] at this
      simp at this
      omega
    · rintro rfl; rfl
  have p1 : Ideal.ofBits .f32 0x00800000#32 = pw 1 := rfl
  unfold scaleW invW refE
  rw [p1, pw_eq 1 (by omega) (by omega)]
  rcases Nat.eq_zero_or_pos e with h | h
  · subst h
    refine ⟨0, ?_, ?_, ?_⟩
    · rw [if_pos]
      · simp
      · rw [EReal.coe_lt_coe_iff]
        exact_mod_cast i3
    · rw [if_pos (hz.mpr rfl)]; simp
    · rw [if_pos (hz.mpr rfl)]; simp
  · rw [pw_eq e (by omega) (by omega), EReal.coe_le_coe_iff] at i1
    have hr : 0 < r := lt_of_lt_of_le (by positivity) i1
    refine ⟨(e : ℤ) - 126, ?_, ?_, ?_⟩
    · rw [if_neg]
      · have hl : Ideal.log (r : EReal) = ((Real.log r : ℝ) : EReal) := by
          show (if r ≤ 0 then (⊥ : EReal) else _) = _
          rw [if_neg (not_le.mpr hr)]
        have l2 : 0 < Real.log 2 := Real.log_pos (by norm_num)
        have hd : Ideal.div ((Real.log r : ℝ) : EReal) ((Real.log 2 : ℝ) : EReal) = ((Real.log r / Real.log 2 : ℝ) : EReal) := by
          unfold Ideal.div
          rw [if_neg (by exact_mod_cast l2.ne'), ← EReal.coe_inv, ← EReal.coe_mul, div_eq_mul_inv]
        rw [hl, hd]
        show (((⌊Real.log r / Real.log 2⌋ : ℝ)) : EReal) + 1 = _
        have hf : ⌊Real.log r / Real.log 2⌋ = (e : ℤ) - 127 := by
          rw [Int.floor_eq_iff]
          constructor
          · rw [le_div_iff₀ l2, ← Real.log_zpow]
            exact Real.log_le_log (by positivity) i1
          · rw [div_lt_iff₀ l2]
            have : ((((e : ℤ) - 127 : ℤ) : ℝ) + 1) = ((((e + 1 : ℕ) : ℤ) - 127 : ℤ) : ℝ) := by push_cast; ring
            rw [this, ← Real.log_zpow]
            exact Real.log_lt_log hr i3
        rw [hf]
        have : ((1 : EReal)) = ((1 : ℝ) : EReal) := by norm_cast
        rw [this, ← EReal.coe_add]
        congr 1
        push_cast; ring
      · rw [EReal.coe_lt_coe_iff, not_lt]
        refine le_trans ?_ i1
        exact zpow_le_zpow_right₀ (by norm_num) (by omega)
    · rw [if_neg (fun hh => by have := hz.mp hh; omega)]
      have : BitVec.ofNat 32 (e * 2 ^ 23) + 8388608#32 = BitVec.ofNat 32 ((e + 1) * 2 ^ 23) := by
        apply BitVec.eq_of_toNat_eq
        rw [BitVec.toNat_add]
        simp only [BitVec.toNat_ofNat]
        omega
      rw [this]
      show pw (e + 1) = _
      rw [pw_eq (e + 1) (by omega) (by omega)]
      congr 2; push_cast; ring
    · rw [if_neg (fun hh => by have := hz.mp hh; omega)]
      have : 2122317824#32 - BitVec.ofNat 32 (e * 2 ^ 23) = BitVec.ofNat 32 ((253 - e) * 2 ^ 23) := by
        apply BitVec.eq_of_toNat_eq
        rw [BitVec.toNat_sub]
        simp only [BitVec.toNat_ofNat]
        omega
      rw [this]
      show pw (253 - e) = _
      rw [pw_eq (253 - e) (by omega) (by omega)]
      congr 2; rw [Nat.cast_sub (by omega)]; push_cast; ring

end Cert.Quant

end
-- ==== Proof.QuantValue.lean ====
module

public import proofs.«01_k».proof.Proof.BodySpec
public import proofs.«01_k».proof.Proof.PassValue
public import proofs.«01_k».proof.Proof.Quant

@[expose] public section

set_option maxRecDepth 16384

noncomputable section

/-! The quantiser of one head, token by token. -/

namespace Cert.AttnIdeal.Head

open Cert.AttnIdeal Cert.AttnIdeal.Gen Cert.AttnIdeal.Val Cert.AttnIdeal.Tile Cert.AttnIdeal.Pass Cert.AttnIdeal.Spec
open Idealize.ShloMosaic

/-- The scaled absolute maximum of one token's channels. -/
def yT (q : Fin 192 → EReal) : EReal := (⨆ d, max (q d) (-(q d))) * Ideal.ofBits .f32 0x3B124925#32
/-- The exponent bits of one token, in place. -/
def wT (q : Fin 192 → EReal) : BitVec 32 := Quant.expW (yT q) <<< (23 : ℕ)
/-- The scale of one token. -/
def sT (q : Fin 192 → EReal) : EReal := Quant.scaleW (wT q)
/-- The code of one channel of one token. -/
def cT (q : Fin 192 → EReal) (d : Fin 192) : EReal := clip (q d * Quant.invW (wT q))

/-- The channels of one token: the first 128 and the last 64. -/
def both (hi : Fin 128 → EReal) (lo : Fin 64 → EReal) (d : Fin 192) : EReal :=
  if h : d.val < 128 then hi ⟨d, h⟩ else lo ⟨d.val - 128, by omega⟩

theorem iSup_both (f : EReal → EReal) (hi : Fin 128 → EReal) (lo : Fin 64 → EReal) (z : EReal) :
    (⨆ d, f (both hi lo d)) ≤ z ↔ (∀ d, f (hi d) ≤ z) ∧ ∀ d, f (lo d) ≤ z := by
  rw [iSup_le_iff]
  constructor
  · intro h
    refine ⟨fun d => ?_, fun d => ?_⟩
    · have := h ⟨d, by omega⟩
      unfold both at this
      rwa [dif_pos (show (⟨d.val, _⟩ : Fin 192).val < 128 from d.isLt)] at this
    · have := h ⟨128 + d, by omega⟩
      unfold both at this
      rw [dif_neg (by show ¬ 128 + d.val < 128; omega)] at this
      have e : (⟨128 + d.val - 128, by omega⟩ : Fin 64) = d := Fin.ext (by show 128 + d.val - 128 = d.val; omega)
      rw [← e]; exact this
  · rintro ⟨h1, h2⟩ d
    unfold both
    split
    · exact h1 _
    · exact h2 _

theorem nopeC_apply (p : Fin 2) (raw : Vec Ideal S1x256x2x128 .bf16) (d : Fin 128) (c : Fin 256) :
    nopeC p raw (ix2 d c) = raw (ix4 0 c p d) := by
  pointwise [nopeC]

theorem yC_apply (hi : FVec Ideal S128x256 .f32) (lo : FVec Ideal S64x256 .f32) (c : Fin 256) :
    yC hi lo (ix2 0 c) = yT (both (fun d => hi (ix2 d c)) (fun d => lo (ix2 d c))) := by
  unfold yT
  pointwise [yC]
  congr 1
  apply eq_of_forall_ge_iff
  intro z
  refine Iff.trans ?_ (iSup_both (fun x => max x (-x)) _ _ z).symm
  rw [max_le_iff, Finset.fold_max_le, Finset.fold_max_le, ofBits_ninf]
  simp only [bot_le, true_and, Finset.mem_univ, forall_true_left]
  rfl

theorem eC_apply (y : FVec Ideal S1x256 .f32) (e : IVec S1x256 32) (b : BitVec 32) (c : Fin 256) :
    eC y e b (ix2 0 c) = Quant.stepW (y (ix2 0 c)) (e (ix2 0 c)) b := by
  unfold Quant.stepW
  pointwise [eC]
  rfl

theorem wC_apply (y : FVec Ideal S1x256 .f32) (c : Fin 256) :
    wC y (ix2 0 c) = Quant.expW (y (ix2 0 c)) <<< (23 : ℕ) := by
  have h : ∀ (y' : FVec Ideal S1x256 .f32) (e : IVec S1x256 32), (shli e (broadcast S1x256 23#32) : IVec S1x256 32) (ix2 0 c) = e (ix2 0 c) <<< (23 : ℕ) :=
    fun _ _ => rfl
  unfold wC Quant.expW
  rw [h y, eC_apply, eC_apply, eC_apply, eC_apply, eC_apply, eC_apply, eC_apply, eC_apply]
  rfl

/-- A choice by an equality of two words. -/
theorem select_eq {α : Type} (a b : BitVec 32) (x y : α) :
    Scalar.select (IntOp.cmpi .eq a b) x y = if a = b then x else y := by
  rw [WordCmp.cmpi_eq_eq, WordCmp.select_ofBool]
  simp only [decide_eq_true_eq]

theorem sC_apply (y : FVec Ideal S1x256 .f32) (c : Fin 256) :
    sC y (ix2 0 c) = Quant.scaleW (Quant.expW (y (ix2 0 c)) <<< (23 : ℕ)) := by
  rw [← wC_apply]
  unfold sC Quant.scaleW
  generalize wC y = w
  pointwise
  exact select_eq _ _ _ _

theorem vC_apply (y : FVec Ideal S1x256 .f32) (c : Fin 256) :
    vC y (ix2 0 c) = Quant.invW (Quant.expW (y (ix2 0 c)) <<< (23 : ℕ)) := by
  rw [← wC_apply]
  unfold vC Quant.invW
  generalize wC y = w
  pointwise
  exact select_eq _ _ _ _

theorem codesC_apply (hi : FVec Ideal S128x256 .f32) (lo : FVec Ideal S64x256 .f32) (v : FVec Ideal S1x256 .f32) (d : Fin 192) (c : Fin 256) :
    codesC hi lo v (ix4 0 0 d c) = clip (both (fun d => hi (ix2 d c)) (fun d => lo (ix2 d c)) d * v (ix2 0 c)) := by
  unfold clip both
  pointwise [codesC]
  split <;> rfl

theorem qm_apply (s : FVec Ideal S1x256 .f32) (c : Fin 256) :
    k0_pay129 s (ix2 0 c) = s (ix2 0 c) * (((Real.sqrt 192)⁻¹ * (Real.log 2)⁻¹ : ℝ) : EReal) := by
  pointwise [k0_pay129]
  rfl

theorem lo_apply (x : Vec Ideal S1x1x64x256 .bf16) (d : Fin 64) (c : Fin 256) :
    k0_pay117 x (ix2 d c) = x (ix4 0 0 d c) := by
  pointwise [k0_pay117]

theorem ks_apply (x : Vec Ideal S1x1x256 .f32) (r : Fin 256) (l : Fin 128) :
    k0_pay128 (k0_pay127 x) (ix3 0 r l) = x (ix3 0 0 r) := by
  pointwise [k0_pay128, k0_pay127]

/-- Half a head, tokens by channels: four interleaved groups of channels side by side. -/
theorem pay175_apply (x0 x1 x2 x3 : Vec Ideal S32x128 .f32) (t ch : Fin 128) :
    k0_pay175 x0 x1 x2 x3 (ix4 0 t 0 ch)
      = (![x0, x1, x2, x3] : Fin 4 → Vec Ideal S32x128 .f32) ⟨ch / 32, by omega⟩ (ix2 ⟨ch % 32, by omega⟩ t) := by
  pointwise [k0_pay175]
  have key : ∀ (g r : ℕ) (hg : g < 4) (hr : r < 32), ch.val = 32 * g + r →
      (![x0, x1, x2, x3] : Fin 4 → Vec Ideal S32x128 .f32) ⟨ch / 32, by omega⟩ (ix2 ⟨ch % 32, by omega⟩ t)
        = (![x0, x1, x2, x3] : Fin 4 → Vec Ideal S32x128 .f32) ⟨g, hg⟩ (ix2 ⟨r, hr⟩ t) := by
    intro g r hg hr e
    have e1 : (⟨ch / 32, by omega⟩ : Fin 4) = ⟨g, hg⟩ := Fin.ext (by show ch.val / 32 = g; omega)
    have e2 : (⟨ch % 32, by omega⟩ : Fin 32) = ⟨r, hr⟩ := Fin.ext (by show ch.val % 32 = r; omega)
    rw [e1, e2]
  split
  · exact (key 0 _ (by omega) (by omega) (by omega)).symm
  split
  · exact (key 1 (ch - 32) (by omega) (by omega) (by omega)).symm
  split
  · exact (key 2 (ch - 32 - 32) (by omega) (by omega) (by omega)).symm
  · exact (key 3 (ch - 32 - 32 - 32) (by omega) (by omega) (by omega)).symm

theorem pair_apply (a b : FVec Ideal S1x128x1x128 .f32) (t : Fin 128) (s : Fin 2) (ch : Fin 128) :
    k0_pay1 a b (ix4 0 t s ch) = if s = 0 then a (ix4 0 t 0 ch) else b (ix4 0 t 0 ch) := by
  pointwise [k0_pay1]
  match s with
  | ⟨0, h0⟩ => rw [if_pos (show (⟨0, h0⟩ : Fin 2).val % 2 = 0 from rfl), if_pos (show (⟨0, h0⟩ : Fin 2) = 0 from rfl)]; exact congrArg (fun z => a (ix4 0 t z ch)) (Subsingleton.elim _ _)
  | ⟨1, h1⟩ => rw [if_neg (show ¬ (⟨1, h1⟩ : Fin 2).val % 2 = 0 by show ¬ 1 % 2 = 0; decide), if_neg (show ¬ (⟨1, h1⟩ : Fin 2) = 0 by decide +revert)]; exact congrArg (fun z => b (ix4 0 t z ch)) (Subsingleton.elim _ _)

end Cert.AttnIdeal.Head
-- ==== Proof.HeadValue.lean ====
module

public import proofs.«01_k».proof.Proof.QuantValue

@[expose] public section

set_option maxRecDepth 16384

noncomputable section

/-! What the body leaves in its blocks, element by element, stated once for every head. -/

namespace Cert.AttnIdeal.Head

open Cert.AttnIdeal Cert.AttnIdeal.Gen Cert.AttnIdeal.Val Cert.AttnIdeal.Tile Cert.AttnIdeal.Pass Cert.AttnIdeal.Spec
open Idealize.ShloMosaic

/-- A load of a box of unit steps reads the element its offsets name. -/
theorem readAt_unit {sig : RefSig} {κ : Kind} {sp : Space} {s : Shape} {e : EltTy} {Val : EltTy → Type} (v : View sig κ sp s e)
    {off size : Fin s.rank → ℕ} (inb : ∀ a, off a + size a ≤ s.size a) (f : v.ty.Contents Val)
    (x : (Rect.unit (s := s) off size inb).toLoadRect.shape.Idx) (y : s.Idx) (hy : ∀ a, (y a).val = off a + (x a).val) :
    v.readAt Val (Rect.unit (s := s) off size inb).toLoadRect f x = v.read Val f y := by
  rw [View.readAt_apply]
  congr 1
  funext a
  apply Fin.ext
  exact (Rect.idx_unit_val _ _ _ _ _).trans (hy a).symm

theorem rowT_lt (i : grid0.Coords) (a : Fin 256) : 256 * (i 1).val + a.val < 4096 := by
  have := n_le i
  omega

/-- The token at position `a` of the query tile. -/
def rowT (i : grid0.Coords) (a : Fin 256) : Fin 4096 := ⟨256 * (i 1).val + a.val, rowT_lt i a⟩

section Body

variable (i : grid0.Coords)
  (arg2 : Memref sig .tc .vmem S1x256x8x128 .bf16) (arg3 : Memref sig .tc .vmem S1x8x64x256 .bf16)
  (arg4 : Memref sig .tc .vmem S1x8x4096x192 .fp8e4m3) (arg5 : Memref sig .tc .vmem S1x8x128x4096 .fp8e4m3)
  (arg6 : Memref sig .tc .vmem S1x8x256 .f32) (arg7 : Memref sig .tc .vmem S1x8x8x128 .f32)
  (arg9 : Memref sig .tc .vmem S1x8x192x256 .fp8e4m3) (arg10 : Memref sig .tc .vmem S1x8x256 .f32) (arg11 : Memref sig .tc .vmem S8x4096x128 .f32)
  (arg12 : Memref sig .tc .vmem S4096x256 .f32) (arg13 : Memref sig .tc .vmem S128x256 .f32)
  (arg14 : Memref sig .tc .vmem S2x2x128x128 .f32)
  (X2 : BufTy.Contents (Elt Ideal) arg2.view.ty) (X3 : BufTy.Contents (Elt Ideal) arg3.view.ty)
  (X4 : BufTy.Contents (Elt Ideal) arg4.view.ty) (X5 : BufTy.Contents (Elt Ideal) arg5.view.ty)
  (X6 : BufTy.Contents (Elt Ideal) arg6.view.ty) (X7 : BufTy.Contents (Elt Ideal) arg7.view.ty)
  (f9 : Fin 8 → BufTy.Contents (Elt Ideal) arg9.view.ty) (f11 : BufTy.Contents (Elt Ideal) arg11.view.ty)
  (f12 : BufTy.Contents (Elt Ideal) arg12.view.ty)

/-- The channels of token `c` of head `h`. -/
def q0 (h : Fin 8) (c : Fin 256) : Fin 192 → EReal :=
  both (fun d => View.read (Elt Ideal) arg2.view X2 (ix4 0 c h d)) (fun d => View.read (Elt Ideal) arg3.view X3 (ix4 0 h d c))
/-- The query codes of head `h`. -/
def Qc (h : Fin 8) (d : Fin 192) (c : Fin 256) : EReal := cT (q0 arg2 arg3 X2 X3 h c) d
/-- The keys of head `h`. -/
def Kc (h : Fin 8) (r : Fin 4096) (d : Fin 192) : EReal := View.read (Elt Ideal) arg4.view X4 (ix4 0 h r d)
/-- The values of head `h`. -/
def Vc (h : Fin 8) (d : Fin 128) (r : Fin 4096) : EReal := View.read (Elt Ideal) arg5.view X5 (ix4 0 h d r)

theorem hiB_apply (h : Fin 8) (d : Fin 128) (c : Fin 256) :
    hiB arg2 X2 h (ix2 d c) = View.read (Elt Ideal) arg2.view X2 (ix4 0 c h d) := by
  unfold hiB rawB
  rw [nopeC_apply]
  refine readAt_unit _ _ _ _ _ fun a => ?_
  match a with
  | ⟨0, _⟩ => rfl
  | ⟨1, _⟩ => show c.val = 0 + c.val; omega
  | ⟨2, _⟩ => show h.val = 2 * (h.val / 2) + h.val % 2; omega
  | ⟨3, _⟩ => show d.val = 0 + d.val; omega

theorem loB_apply (h : Fin 8) (d : Fin 64) (c : Fin 256) :
    loB arg3 X3 h (ix2 d c) = View.read (Elt Ideal) arg3.view X3 (ix4 0 h d c) := by
  unfold loB
  rw [lo_apply]
  refine readAt_unit _ _ _ _ _ fun a => ?_
  match a with
  | ⟨0, _⟩ => rfl
  | ⟨1, _⟩ => show h.val = h.val + 0; omega
  | ⟨2, _⟩ => show d.val = 0 + d.val; omega
  | ⟨3, _⟩ => show c.val = 0 + c.val; omega

theorem yB_apply (h : Fin 8) (c : Fin 256) : yB arg2 arg3 X2 X3 h (ix2 0 c) = yT (q0 arg2 arg3 X2 X3 h c) := by
  unfold yB q0
  rw [yC_apply]
  simp only [hiB_apply, loB_apply]

theorem codesB_apply (h : Fin 8) (d : Fin 192) (c : Fin 256) :
    codesB arg2 arg3 X2 X3 h (ix4 0 0 d c) = Qc arg2 arg3 X2 X3 h d c := by
  unfold codesB Qc cT wT
  rw [codesC_apply, vC_apply, yB_apply]
  simp only [hiB_apply, loB_apply]
  rfl

theorem sB_apply (h : Fin 8) (c : Fin 256) : sC (yB arg2 arg3 X2 X3 h) (ix2 0 c) = sT (q0 arg2 arg3 X2 X3 h c) := by
  unfold sT wT
  rw [sC_apply, yB_apply]

theorem scaleB_apply (h : Fin 8) (c : Fin 256) : scaleB arg2 arg3 X2 X3 h (ix3 0 0 c) = sT (q0 arg2 arg3 X2 X3 h c) := by
  rw [← sB_apply]
  unfold scaleB
  generalize sC (yB arg2 arg3 X2 X3 h) = z
  pointwise

theorem qmB_apply (h : Fin 8) (c : Fin 256) : qmB arg2 arg3 X2 X3 h (ix2 0 c)
    = sT (q0 arg2 arg3 X2 X3 h c) * (((Real.sqrt 192)⁻¹ * (Real.log 2)⁻¹ : ℝ) : EReal) := by
  unfold qmB
  rw [qm_apply, sB_apply]

theorem ksB_apply (h : Fin 8) (r : Fin 256) (l : Fin 128) :
    ksB arg6 X6 h (ix3 0 r l) = View.read (Elt Ideal) arg6.view X6 (ix3 0 h r) := by
  unfold ksB
  rw [ks_apply]
  refine readAt_unit _ _ _ _ _ fun a => ?_
  match a with
  | ⟨0, _⟩ => rfl
  | ⟨1, _⟩ => show h.val = h.val + 0; omega
  | ⟨2, _⟩ => show r.val = 0 + r.val; omega

/-! ## What the written blocks read -/

theorem L9_read (f : BufTy.Contents (Elt Ideal) arg9.view.ty) (n : ℕ) (hn : n ≤ 8) (h : Fin 8) (hlt : h.val < n) (d : Fin 192) (c : Fin 256) :
    View.read (Elt Ideal) arg9.view (arg9.view.writes (Elt Ideal) f (L9 arg2 arg3 X2 X3 n hn)) (ix4 0 h d c) = Qc arg2 arg3 X2 X3 h d c := by
  induction n with
  | zero => omega
  | succ n ih =>
    by_cases e : h.val = n
    · have e' : (⟨n, hn⟩ : Fin 8) = h := Fin.ext e.symm
      refine (View.read_writes_cons_unit_of_mem arg9.view f _ _ _ (ix4 0 h d c) (ix4 0 0 d c) rfl fun a => ?_).trans ?_
      · match a with
        | ⟨0, _⟩ => rfl
        | ⟨1, _⟩ => show h.val = n + 0; omega
        | ⟨2, _⟩ => show d.val = 0 + d.val; omega
        | ⟨3, _⟩ => show c.val = 0 + c.val; omega
      · rw [e', codesB_apply]
    · refine (View.read_writes_cons_unit_of_not_mem arg9.view f _ _ _ (ix4 0 h d c) rfl 1 ?_).trans (ih _ (by omega))
      left; show h.val < n; omega

theorem L10_read (f : BufTy.Contents (Elt Ideal) arg10.view.ty) (n : ℕ) (hn : n ≤ 8) (h : Fin 8) (hlt : h.val < n) (c : Fin 256) :
    View.read (Elt Ideal) arg10.view (arg10.view.writes (Elt Ideal) f (L10 arg2 arg3 X2 X3 n hn)) (ix3 0 h c) = sT (q0 arg2 arg3 X2 X3 h c) := by
  induction n with
  | zero => omega
  | succ n ih =>
    by_cases e : h.val = n
    · have e' : (⟨n, hn⟩ : Fin 8) = h := Fin.ext e.symm
      refine (View.read_writes_cons_unit_of_mem arg10.view f _ _ _ (ix3 0 h c) (ix3 0 0 c) rfl fun a => ?_).trans ?_
      · match a with
        | ⟨0, _⟩ => rfl
        | ⟨1, _⟩ => show h.val = n + 0; omega
        | ⟨2, _⟩ => show c.val = 0 + c.val; omega
      · rw [e', scaleB_apply]
    · refine (View.read_writes_cons_unit_of_not_mem arg10.view f _ _ _ (ix3 0 h c) rfl 1 ?_).trans (ih _ (by omega))
      left; show h.val < n; omega

theorem L11_read (f : BufTy.Contents (Elt Ideal) arg11.view.ty) (n : ℕ) (hn : n ≤ 8) (h : Fin 8) (hlt : h.val < n) (a : Fin 256)
    (r : Fin 4096) (hr : r.val = 256 * (i 1).val + a.val) (l : Fin 128) :
    View.read (Elt Ideal) arg11.view (arg11.view.writes (Elt Ideal) f (L11 i arg6 X6 n hn)) (ix3 h r l)
      = View.read (Elt Ideal) arg6.view X6 (ix3 0 h a) := by
  induction n with
  | zero => omega
  | succ n ih =>
    by_cases e : h.val = n
    · have e' : (⟨n, hn⟩ : Fin 8) = h := Fin.ext e.symm
      refine (View.read_writes_cons_unit_of_mem arg11.view f _ _ _ (ix3 h r l) (ix3 0 a l) rfl fun b => ?_).trans ?_
      · match b with
        | ⟨0, _⟩ => show h.val = n + 0; omega
        | ⟨1, _⟩ => show r.val = rowI i + a.val; rw [rowI_eq]; exact hr
        | ⟨2, _⟩ => show l.val = 0 + l.val; omega
      · rw [e', ksB_apply]
    · refine (View.read_writes_cons_unit_of_not_mem arg11.view f _ _ _ (ix3 h r l) rfl 0 ?_).trans (ih _ (by omega))
      left; show h.val < n; omega

theorem L11_skip (f : BufTy.Contents (Elt Ideal) arg11.view.ty) (n : ℕ) (hn : n ≤ 8) (h : Fin 8)
    (r : Fin 4096) (hr : r.val < 256 * (i 1).val ∨ 256 * (i 1).val + 256 ≤ r.val) (l : Fin 128) :
    View.read (Elt Ideal) arg11.view (arg11.view.writes (Elt Ideal) f (L11 i arg6 X6 n hn)) (ix3 h r l)
      = View.read (Elt Ideal) arg11.view f (ix3 h r l) := by
  induction n with
  | zero => rfl
  | succ n ih =>
    refine (View.read_writes_cons_unit_of_not_mem arg11.view f _ _ _ (ix3 h r l) rfl 1 ?_).trans (ih _)
    show r.val < rowI i ∨ rowI i + 256 ≤ r.val
    rw [rowI_eq]; exact hr

/-! ## The softmax of one head -/

variable (Wt : Fin 8 → Fin 4096 → EReal)

/-- The maximum of the masked scores of one token. -/
def Mx (h : Fin 8) (c : Fin 256) : EReal := ⨆ r, xval (Kc arg4 X4 h) (Qc arg2 arg3 X2 X3 h) (Wt h) (i 1).val r c
/-- The multiplier of the exponent of one token. -/
def qmT (h : Fin 8) (c : Fin 256) : EReal := sT (q0 arg2 arg3 X2 X3 h c) * (((Real.sqrt 192)⁻¹ * (Real.log 2)⁻¹ : ℝ) : EReal)
/-- The exponential of one score. -/
def Pc (h : Fin 8) (r : Fin 4096) (c : Fin 256) : EReal :=
  pval (Kc arg4 X4 h) (Qc arg2 arg3 X2 X3 h) (Wt h) (i 1).val (Mx i arg2 arg3 arg4 X2 X3 X4 Wt h) (qmT arg2 arg3 X2 X3 h) r c
/-- The quotient of value row `d` for one token. -/
def Oc (h : Fin 8) (d : Fin 128) (c : Fin 256) : EReal :=
  Ideal.div ((∑ r, Vc arg5 X5 h d r * clip (Pc i arg2 arg3 arg4 X2 X3 X4 Wt h r c))
      * View.read (Elt Ideal) arg7.view X7 (ix4 0 h ⟨d % 8, by omega⟩ ⟨c % 128, by omega⟩))
    (∑ r, Pc i arg2 arg3 arg4 X2 X3 X4 Wt h r c)

variable (hW0 : ∀ (h : Fin 8) (r : Fin 4096) (l : Fin 128), r.val < 256 * (i 1).val → View.read (Elt Ideal) arg11.view f11 (ix3 h r l) = Wt h r)
  (hW1 : ∀ (h : Fin 8) (a : Fin 256), View.read (Elt Ideal) arg6.view X6 (ix3 0 h a) = Wt h (rowT i a))

include hW0 in
theorem blocks (h : Fin 8) : Blocks i h arg4 arg9 arg11 X4 (A9 arg2 arg3 arg9 X2 X3 f9 h) (A11 i arg6 arg11 X6 f11 h)
    (Kc arg4 X4 h) (Qc arg2 arg3 X2 X3 h) (Wt h) where
  hK k hk a d := by
    refine readAt_unit _ _ _ _ _ fun b => ?_
    match b with
    | ⟨0, _⟩ => rfl
    | ⟨1, _⟩ => show h.val = h.val + 0; omega
    | ⟨2, _⟩ => show 256 * k + a.val = rowWord k + a.val; rw [rowWord_eq k hk]
    | ⟨3, _⟩ => show d.val = 0 + d.val; omega
  hQ d c := by
    refine (readAt_unit _ _ _ _ (ix4 0 h d c) fun b => ?_).trans (L9_read arg2 arg3 arg9 X2 X3 _ _ _ h (by omega) d c)
    match b with
    | ⟨0, _⟩ => rfl
    | ⟨1, _⟩ => show h.val = h.val + 0; omega
    | ⟨2, _⟩ => show d.val = 0 + d.val; omega
    | ⟨3, _⟩ => show c.val = 0 + c.val; omega
  hW k hk hlt a l := by
    refine (readAt_unit _ _ _ _ (ix3 h ⟨256 * k + a, by omega⟩ l) fun b => ?_).trans
      ((L11_skip i arg6 arg11 X6 f11 _ _ h _ (Or.inl (by show 256 * k + a.val < _; omega)) l).trans (hW0 h _ l (by show 256 * k + a.val < _; omega)))
    match b with
    | ⟨0, _⟩ => show h.val = h.val + 0; omega
    | ⟨1, _⟩ => show 256 * k + a.val = rowWord k + a.val; rw [rowWord_eq k hk]
    | ⟨2, _⟩ => show l.val = 0 + l.val; omega

include hW1 in
theorem diag (h : Fin 8) (a c : Fin 256) :
    k0_pay130 k0_pay114 (kD i arg4 X4 h) (qD arg2 arg3 arg9 X2 X3 h) (wD i arg6 arg11 X6 h) (ix2 a c)
      = xval (Kc arg4 X4 h) (Qc arg2 arg3 X2 X3 h) (Wt h) (i 1).val ⟨256 * (i 1).val + a, by have := n_le i; omega⟩ c := by
  have hn := n_le i
  have hk : ∀ d : Fin 192, kD i arg4 X4 h (ix4 0 0 a d) = Kc arg4 X4 h ⟨256 * (i 1).val + a, by omega⟩ d := by
    intro d
    refine readAt_unit _ _ _ _ _ fun b => ?_
    match b with
    | ⟨0, _⟩ => rfl
    | ⟨1, _⟩ => show h.val = h.val + 0; omega
    | ⟨2, _⟩ => show 256 * (i 1).val + a.val = rowI i + a.val; rw [rowI_eq]
    | ⟨3, _⟩ => show d.val = 0 + d.val; omega
  have hq : ∀ d : Fin 192, qD arg2 arg3 arg9 X2 X3 h (ix4 0 0 d c) = Qc arg2 arg3 X2 X3 h d c := by
    intro d
    refine (readAt_unit _ _ _ _ (ix4 0 h d c) fun b => ?_).trans (L9_read arg2 arg3 arg9 X2 X3 _ _ _ h (by omega) d c)
    match b with
    | ⟨0, _⟩ => rfl
    | ⟨1, _⟩ => show h.val = h.val + 0; omega
    | ⟨2, _⟩ => show d.val = 0 + d.val; omega
    | ⟨3, _⟩ => show c.val = 0 + c.val; omega
  have hw : ∀ l : Fin 128, wD i arg6 arg11 X6 h (ix3 0 a l) = Wt h ⟨256 * (i 1).val + a, by omega⟩ := by
    intro l
    refine (readAt_unit _ _ _ _ (ix3 h ⟨256 * (i 1).val + a, by omega⟩ l) fun b => ?_).trans
      ((L11_read i arg6 arg11 X6 _ _ _ h (by omega) a _ rfl l).trans (hW1 h a))
    match b with
    | ⟨0, _⟩ => show h.val = h.val + 0; omega
    | ⟨1, _⟩ => show 256 * (i 1).val + a.val = rowI i + a.val; rw [rowI_eq]
    | ⟨2, _⟩ => show l.val = 0 + l.val; omega
  rw [pay130_apply _ _ _ _ a c hw]
  simp only [hk, hq]
  unfold xval score
  refine if_congr ?_ rfl rfl
  show a ≤ c ↔ 256 * (i 1).val + a.val ≤ 256 * (i 1).val + c.val
  rw [Fin.le_def]; omega

theorem n1_eq : n1 i = (i 1).val := trips_eq i
theorem n2_eq : n2 i = (i 1).val + 1 := trips_eq2 i

include hW0 hW1 in
theorem mx_apply (h : Fin 8) (c : Fin 256) :
    mxB i arg2 arg3 arg4 arg6 arg9 arg11 X2 X3 X4 X6 f9 f11 h (ix2 0 c) = Mx i arg2 arg3 arg4 X2 X3 X4 Wt h c := by
  unfold mxB
  rw [n1_eq]
  refine p1m_max (blocks i arg2 arg3 arg4 arg6 arg9 arg11 X2 X3 X4 X6 f9 f11 Wt hW0 h) _ (fun s c z => ?_) c
  unfold m0B
  rw [pay133_le]
  simp only [diag i arg2 arg3 arg4 arg6 arg9 arg11 X2 X3 X4 X6 Wt hW1]

include hW0 hW1 in
theorem x1_tile (h : Fin 8) (f : BufTy.Contents (Elt Ideal) arg12.view.ty) (k : ℕ) (hk : k < (i 1).val + 1) (a c : Fin 256) :
    tileX arg12 (x1B i arg2 arg3 arg4 arg6 arg9 arg11 arg12 X2 X3 X4 X6 f9 f11 h f) k (lt16s i k hk) (ix2 a c)
      = xval (Kc arg4 X4 h) (Qc arg2 arg3 X2 X3 h) (Wt h) (i 1).val ⟨256 * k + a, by have := lt16s i k hk; omega⟩ c := by
  unfold x1B
  rw [n1_eq]
  refine p1f_tile (blocks i arg2 arg3 arg4 arg6 arg9 arg11 X2 X3 X4 X6 f9 f11 Wt hW0 h) _ (fun a c => ?_) k hk a c
  rw [tileX_apply]
  unfold dgB
  refine (View.read_writes_cons_unit_of_mem arg12.view f _ _ _ (ix2 ⟨256 * (i 1).val + a, by have := n_le i; omega⟩ c) (ix2 a c) rfl fun b => ?_).trans ?_
  · match b with
    | ⟨0, _⟩ => show 256 * (i 1).val + a.val = rowI i + a.val; rw [rowI_eq]
    | ⟨1, _⟩ => show c.val = 0 + c.val; omega
  · rw [pay131_apply, diag i arg2 arg3 arg4 arg6 arg9 arg11 X2 X3 X4 X6 Wt hW1]

include hW0 hW1 in
theorem x_tile (h : Fin 8) (k : ℕ) (hk : k < (i 1).val + 1) (a c : Fin 256) :
    tileX arg12 (xB i arg2 arg3 arg4 arg6 arg9 arg11 arg12 X2 X3 X4 X6 f9 f11 f12 h) k (lt16s i k hk) (ix2 a c)
      = xval (Kc arg4 X4 h) (Qc arg2 arg3 X2 X3 h) (Wt h) (i 1).val ⟨256 * k + a, by have := lt16s i k hk; omega⟩ c :=
  x1_tile i arg2 arg3 arg4 arg6 arg9 arg11 arg12 X2 X3 X4 X6 f9 f11 Wt hW0 hW1 h _ k hk a c

variable (hS : ∀ (h : Fin 8) (c : Fin 256), 0 < sT (q0 arg2 arg3 X2 X3 h c))

theorem kappa_pos : (0 : EReal) < (((Real.sqrt 192)⁻¹ * (Real.log 2)⁻¹ : ℝ) : EReal) := by
  have : (0 : ℝ) < (Real.sqrt 192)⁻¹ * (Real.log 2)⁻¹ := by
    have := Real.log_pos (by norm_num : (1 : ℝ) < 2)
    positivity
  exact_mod_cast this

include hS in
theorem qm_pos (h : Fin 8) (c : Fin 256) : 0 < qmB arg2 arg3 X2 X3 h (ix2 0 c) := by
  rw [qmB_apply]
  exact EReal.mul_pos (hS h c) kappa_pos

include hW0 hW1 in
theorem pval_eq (h : Fin 8) (r : Fin 4096) (c : Fin 256) :
    pval (Kc arg4 X4 h) (Qc arg2 arg3 X2 X3 h) (Wt h) (i 1).val
      (fun c => mxB i arg2 arg3 arg4 arg6 arg9 arg11 X2 X3 X4 X6 f9 f11 h (ix2 0 c)) (fun c => qmB arg2 arg3 X2 X3 h (ix2 0 c)) r c
      = Pc i arg2 arg3 arg4 X2 X3 X4 Wt h r c := by
  unfold Pc
  rw [show (fun c => mxB i arg2 arg3 arg4 arg6 arg9 arg11 X2 X3 X4 X6 f9 f11 h (ix2 0 c)) = Mx i arg2 arg3 arg4 X2 X3 X4 Wt h from
      funext fun c => mx_apply i arg2 arg3 arg4 arg6 arg9 arg11 X2 X3 X4 X6 f9 f11 Wt hW0 hW1 h c,
    show (fun c => qmB arg2 arg3 X2 X3 h (ix2 0 c)) = qmT arg2 arg3 X2 X3 h from funext fun c => qmB_apply arg2 arg3 X2 X3 h c]

theorem pay138_apply (s : Fin 8) (c : Fin 256) : (k0_pay138 : FVec Ideal S8x256 .f32) (ix2 s c) = 0 := by
  pointwise [k0_pay138]
theorem pay137_apply (d : Fin 128) (c : Fin 256) : (k0_pay137 : FVec Ideal S128x256 .f32) (ix2 d c) = 0 := by
  pointwise [k0_pay137]

include hW0 hW1 hS in
theorem l_apply (h : Fin 8) (c : Fin 256) :
    k0_pay141 (lB i arg2 arg3 arg4 arg6 arg9 arg11 arg12 X2 X3 X4 X6 f9 f11 f12 h) (ix2 0 c)
      = ∑ r, Pc i arg2 arg3 arg4 X2 X3 X4 Wt h r c := by
  unfold lB
  rw [n2_eq, p2l_sum _ _ _
    (x_tile i arg2 arg3 arg4 arg6 arg9 arg11 arg12 X2 X3 X4 X6 f9 f11 f12 Wt hW0 hW1 h) _ pay138_apply (qm_pos arg2 arg3 X2 X3 hS h)]
  simp only [pval_eq i arg2 arg3 arg4 arg6 arg9 arg11 X2 X3 X4 X6 f9 f11 Wt hW0 hW1]

include hW0 hW1 hS in
theorem o_apply (h : Fin 8) (d : Fin 128) (c : Fin 256) :
    View.read (Elt Ideal) arg13.view (oB i arg2 arg3 arg4 arg5 arg6 arg9 arg11 arg12 arg13 X2 X3 X4 X5 X6 f9 f11 f12 h) (ix2 d c)
      = ∑ r, Vc arg5 X5 h d r * clip (Pc i arg2 arg3 arg4 X2 X3 X4 Wt h r c) := by
  unfold oB
  rw [n2_eq, p2f_sum (V := Vc arg5 X5 h) _ _ _
    (x_tile i arg2 arg3 arg4 arg6 arg9 arg11 arg12 X2 X3 X4 X6 f9 f11 f12 Wt hW0 hW1 h) ?_ _ ?_ (qm_pos arg2 arg3 X2 X3 hS h)]
  · simp only [pval_eq i arg2 arg3 arg4 arg6 arg9 arg11 X2 X3 X4 X6 f9 f11 Wt hW0 hW1]
  · intro k hk d a
    refine readAt_unit _ _ _ _ _ fun b => ?_
    match b with
    | ⟨0, _⟩ => rfl
    | ⟨1, _⟩ => show h.val = h.val + 0; omega
    | ⟨2, _⟩ => show d.val = 0 + d.val; omega
    | ⟨3, _⟩ => show 256 * k + a.val = rowWord k + a.val; rw [rowWord_eq k hk]
  · intro d c
    refine (View.read_writes_cons_unit_of_mem arg13.view _ _ _ _ (ix2 d c) (ix2 d c) rfl fun b => ?_).trans (pay137_apply d c)
    match b with
    | ⟨0, _⟩ => show d.val = 0 + d.val; omega
    | ⟨1, _⟩ => show c.val = 0 + c.val; omega

theorem vs_apply (h : Fin 8) (a : Fin 8) (t : Fin 128) :
    vsB arg7 X7 h (ix4 0 0 a t) = View.read (Elt Ideal) arg7.view X7 (ix4 0 h a t) := by
  refine readAt_unit _ _ _ _ _ fun b => ?_
  match b with
  | ⟨0, _⟩ => rfl
  | ⟨1, _⟩ => show h.val = h.val + 0; omega
  | ⟨2, _⟩ => show a.val = 0 + a.val; omega
  | ⟨3, _⟩ => show t.val = 0 + t.val; omega

include hW0 hW1 hS in
theorem b0_apply (h : Fin 8) (d t : Fin 128) :
    b0B i arg2 arg3 arg4 arg5 arg6 arg7 arg9 arg11 arg12 arg13 X2 X3 X4 X5 X6 X7 f9 f11 f12 h (ix4 0 0 d t)
      = Oc i arg2 arg3 arg4 arg5 arg7 X2 X3 X4 X5 X7 Wt h d ⟨t, by omega⟩ := by
  unfold b0B Oc
  rw [pay143_apply, vs_apply, l_apply i arg2 arg3 arg4 arg6 arg9 arg11 arg12 X2 X3 X4 X6 f9 f11 f12 Wt hW0 hW1 hS,
    ← o_apply i arg2 arg3 arg4 arg5 arg6 arg9 arg11 arg12 arg13 X2 X3 X4 X5 X6 f9 f11 f12 Wt hW0 hW1 hS]
  congr 1
  congr 1
  · refine readAt_unit _ _ _ _ _ fun b => ?_
    match b with
    | ⟨0, _⟩ => show d.val = 0 + d.val; omega
    | ⟨1, _⟩ => show t.val = 0 + t.val; omega
  · congr 2
    apply Fin.ext; show t.val = t.val % 128; omega

include hW0 hW1 hS in
theorem b1_apply (h : Fin 8) (d t : Fin 128) :
    b1B i arg2 arg3 arg4 arg5 arg6 arg7 arg9 arg11 arg12 arg13 X2 X3 X4 X5 X6 X7 f9 f11 f12 h (ix4 0 0 d t)
      = Oc i arg2 arg3 arg4 arg5 arg7 X2 X3 X4 X5 X7 Wt h d ⟨128 + t, by omega⟩ := by
  unfold b1B Oc
  rw [pay144_apply, vs_apply, l_apply i arg2 arg3 arg4 arg6 arg9 arg11 arg12 X2 X3 X4 X6 f9 f11 f12 Wt hW0 hW1 hS,
    ← o_apply i arg2 arg3 arg4 arg5 arg6 arg9 arg11 arg12 arg13 X2 X3 X4 X5 X6 f9 f11 f12 Wt hW0 hW1 hS]
  congr 1
  congr 1
  · refine readAt_unit _ _ _ _ _ fun b => ?_
    match b with
    | ⟨0, _⟩ => show d.val = 0 + d.val; omega
    | ⟨1, _⟩ => rfl
  · congr 2
    apply Fin.ext; show t.val = (128 + t.val) % 128; omega

end Body

/-! # What the body stores in the result's block -/

/-- The value row that ends in channel `ch`. -/
def perm (ch : Fin 128) : Fin 128 := ⟨ch / 32 + 4 * (ch % 32), by omega⟩

section Body

variable (i : grid0.Coords)
  (arg2 : Memref sig .tc .vmem S1x256x8x128 .bf16) (arg3 : Memref sig .tc .vmem S1x8x64x256 .bf16)
  (arg4 : Memref sig .tc .vmem S1x8x4096x192 .fp8e4m3) (arg5 : Memref sig .tc .vmem S1x8x128x4096 .fp8e4m3)
  (arg6 : Memref sig .tc .vmem S1x8x256 .f32) (arg7 : Memref sig .tc .vmem S1x8x8x128 .f32)
  (arg8 : Memref sig .tc .vmem S1x256x8x128 .bf16)
  (arg9 : Memref sig .tc .vmem S1x8x192x256 .fp8e4m3) (arg11 : Memref sig .tc .vmem S8x4096x128 .f32)
  (arg12 : Memref sig .tc .vmem S4096x256 .f32) (arg13 : Memref sig .tc .vmem S128x256 .f32)
  (arg14 : Memref sig .tc .vmem S2x2x128x128 .f32)
  (X2 : BufTy.Contents (Elt Ideal) arg2.view.ty) (X3 : BufTy.Contents (Elt Ideal) arg3.view.ty)
  (X4 : BufTy.Contents (Elt Ideal) arg4.view.ty) (X5 : BufTy.Contents (Elt Ideal) arg5.view.ty)
  (X6 : BufTy.Contents (Elt Ideal) arg6.view.ty) (X7 : BufTy.Contents (Elt Ideal) arg7.view.ty)
  (f9 : Fin 8 → BufTy.Contents (Elt Ideal) arg9.view.ty) (f11 : BufTy.Contents (Elt Ideal) arg11.view.ty)
  (f12 : BufTy.Contents (Elt Ideal) arg12.view.ty)

/-! ## The staging of the quotients -/

theorem ld_apply (f : BufTy.Contents (Elt Ideal) arg14.view.ty) (s c : Fin 2) (b : Fin 4) (r : Fin 32) (t : Fin 128) :
    ldB arg14 f s c b (ix2 r t) = View.read (Elt Ideal) arg14.view f (ix4 s c ⟨b + 4 * r, by omega⟩ t) := by
  unfold ldB
  rw [View.readAt_apply]
  have hidx : (⟨![b.val, 0], S32x128.size, ![4, 1], inbT b⟩ : LoadRect S128x128).idx (ix2 r t) = ix2 ⟨b + 4 * r, by omega⟩ t := by
    funext a
    apply Fin.ext
    match a with
    | ⟨0, _⟩ => rfl
    | ⟨1, _⟩ => show 0 + 1 * t.val = t.val; omega
  rw [hidx]
  have hc : (rB s c).shape.ShapeCasts S128x128 := shapeCasts_S1x1x128x128_S128x128
  refine (congrFun (Memref.read_squeeze_slice (Val := Elt Ideal) arg14 (rB s c) (fun _ => rfl) squeezes_S1x1x128x128_S128x128 hc f) _).trans ?_
  have hs : ∀ z : Vec Ideal S1x1x128x128 .f32, (shapeCast S128x128 z shapeCasts_S1x1x128x128_S128x128) (ix2 ⟨b + 4 * r, by omega⟩ t)
      = z (ix4 0 0 ⟨b + 4 * r, by omega⟩ t) := by
    intro z
    pointwise
  refine (hs _).trans ?_
  refine readAt_unit _ _ _ _ _ fun a => ?_
  match a with
  | ⟨0, _⟩ => show s.val = s.val + 0; omega
  | ⟨1, _⟩ => show c.val = c.val + 0; omega
  | ⟨2, _⟩ => show b.val + 4 * r.val = 0 + (b.val + 4 * r.val); omega
  | ⟨3, _⟩ => show t.val = 0 + t.val; omega

theorem half_apply (f : BufTy.Contents (Elt Ideal) arg14.view.ty) (s c : Fin 2) (t ch : Fin 128) :
    halfB arg14 f s c (ix4 0 t 0 ch) = View.read (Elt Ideal) arg14.view f (ix4 s c (perm ch) t) := by
  unfold halfB
  rw [pay175_apply]
  have key : ∀ b : Fin 4, (![ldB arg14 f s c 0, ldB arg14 f s c 1, ldB arg14 f s c 2, ldB arg14 f s c 3] : Fin 4 → Vec Ideal S32x128 .f32) b
      = ldB arg14 f s c b := by
    intro b
    match b with
    | ⟨0, _⟩ => rfl
    | ⟨1, _⟩ => rfl
    | ⟨2, _⟩ => rfl
    | ⟨3, _⟩ => rfl
  rw [key, ld_apply]
  rfl

theorem pairB_apply (f : BufTy.Contents (Elt Ideal) arg14.view.ty) (c s : Fin 2) (t ch : Fin 128) :
    pairB arg14 f c (ix4 0 t s ch) = View.read (Elt Ideal) arg14.view f (ix4 s c (perm ch) t) := by
  unfold pairB
  rw [pair_apply, half_apply, half_apply]
  match s with
  | ⟨0, _⟩ => exact if_pos rfl
  | ⟨1, _⟩ => exact if_neg (fun h => Nat.one_ne_zero (congrArg Fin.val h))

variable (Wt : Fin 8 → Fin 4096 → EReal)
variable (hW0 : ∀ (h : Fin 8) (r : Fin 4096) (l : Fin 128), r.val < 256 * (i 1).val → View.read (Elt Ideal) arg11.view f11 (ix3 h r l) = Wt h r)
  (hW1 : ∀ (h : Fin 8) (a : Fin 256), View.read (Elt Ideal) arg6.view X6 (ix3 0 h a) = Wt h (rowT i a))
  (hS : ∀ (h : Fin 8) (c : Fin 256), 0 < sT (q0 arg2 arg3 X2 X3 h c))
include hW0 hW1 hS

theorem L14_read (f : BufTy.Contents (Elt Ideal) arg14.view.ty) (n : ℕ) (hn : n ≤ 8) (h : Fin 8) (h1 : h.val < n) (h2 : n ≤ h.val + 2)
    (s c : Fin 2) (hs : s.val = h.val % 2) (d t : Fin 128) :
    View.read (Elt Ideal) arg14.view (arg14.view.writes (Elt Ideal) f
        (L14 i arg2 arg3 arg4 arg5 arg6 arg7 arg9 arg11 arg12 arg13 X2 X3 X4 X5 X6 X7 f9 f11 f12 n hn)) (ix4 s c d t)
      = Oc i arg2 arg3 arg4 arg5 arg7 X2 X3 X4 X5 X7 Wt h d ⟨128 * c + t, by omega⟩ := by
  induction n with
  | zero => omega
  | succ n ih =>
    by_cases e : h.val = n
    · have e' : (⟨n, hn⟩ : Fin 8) = h := Fin.ext e.symm
      by_cases hc : c.val = 1
      · refine (View.read_writes_cons_unit_of_mem arg14.view f _ _ _ (ix4 s c d t) (ix4 0 0 d t) rfl fun a => ?_).trans ?_
        · match a with
          | ⟨0, _⟩ => show s.val = n % 2 + 0; omega
          | ⟨1, _⟩ => show c.val = 1 + 0; omega
          | ⟨2, _⟩ => show d.val = 0 + d.val; omega
          | ⟨3, _⟩ => show t.val = 0 + t.val; omega
        · rw [b1_apply i arg2 arg3 arg4 arg5 arg6 arg7 arg9 arg11 arg12 arg13 X2 X3 X4 X5 X6 X7 f9 f11 f12 Wt hW0 hW1 hS, e']
          congr 1
          apply Fin.ext
          show 128 + t.val = 128 * c.val + t.val
          omega
      · refine (View.read_writes_cons_unit_of_not_mem arg14.view f _ _ _ (ix4 s c d t) rfl 1 (Or.inl (by show c.val < 1; omega))).trans ?_
        refine (View.read_writes_cons_unit_of_mem arg14.view f _ _ _ (ix4 s c d t) (ix4 0 0 d t) rfl fun a => ?_).trans ?_
        · match a with
          | ⟨0, _⟩ => show s.val = n % 2 + 0; omega
          | ⟨1, _⟩ => show c.val = 0 + 0; omega
          | ⟨2, _⟩ => show d.val = 0 + d.val; omega
          | ⟨3, _⟩ => show t.val = 0 + t.val; omega
        · rw [b0_apply i arg2 arg3 arg4 arg5 arg6 arg7 arg9 arg11 arg12 arg13 X2 X3 X4 X5 X6 X7 f9 f11 f12 Wt hW0 hW1 hS, e']
          congr 1
          apply Fin.ext
          show t.val = 128 * c.val + t.val
          omega
    · have hax : s.val < n % 2 ∨ n % 2 + 1 ≤ s.val := by omega
      refine (View.read_writes_cons_unit_of_not_mem arg14.view f _ _ _ (ix4 s c d t) rfl 0 hax).trans ?_
      refine (View.read_writes_cons_unit_of_not_mem arg14.view f _ _ _ (ix4 s c d t) rfl 0 hax).trans ?_
      exact ih _ (by omega) (by omega)

theorem pair_read (p : Fin 4) (c s : Fin 2) (t ch : Fin 128) :
    pairB arg14 (A14 i arg2 arg3 arg4 arg5 arg6 arg7 arg9 arg11 arg12 arg13 arg14 X2 X3 X4 X5 X6 X7 f9 f11 f12 p) c (ix4 0 t s ch)
      = Oc i arg2 arg3 arg4 arg5 arg7 X2 X3 X4 X5 X7 Wt ⟨2 * p + s, by omega⟩ (perm ch) ⟨128 * c + t, by omega⟩ := by
  rw [pairB_apply]
  exact L14_read i arg2 arg3 arg4 arg5 arg6 arg7 arg9 arg11 arg12 arg13 arg14 X2 X3 X4 X5 X6 X7 f9 f11 f12 Wt hW0 hW1 hS
    _ _ _ _ (by show 2 * p.val + s.val < 2 * p.val + 2; omega) (by show 2 * p.val + 2 ≤ 2 * p.val + s.val + 2; omega) s c
    (by show s.val = (2 * p.val + s.val) % 2; omega) _ _

theorem L8_read (f : BufTy.Contents (Elt Ideal) arg8.view.ty) (n : ℕ) (hn : n ≤ 4) (h : Fin 8) (hlt : h.val < 2 * n) (c : Fin 256) (ch : Fin 128) :
    View.read (Elt Ideal) arg8.view (arg8.view.writes (Elt Ideal) f
        (L8 i arg2 arg3 arg4 arg5 arg6 arg7 arg9 arg11 arg12 arg13 arg14 X2 X3 X4 X5 X6 X7 f9 f11 f12 n hn)) (ix4 0 c h ch)
      = Oc i arg2 arg3 arg4 arg5 arg7 X2 X3 X4 X5 X7 Wt h (perm ch) c := by
  induction n with
  | zero => omega
  | succ n ih =>
    by_cases e : 2 * n ≤ h.val
    · by_cases hc : 128 ≤ c.val
      · refine (View.read_writes_cons_unit_of_mem arg8.view f _ _ _ (ix4 0 c h ch) (ix4 0 ⟨c - 128, by omega⟩ ⟨h - 2 * n, by omega⟩ ch) rfl fun a => ?_).trans ?_
        · match a with
          | ⟨0, _⟩ => rfl
          | ⟨1, _⟩ => show c.val = 128 * 1 + (c.val - 128); omega
          | ⟨2, _⟩ => show h.val = 2 * n + (h.val - 2 * n); omega
          | ⟨3, _⟩ => show ch.val = 0 + ch.val; omega
        · rw [pair_read i arg2 arg3 arg4 arg5 arg6 arg7 arg9 arg11 arg12 arg13 arg14 X2 X3 X4 X5 X6 X7 f9 f11 f12 Wt hW0 hW1 hS]
          have e1 : (⟨2 * n + (h.val - 2 * n), by omega⟩ : Fin 8) = h := Fin.ext (by show 2 * n + (h.val - 2 * n) = h.val; omega)
          have e2 : (⟨128 * 1 + (c.val - 128), by omega⟩ : Fin 256) = c := Fin.ext (by show 128 * 1 + (c.val - 128) = c.val; omega)
          exact congrArg₂ (fun a b => Oc i arg2 arg3 arg4 arg5 arg7 X2 X3 X4 X5 X7 Wt a (perm ch) b) e1 e2
      · refine (View.read_writes_cons_unit_of_not_mem arg8.view f _ _ _ (ix4 0 c h ch) rfl 1 (Or.inl (by show c.val < 128 * 1; omega))).trans ?_
        refine (View.read_writes_cons_unit_of_mem arg8.view f _ _ _ (ix4 0 c h ch) (ix4 0 ⟨c, by omega⟩ ⟨h - 2 * n, by omega⟩ ch) rfl fun a => ?_).trans ?_
        · match a with
          | ⟨0, _⟩ => rfl
          | ⟨1, _⟩ => show c.val = 128 * 0 + c.val; omega
          | ⟨2, _⟩ => show h.val = 2 * n + (h.val - 2 * n); omega
          | ⟨3, _⟩ => show ch.val = 0 + ch.val; omega
        · rw [pair_read i arg2 arg3 arg4 arg5 arg6 arg7 arg9 arg11 arg12 arg13 arg14 X2 X3 X4 X5 X6 X7 f9 f11 f12 Wt hW0 hW1 hS]
          have e1 : (⟨2 * n + (h.val - 2 * n), by omega⟩ : Fin 8) = h := Fin.ext (by show 2 * n + (h.val - 2 * n) = h.val; omega)
          have e2 : (⟨128 * 0 + c.val, by omega⟩ : Fin 256) = c := Fin.ext (by show 128 * 0 + c.val = c.val; omega)
          exact congrArg₂ (fun a b => Oc i arg2 arg3 arg4 arg5 arg7 X2 X3 X4 X5 X7 Wt a (perm ch) b) e1 e2
    · have hax : h.val < 2 * n ∨ 2 * n + 2 ≤ h.val := Or.inl (by omega)
      refine (View.read_writes_cons_unit_of_not_mem arg8.view f _ _ _ (ix4 0 c h ch) rfl 2 hax).trans ?_
      refine (View.read_writes_cons_unit_of_not_mem arg8.view f _ _ _ (ix4 0 c h ch) rfl 2 hax).trans ?_
      exact ih _ (by omega)

end Body

end Cert.AttnIdeal.Head
-- ==== Proof.Target.lean ====
module

public import proofs.«01_k».proof.Proof.HeadValue

@[expose] public section

set_option maxRecDepth 16384

noncomputable section

/-! The three results of the kernel as functions of its six arguments, element by element. -/

namespace Cert.AttnIdeal.Target

open Cert.AttnIdeal Cert.AttnIdeal.Gen Cert.AttnIdeal.Pass Cert.AttnIdeal.Head
open Idealize.ShloMosaic

/-- The row of the scales of the values that belongs to value row `d`. -/
def vsRow (d : Fin 128) : Fin 8 := ⟨d % 8, by omega⟩
/-- The column of the scales of the values that belongs to token `T`. -/
def vsCol (T : Fin 4096) : Fin 128 := ⟨T % 128, by omega⟩

variable (a0 : Vec Ideal S9x4096x8x128 .bf16) (a1 : Vec Ideal S9x8x64x4096 .bf16) (a2 : Vec Ideal S9x8x4096x192 .fp8e4m3)
  (a3 : Vec Ideal S9x8x128x4096 .fp8e4m3) (a4 : Vec Ideal S9x8x4096 .f32) (a5 : Vec Ideal S9x8x8x128 .f32)

/-- The channels of the query of one token of one head. -/
def gq (b : Fin 9) (h : Fin 8) (T : Fin 4096) : Fin 192 → EReal :=
  both (fun d => a0 (ix4 b T h d)) (fun d => a1 (ix4 b h d T))
/-- The masked score of a key. -/
def gx (b : Fin 9) (h : Fin 8) (T r : Fin 4096) : EReal :=
  if r.val ≤ T.val then (∑ d, a2 (ix4 b h r d) * cT (gq a0 a1 b h T) d) * a4 (ix3 b h r) else ⊥
/-- The multiplier of the exponent. -/
def gm (b : Fin 9) (h : Fin 8) (T : Fin 4096) : EReal :=
  sT (gq a0 a1 b h T) * (((Real.sqrt 192)⁻¹ * (Real.log 2)⁻¹ : ℝ) : EReal)
/-- The exponential of a score. -/
def gp (b : Fin 9) (h : Fin 8) (T r : Fin 4096) : EReal :=
  Ideal.exp2 ((gx a0 a1 a2 a4 b h T r - ⨆ r, gx a0 a1 a2 a4 b h T r) * gm a0 a1 b h T)
/-- The quotient of value row `d`. -/
def go (b : Fin 9) (h : Fin 8) (T : Fin 4096) (d : Fin 128) : EReal :=
  Ideal.div ((∑ r, a3 (ix4 b h d r) * clip (gp a0 a1 a2 a4 b h T r)) * a5 (ix4 b h (vsRow d) (vsCol T)))
    (∑ r, gp a0 a1 a2 a4 b h T r)

/-- The attention result. -/
def T6 : Vec Ideal S9x4096x8x128 .bf16 := fun y => go a0 a1 a2 a3 a4 a5 (y 0) (y 2) (y 1) (perm (y 3))
/-- The codes of the queries. -/
def T7 : Vec Ideal S9x8x192x4096 .fp8e4m3 := fun y => cT (gq a0 a1 (y 0) (y 1) (y 3)) (y 2)
/-- The scales of the queries. -/
def T8 : Vec Ideal S9x8x4096 .f32 := fun y => sT (gq a0 a1 (y 0) (y 1) (y 2))

/-! ## From a tile to the whole arrays -/

section Body

variable (i : grid0.Coords)
  (arg2 : Memref sig .tc .vmem S1x256x8x128 .bf16) (arg3 : Memref sig .tc .vmem S1x8x64x256 .bf16)
  (arg4 : Memref sig .tc .vmem S1x8x4096x192 .fp8e4m3) (arg5 : Memref sig .tc .vmem S1x8x128x4096 .fp8e4m3)
  (arg7 : Memref sig .tc .vmem S1x8x8x128 .f32)
  (X2 : BufTy.Contents (Elt Ideal) arg2.view.ty) (X3 : BufTy.Contents (Elt Ideal) arg3.view.ty)
  (X4 : BufTy.Contents (Elt Ideal) arg4.view.ty) (X5 : BufTy.Contents (Elt Ideal) arg5.view.ty)
  (X7 : BufTy.Contents (Elt Ideal) arg7.view.ty) (b : Fin 9)
  (h2 : ∀ (h : Fin 8) (c : Fin 256) (d : Fin 128), View.read (Elt Ideal) arg2.view X2 (ix4 0 c h d) = a0 (ix4 b (rowT i c) h d))
  (h3 : ∀ (h : Fin 8) (c : Fin 256) (d : Fin 64), View.read (Elt Ideal) arg3.view X3 (ix4 0 h d c) = a1 (ix4 b h d (rowT i c)))
  (h4 : ∀ (h : Fin 8) (r : Fin 4096) (d : Fin 192), View.read (Elt Ideal) arg4.view X4 (ix4 0 h r d) = a2 (ix4 b h r d))
  (h5 : ∀ (h : Fin 8) (r : Fin 4096) (d : Fin 128), View.read (Elt Ideal) arg5.view X5 (ix4 0 h d r) = a3 (ix4 b h d r))
  (h7 : ∀ (h : Fin 8) (d : Fin 8) (t : Fin 128), View.read (Elt Ideal) arg7.view X7 (ix4 0 h d t) = a5 (ix4 b h d t))

include h2 h3 in
theorem q0_eq (h : Fin 8) (c : Fin 256) : q0 arg2 arg3 X2 X3 h c = gq a0 a1 b h (rowT i c) := by
  unfold q0 gq
  simp only [h2, h3]

include h2 h3 in
theorem Qc_eq (h : Fin 8) (d : Fin 192) (c : Fin 256) : Qc arg2 arg3 X2 X3 h d c = cT (gq a0 a1 b h (rowT i c)) d := by
  unfold Qc
  rw [q0_eq a0 a1 i arg2 arg3 X2 X3 b h2 h3]

include h2 h3 h4 in
theorem xval_eq (h : Fin 8) (r : Fin 4096) (c : Fin 256) :
    xval (Kc arg4 X4 h) (Qc arg2 arg3 X2 X3 h) (fun r => a4 (ix3 b h r)) (i 1).val r c = gx a0 a1 a2 a4 b h (rowT i c) r := by
  unfold xval gx score Kc
  simp only [h4, Qc_eq a0 a1 i arg2 arg3 X2 X3 b h2 h3]
  rfl

include h2 h3 h4 in
theorem Pc_eq (h : Fin 8) (r : Fin 4096) (c : Fin 256) :
    Pc i arg2 arg3 arg4 X2 X3 X4 (fun h r => a4 (ix3 b h r)) h r c = gp a0 a1 a2 a4 b h (rowT i c) r := by
  unfold Pc gp pval Mx qmT gm
  simp only [xval_eq a0 a1 a2 a4 i arg2 arg3 arg4 X2 X3 X4 b h2 h3 h4, q0_eq a0 a1 i arg2 arg3 X2 X3 b h2 h3]

include h2 h3 h4 h5 h7 in
theorem Oc_eq (h : Fin 8) (d : Fin 128) (c : Fin 256) :
    Oc i arg2 arg3 arg4 arg5 arg7 X2 X3 X4 X5 X7 (fun h r => a4 (ix3 b h r)) h d c = go a0 a1 a2 a3 a4 a5 b h (rowT i c) d := by
  have e : vsCol (rowT i c) = ⟨c % 128, by omega⟩ := by
    apply Fin.ext
    show (256 * (i 1).val + c.val) % 128 = c.val % 128
    omega
  unfold Oc go Vc
  simp only [Pc_eq a0 a1 a2 a4 i arg2 arg3 arg4 X2 X3 X4 b h2 h3 h4, h5, h7, e]
  rfl

end Body

/-! ## The scale of a token whose channels are finite -/

/-- The largest finite bfloat16. -/
def top16 : EReal := Ideal.ofBits .bf16 0x7F7F#16

theorem top16_eq : top16 = ((255 * 2 ^ 120 : ℝ) : EReal) := by
  unfold top16
  simp [Ideal.ofBits, Ideal.ieee, -EReal.coe_mul] <;> norm_num

theorem c448_eq : Ideal.ofBits .f32 0x3B124925#32 = ((9586981 / 2 ^ 32 : ℝ) : EReal) := by
  simp [Ideal.ofBits, Ideal.ieee, -EReal.coe_mul]; norm_num

/-- The candidate scale of a token with finite channels is a real number a float32 holds. -/
theorem yT_real (q : Fin 192 → EReal) (hq : ∀ d, max (q d) (-(q d)) ≤ top16) :
    ∃ r : ℝ, yT q = (r : EReal) ∧ 0 ≤ r ∧ r < 2 ^ (120 : ℤ) := by
  have hle : (⨆ d, max (q d) (-(q d))) ≤ ((255 * 2 ^ 120 : ℝ) : EReal) := iSup_le fun d => (hq d).trans_eq top16_eq
  have h0 : (0 : EReal) ≤ ⨆ d, max (q d) (-(q d)) := by
    refine le_trans ?_ (le_iSup (fun d => max (q d) (-(q d))) 0)
    rcases le_total 0 (q 0) with h | h
    · exact le_max_of_le_left h
    · exact le_max_of_le_right (EReal.neg_nonneg.2 h)
  unfold yT
  rw [c448_eq]
  generalize (⨆ d, max (q d) (-(q d))) = s at hle h0
  have hb : s ≠ ⊥ := fun h => by rw [h] at h0; exact absurd h0 (not_le.2 EReal.bot_lt_zero)
  have ht : s ≠ ⊤ := fun h => by rw [h] at hle; exact absurd hle (not_le.2 (EReal.coe_lt_top _))
  lift s to ℝ using ⟨ht, hb⟩
  have hle' : s ≤ 255 * 2 ^ 120 := by exact_mod_cast hle
  have h0' : 0 ≤ s := by exact_mod_cast h0
  refine ⟨s * (9586981 / 2 ^ 32), (EReal.coe_mul _ _).symm, by positivity, ?_⟩
  have : (2 : ℝ) ^ (120 : ℤ) = 2 ^ (120 : ℕ) := by norm_cast
  rw [this]
  nlinarith

/-- The scale of such a token is a power of two, the reference's. -/
theorem scale_pow (q : Fin 192 → EReal) (hq : ∀ d, max (q d) (-(q d)) ≤ top16) :
    ∃ n : ℤ, Cert.Quant.refE (yT q) = ((n : ℝ) : EReal) ∧ sT q = (((2 : ℝ) ^ n : ℝ) : EReal)
      ∧ Cert.Quant.invW (wT q) = (((2 : ℝ) ^ (-n) : ℝ) : EReal) := by
  obtain ⟨r, e, h0, h1⟩ := yT_real q hq
  obtain ⟨n, e1, e2, e3⟩ := Cert.Quant.quant r h0 h1
  refine ⟨n, ?_, ?_, ?_⟩
  · rw [e, e1]
  · unfold sT wT; rw [e, e2]
  · unfold wT; rw [e, e3]

theorem scale_pos (q : Fin 192 → EReal) (hq : ∀ d, max (q d) (-(q d)) ≤ top16) : 0 < sT q := by
  obtain ⟨n, -, e, -⟩ := scale_pow q hq
  rw [e]
  have : (0 : ℝ) < 2 ^ n := by positivity
  exact_mod_cast this

end Cert.AttnIdeal.Target

end
-- ==== Proof.ValueIdeal.lean ====
module

public import proofs.«01_k».proof.Proof.BodyIdeal
public import proofs.«01_k».proof.Proof.Target
public import proofs.«01_k».proof.Proof.Gen.AttnIdeal.Launch
public import proofs.«01_k».proof.Proof.Gen.AttnIdeal.Points
public import proofs.«01_k».proof.Proof.Gen.AttnIdeal.Frame
public import Idealize.ShloMosaic.Lib.Pipeline.FrameBody
public import Idealize.ShloMosaic.Lib.Pipeline.ValueKit

@[expose] public section

noncomputable section

/-! The run of the kernel with its three results named, from queries whose elements are finite. -/

namespace Cert.AttnIdeal.Value

open Cert.AttnIdeal Cert.AttnIdeal.Gen Cert.AttnIdeal.Hand Cert.AttnIdeal.Head Cert.AttnIdeal.Target
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose RDat)

local notation "𝕄" => MT nD τ sig Unit (Elt Ideal) ℕ (UR sig nD τ) ℕ

/-! ## Where a block's elements lie in its array -/

/-- The batch of a grid point. -/
def bT (t : Fin cfg0.N) : Fin 9 := grid0.coords t 0

theorem coords_eq : ∀ t : Fin cfg0.N, (grid0.coords t 0).val = t.val / 16 ∧ (grid0.coords t 1).val = t.val % 16 :=
  (by decide +kernel : ∀ t : Fin grid0.N, (grid0.coords t 0).val = t.val / 16 ∧ (grid0.coords t 1).val = t.val % 16)

theorem idx0 : ∀ t : Fin cfg0.N, win0_0.index t (0 : Fin 4) = (grid0.coords t 0).val ∧ win0_0.index t (1 : Fin 4) = (grid0.coords t 1).val ∧ win0_0.index t (2 : Fin 4) = 0 ∧ win0_0.index t (3 : Fin 4) = 0 :=
  (by decide +kernel : ∀ t : Fin grid0.N, _)
theorem idx1 : ∀ t : Fin cfg0.N, win0_1.index t (0 : Fin 4) = (grid0.coords t 0).val ∧ win0_1.index t (1 : Fin 4) = 0 ∧ win0_1.index t (2 : Fin 4) = 0 ∧ win0_1.index t (3 : Fin 4) = (grid0.coords t 1).val :=
  (by decide +kernel : ∀ t : Fin grid0.N, _)
theorem idx2 : ∀ t : Fin cfg0.N, win0_2.index t (0 : Fin 4) = (grid0.coords t 0).val ∧ win0_2.index t (1 : Fin 4) = 0 ∧ win0_2.index t (2 : Fin 4) = 0 ∧ win0_2.index t (3 : Fin 4) = 0 :=
  (by decide +kernel : ∀ t : Fin grid0.N, _)
theorem idx3 : ∀ t : Fin cfg0.N, win0_3.index t (0 : Fin 4) = (grid0.coords t 0).val ∧ win0_3.index t (1 : Fin 4) = 0 ∧ win0_3.index t (2 : Fin 4) = 0 ∧ win0_3.index t (3 : Fin 4) = 0 :=
  (by decide +kernel : ∀ t : Fin grid0.N, _)
theorem idx4 : ∀ t : Fin cfg0.N, win0_4.index t (0 : Fin 3) = (grid0.coords t 0).val ∧ win0_4.index t (1 : Fin 3) = 0 ∧ win0_4.index t (2 : Fin 3) = (grid0.coords t 1).val :=
  (by decide +kernel : ∀ t : Fin grid0.N, _)
theorem idx5 : ∀ t : Fin cfg0.N, win0_5.index t (0 : Fin 4) = (grid0.coords t 0).val ∧ win0_5.index t (1 : Fin 4) = 0 ∧ win0_5.index t (2 : Fin 4) = 0 ∧ win0_5.index t (3 : Fin 4) = 0 :=
  (by decide +kernel : ∀ t : Fin grid0.N, _)
theorem idx6 : ∀ t : Fin cfg0.N, win0_6.index t (0 : Fin 4) = (grid0.coords t 0).val ∧ win0_6.index t (1 : Fin 4) = (grid0.coords t 1).val ∧ win0_6.index t (2 : Fin 4) = 0 ∧ win0_6.index t (3 : Fin 4) = 0 :=
  (by decide +kernel : ∀ t : Fin grid0.N, _)
theorem idx7 : ∀ t : Fin cfg0.N, win0_7.index t (0 : Fin 4) = (grid0.coords t 0).val ∧ win0_7.index t (1 : Fin 4) = 0 ∧ win0_7.index t (2 : Fin 4) = 0 ∧ win0_7.index t (3 : Fin 4) = (grid0.coords t 1).val :=
  (by decide +kernel : ∀ t : Fin grid0.N, _)
theorem idx8 : ∀ t : Fin cfg0.N, win0_8.index t (0 : Fin 3) = (grid0.coords t 0).val ∧ win0_8.index t (1 : Fin 3) = 0 ∧ win0_8.index t (2 : Fin 3) = (grid0.coords t 1).val :=
  (by decide +kernel : ∀ t : Fin grid0.N, _)

theorem emb0 (t : Fin cfg0.N) (h : Fin 8) (c : Fin 256) (d : Fin 128) :
    ((cfg0.win 0).blk t).view.emb (ix4 0 c h d) = (ix4 (bT t) (rowT (grid0.coords t) c) h d : S9x4096x8x128.Idx) := by
  obtain ⟨e0, e1, e2, e3⟩ := idx0 t
  funext a; apply Fin.ext
  match a with
  | ⟨0, _⟩ => show win0_0.index t (0 : Fin 4) * 1 + 1 * 0 = (grid0.coords t 0).val; omega
  | ⟨1, _⟩ => show win0_0.index t (1 : Fin 4) * 256 + 1 * c.val = 256 * (grid0.coords t 1).val + c.val; omega
  | ⟨2, _⟩ => show win0_0.index t (2 : Fin 4) * 8 + 1 * h.val = h.val; omega
  | ⟨3, _⟩ => show win0_0.index t (3 : Fin 4) * 128 + 1 * d.val = d.val; omega
theorem emb1 (t : Fin cfg0.N) (h : Fin 8) (c : Fin 256) (d : Fin 64) :
    ((cfg0.win 1).blk t).view.emb (ix4 0 h d c) = (ix4 (bT t) h d (rowT (grid0.coords t) c) : S9x8x64x4096.Idx) := by
  obtain ⟨e0, e1, e2, e3⟩ := idx1 t
  funext a; apply Fin.ext
  match a with
  | ⟨0, _⟩ => show win0_1.index t (0 : Fin 4) * 1 + 1 * 0 = (grid0.coords t 0).val; omega
  | ⟨1, _⟩ => show win0_1.index t (1 : Fin 4) * 8 + 1 * h.val = h.val; omega
  | ⟨2, _⟩ => show win0_1.index t (2 : Fin 4) * 64 + 1 * d.val = d.val; omega
  | ⟨3, _⟩ => show win0_1.index t (3 : Fin 4) * 256 + 1 * c.val = 256 * (grid0.coords t 1).val + c.val; omega
theorem emb2 (t : Fin cfg0.N) (h : Fin 8) (r : Fin 4096) (d : Fin 192) :
    ((cfg0.win 2).blk t).view.emb (ix4 0 h r d) = (ix4 (bT t) h r d : S9x8x4096x192.Idx) := by
  obtain ⟨e0, e1, e2, e3⟩ := idx2 t
  funext a; apply Fin.ext
  match a with
  | ⟨0, _⟩ => show win0_2.index t (0 : Fin 4) * 1 + 1 * 0 = (grid0.coords t 0).val; omega
  | ⟨1, _⟩ => show win0_2.index t (1 : Fin 4) * 8 + 1 * h.val = h.val; omega
  | ⟨2, _⟩ => show win0_2.index t (2 : Fin 4) * 4096 + 1 * r.val = r.val; omega
  | ⟨3, _⟩ => show win0_2.index t (3 : Fin 4) * 192 + 1 * d.val = d.val; omega
theorem emb3 (t : Fin cfg0.N) (h : Fin 8) (r : Fin 4096) (d : Fin 128) :
    ((cfg0.win 3).blk t).view.emb (ix4 0 h d r) = (ix4 (bT t) h d r : S9x8x128x4096.Idx) := by
  obtain ⟨e0, e1, e2, e3⟩ := idx3 t
  funext a; apply Fin.ext
  match a with
  | ⟨0, _⟩ => show win0_3.index t (0 : Fin 4) * 1 + 1 * 0 = (grid0.coords t 0).val; omega
  | ⟨1, _⟩ => show win0_3.index t (1 : Fin 4) * 8 + 1 * h.val = h.val; omega
  | ⟨2, _⟩ => show win0_3.index t (2 : Fin 4) * 128 + 1 * d.val = d.val; omega
  | ⟨3, _⟩ => show win0_3.index t (3 : Fin 4) * 4096 + 1 * r.val = r.val; omega
theorem emb4 (t : Fin cfg0.N) (h : Fin 8) (c : Fin 256) :
    ((cfg0.win 4).blk t).view.emb (ix3 0 h c) = (ix3 (bT t) h (rowT (grid0.coords t) c) : S9x8x4096.Idx) := by
  obtain ⟨e0, e1, e2⟩ := idx4 t
  funext a; apply Fin.ext
  match a with
  | ⟨0, _⟩ => show win0_4.index t (0 : Fin 3) * 1 + 1 * 0 = (grid0.coords t 0).val; omega
  | ⟨1, _⟩ => show win0_4.index t (1 : Fin 3) * 8 + 1 * h.val = h.val; omega
  | ⟨2, _⟩ => show win0_4.index t (2 : Fin 3) * 256 + 1 * c.val = 256 * (grid0.coords t 1).val + c.val; omega
theorem emb5 (t : Fin cfg0.N) (h : Fin 8) (d : Fin 8) (l : Fin 128) :
    ((cfg0.win 5).blk t).view.emb (ix4 0 h d l) = (ix4 (bT t) h d l : S9x8x8x128.Idx) := by
  obtain ⟨e0, e1, e2, e3⟩ := idx5 t
  funext a; apply Fin.ext
  match a with
  | ⟨0, _⟩ => show win0_5.index t (0 : Fin 4) * 1 + 1 * 0 = (grid0.coords t 0).val; omega
  | ⟨1, _⟩ => show win0_5.index t (1 : Fin 4) * 8 + 1 * h.val = h.val; omega
  | ⟨2, _⟩ => show win0_5.index t (2 : Fin 4) * 8 + 1 * d.val = d.val; omega
  | ⟨3, _⟩ => show win0_5.index t (3 : Fin 4) * 128 + 1 * l.val = l.val; omega
theorem emb6 (t : Fin cfg0.N) (h : Fin 8) (c : Fin 256) (d : Fin 128) :
    ((cfg0.win 6).blk t).view.emb (ix4 0 c h d) = (ix4 (bT t) (rowT (grid0.coords t) c) h d : S9x4096x8x128.Idx) := by
  obtain ⟨e0, e1, e2, e3⟩ := idx6 t
  funext a; apply Fin.ext
  match a with
  | ⟨0, _⟩ => show win0_6.index t (0 : Fin 4) * 1 + 1 * 0 = (grid0.coords t 0).val; omega
  | ⟨1, _⟩ => show win0_6.index t (1 : Fin 4) * 256 + 1 * c.val = 256 * (grid0.coords t 1).val + c.val; omega
  | ⟨2, _⟩ => show win0_6.index t (2 : Fin 4) * 8 + 1 * h.val = h.val; omega
  | ⟨3, _⟩ => show win0_6.index t (3 : Fin 4) * 128 + 1 * d.val = d.val; omega
theorem emb7 (t : Fin cfg0.N) (h : Fin 8) (c : Fin 256) (d : Fin 192) :
    ((cfg0.win 7).blk t).view.emb (ix4 0 h d c) = (ix4 (bT t) h d (rowT (grid0.coords t) c) : S9x8x192x4096.Idx) := by
  obtain ⟨e0, e1, e2, e3⟩ := idx7 t
  funext a; apply Fin.ext
  match a with
  | ⟨0, _⟩ => show win0_7.index t (0 : Fin 4) * 1 + 1 * 0 = (grid0.coords t 0).val; omega
  | ⟨1, _⟩ => show win0_7.index t (1 : Fin 4) * 8 + 1 * h.val = h.val; omega
  | ⟨2, _⟩ => show win0_7.index t (2 : Fin 4) * 192 + 1 * d.val = d.val; omega
  | ⟨3, _⟩ => show win0_7.index t (3 : Fin 4) * 256 + 1 * c.val = 256 * (grid0.coords t 1).val + c.val; omega
theorem emb8 (t : Fin cfg0.N) (h : Fin 8) (c : Fin 256) :
    ((cfg0.win 8).blk t).view.emb (ix3 0 h c) = (ix3 (bT t) h (rowT (grid0.coords t) c) : S9x8x4096.Idx) := by
  obtain ⟨e0, e1, e2⟩ := idx8 t
  funext a; apply Fin.ext
  match a with
  | ⟨0, _⟩ => show win0_8.index t (0 : Fin 3) * 1 + 1 * 0 = (grid0.coords t 0).val; omega
  | ⟨1, _⟩ => show win0_8.index t (1 : Fin 3) * 8 + 1 * h.val = h.val; omega
  | ⟨2, _⟩ => show win0_8.index t (2 : Fin 3) * 256 + 1 * c.val = 256 * (grid0.coords t 1).val + c.val; omega

variable (m : (ℓ : Loc nD τ sig) → Buf (Elt Ideal) ℓ) (ρ : Dev nD → PrngReg)

theorem iblk0 (c : Dev nD) (t : Fin cfg0.N) (h : Fin 8) (a : Fin 256) (d : Fin 128) :
    iblk m c 0 t (ix4 0 a h d) = V m c main_arg0 (ix4 (bT t) (rowT (grid0.coords t) a) h d) :=
  congrArg (V m c main_arg0) (emb0 t h a d)
theorem iblk1 (c : Dev nD) (t : Fin cfg0.N) (h : Fin 8) (a : Fin 256) (d : Fin 64) :
    iblk m c 1 t (ix4 0 h d a) = V m c main_arg1 (ix4 (bT t) h d (rowT (grid0.coords t) a)) :=
  congrArg (V m c main_arg1) (emb1 t h a d)
theorem iblk2 (c : Dev nD) (t : Fin cfg0.N) (h : Fin 8) (r : Fin 4096) (d : Fin 192) :
    iblk m c 2 t (ix4 0 h r d) = V m c main_arg2 (ix4 (bT t) h r d) := congrArg (V m c main_arg2) (emb2 t h r d)
theorem iblk3 (c : Dev nD) (t : Fin cfg0.N) (h : Fin 8) (r : Fin 4096) (d : Fin 128) :
    iblk m c 3 t (ix4 0 h d r) = V m c main_arg3 (ix4 (bT t) h d r) := congrArg (V m c main_arg3) (emb3 t h r d)
theorem iblk4 (c : Dev nD) (t : Fin cfg0.N) (h : Fin 8) (a : Fin 256) :
    iblk m c 4 t (ix3 0 h a) = V m c main_arg4 (ix3 (bT t) h (rowT (grid0.coords t) a)) := congrArg (V m c main_arg4) (emb4 t h a)
theorem iblk5 (c : Dev nD) (t : Fin cfg0.N) (h : Fin 8) (d : Fin 8) (l : Fin 128) :
    iblk m c 5 t (ix4 0 h d l) = V m c main_arg5 (ix4 (bT t) h d l) := congrArg (V m c main_arg5) (emb5 t h d l)

/-! ## The run -/

/-- The attention result of the arguments as launched. -/
def R6 (c : Dev nD) : Vec Ideal S9x4096x8x128 .bf16 := T6 (V m c main_arg0) (V m c main_arg1) (V m c main_arg2) (V m c main_arg3) (V m c main_arg4) (V m c main_arg5)
/-- The codes of the queries as launched. -/
def R7 (c : Dev nD) : Vec Ideal S9x8x192x4096 .fp8e4m3 := T7 (V m c main_arg0) (V m c main_arg1)
/-- The scales of the queries as launched. -/
def R8 (c : Dev nD) : Vec Ideal S9x8x4096 .f32 := T8 (V m c main_arg0) (V m c main_arg1)

/-- What the scratch of the key scales holds before grid point `n`: the scales of the keys of the earlier tiles of the batch. -/
def Inv (c : Dev nD) (n : ℕ) (g : S8x4096x128.Idx → EReal) : Prop :=
  ∀ t : Fin cfg0.N, t.val = n → ∀ (h : Fin 8) (r : Fin 4096) (l : Fin 128), r.val < 256 * (grid0.coords t 1).val →
    g (ix3 h r l) = V m c main_arg4 (ix3 (bT t) h r)

/-- The invariant of the grid's loop before point `n`. -/
def PhiS (c : Dev nD) (n : ℕ) : sProp 𝕄 :=
  iprop(((∃ f : Buf (Elt Ideal) ((c : Thread nD τ).loc cc0_scratch0), ⌜Inv m c n ((Memref.whole cc0_scratch0).view.read (Elt Ideal) f)⌝ ∗ (((c : Thread nD τ).loc cc0_scratch0) ↦{fullShare} f))
    ∗ (∃ f : Buf (Elt Ideal) ((c : Thread nD τ).loc cc0_scratch1), ((c : Thread nD τ).loc cc0_scratch1) ↦{fullShare} f)
    ∗ (∃ f : Buf (Elt Ideal) ((c : Thread nD τ).loc cc0_scratch2), ((c : Thread nD τ).loc cc0_scratch2) ↦{fullShare} f)
    ∗ (∃ f : Buf (Elt Ideal) ((c : Thread nD τ).loc cc0_scratch3), ((c : Thread nD τ).loc cc0_scratch3) ↦{fullShare} f))
    ∗ ∃ r, prngReg c r)

/-- One point's block of the scales. -/
def B8 (c : Dev nD) (t : Fin cfg0.N) : Vec Ideal S1x8x256 .f32 := fun y => R8 m c (((cfg0.win 8).blk t).view.emb y)

/-- The proof data: the arrays as launched, every input block left in place, every block of a result its part of the named array. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => ((cfg0.win 6).blk t).view.read (Elt Ideal) (R6 m c)
    | ⟨7, _⟩ => ((cfg0.win 7).blk t).view.read (Elt Ideal) (R7 m c)
    | ⟨8, _⟩ => B8 m c t
  Φ t := PhiS m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = ((cfg0.win 6).blk t).view.read (Elt Ideal) (R6 m c) := by dsimp only [dats]
theorem after0_7 (c : Dev nD) (t : Fin cfg0.N) : (dats m 0 c).after 7 t = ((cfg0.win 7).blk t).view.read (Elt Ideal) (R7 m c) := by dsimp only [dats]
theorem after0_8 (c : Dev nD) (t : Fin cfg0.N) : (dats m 0 c).after 8 t = B8 m c t := by dsimp only [dats]
theorem before0_0 (c : Dev nD) (t : Fin cfg0.N) (d) : (dats m 0 c).before 0 t d = iblk m c 0 t :=
  before0_0_of m (dats m 0 c) (by dsimp only [dats]) (fun t => after0_0 m c t) t d
theorem before0_1 (c : Dev nD) (t : Fin cfg0.N) (d) : (dats m 0 c).before 1 t d = iblk m c 1 t :=
  before0_1_of m (dats m 0 c) (by dsimp only [dats]) (fun t => after0_1 m c t) t d
theorem before0_2 (c : Dev nD) (t : Fin cfg0.N) (d) : (dats m 0 c).before 2 t d = iblk m c 2 t :=
  before0_2_of m (dats m 0 c) (by dsimp only [dats]) (fun t => after0_2 m c t) t d
theorem before0_3 (c : Dev nD) (t : Fin cfg0.N) (d) : (dats m 0 c).before 3 t d = iblk m c 3 t :=
  before0_3_of m (dats m 0 c) (by dsimp only [dats]) (fun t => after0_3 m c t) t d
theorem before0_4 (c : Dev nD) (t : Fin cfg0.N) (d) : (dats m 0 c).before 4 t d = iblk m c 4 t :=
  before0_4_of m (dats m 0 c) (by dsimp only [dats]) (fun t => after0_4 m c t) t d
theorem before0_5 (c : Dev nD) (t : Fin cfg0.N) (d) : (dats m 0 c).before 5 t d = iblk m c 5 t :=
  before0_5_of m (dats m 0 c) (by dsimp only [dats]) (fun t => after0_5 m c t) t d

theorem Φ_start (c : Dev nD) (t : Fin cfg0.N) : (dats m 0 c).Φ t.castSucc = PhiS m c t.val := by
  dsimp only [dats]
  exact Pipeline.Dat.Φ_castSucc (fun n _ => PhiS m c n) t
theorem Φ_succ (c : Dev nD) (t : Fin cfg0.N) : (dats m 0 c).Φ t.succ = PhiS m c (t.val + 1) := by
  dsimp only [dats]
  rfl

/-- What the launch's body obligation hands over at a point. -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)))
/-- What it takes back. -/
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t))

/-- No entry of an array is larger than the largest bf16 number. -/
def Bounded {S : Shape} (a : S.Idx → EReal) : Prop := ∀ j, max (a j) (-(a j)) ≤ top16

/-- The channels of the queries are finite. -/
def FinQ : Prop := ∀ c : Dev nD, Bounded (S := S9x4096x8x128) (V m c main_arg0) ∧ Bounded (S := S9x8x64x4096) (V m c main_arg1)

variable (hF : FinQ m)

include hF in
theorem gq_fin (c : Dev nD) (b : Fin 9) (h : Fin 8) (T : Fin 4096) (d : Fin 192) :
    max (gq (V m c main_arg0) (V m c main_arg1) b h T d) (-(gq (V m c main_arg0) (V m c main_arg1) b h T d)) ≤ top16 := by
  unfold gq both
  split
  · exact (hF c).1 _
  · exact (hF c).2 _

/-! ## One point's blocks -/

/-- Two arrays of one leading place agree when they agree at every index. -/
theorem ext3 {α : Type} {A B : ℕ} (f g : (⟨3, ![1, A, B]⟩ : Shape).Idx → α) (h : ∀ a b, f (ix3 0 a b) = g (ix3 0 a b)) : f = g := by
  funext y
  have e : y 0 = (0 : Fin 1) := Subsingleton.elim (α := Fin 1) _ _
  have := h (y 1) (y 2)
  rw [eq_ix3 y, e]
  exact this

section Point

variable (c : Dev nD) (t : Fin cfg0.N)
  (arg2 : Memref sig .tc .vmem S1x256x8x128 .bf16) (arg3 : Memref sig .tc .vmem S1x8x64x256 .bf16)
  (arg4 : Memref sig .tc .vmem S1x8x4096x192 .fp8e4m3) (arg5 : Memref sig .tc .vmem S1x8x128x4096 .fp8e4m3)
  (arg6 : Memref sig .tc .vmem S1x8x256 .f32) (arg7 : Memref sig .tc .vmem S1x8x8x128 .f32)
  (arg8 : Memref sig .tc .vmem S1x256x8x128 .bf16)
  (arg9 : Memref sig .tc .vmem S1x8x192x256 .fp8e4m3) (arg10 : Memref sig .tc .vmem S1x8x256 .f32) (arg11 : Memref sig .tc .vmem S8x4096x128 .f32)
  (arg12 : Memref sig .tc .vmem S4096x256 .f32) (arg13 : Memref sig .tc .vmem S128x256 .f32)
  (arg14 : Memref sig .tc .vmem S2x2x128x128 .f32)
  (X2 : BufTy.Contents (Elt Ideal) arg2.view.ty) (X3 : BufTy.Contents (Elt Ideal) arg3.view.ty)
  (X4 : BufTy.Contents (Elt Ideal) arg4.view.ty) (X5 : BufTy.Contents (Elt Ideal) arg5.view.ty)
  (X6 : BufTy.Contents (Elt Ideal) arg6.view.ty) (X7 : BufTy.Contents (Elt Ideal) arg7.view.ty)
  (f9 : Fin 8 → BufTy.Contents (Elt Ideal) arg9.view.ty) (f11 : BufTy.Contents (Elt Ideal) arg11.view.ty)
  (f12 : BufTy.Contents (Elt Ideal) arg12.view.ty)
  (e2 : View.read (Elt Ideal) arg2.view X2 = iblk m c 0 t) (e3 : View.read (Elt Ideal) arg3.view X3 = iblk m c 1 t)
  (e4 : View.read (Elt Ideal) arg4.view X4 = iblk m c 2 t) (e5 : View.read (Elt Ideal) arg5.view X5 = iblk m c 3 t)
  (e6 : View.read (Elt Ideal) arg6.view X6 = iblk m c 4 t) (e7 : View.read (Elt Ideal) arg7.view X7 = iblk m c 5 t)

include e2 in
theorem h2 (h : Fin 8) (a : Fin 256) (d : Fin 128) :
    View.read (Elt Ideal) arg2.view X2 (ix4 0 a h d) = V m c main_arg0 (ix4 (bT t) (rowT (grid0.coords t) a) h d) := by
  rw [e2]; exact iblk0 m c t h a d
include e3 in
theorem h3 (h : Fin 8) (a : Fin 256) (d : Fin 64) :
    View.read (Elt Ideal) arg3.view X3 (ix4 0 h d a) = V m c main_arg1 (ix4 (bT t) h d (rowT (grid0.coords t) a)) := by
  rw [e3]; exact iblk1 m c t h a d
include e4 in
theorem h4 (h : Fin 8) (r : Fin 4096) (d : Fin 192) :
    View.read (Elt Ideal) arg4.view X4 (ix4 0 h r d) = V m c main_arg2 (ix4 (bT t) h r d) := by
  rw [e4]; exact iblk2 m c t h r d
include e5 in
theorem h5 (h : Fin 8) (r : Fin 4096) (d : Fin 128) :
    View.read (Elt Ideal) arg5.view X5 (ix4 0 h d r) = V m c main_arg3 (ix4 (bT t) h d r) := by
  rw [e5]; exact iblk3 m c t h r d
include e6 in
theorem h6 (h : Fin 8) (a : Fin 256) :
    View.read (Elt Ideal) arg6.view X6 (ix3 0 h a) = V m c main_arg4 (ix3 (bT t) h (rowT (grid0.coords t) a)) := by
  rw [e6]; exact iblk4 m c t h a
include e7 in
theorem h7 (h : Fin 8) (d : Fin 8) (l : Fin 128) :
    View.read (Elt Ideal) arg7.view X7 (ix4 0 h d l) = V m c main_arg5 (ix4 (bT t) h d l) := by
  rw [e7]; exact iblk5 m c t h d l

include e2 e3 in
theorem out7 (f : BufTy.Contents (Elt Ideal) arg9.view.ty) :
    View.read (Elt Ideal) arg9.view (arg9.view.writes (Elt Ideal) f (Spec.L9 arg2 arg3 X2 X3 8 (by decide)))
      = ((cfg0.win 7).blk t).view.read (Elt Ideal) (R7 m c) := by
  have key : ∀ (h : Fin 8) (a : Fin 256) (d : Fin 192),
      View.read (Elt Ideal) arg9.view (arg9.view.writes (Elt Ideal) f (Spec.L9 arg2 arg3 X2 X3 8 (by decide))) (ix4 0 h d a)
        = R7 m c (((cfg0.win 7).blk t).view.emb (ix4 0 h d a)) := by
    intro h a d
    rw [L9_read arg2 arg3 arg9 X2 X3 f 8 _ h h.isLt d a, emb7,
      Qc_eq (V m c main_arg0) (V m c main_arg1) (grid0.coords t) arg2 arg3 X2 X3 (bT t) (h2 m c t arg2 X2 e2) (h3 m c t arg3 X3 e3)]
    rfl
  funext y
  have hy : y = ix4 (0 : Fin 1) (y 1 : Fin 8) (y 2 : Fin 192) (y 3 : Fin 256) := by
    funext a
    match a with
    | ⟨0, _⟩ => exact Fin.ext (by have := (y 0).isLt; show (y 0).val = 0; exact Nat.lt_one_iff.1 this)
    | ⟨1, _⟩ => rfl
    | ⟨2, _⟩ => rfl
    | ⟨3, _⟩ => rfl
  rw [hy]
  exact key _ _ _

include e2 e3 in
theorem out8_at (f : BufTy.Contents (Elt Ideal) arg10.view.ty) (h : Fin 8) (a : Fin 256) :
    View.read (Elt Ideal) arg10.view (arg10.view.writes (Elt Ideal) f (Spec.L10 arg2 arg3 X2 X3 8 (by decide))) (ix3 0 h a)
      = R8 m c (((cfg0.win 8).blk t).view.emb (ix3 0 h a)) := by
  rw [emb8]
  refine (L10_read arg2 arg3 arg10 X2 X3 f 8 (by decide) h h.isLt a).trans ?_
  rw [q0_eq (V m c main_arg0) (V m c main_arg1) (grid0.coords t) arg2 arg3 X2 X3 (bT t) (h2 m c t arg2 X2 e2) (h3 m c t arg3 X3 e3)]
  rfl

include e2 e3 in
theorem out8 (f : BufTy.Contents (Elt Ideal) arg10.view.ty) :
    View.read (Elt Ideal) arg10.view (arg10.view.writes (Elt Ideal) f (Spec.L10 arg2 arg3 X2 X3 8 (by decide)))
      = B8 m c t := by
  refine ext3 _ _ fun h a => ?_
  exact out8_at m c t arg2 arg3 arg10 X2 X3 e2 e3 f _ _

variable (hI : Inv m c t.val (View.read (Elt Ideal) arg11.view f11))

include e6 hI in
theorem inv_next (n : ℕ) (hn : n = t.val + 1) :
    Inv m c n (View.read (Elt Ideal) arg11.view (arg11.view.writes (Elt Ideal) f11 (Spec.L11 (grid0.coords t) arg6 X6 8 (by decide)))) := by
  intro t' ht' h r l hr
  obtain ⟨c0, c1⟩ := coords_eq t
  obtain ⟨d0, d1⟩ := coords_eq t'
  have hb : bT t' = bT t := Fin.ext (by show (grid0.coords t' 0).val = (grid0.coords t 0).val; omega)
  rw [hb]
  by_cases hlt : r.val < 256 * (grid0.coords t 1).val
  · rw [L11_skip (grid0.coords t) arg6 arg11 X6 f11 8 _ h r (Or.inl hlt) l]
    exact hI t rfl h r l hlt
  · have ha : r.val - 256 * (grid0.coords t 1).val < 256 := by omega
    rw [L11_read (grid0.coords t) arg6 arg11 X6 f11 8 _ h h.isLt ⟨r.val - 256 * (grid0.coords t 1).val, ha⟩ r (by show r.val = _ + (r.val - _); omega) l,
      h6 m c t arg6 X6 e6]
    congr 2
    exact Fin.ext (by show 256 * (grid0.coords t 1).val + (r.val - 256 * (grid0.coords t 1).val) = r.val; omega)

include e2 e3 e4 e5 e6 e7 hI hF in
theorem out6 (f : BufTy.Contents (Elt Ideal) arg8.view.ty) :
    View.read (Elt Ideal) arg8.view (arg8.view.writes (Elt Ideal) f
        (Spec.L8 (grid0.coords t) arg2 arg3 arg4 arg5 arg6 arg7 arg9 arg11 arg12 arg13 arg14 X2 X3 X4 X5 X6 X7 f9 f11 f12 4 (by decide)))
      = ((cfg0.win 6).blk t).view.read (Elt Ideal) (R6 m c) := by
  have key : ∀ (h : Fin 8) (a : Fin 256) (d : Fin 128),
      View.read (Elt Ideal) arg8.view (arg8.view.writes (Elt Ideal) f
        (Spec.L8 (grid0.coords t) arg2 arg3 arg4 arg5 arg6 arg7 arg9 arg11 arg12 arg13 arg14 X2 X3 X4 X5 X6 X7 f9 f11 f12 4 (by decide))) (ix4 0 a h d)
        = R6 m c (((cfg0.win 6).blk t).view.emb (ix4 0 a h d)) := by
    intro h a d
    have k2 := h2 m c t arg2 X2 e2
    have k3 := h3 m c t arg3 X3 e3
    rw [L8_read (grid0.coords t) arg2 arg3 arg4 arg5 arg6 arg7 arg8 arg9 arg11 arg12 arg13 arg14 X2 X3 X4 X5 X6 X7 f9 f11 f12
        (fun h r => V m c main_arg4 (ix3 (bT t) h r)) (fun h r l hr => hI t rfl h r l hr) (h6 m c t arg6 X6 e6)
        (fun h a => by
          rw [q0_eq (V m c main_arg0) (V m c main_arg1) (grid0.coords t) arg2 arg3 X2 X3 (bT t) k2 k3]
          exact scale_pos _ (gq_fin m hF c _ _ _)) f 4 _ h (by have := h.isLt; omega) a d, emb6,
      Oc_eq (V m c main_arg0) (V m c main_arg1) (V m c main_arg2) (V m c main_arg3) (V m c main_arg4) (V m c main_arg5)
        (grid0.coords t) arg2 arg3 arg4 arg5 arg7 X2 X3 X4 X5 X7 (bT t) k2 k3 (h4 m c t arg4 X4 e4) (h5 m c t arg5 X5 e5) (h7 m c t arg7 X7 e7)]
    rfl
  funext y
  have hy : y = ix4 (0 : Fin 1) (y 1 : Fin 256) (y 2 : Fin 8) (y 3 : Fin 128) := by
    funext a
    match a with
    | ⟨0, _⟩ => exact Fin.ext (by have := (y 0).isLt; show (y 0).val = 0; exact Nat.lt_one_iff.1 this)
    | ⟨1, _⟩ => rfl
    | ⟨2, _⟩ => rfl
    | ⟨3, _⟩ => rfl
  rw [hy]
  exact key _ _ _

end Point

end Cert.AttnIdeal.Value

end
-- ==== Proof.ValueRun.lean ====
module

public import proofs.«01_k».proof.Proof.ValueIdeal
public import proofs.«01_k».proof.Proof.Gen.AttnIdeal.Launch
public import proofs.«01_k».proof.Proof.Gen.AttnIdeal.Points
public import proofs.«01_k».proof.Proof.Gen.AttnIdeal.Frame
public import Idealize.ShloMosaic.Lib.Pipeline.FrameBody
public import Idealize.ShloMosaic.Lib.Pipeline.ValueKit

@[expose] public section

noncomputable section

/-! The run of the kernel with its three results named. -/

namespace Cert.AttnIdeal.Value

open Cert.AttnIdeal Cert.AttnIdeal.Gen Cert.AttnIdeal.Hand Cert.AttnIdeal.Head Cert.AttnIdeal.Target
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose RDat)

local notation "𝕄" => MT nD τ sig Unit (Elt Ideal) ℕ (UR sig nD τ) ℕ

variable (m : (ℓ : Loc nD τ sig) → Buf (Elt Ideal) ℓ) (ρ : Dev nD → PrngReg) (hF : FinQ m)

include hF in
set_option maxHeartbeats 1000000 in
theorem sound_body (c : Dev nD) (t : Fin cfg0.N) :
    bodyPre m c t ⊢ wp frame (wpE (defs₀ (F := Ideal)) Variants.none (c : Thread nD τ) none) Set.univ (bodyAt0 t) (fun _ => bodyPost m c t) := by
  unfold bodyPre bodyPost bodyAt0
  simp only [before0_0, before0_1, before0_2, before0_3, before0_4, before0_5, after0_0, after0_1, after0_2, after0_3, after0_4, after0_5, after0_6, after0_7, after0_8]
  rw [show (dats m 0 c).owesAt () t.succ = (dats m 0 c).owesAt () t.castSucc from rfl, Φ_start, Φ_succ]
  unfold PhiS
  unfold owns
  iintro ⟨⟨⟨⟨%g0, %hI, S0⟩, ⟨%g1, S1⟩, ⟨%g2, S2⟩, ⟨%g3, S3⟩⟩, Hg⟩, HW, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, -, H6⟩, ⟨%d7, %f7, -, H7⟩, ⟨%d8, %f8, -, H8⟩⟩
  iapply (exec c (grid0.coords t) _ _ _ _ _ _ _ _ _ _ _ _ _ _ _ _ _ _ (Memref.whole cc0_scratch0) (Memref.isWhole_whole _) (Memref.whole cc0_scratch1) (Memref.isWhole_whole _) (Memref.whole cc0_scratch2) (Memref.isWhole_whole _) (Memref.whole cc0_scratch3) (Memref.isWhole_whole _) f0 f1 f2 f3 f4 f5 f6 f7 f8 g0 g1 g2 g3)
  isplitl [H0 H1 H2 H3 H4 H5 H6 H7 H8 S0 S1 S2 S3]
  · simp only [Held, Memref.view_whole, View.set_whole]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [S0]; · iexact S0
    isplitl [S1]; · iexact S1
    isplitl [S2]; · iexact S2
    iexact S3
  simp only [Held, Memref.view_whole, View.set_whole]
  iintro ⟨%k1, %k2, %k3, H0, H1, H2, H3, H4, H5, H6, H7, H8, S0, S1, S2, S3⟩
  isplitl [S0 S1 S2 S3 Hg]
  · isplitl [S0 S1 S2 S3]
    · isplitl [S0]
      · iexists _; isplitr; swap; · iexact S0
        ipureintro
        exact inv_next m c t (st0_4 t) (Memref.whole cc0_scratch0) f4 g0 e4 hI _ rfl
      isplitl [S1]; · iexists _; iexact S1
      isplitl [S2]; · iexists _; iexact S2
      iexists _; iexact S3
    iexact Hg
  isplitl [HW]; · iexact HW
  isplitl [H0]
  · iexists f0; isplitr; swap; · iexact H0
    ipureintro; exact e0
  isplitl [H1]
  · iexists f1; isplitr; swap; · iexact H1
    ipureintro; exact e1
  isplitl [H2]
  · iexists f2; isplitr; swap; · iexact H2
    ipureintro; exact e2
  isplitl [H3]
  · iexists f3; isplitr; swap; · iexact H3
    ipureintro; exact e3
  isplitl [H4]
  · iexists f4; isplitr; swap; · iexact H4
    ipureintro; exact e4
  isplitl [H5]
  · iexists f5; isplitr; swap; · iexact H5
    ipureintro; exact e5
  isplitl [H6]
  · iexists _; isplitr; swap; · iexact H6
    ipureintro
    exact out6 m hF c t (st0_0 t) (st0_1 t) (st0_2 t) (st0_3 t) (st0_4 t) (st0_5 t) (st0_6 t) (st0_7 t) (Memref.whole cc0_scratch0) (Memref.whole cc0_scratch1) (Memref.whole cc0_scratch2) (Memref.whole cc0_scratch3) f0 f1 f2 f3 f4 f5 _ g0 g1 e0 e1 e2 e3 e4 e5 hI f6
  isplitl [H7]
  · iexists _; isplitr; swap; · iexact H7
    ipureintro
    exact out7 m c t (st0_0 t) (st0_1 t) (st0_7 t) f0 f1 e0 e1 _
  iexists _; isplitr; swap; · iexact H8
  ipureintro
  exact out8 m c t (st0_0 t) (st0_1 t) (st0_8 t) f0 f1 e0 e1 _

theorem defs₀_row (t : Fin cfg0.N) :
    defs₀ (F := Ideal) .tc cfg0.body (cfg0.bodyArgs t (cfg0.slots t)) = bodyAt0 t := by
  unfold defs₀; rw [Defs.onTc_tc]

include hF in
theorem body_obligation (c : Dev nD) : BodyObligationLoose (dats m 0 c) (defs₀ (F := Ideal)) Variants.none () Set.univ := fun t => by
  rw [bigSep_W0, bigSep_W0, defs₀_row]
  exact triple_restated (sound_body m hF c t) rfl .rfl fun _ => .rfl

theorem phi_in (c : Dev nD) : Pipeline.ΦA spec0 c ⊢ (dats m 0 c).Φ 0 := by
  rw [show (dats m 0 c).Φ 0 = PhiS m c 0 from by dsimp only [dats]; rfl]
  unfold Pipeline.ΦA PhiS
  rw [scopedRest0_eq]
  iintro ⟨⟨⟨%g0, S0⟩, Hs⟩, Hg⟩
  isplitl [S0 Hs]
  · isplitl [S0]
    · iexists g0; isplitr; swap; · iexact S0
      ipureintro
      intro t ht h r l hr
      obtain ⟨c0, c1⟩ := coords_eq t
      omega
    iexact Hs
  iexact Hg

theorem phi_out (c : Dev nD) : (dats m 0 c).Φ (Fin.last cfg0.N) ⊢ Pipeline.ΦA spec0 c := by
  rw [show (dats m 0 c).Φ (Fin.last cfg0.N) = PhiS m c cfg0.N from by dsimp only [dats]; rfl]
  unfold Pipeline.ΦA PhiS
  rw [scopedRest0_eq]
  iintro ⟨⟨⟨%g0, -, S0⟩, Hs⟩, Hg⟩
  isplitl [S0 Hs]
  · isplitl [S0]
    · iexists g0; iexact S0
    iexact Hs
  iexact Hg

include hF in
set_option backward.isDefEq.respectTransparency.types false in
theorem run_main : θ_run defs (onTc (τ := τ) (main (F := Ideal))) (s₀ m ρ)
    (fun r => Pipeline.FramePost cfgs (dats m) (0 : Fin 1) (V m) r) :=
  Pipeline.θ_run_frame_track cfgs (dats m) (0 : Fin 1) launch0 defs₀ Variants.none m ρ main
    (hbody := fun c => body_obligation m hF c) (hshare := fun c => (dats m 0 c).share_full fun _ => rfl)
    (howed := fun _ _ => rfl) (V := V m) (hmain := hmain m Variants.none) (hA := A_eq m)
    (hin := phi_in m) (hout := phi_out m)

theorem final6 (c : Dev nD) : (dats m 0 c).arrAt 6 cfg0.N = R6 m c := by
  refine (dats m 0 c).arrAt_eq_of_covers 6 _ (by decide +kernel) fun t hf y => ?_
  blk_simp
  rw [after0_6]
  rfl

theorem final7 (c : Dev nD) : (dats m 0 c).arrAt 7 cfg0.N = R7 m c := by
  refine (dats m 0 c).arrAt_eq_of_covers 7 _ (by decide +kernel) fun t hf y => ?_
  blk_simp
  rw [after0_7]
  rfl

theorem final8 (c : Dev nD) : (dats m 0 c).arrAt 8 cfg0.N = R8 m c := by
  refine (dats m 0 c).arrAt_eq_of_covers 8 _ (by decide +kernel) fun t hf y => ?_
  blk_simp
  rw [after0_8]
  rfl

include hF in
/-- The program terminates with its three results named and its arguments unchanged. -/
theorem run : θ_run defs (onTc (τ := τ) (main (F := Ideal))) ⟨m, fun _ => 0, ρ⟩ (fun r => ∀ c : Dev nD,
      (r.2.mem ((c.tc : Thread nD τ).loc main_v0_0) = R6 m c
      ∧ r.2.mem ((c.tc : Thread nD τ).loc main_v0_1) = R7 m c
      ∧ r.2.mem ((c.tc : Thread nD τ).loc main_v0_2) = R8 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨⟨((h c).1 6).trans (final6 m c), ((h c).1 7).trans (final7 m c), ((h c).1 8).trans (final8 m c)⟩,
    ((h c).1 0).trans (((dats m 0 c).arrAt_in 0 rfl _).trans (A_eq m c 0)), ((h c).1 1).trans (((dats m 0 c).arrAt_in 1 rfl _).trans (A_eq m c 1)),
    ((h c).1 2).trans (((dats m 0 c).arrAt_in 2 rfl _).trans (A_eq m c 2)), ((h c).1 3).trans (((dats m 0 c).arrAt_in 3 rfl _).trans (A_eq m c 3)),
    ((h c).1 4).trans (((dats m 0 c).arrAt_in 4 rfl _).trans (A_eq m c 4)), ((h c).1 5).trans (((dats m 0 c).arrAt_in 5 rfl _).trans (A_eq m c 5))⟩) (run_main m ρ hF)

end Cert.AttnIdeal.Value

end
-- ==== Proof.RefValue.lean ====
/- The value run of the reference: what each of its three result arrays holds after the run, as a function
   of the argument arrays. -/
module

public import proofs.«01_k».proof.Proof.Gen.RefIdeal.Frame
public import Idealize.ShloMosaic.Lib.Pipeline.Value

@[expose] public section

noncomputable section

namespace Cert.RefIdeal.Hand

open Cert.RefIdeal Cert.RefIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t) (iblk m c 3 t) (iblk m c 4 t) (iblk m c 5 t)) := by
  show (cfg0.win 6).cut (grid0.coords t) ((dats m 0 c).after 6 t) = _
  rw [after0_6]

/-- The index map sends distinct grid points to distinct block indices (decided over the 1 point). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S9x4096x8x128.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the body's result for that window (`Gen.out0_7`: its stores
    as pieces over the input windows' blocks), read through the window's block. -/
theorem flushed7 (c : Dev nD) (t : Fin cfg0.N) :
    (dats m 0 c).flushed 7 t = (cfg0.win 7).cut (grid0.coords t) (out0_7 (iblk m c 0 t) (iblk m c 1 t) (iblk m c 2 t) (iblk m c 3 t) (iblk m c 4 t) (iblk m c 5 t)) := by
  show (cfg0.win 7).cut (grid0.coords t) ((dats m 0 c).after 7 t) = _
  rw [after0_7]

/-- The index map sends distinct grid points to distinct block indices (decided over the 1 point). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S9x8x192x4096.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the body's result for that window (`Gen.out0_8`: its stores
    as pieces over the input windows' blocks), read through the window's block. -/
theorem flushed8 (c : Dev nD) (t : Fin cfg0.N) :
    (dats m 0 c).flushed 8 t = (cfg0.win 8).cut (grid0.coords t) (out0_8 (iblk m c 0 t) (iblk m c 1 t) (iblk m c 2 t) (iblk m c 3 t) (iblk m c 4 t) (iblk m c 5 t)) := by
  show (cfg0.win 8).cut (grid0.coords t) ((dats m 0 c).after 8 t) = _
  rw [after0_8]

/-- The index map sends distinct grid points to distinct block indices (decided over the 1 point). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S9x8x4096.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_1) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_2) = (dats m 0 c).arrAt 8 cfg0.N :=
  (h c).1 8

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 6 cfg0.N
      ∧ r.2.mem ((c : Thread nD τ).loc main_v0_1) = (dats m 0 c).arrAt 7 cfg0.N
      ∧ r.2.mem ((c : Thread nD τ).loc main_v0_2) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post6 m r h c,
      post7 m r h c,
      post8 m r h c,
      kept_main_arg0 m r h c,
      kept_main_arg1 m r h c,
      kept_main_arg2 m r h c,
      kept_main_arg3 m r h c,
      kept_main_arg4 m r h c,
      kept_main_arg5 m r h c⟩)
    (run_main m ρ)

/-! ## Closed form at one grid point: every window's block is its array -/

theorem hz0 : (![0, 0, 0, 0] : Fin 4 → Nat) = fun _ => 0 := funext fun a => by fin_cases a <;> rfl

/-- Window 0's block index at the one point is zero on every axis. -/
theorem idx_zero0 : ∀ t : Fin cfg0.N, win0_0.index t (0 : Fin 4) = 0 ∧ win0_0.index t (1 : Fin 4) = 0 ∧ win0_0.index t (2 : Fin 4) = 0 ∧ win0_0.index t (3 : Fin 4) = 0 :=
  (by decide +kernel : ∀ t : Fin grid0.N, _)

/-- An index of window 0's block is the same index of its array. -/
theorem emb0 (t : Fin cfg0.N) (j : S9x4096x8x128.Idx) : ((cfg0.win 0).blk t).view.emb j = j := by
  obtain ⟨e0, e1, e2, e3⟩ := idx_zero0 t
  funext a; apply Fin.ext
  match a with
  | ⟨0, _⟩ => show win0_0.index t (0 : Fin 4) * 9 + 1 * (j 0).val = (j 0).val; omega
  | ⟨1, _⟩ => show win0_0.index t (1 : Fin 4) * 4096 + 1 * (j 1).val = (j 1).val; omega
  | ⟨2, _⟩ => show win0_0.index t (2 : Fin 4) * 8 + 1 * (j 2).val = (j 2).val; omega
  | ⟨3, _⟩ => show win0_0.index t (3 : Fin 4) * 128 + 1 * (j 3).val = (j 3).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0, 0, 0] : Fin 4 → Nat) = fun _ => 0 := funext fun a => by fin_cases a <;> rfl

/-- Window 1's block index at the one point is zero on every axis. -/
theorem idx_zero1 : ∀ t : Fin cfg0.N, win0_1.index t (0 : Fin 4) = 0 ∧ win0_1.index t (1 : Fin 4) = 0 ∧ win0_1.index t (2 : Fin 4) = 0 ∧ win0_1.index t (3 : Fin 4) = 0 :=
  (by decide +kernel : ∀ t : Fin grid0.N, _)

/-- An index of window 1's block is the same index of its array. -/
theorem emb1 (t : Fin cfg0.N) (j : S9x8x64x4096.Idx) : ((cfg0.win 1).blk t).view.emb j = j := by
  obtain ⟨e0, e1, e2, e3⟩ := idx_zero1 t
  funext a; apply Fin.ext
  match a with
  | ⟨0, _⟩ => show win0_1.index t (0 : Fin 4) * 9 + 1 * (j 0).val = (j 0).val; omega
  | ⟨1, _⟩ => show win0_1.index t (1 : Fin 4) * 8 + 1 * (j 1).val = (j 1).val; omega
  | ⟨2, _⟩ => show win0_1.index t (2 : Fin 4) * 64 + 1 * (j 2).val = (j 2).val; omega
  | ⟨3, _⟩ => show win0_1.index t (3 : Fin 4) * 4096 + 1 * (j 3).val = (j 3).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0, 0, 0] : Fin 4 → Nat) = fun _ => 0 := funext fun a => by fin_cases a <;> rfl

/-- Window 2's block index at the one point is zero on every axis. -/
theorem idx_zero2 : ∀ t : Fin cfg0.N, win0_2.index t (0 : Fin 4) = 0 ∧ win0_2.index t (1 : Fin 4) = 0 ∧ win0_2.index t (2 : Fin 4) = 0 ∧ win0_2.index t (3 : Fin 4) = 0 :=
  (by decide +kernel : ∀ t : Fin grid0.N, _)

/-- An index of window 2's block is the same index of its array. -/
theorem emb2 (t : Fin cfg0.N) (j : S9x8x4096x192.Idx) : ((cfg0.win 2).blk t).view.emb j = j := by
  obtain ⟨e0, e1, e2, e3⟩ := idx_zero2 t
  funext a; apply Fin.ext
  match a with
  | ⟨0, _⟩ => show win0_2.index t (0 : Fin 4) * 9 + 1 * (j 0).val = (j 0).val; omega
  | ⟨1, _⟩ => show win0_2.index t (1 : Fin 4) * 8 + 1 * (j 1).val = (j 1).val; omega
  | ⟨2, _⟩ => show win0_2.index t (2 : Fin 4) * 4096 + 1 * (j 2).val = (j 2).val; omega
  | ⟨3, _⟩ => show win0_2.index t (3 : Fin 4) * 192 + 1 * (j 3).val = (j 3).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0, 0, 0] : Fin 4 → Nat) = fun _ => 0 := funext fun a => by fin_cases a <;> rfl

/-- Window 3's block index at the one point is zero on every axis. -/
theorem idx_zero3 : ∀ t : Fin cfg0.N, win0_3.index t (0 : Fin 4) = 0 ∧ win0_3.index t (1 : Fin 4) = 0 ∧ win0_3.index t (2 : Fin 4) = 0 ∧ win0_3.index t (3 : Fin 4) = 0 :=
  (by decide +kernel : ∀ t : Fin grid0.N, _)

/-- An index of window 3's block is the same index of its array. -/
theorem emb3 (t : Fin cfg0.N) (j : S9x8x128x4096.Idx) : ((cfg0.win 3).blk t).view.emb j = j := by
  obtain ⟨e0, e1, e2, e3⟩ := idx_zero3 t
  funext a; apply Fin.ext
  match a with
  | ⟨0, _⟩ => show win0_3.index t (0 : Fin 4) * 9 + 1 * (j 0).val = (j 0).val; omega
  | ⟨1, _⟩ => show win0_3.index t (1 : Fin 4) * 8 + 1 * (j 1).val = (j 1).val; omega
  | ⟨2, _⟩ => show win0_3.index t (2 : Fin 4) * 128 + 1 * (j 2).val = (j 2).val; omega
  | ⟨3, _⟩ => show win0_3.index t (3 : Fin 4) * 4096 + 1 * (j 3).val = (j 3).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0, 0] : Fin 3 → Nat) = fun _ => 0 := funext fun a => by fin_cases a <;> rfl

/-- Window 4's block index at the one point is zero on every axis. -/
theorem idx_zero4 : ∀ t : Fin cfg0.N, win0_4.index t (0 : Fin 3) = 0 ∧ win0_4.index t (1 : Fin 3) = 0 ∧ win0_4.index t (2 : Fin 3) = 0 :=
  (by decide +kernel : ∀ t : Fin grid0.N, _)

/-- An index of window 4's block is the same index of its array. -/
theorem emb4 (t : Fin cfg0.N) (j : S9x8x4096.Idx) : ((cfg0.win 4).blk t).view.emb j = j := by
  obtain ⟨e0, e1, e2⟩ := idx_zero4 t
  funext a; apply Fin.ext
  match a with
  | ⟨0, _⟩ => show win0_4.index t (0 : Fin 3) * 9 + 1 * (j 0).val = (j 0).val; omega
  | ⟨1, _⟩ => show win0_4.index t (1 : Fin 3) * 8 + 1 * (j 1).val = (j 1).val; omega
  | ⟨2, _⟩ => show win0_4.index t (2 : Fin 3) * 4096 + 1 * (j 2).val = (j 2).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0, 0, 0, 0] : Fin 4 → Nat) = fun _ => 0 := funext fun a => by fin_cases a <;> rfl

/-- Window 5's block index at the one point is zero on every axis. -/
theorem idx_zero5 : ∀ t : Fin cfg0.N, win0_5.index t (0 : Fin 4) = 0 ∧ win0_5.index t (1 : Fin 4) = 0 ∧ win0_5.index t (2 : Fin 4) = 0 ∧ win0_5.index t (3 : Fin 4) = 0 :=
  (by decide +kernel : ∀ t : Fin grid0.N, _)

/-- An index of window 5's block is the same index of its array. -/
theorem emb5 (t : Fin cfg0.N) (j : S9x8x8x128.Idx) : ((cfg0.win 5).blk t).view.emb j = j := by
  obtain ⟨e0, e1, e2, e3⟩ := idx_zero5 t
  funext a; apply Fin.ext
  match a with
  | ⟨0, _⟩ => show win0_5.index t (0 : Fin 4) * 9 + 1 * (j 0).val = (j 0).val; omega
  | ⟨1, _⟩ => show win0_5.index t (1 : Fin 4) * 8 + 1 * (j 1).val = (j 1).val; omega
  | ⟨2, _⟩ => show win0_5.index t (2 : Fin 4) * 8 + 1 * (j 2).val = (j 2).val; omega
  | ⟨3, _⟩ => show win0_5.index t (3 : Fin 4) * 128 + 1 * (j 3).val = (j 3).val; omega

/-- Input window 5's block at the point is its array as the region finds it. -/
theorem iblk5_eq (c : Dev nD) (t : Fin cfg0.N) : iblk m c 5 t = V m c main_arg5 := by
  funext j; show V m c main_arg5 (((cfg0.win 5).blk t).view.emb j) = V m c main_arg5 j; rw [emb5]

theorem hz6 : (![0, 0, 0, 0] : Fin 4 → Nat) = fun _ => 0 := funext fun a => by fin_cases a <;> rfl

/-- Window 6's block index at the one point is zero on every axis. -/
theorem idx_zero6 : ∀ t : Fin cfg0.N, win0_6.index t (0 : Fin 4) = 0 ∧ win0_6.index t (1 : Fin 4) = 0 ∧ win0_6.index t (2 : Fin 4) = 0 ∧ win0_6.index t (3 : Fin 4) = 0 :=
  (by decide +kernel : ∀ t : Fin grid0.N, _)

/-- An index of window 6's block is the same index of its array. -/
theorem emb6 (t : Fin cfg0.N) (j : S9x4096x8x128.Idx) : ((cfg0.win 6).blk t).view.emb j = j := by
  obtain ⟨e0, e1, e2, e3⟩ := idx_zero6 t
  funext a; apply Fin.ext
  match a with
  | ⟨0, _⟩ => show win0_6.index t (0 : Fin 4) * 9 + 1 * (j 0).val = (j 0).val; omega
  | ⟨1, _⟩ => show win0_6.index t (1 : Fin 4) * 4096 + 1 * (j 1).val = (j 1).val; omega
  | ⟨2, _⟩ => show win0_6.index t (2 : Fin 4) * 8 + 1 * (j 2).val = (j 2).val; omega
  | ⟨3, _⟩ => show win0_6.index t (3 : Fin 4) * 128 + 1 * (j 3).val = (j 3).val; omega

theorem hz7 : (![0, 0, 0, 0] : Fin 4 → Nat) = fun _ => 0 := funext fun a => by fin_cases a <;> rfl

/-- Window 7's block index at the one point is zero on every axis. -/
theorem idx_zero7 : ∀ t : Fin cfg0.N, win0_7.index t (0 : Fin 4) = 0 ∧ win0_7.index t (1 : Fin 4) = 0 ∧ win0_7.index t (2 : Fin 4) = 0 ∧ win0_7.index t (3 : Fin 4) = 0 :=
  (by decide +kernel : ∀ t : Fin grid0.N, _)

/-- An index of window 7's block is the same index of its array. -/
theorem emb7 (t : Fin cfg0.N) (j : S9x8x192x4096.Idx) : ((cfg0.win 7).blk t).view.emb j = j := by
  obtain ⟨e0, e1, e2, e3⟩ := idx_zero7 t
  funext a; apply Fin.ext
  match a with
  | ⟨0, _⟩ => show win0_7.index t (0 : Fin 4) * 9 + 1 * (j 0).val = (j 0).val; omega
  | ⟨1, _⟩ => show win0_7.index t (1 : Fin 4) * 8 + 1 * (j 1).val = (j 1).val; omega
  | ⟨2, _⟩ => show win0_7.index t (2 : Fin 4) * 192 + 1 * (j 2).val = (j 2).val; omega
  | ⟨3, _⟩ => show win0_7.index t (3 : Fin 4) * 4096 + 1 * (j 3).val = (j 3).val; omega

theorem hz8 : (![0, 0, 0] : Fin 3 → Nat) = fun _ => 0 := funext fun a => by fin_cases a <;> rfl

/-- Window 8's block index at the one point is zero on every axis. -/
theorem idx_zero8 : ∀ t : Fin cfg0.N, win0_8.index t (0 : Fin 3) = 0 ∧ win0_8.index t (1 : Fin 3) = 0 ∧ win0_8.index t (2 : Fin 3) = 0 :=
  (by decide +kernel : ∀ t : Fin grid0.N, _)

/-- An index of window 8's block is the same index of its array. -/
theorem emb8 (t : Fin cfg0.N) (j : S9x8x4096.Idx) : ((cfg0.win 8).blk t).view.emb j = j := by
  obtain ⟨e0, e1, e2⟩ := idx_zero8 t
  funext a; apply Fin.ext
  match a with
  | ⟨0, _⟩ => show win0_8.index t (0 : Fin 3) * 9 + 1 * (j 0).val = (j 0).val; omega
  | ⟨1, _⟩ => show win0_8.index t (1 : Fin 3) * 8 + 1 * (j 1).val = (j 1).val; omega
  | ⟨2, _⟩ => show win0_8.index t (2 : Fin 3) * 4096 + 1 * (j 2).val = (j 2).val; omega

/-! ### Output window 6: the array after the run -/

/-- What the window's array ends holding: `out0_6` applied to the argument arrays in place of the input blocks (a value that the
    frame states apart, `kK_payN a…`, keeps its loads inside its own definition). -/
abbrev G6 (a0 : Vec F S9x4096x8x128 .bf16) (a1 : Vec F S9x8x64x4096 .bf16) (a2 : Vec F S9x8x4096x192 .fp8e4m3) (a3 : Vec F S9x8x128x4096 .fp8e4m3) (a4 : Vec F S9x8x4096 .f32) (a5 : Vec F S9x8x8x128 .f32) : Vec F S9x4096x8x128 .bf16 :=
  k0_pay1 (k0_pay9 (k0_pay11 a0 a1 a2 a3 a4 a5) (k0_pay12 a0 a1 a2 a3 a4 a5) a2 a4) (k0_pay10 (k0_pay11 a0 a1 a2 a3 a4 a5) (k0_pay12 a0 a1 a2 a3 a4 a5) a2 a4 a3) a5

/-- A load of the whole of a block reads the block, and the one store through the whole rectangle leaves its payload. -/
theorem out6_eq (a0 : Vec F S9x4096x8x128 .bf16) (a1 : Vec F S9x8x64x4096 .bf16) (a2 : Vec F S9x8x4096x192 .fp8e4m3) (a3 : Vec F S9x8x128x4096 .fp8e4m3) (a4 : Vec F S9x8x4096 .f32) (a5 : Vec F S9x8x8x128 .f32) : out0_6 (F := F) a0 a1 a2 a3 a4 a5 = G6 a0 a1 a2 a3 a4 a5 := by
  unfold out0_6
  rw [View.canon_unit_zero hz6, View.ld_unit_zero (S := S9x8x4096x192) hz2 _ a2, View.ld_unit_zero (S := S9x8x4096) hz4 _ a4, View.ld_unit_zero (S := S9x8x128x4096) hz3 _ a3, View.ld_unit_zero (S := S9x8x8x128) hz5 _ a5]

/-- Cutting the point's block out of `X` and reading `X` through the block's view give the same. -/
theorem cut6_eq (t : Fin cfg0.N) (X : Vec F S9x4096x8x128 .bf16) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2) (V m c main_arg3) (V m c main_arg4) (V m c main_arg5)) := by
  show (cfg0.win 6).cut (grid0.coords t) ((dats m 0 c).after 6 t) = _
  rw [after0_6, out6_eq, iblk0_eq, iblk1_eq, iblk2_eq, iblk3_eq, iblk4_eq, iblk5_eq]
  exact cut6_eq t _

/-- Every index of the array is in the point's block. -/
theorem covered6 (i : S9x4096x8x128.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 6 (G6 (V m c main_arg0) (V m c main_arg1) (V m c main_arg2) (V m c main_arg3) (V m c main_arg4) (V m c main_arg5)) (fun t _ => flushed6_eq m c t) covered6).trans (by rw [V_main_arg0, V_main_arg1, V_main_arg2, V_main_arg3, V_main_arg4, V_main_arg5])

/-! ### Output window 7: the array after the run -/

/-- What the window's array ends holding: `out0_7` applied to the argument arrays in place of the input blocks (a value that the
    frame states apart, `kK_payN a…`, keeps its loads inside its own definition). -/
abbrev G7 (a0 : Vec F S9x4096x8x128 .bf16) (a1 : Vec F S9x8x64x4096 .bf16) (a2 : Vec F S9x8x4096x192 .fp8e4m3) (a3 : Vec F S9x8x128x4096 .fp8e4m3) (a4 : Vec F S9x8x4096 .f32) (a5 : Vec F S9x8x8x128 .f32) : Vec F S9x8x192x4096 .fp8e4m3 :=
  k0_pay6 a0 a1

/-- A load of the whole of a block reads the block, and the one store through the whole rectangle leaves its payload. -/
theorem out7_eq (a0 : Vec F S9x4096x8x128 .bf16) (a1 : Vec F S9x8x64x4096 .bf16) (a2 : Vec F S9x8x4096x192 .fp8e4m3) (a3 : Vec F S9x8x128x4096 .fp8e4m3) (a4 : Vec F S9x8x4096 .f32) (a5 : Vec F S9x8x8x128 .f32) : out0_7 (F := F) a0 a1 a2 a3 a4 a5 = G7 a0 a1 a2 a3 a4 a5 := by
  unfold out0_7
  rw [View.canon_unit_zero hz7, View.ld_unit_zero (S := S9x4096x8x128) hz0 _ a0, View.ld_unit_zero (S := S9x8x64x4096) hz1 _ a1]

/-- Cutting the point's block out of `X` and reading `X` through the block's view give the same. -/
theorem cut7_eq (t : Fin cfg0.N) (X : Vec F S9x8x192x4096 .fp8e4m3) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2) (V m c main_arg3) (V m c main_arg4) (V m c main_arg5)) := by
  show (cfg0.win 7).cut (grid0.coords t) ((dats m 0 c).after 7 t) = _
  rw [after0_7, out7_eq, iblk0_eq, iblk1_eq, iblk2_eq, iblk3_eq, iblk4_eq, iblk5_eq]
  exact cut7_eq t _

/-- Every index of the array is in the point's block. -/
theorem covered7 (i : S9x8x192x4096.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 7 (G7 (V m c main_arg0) (V m c main_arg1) (V m c main_arg2) (V m c main_arg3) (V m c main_arg4) (V m c main_arg5)) (fun t _ => flushed7_eq m c t) covered7).trans (by rw [V_main_arg0, V_main_arg1, V_main_arg2, V_main_arg3, V_main_arg4, V_main_arg5])

/-! ### Output window 8: the array after the run -/

/-- What the window's array ends holding: `out0_8` applied to the argument arrays in place of the input blocks (a value that the
    frame states apart, `kK_payN a…`, keeps its loads inside its own definition). -/
abbrev G8 (a0 : Vec F S9x4096x8x128 .bf16) (a1 : Vec F S9x8x64x4096 .bf16) (a2 : Vec F S9x8x4096x192 .fp8e4m3) (a3 : Vec F S9x8x128x4096 .fp8e4m3) (a4 : Vec F S9x8x4096 .f32) (a5 : Vec F S9x8x8x128 .f32) : Vec F S9x8x4096 .f32 :=
  k0_pay7 a0 a1

/-- A load of the whole of a block reads the block, and the one store through the whole rectangle leaves its payload. -/
theorem out8_eq (a0 : Vec F S9x4096x8x128 .bf16) (a1 : Vec F S9x8x64x4096 .bf16) (a2 : Vec F S9x8x4096x192 .fp8e4m3) (a3 : Vec F S9x8x128x4096 .fp8e4m3) (a4 : Vec F S9x8x4096 .f32) (a5 : Vec F S9x8x8x128 .f32) : out0_8 (F := F) a0 a1 a2 a3 a4 a5 = G8 a0 a1 a2 a3 a4 a5 := by
  unfold out0_8
  rw [View.canon_unit_zero hz8, View.ld_unit_zero (S := S9x4096x8x128) hz0 _ a0, View.ld_unit_zero (S := S9x8x64x4096) hz1 _ a1]

/-- Cutting the point's block out of `X` and reading `X` through the block's view give the same. -/
theorem cut8_eq (t : Fin cfg0.N) (X : Vec F S9x8x4096 .f32) :
    (cfg0.win 8).cut (grid0.coords t) X = ((cfg0.win 8).blk t).view.read (Elt F) X := by
  funext j
  show X j = X (((cfg0.win 8).blk t).view.emb j)
  rw [emb8]

/-- WHAT THE POINT WRITES BACK is its block of `G8` of the argument arrays as the region finds them. -/
theorem flushed8_eq (c : Dev nD) (t : Fin cfg0.N) :
    (dats m 0 c).flushed 8 t = ((cfg0.win 8).blk t).view.read (Elt F) (G8 (V m c main_arg0) (V m c main_arg1) (V m c main_arg2) (V m c main_arg3) (V m c main_arg4) (V m c main_arg5)) := by
  show (cfg0.win 8).cut (grid0.coords t) ((dats m 0 c).after 8 t) = _
  rw [after0_8, out8_eq, iblk0_eq, iblk1_eq, iblk2_eq, iblk3_eq, iblk4_eq, iblk5_eq]
  exact cut8_eq t _

/-- Every index of the array is in the point's block. -/
theorem covered8 (i : S9x8x4096.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

/-- THE ARRAY after the run: `G8` of the argument arrays as launched. -/
theorem final8 (c : Dev nD) : (dats m 0 c).arrAt 8 cfg0.N = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 8 (G8 (V m c main_arg0) (V m c main_arg1) (V m c main_arg2) (V m c main_arg3) (V m c main_arg4) (V m c main_arg5)) (fun t _ => flushed8_eq m c t) covered8).trans (by rw [V_main_arg0, V_main_arg1, V_main_arg2, V_main_arg3, V_main_arg4, V_main_arg5])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_1) = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_2) = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(post6 m r h c).trans (final6 m c),
      (post7 m r h c).trans (final7 m c),
      (post8 m r h c).trans (final8 m c),
      kept_main_arg0 m r h c,
      kept_main_arg1 m r h c,
      kept_main_arg2 m r h c,
      kept_main_arg3 m r h c,
      kept_main_arg4 m r h c,
      kept_main_arg5 m r h c⟩)
    (run_main m ρ)

end Cert.RefIdeal.Hand

end
-- ==== Proof.RefElem.lean ====
module

public import proofs.«01_k».proof.Proof.Target
public import proofs.«01_k».proof.Proof.RefValue
public import Idealize.ShloMosaic.Lib.Pipeline.ValueKit

@[expose] public section

set_option maxRecDepth 16384

noncomputable section

/-! The three results of the reference, element by element. -/

namespace Cert.RefIdeal.Elem

open Cert.RefIdeal Cert.RefIdeal.Gen Cert.RefIdeal.Hand Cert.AttnIdeal.Pass Cert.AttnIdeal.Head Cert.AttnIdeal.Target Cert.AttnIdeal.Tile
open Idealize.ShloMosaic

/-- Head `h` of batch `b` in the merged axis. -/
def bh (b : Fin 9) (h : Fin 8) : Fin 72 := ⟨b * 8 + h, by omega⟩

theorem bh_div (b : Fin 9) (h : Fin 8) : (bh b h).val / 8 = b.val := by unfold bh; dsimp only; omega
theorem bh_mod (b : Fin 9) (h : Fin 8) : (bh b h).val % 8 = h.val := by unfold bh; dsimp only; omega

/-! ## Reductions over the middle axis, at any extents -/

theorem lift_mid {A B C : ℕ} (hR : (⟨3, ![A, B, C]⟩ : Shape).Reduces [1] ⟨2, ![A, C]⟩) (a : Fin A) (c : Fin C) (k : Fin B) :
    hR.lift (a := (1 : Fin 3)) (ix2 a c) k = ix3 a k c := by
  funext x
  apply Fin.ext
  fin_cases x <;> rfl

theorem add_mid {A B C : ℕ} (v : FVec Ideal ⟨3, ![A, B, C]⟩ .f32) (acc : BitVec 32)
    (hR : (⟨3, ![A, B, C]⟩ : Shape).Reduces [1] ⟨2, ![A, C]⟩) (hφ : FKind.Formats .f32) (hacc : acc = FKind.add.neutral .f32 hφ) (a : Fin A) (c : Fin C) :
    multiReduction .add [1] ⟨2, ![A, C]⟩ v acc hR hφ hacc (ix2 a c) = (∑ k : Fin B, v (ix3 a k c) : EReal) := by
  refine (Ideal.multiReduction_add_single (a := (1 : Fin 3)) v acc hR hφ hacc (ix2 a c)).trans ?_
  exact Finset.sum_congr rfl fun k _ => congrArg v (lift_mid hR a c k)

theorem max_mid {A B C : ℕ} (v : FVec Ideal ⟨3, ![A, B, C]⟩ .f32)
    (hR : (⟨3, ![A, B, C]⟩ : Shape).Reduces [1] ⟨2, ![A, C]⟩) (hφ : FKind.Formats .f32) (hacc : 0xFF800000#32 = FKind.maximumf.neutral .f32 hφ) (a : Fin A) (c : Fin C) :
    multiReduction .maximumf [1] ⟨2, ![A, C]⟩ v 0xFF800000#32 hR hφ hacc (ix2 a c) = (⨆ k : Fin B, v (ix3 a k c) : EReal) := by
  refine (Ideal.multiReduction_maximumf_single (a := (1 : Fin 3)) v _ hR hφ hacc (ix2 a c)).trans ?_
  have e : (v ∘ hR.lift (a := (1 : Fin 3)) (ix2 a c)) = fun k : Fin B => v (ix3 a k c) := funext fun k => congrArg v (lift_mid hR a c k)
  rw [e]
  apply eq_of_forall_ge_iff
  intro z
  refine Iff.trans ?_ iSup_le_iff.symm
  refine (Finset.fold_max_le z).trans ?_
  have hb : (FloatOps.ofBits (F := Ideal) .f32 0xFF800000#32) = (⊥ : EReal) := ofBits_ninf
  rw [hb]
  simp only [bot_le, true_and, Finset.mem_univ, forall_true_left]
  rfl

/-! ## The merged axis of batch and head -/

variable (a0 : Vec Ideal S9x4096x8x128 .bf16) (a1 : Vec Ideal S9x8x64x4096 .bf16) (a2 : Vec Ideal S9x8x4096x192 .fp8e4m3)
  (a3 : Vec Ideal S9x8x128x4096 .fp8e4m3) (a4 : Vec Ideal S9x8x4096 .f32) (a5 : Vec Ideal S9x8x8x128 .f32)

theorem pay2_apply (b : Fin 9) (h : Fin 8) (d : Fin 192) (T : Fin 4096) :
    k0_pay2 a0 a1 (ix3 (bh b h) d T) = gq a0 a1 b h T d := by
  have eb : (⟨(bh b h).val / 8, by omega⟩ : Fin 9) = b := Fin.ext (bh_div b h)
  have eh : (⟨(bh b h).val % 8, by omega⟩ : Fin 8) = h := Fin.ext (bh_mod b h)
  pointwise [k0_pay2]
  unfold gq both
  simp only [eb, eh]

/-- The exponent of a largest magnitude, on whole arrays. -/
def expo {A C : ℕ} (v : FVec Ideal ⟨3, ![A, 1, C]⟩ .f32) : FVec Ideal ⟨3, ![A, 1, C]⟩ .f32 :=
  let y := mulf v (broadcast ⟨3, ![A, 1, C]⟩ (Scalar.ofBits .f32 0x3B124925#32))
  select (cmpf .olt y (broadcast ⟨3, ![A, 1, C]⟩ (Scalar.ofBits .f32 0x00800000#32)))
    (broadcast ⟨3, ![A, 1, C]⟩ (Scalar.ofBits .f32 0x00000000#32))
    (addf (floor (divf (log y) (broadcast ⟨3, ![A, 1, C]⟩ (Named.named κ "ln2" 0x3F317218#32)))) (broadcast ⟨3, ![A, 1, C]⟩ (Scalar.ofBits .f32 0x3F800000#32)))

theorem expo_apply {A C : ℕ} (v : FVec Ideal ⟨3, ![A, 1, C]⟩ .f32) (a : Fin A) (c : Fin C) :
    expo v (ix3 a 0 c) = Quant.refE (v (ix3 a 0 c) * Ideal.ofBits .f32 0x3B124925#32) := by
  unfold Quant.refE
  pointwise [expo]
  rfl

theorem cast_mid (v : FVec Ideal S72x4096 .f32) (hc : S72x4096.ShapeCasts S72x1x4096) (a : Fin 72) (c : Fin 4096) :
    shapeCast S72x1x4096 v hc (ix3 a 0 c) = v (ix2 a c) := by
  pointwise

theorem absf_apply {S : Shape} (v : FVec Ideal S .f32) (i : S.Idx) : absf v i = (max (v i) (-(v i)) : EReal) := rfl

theorem pay3_apply (b : Fin 9) (h : Fin 8) (T : Fin 4096) :
    k0_pay3 a0 a1 (ix3 (bh b h) 0 T) = Quant.refE (yT (gq a0 a1 b h T)) := by
  have e := pay2_apply a0 a1 b h
  unfold k0_pay3
  refine (expo_apply _ _ _).trans (congrArg (fun x => Quant.refE (x * Ideal.ofBits .f32 0x3B124925#32)) ((cast_mid _ _ _ _).trans ((max_mid _ _ _ _ _ _).trans ?_)))
  exact iSup_congr fun d => congrArg (fun x : EReal => max x (-x)) (e d T)

theorem exp2_at {S : Shape} (v : FVec Ideal S .f32) (i : S.Idx) : exp2 v i = Ideal.exp2 (v i) := rfl

/-- The codes from the channels and the exponent. -/
theorem codes_apply (v : FVec Ideal S72x192x4096 .f32) (e : FVec Ideal S72x1x4096 .f32) (n : Fin 72) (d : Fin 192) (T : Fin 4096) :
    minimumf (broadcast S72x192x4096 (Scalar.ofBits (F := Ideal) .f32 0x43E00000#32)) (maximumf (broadcast S72x192x4096 (Scalar.ofBits (F := Ideal) .f32 0xC3E00000#32))
      (mulf v (broadcastTo S72x192x4096 (exp2 (subf (broadcast S72x1x4096 (Scalar.ofBits (F := Ideal) .f32 0x00000000#32)) e)) broadcasts_S72x1x4096_S72x192x4096))) (ix3 n d T)
      = clip (v (ix3 n d T) * Ideal.exp2 (Ideal.ofBits .f32 0x00000000#32 - e (ix3 n 0 T))) := by
  unfold clip
  pointwise
  rfl

theorem pay4_apply (b : Fin 9) (h : Fin 8) (d : Fin 192) (T : Fin 4096) :
    k0_pay4 a0 a1 (ix3 (bh b h) d T)
      = clip (gq a0 a1 b h T d * Ideal.exp2 (Ideal.ofBits .f32 0x00000000#32 - Quant.refE (yT (gq a0 a1 b h T)))) := by
  rw [← pay2_apply a0 a1, ← pay3_apply a0 a1]
  exact codes_apply _ _ _ _ _

theorem pay5_apply (b : Fin 9) (h : Fin 8) (T : Fin 4096) :
    k0_pay5 a0 a1 (ix3 (bh b h) 0 T) = Ideal.exp2 (Quant.refE (yT (gq a0 a1 b h T))) := by
  exact (exp2_at (k0_pay3 a0 a1) (ix3 (bh b h) 0 T)).trans (congrArg Ideal.exp2 (pay3_apply a0 a1 b h T))

theorem split_codes (v : FVec Ideal S72x192x4096 .fp8e4m3) (b : Fin 9) (h : Fin 8) (d : Fin 192) (T : Fin 4096) :
    shapeCast S9x8x192x4096 v shapeCasts_S72x192x4096_S9x8x192x4096 (ix4 b h d T) = v (ix3 (bh b h) d T) := by
  pointwise
  rfl

theorem split_scales (v : FVec Ideal S72x1x4096 .f32) (b : Fin 9) (h : Fin 8) (T : Fin 4096) :
    shapeCast S9x8x4096 v shapeCasts_S72x1x4096_S9x8x4096 (ix3 b h T) = v (ix3 (bh b h) 0 T) := by
  pointwise
  rfl

/-- The codes of the queries. -/
theorem G7_apply (b : Fin 9) (h : Fin 8) (d : Fin 192) (T : Fin 4096) :
    k0_pay6 a0 a1 (ix4 b h d T)
      = clip (gq a0 a1 b h T d * Ideal.exp2 (Ideal.ofBits .f32 0x00000000#32 - Quant.refE (yT (gq a0 a1 b h T)))) :=
  (split_codes (k0_pay4 a0 a1) b h d T).trans (pay4_apply a0 a1 b h d T)

/-- The scales of the queries. -/
theorem G8_apply (b : Fin 9) (h : Fin 8) (T : Fin 4096) :
    k0_pay7 a0 a1 (ix3 b h T) = Ideal.exp2 (Quant.refE (yT (gq a0 a1 b h T))) :=
  (split_scales (k0_pay5 a0 a1) b h T).trans (pay5_apply a0 a1 b h T)

end Cert.RefIdeal.Elem
end
-- ==== Proof.RefAttn.lean ====
module

public import proofs.«01_k».proof.Proof.RefElem
public import Idealize.ShloMosaic.Lib.Pipeline.ValueKit

@[expose] public section

set_option maxRecDepth 16384

noncomputable section

/-! The three results of the reference, element by element: the attention of one query. -/

namespace Cert.RefIdeal.Elem

open Cert.RefIdeal Cert.RefIdeal.Gen Cert.RefIdeal.Hand Cert.AttnIdeal.Pass Cert.AttnIdeal.Head Cert.AttnIdeal.Target Cert.AttnIdeal.Tile
open Idealize.ShloMosaic

open Cert.AttnIdeal.Tile

theorem dotK (v : FVec Ideal S72x4096x192 .fp8e4m3) (w : FVec Ideal S72x192x4096 .fp8e4m3) (n : Fin 72) (r T : Fin 4096) :
    matmul dot_S72x4096x192_S72x192x4096_S72x4096x4096_2_1_1_2_0_0 none v w (constant S72x4096x4096 .f32 0x00000000#32) (ix3 n r T)
      = (∑ d, v (ix3 n r d) * w (ix3 n d T) : EReal) := by
  pointwise

theorem dotV (v : FVec Ideal S72x128x4096 .fp8e4m3) (w : FVec Ideal S72x4096x4096 .fp8e4m3) (n : Fin 72) (d : Fin 128) (T : Fin 4096) :
    matmul dot_S72x128x4096_S72x4096x4096_S72x128x4096_2_1_1_2_0_0 none v w (constant S72x128x4096 .f32 0x00000000#32) (ix3 n d T)
      = (∑ r, v (ix3 n d r) * w (ix3 n r T) : EReal) := by
  pointwise

/-- The masked and scaled score. -/
theorem mask_apply (D : FVec Ideal S72x4096x4096 .f32) (qs : FVec Ideal S72x1x4096 .f32) (ks : FVec Ideal S9x8x4096 .f32) (b : Fin 9) (h : Fin 8) (r T : Fin 4096) :
    select (cmpi .sle (iota .tc S72x4096x4096 32 [1] iota_S72x4096x4096_d1_w32) (iota .tc S72x4096x4096 32 [2] iota_S72x4096x4096_d2_w32))
      (mulf (mulf (mulf D (broadcastTo S72x4096x4096 qs broadcasts_S72x1x4096_S72x4096x4096))
        (broadcastTo S72x4096x4096 (shapeCast S72x4096x1 (shapeCast S72x4096 ks shapeCasts_S9x8x4096_S72x4096) shapeCasts_S72x4096_S72x4096x1) broadcasts_S72x4096x1_S72x4096x4096))
        (broadcast S72x4096x4096 (Named.named (F := Ideal) κ "sm_scale" 0x3D93CD3A#32)))
      (broadcast S72x4096x4096 (Scalar.ofBits (F := Ideal) .f32 0xFF800000#32)) (ix3 (bh b h) r T)
      = if r.val ≤ T.val then ((D (ix3 (bh b h) r T) * qs (ix3 (bh b h) 0 T)) * ks (ix3 b h r)) * (((Real.sqrt 192)⁻¹ : ℝ) : EReal) else ⊥ := by
  have eb : (⟨(bh b h).val / 8, by omega⟩ : Fin 9) = b := Fin.ext (bh_div b h)
  have eh : (⟨(bh b h).val % 8, by omega⟩ : Fin 8) = h := Fin.ext (bh_mod b h)
  pointwise
  rw [select_le _ _ (by omega) (by omega), ofBits_ninf]
  simp only [eb, eh]
  rfl

theorem soft_apply (D : FVec Ideal S72x4096x4096 .f32) (e : FVec Ideal S72x1x4096 .f32) (n : Fin 72) (r T : Fin 4096) :
    exp (subf D (broadcastTo S72x4096x4096 e broadcasts_S72x1x4096_S72x4096x4096)) (ix3 n r T) = Ideal.exp (D (ix3 n r T) - e (ix3 n 0 T)) := by
  pointwise

theorem castK (v : FVec Ideal S9x8x4096x192 .fp8e4m3) (b : Fin 9) (h : Fin 8) (r : Fin 4096) (d : Fin 192) :
    shapeCast S72x4096x192 v shapeCasts_S9x8x4096x192_S72x4096x192 (ix3 (bh b h) r d) = v (ix4 b h r d) := by
  have eb : (⟨(bh b h).val / 8, by omega⟩ : Fin 9) = b := Fin.ext (bh_div b h)
  have eh : (⟨(bh b h).val % 8, by omega⟩ : Fin 8) = h := Fin.ext (bh_mod b h)
  pointwise
  simp only [eb, eh]

theorem castV (v : FVec Ideal S9x8x128x4096 .fp8e4m3) (b : Fin 9) (h : Fin 8) (d : Fin 128) (r : Fin 4096) :
    shapeCast S72x128x4096 v shapeCasts_S9x8x128x4096_S72x128x4096 (ix3 (bh b h) d r) = v (ix4 b h d r) := by
  have eb : (⟨(bh b h).val / 8, by omega⟩ : Fin 9) = b := Fin.ext (bh_div b h)
  have eh : (⟨(bh b h).val % 8, by omega⟩ : Fin 8) = h := Fin.ext (bh_mod b h)
  pointwise
  simp only [eb, eh]

theorem castS (v : FVec Ideal S9x8x8x128 .f32) (b : Fin 9) (h : Fin 8) (d : Fin 8) (l : Fin 128) :
    shapeCast S72x8x128 v shapeCasts_S9x8x8x128_S72x8x128 (ix3 (bh b h) d l) = v (ix4 b h d l) := by
  have eb : (⟨(bh b h).val / 8, by omega⟩ : Fin 9) = b := Fin.ext (bh_div b h)
  have eh : (⟨(bh b h).val % 8, by omega⟩ : Fin 8) = h := Fin.ext (bh_mod b h)
  pointwise
  simp only [eb, eh]

section Scores

variable (v32 : FVec Ideal S72x192x4096 .fp8e4m3) (v33 : FVec Ideal S72x1x4096 .f32)
  (a2 : Vec Ideal S9x8x4096x192 .fp8e4m3) (a3 : Vec Ideal S9x8x128x4096 .fp8e4m3) (a4 : Vec Ideal S9x8x4096 .f32) (a5 : Vec Ideal S9x8x8x128 .f32)

/-- The masked score of a key. -/
def sx (b : Fin 9) (h : Fin 8) (T r : Fin 4096) : EReal :=
  if r.val ≤ T.val then (((∑ d, a2 (ix4 b h r d) * v32 (ix3 (bh b h) d T)) * v33 (ix3 (bh b h) 0 T)) * a4 (ix3 b h r)) * (((Real.sqrt 192)⁻¹ : ℝ) : EReal) else ⊥

theorem pay8_apply (b : Fin 9) (h : Fin 8) (r T : Fin 4096) :
    k0_pay8 v32 v33 a2 a4 (ix3 (bh b h) r T) = Ideal.exp (sx v32 v33 a2 a4 b h T r - ⨆ k, sx v32 v33 a2 a4 b h T k) := by
  unfold k0_pay8
  have e : ∀ k, _ = sx v32 v33 a2 a4 b h T k := fun k =>
    (mask_apply (matmul dot_S72x4096x192_S72x192x4096_S72x4096x4096_2_1_1_2_0_0 none (shapeCast S72x4096x192 a2 shapeCasts_S9x8x4096x192_S72x4096x192) v32 (constant S72x4096x4096 .f32 0x00000000#32)) v33 a4 b h k T).trans
      (by rw [dotK]; simp only [castK]; rfl)
  refine (soft_apply _ _ _ _ _).trans (congrArg Ideal.exp (congrArg₂ (fun x y : EReal => x - y) (e r) ?_))
  exact (cast_mid _ _ _ _).trans ((max_mid _ _ _ _ _ _).trans (iSup_congr e))

theorem pay9_apply (b : Fin 9) (h : Fin 8) (T : Fin 4096) :
    k0_pay9 v32 v33 a2 a4 (ix3 (bh b h) 0 T) = (∑ r, k0_pay8 v32 v33 a2 a4 (ix3 (bh b h) r T) : EReal) := by
  unfold k0_pay9
  exact (cast_mid _ _ _ _).trans (add_mid _ _ _ _ _ _ _)

theorem clip_apply (v : FVec Ideal S72x4096x4096 .f32) (i : S72x4096x4096.Idx) :
    minimumf (broadcast S72x4096x4096 (Scalar.ofBits (F := Ideal) .f32 0x43E00000#32)) (maximumf (broadcast S72x4096x4096 (Scalar.ofBits (F := Ideal) .f32 0xC3E00000#32)) v) i
      = clip (v i) := rfl

theorem pay10_apply (b : Fin 9) (h : Fin 8) (d : Fin 128) (T : Fin 4096) :
    k0_pay10 v32 v33 a2 a4 a3 (ix3 (bh b h) d T) = (∑ r, a3 (ix4 b h d r) * clip (k0_pay8 v32 v33 a2 a4 (ix3 (bh b h) r T)) : EReal) := by
  unfold k0_pay10
  refine (dotV _ _ _ _ _).trans (Finset.sum_congr rfl fun r _ => ?_)
  exact congrArg₂ (fun x y : EReal => x * y) (castV a3 b h d r) (clip_apply (k0_pay8 v32 v33 a2 a4) _)

end Scores

theorem tile_rows (x : FVec Ideal S72x8x128 .f32) (hc) (n : Fin 72) (d : Fin 128) (l : Fin 128) :
    concatenate S72x128x128 1 (List.replicate 16 (⟨S72x8x128, x⟩ : (s : Shape) × (s.Idx → EReal))) hc (ix3 n d l) = x (ix3 n (vsRow d) l) := by
  refine concatenate_replicate_apply (t := S72x128x128) (s₁ := S72x8x128) (1 : Fin 3) 16 x hc rfl (ix3 n d l) (ix3 n (vsRow d) l) rfl ?_
  intro c hne
  match c with
  | ⟨0, _⟩ => rfl
  | ⟨1, _⟩ => exact absurd rfl hne
  | ⟨2, _⟩ => rfl

theorem tile_cols (x : FVec Ideal S72x128x128 .f32) (hc) (n : Fin 72) (d : Fin 128) (T : Fin 4096) :
    concatenate S72x128x4096 2 (List.replicate 32 (⟨S72x128x128, x⟩ : (s : Shape) × (s.Idx → EReal))) hc (ix3 n d T) = x (ix3 n d (vsCol T)) := by
  refine concatenate_replicate_apply (t := S72x128x4096) (s₁ := S72x128x128) (2 : Fin 3) 32 x hc rfl (ix3 n d T) (ix3 n d (vsCol T)) rfl ?_
  intro c hne
  match c with
  | ⟨0, _⟩ => rfl
  | ⟨1, _⟩ => rfl
  | ⟨2, _⟩ => exact absurd rfl hne

theorem rows_apply (x : FVec Ideal S72x8x128 .f32) (n : Fin 72) (d : Fin 128) (l : Fin 128) :
    concatenate S72x128x128 1 [⟨S72x8x128, x⟩, ⟨S72x8x128, x⟩, ⟨S72x8x128, x⟩, ⟨S72x8x128, x⟩, ⟨S72x8x128, x⟩, ⟨S72x8x128, x⟩, ⟨S72x8x128, x⟩, ⟨S72x8x128, x⟩, ⟨S72x8x128, x⟩, ⟨S72x8x128, x⟩, ⟨S72x8x128, x⟩, ⟨S72x8x128, x⟩, ⟨S72x8x128, x⟩, ⟨S72x8x128, x⟩, ⟨S72x8x128, x⟩, ⟨S72x8x128, x⟩] concatenates_S72x8x128_S72x8x128_S72x8x128_S72x8x128_S72x8x128_S72x8x128_S72x8x128_S72x8x128_S72x8x128_S72x8x128_S72x8x128_S72x8x128_S72x8x128_S72x8x128_S72x8x128_S72x8x128_S72x128x128_d1 (ix3 n d l) = x (ix3 n (vsRow d) l) :=
  tile_rows x concatenates_S72x8x128_S72x8x128_S72x8x128_S72x8x128_S72x8x128_S72x8x128_S72x8x128_S72x8x128_S72x8x128_S72x8x128_S72x8x128_S72x8x128_S72x8x128_S72x8x128_S72x8x128_S72x8x128_S72x128x128_d1 n d l

theorem cols_apply (x : FVec Ideal S72x128x128 .f32) (n : Fin 72) (d : Fin 128) (T : Fin 4096) :
    concatenate S72x128x4096 2 [⟨S72x128x128, x⟩, ⟨S72x128x128, x⟩, ⟨S72x128x128, x⟩, ⟨S72x128x128, x⟩, ⟨S72x128x128, x⟩, ⟨S72x128x128, x⟩, ⟨S72x128x128, x⟩, ⟨S72x128x128, x⟩, ⟨S72x128x128, x⟩, ⟨S72x128x128, x⟩, ⟨S72x128x128, x⟩, ⟨S72x128x128, x⟩, ⟨S72x128x128, x⟩, ⟨S72x128x128, x⟩, ⟨S72x128x128, x⟩, ⟨S72x128x128, x⟩, ⟨S72x128x128, x⟩, ⟨S72x128x128, x⟩, ⟨S72x128x128, x⟩, ⟨S72x128x128, x⟩, ⟨S72x128x128, x⟩, ⟨S72x128x128, x⟩, ⟨S72x128x128, x⟩, ⟨S72x128x128, x⟩, ⟨S72x128x128, x⟩, ⟨S72x128x128, x⟩, ⟨S72x128x128, x⟩, ⟨S72x128x128, x⟩, ⟨S72x128x128, x⟩, ⟨S72x128x128, x⟩, ⟨S72x128x128, x⟩, ⟨S72x128x128, x⟩] concatenates_S72x128x128_S72x128x128_S72x128x128_S72x128x128_S72x128x128_S72x128x128_S72x128x128_S72x128x128_S72x128x128_S72x128x128_S72x128x128_S72x128x128_S72x128x128_S72x128x128_S72x128x128_S72x128x128_S72x128x128_S72x128x128_S72x128x128_S72x128x128_S72x128x128_S72x128x128_S72x128x128_S72x128x128_S72x128x128_S72x128x128_S72x128x128_S72x128x128_S72x128x128_S72x128x128_S72x128x128_S72x128x128_S72x128x4096_d2 (ix3 n d T) = x (ix3 n d (vsCol T)) :=
  tile_cols x concatenates_S72x128x128_S72x128x128_S72x128x128_S72x128x128_S72x128x128_S72x128x128_S72x128x128_S72x128x128_S72x128x128_S72x128x128_S72x128x128_S72x128x128_S72x128x128_S72x128x128_S72x128x128_S72x128x128_S72x128x128_S72x128x128_S72x128x128_S72x128x128_S72x128x128_S72x128x128_S72x128x128_S72x128x128_S72x128x128_S72x128x128_S72x128x128_S72x128x128_S72x128x128_S72x128x128_S72x128x128_S72x128x128_S72x128x4096_d2 n d T

/-- The merged channels back in their order. -/
theorem order_apply (v : FVec Ideal S72x128x4096 .f32) (b : Fin 9) (h : Fin 8) (T : Fin 4096) (ch : Fin 128) :
    transpose S9x4096x8x128 [0, 3, 1, 2] (shapeCast S9x8x128x4096 (transpose S72x4x32x4096 [0, 2, 1, 3] (shapeCast S72x32x4x4096 v
      shapeCasts_S72x128x4096_S72x32x4x4096) transposes_S72x32x4x4096_p0_2_1_3_S72x4x32x4096) shapeCasts_S72x4x32x4096_S9x8x128x4096)
      transposes_S9x8x128x4096_p0_3_1_2_S9x4096x8x128 (ix4 b T h ch) = v (ix3 (bh b h) (perm ch) T) := by
  have ep : (⟨ch.val % 32 * 4 + ch.val / 32, by omega⟩ : Fin 128) = perm ch := Fin.ext (by unfold perm; dsimp only; omega)
  pointwise
  rw [ep]
  rfl

theorem quot_apply (v w : FVec Ideal S72x128x4096 .f32) (e : FVec Ideal S72x1x4096 .f32) (n : Fin 72) (d : Fin 128) (T : Fin 4096) :
    divf (mulf v w) (broadcastTo S72x128x4096 e broadcasts_S72x1x4096_S72x128x4096) (ix3 n d T)
      = Ideal.div (v (ix3 n d T) * w (ix3 n d T)) (e (ix3 n 0 T)) := by
  pointwise

theorem trunc_at (v : FVec Ideal S9x4096x8x128 .f32) (i : S9x4096x8x128.Idx) : truncf .bf16 v bitsLt_bf16_f32 i = (v i : EReal) := rfl

set_option maxHeartbeats 4000000 in
theorem pay1_apply (e : FVec Ideal S72x1x4096 .f32) (v : FVec Ideal S72x128x4096 .f32) (a5 : Vec Ideal S9x8x8x128 .f32)
    (b : Fin 9) (h : Fin 8) (T : Fin 4096) (ch : Fin 128) :
    k0_pay1 e v a5 (ix4 b T h ch)
      = Ideal.div (v (ix3 (bh b h) (perm ch) T) * a5 (ix4 b h (vsRow (perm ch)) (vsCol T))) (e (ix3 (bh b h) 0 T)) := by
  unfold k0_pay1
  refine (trunc_at _ _).trans ?_
  refine (order_apply _ _ _ _ _).trans ?_
  refine (quot_apply _ _ _ _ _ _).trans ?_
  refine congrArg (fun x : EReal => Ideal.div (v (ix3 (bh b h) (perm ch) T) * x) (e (ix3 (bh b h) 0 T))) ?_
  refine (cols_apply _ (bh b h) (perm ch) T).trans ?_
  refine (rows_apply _ (bh b h) (perm ch) (vsCol T)).trans ?_
  exact castS a5 b h (vsRow (perm ch)) (vsCol T)

end Cert.RefIdeal.Elem
end
-- ==== Proof.Equation.lean ====
module

public import proofs.«01_k».proof.Proof.RefAttn

@[expose] public section

set_option maxRecDepth 16384

noncomputable section

/-! The three results of the kernel are the three results of the reference. -/

namespace Cert.Equation

open Cert.RefIdeal Cert.RefIdeal.Gen Cert.RefIdeal.Hand Cert.RefIdeal.Elem
open Cert.AttnIdeal.Pass Cert.AttnIdeal.Head Cert.AttnIdeal.Target
open Idealize.ShloMosaic

/-! ## Exponentials of scaled differences -/

theorem sub_scale (x M : EReal) (a : ℝ) (ha : 0 < a) : x * (a : EReal) - M * (a : EReal) = (x - M) * (a : EReal) := by
  rw [sub_eq_add_neg, sub_eq_add_neg, ← EReal.neg_mul]
  exact (EReal.right_distrib_of_nonneg_of_ne_top (by exact_mod_cast ha.le) (EReal.coe_ne_top a) x (-M)).symm

theorem sup_scale (f : Fin 4096 → EReal) (a : ℝ) (ha : 0 < a) : (⨆ r, f r * (a : EReal)) = (⨆ r, f r) * (a : EReal) := by
  have h0 : (0 : EReal) ≤ (a : EReal) := by exact_mod_cast ha.le
  apply le_antisymm
  · exact iSup_le fun r => mul_le_mul_of_nonneg_right (le_iSup f r) h0
  · obtain ⟨r, hr⟩ := exists_eq_ciSup_of_finite (f := f)
    rw [← hr]
    exact le_iSup (fun r => f r * (a : EReal)) r

theorem exp_two (u : EReal) : Ideal.exp2 (u * (((Real.log 2)⁻¹ : ℝ) : EReal)) = Ideal.exp u := by
  have hl : (0 : ℝ) < Real.log 2 := Real.log_pos (by norm_num)
  have hi : (0 : ℝ) < (Real.log 2)⁻¹ := inv_pos.2 hl
  induction u with
  | bot => rw [EReal.bot_mul_coe_of_pos hi]; rfl
  | top => rw [EReal.top_mul_coe_of_pos hi]; rfl
  | coe r =>
    rw [← EReal.coe_mul]
    show ((Real.rpow 2 (r * (Real.log 2)⁻¹) : ℝ) : EReal) = ((Real.exp r : ℝ) : EReal)
    congr 1
    show (2 : ℝ) ^ (r * (Real.log 2)⁻¹) = Real.exp r
    rw [Real.rpow_def_of_pos (by norm_num)]
    congr 1
    field_simp

theorem regroup (D S W s : EReal) : D * S * W * s = D * W * (S * s) := by
  rw [mul_right_comm D S W, mul_assoc (D * W)]

/-! ## The codes and the scales -/

theorem zero_bits : Ideal.ofBits .f32 0x00000000#32 = 0 := by
  simp [Ideal.ofBits, Ideal.ieee]

theorem code_eq (q : Fin 192 → EReal) (hq : ∀ d, max (q d) (-(q d)) ≤ top16) (d : Fin 192) :
    clip (q d * Ideal.exp2 (Ideal.ofBits .f32 0x00000000#32 - Quant.refE (yT q))) = cT q d := by
  obtain ⟨n, e1, e2, e3⟩ := scale_pow q hq
  unfold cT
  rw [e1, e3, zero_bits, zero_sub, ← EReal.coe_neg, ← Int.cast_neg, Quant.exp2_int]

theorem scale_eq (q : Fin 192 → EReal) (hq : ∀ d, max (q d) (-(q d)) ≤ top16) :
    Ideal.exp2 (Quant.refE (yT q)) = sT q := by
  obtain ⟨n, e1, e2, e3⟩ := scale_pow q hq
  rw [e1, e2, Quant.exp2_int]

variable (a0 : Vec Ideal S9x4096x8x128 .bf16) (a1 : Vec Ideal S9x8x64x4096 .bf16) (a2 : Vec Ideal S9x8x4096x192 .fp8e4m3)
  (a3 : Vec Ideal S9x8x128x4096 .fp8e4m3) (a4 : Vec Ideal S9x8x4096 .f32) (a5 : Vec Ideal S9x8x8x128 .f32)
  (h0 : ∀ j, max (a0 j : EReal) (-(a0 j : EReal)) ≤ top16) (h1 : ∀ j, max (a1 j : EReal) (-(a1 j : EReal)) ≤ top16)

include h0 h1

theorem gq_fin (b : Fin 9) (h : Fin 8) (T : Fin 4096) (d : Fin 192) :
    max (gq a0 a1 b h T d) (-(gq a0 a1 b h T d)) ≤ top16 := by
  unfold gq both
  split
  · exact h0 _
  · exact h1 _

theorem T7_eq : k0_pay6 a0 a1 = T7 a0 a1 := by
  funext y
  rw [eq_ix4 y]
  exact (G7_apply a0 a1 _ _ _ _).trans (code_eq _ (gq_fin a0 a1 h0 h1 _ _ _) _)

theorem T8_eq : k0_pay7 a0 a1 = T8 a0 a1 := by
  funext y
  rw [eq_ix3 y]
  exact (G8_apply a0 a1 _ _ _).trans (scale_eq _ (gq_fin a0 a1 h0 h1 _ _ _))

/-! ## The attention -/

/-- A score of the reference is a score of the kernel times one positive real number. -/
theorem score_eq (b : Fin 9) (h : Fin 8) (T : Fin 4096) (a : ℝ) (ha : 0 < a)
    (e : sT (gq a0 a1 b h T) * (((Real.sqrt 192)⁻¹ : ℝ) : EReal) = (a : EReal)) (r : Fin 4096) :
    sx (k0_pay4 a0 a1) (k0_pay5 a0 a1) a2 a4 b h T r = gx a0 a1 a2 a4 b h T r * (a : EReal) := by
  have ec : ∀ d, k0_pay4 a0 a1 (ix3 (bh b h) d T) = cT (gq a0 a1 b h T) d := fun d =>
    (pay4_apply a0 a1 b h d T).trans (code_eq _ (gq_fin a0 a1 h0 h1 _ _ _) _)
  have es : k0_pay5 a0 a1 (ix3 (bh b h) 0 T) = sT (gq a0 a1 b h T) :=
    (pay5_apply a0 a1 b h T).trans (scale_eq _ (gq_fin a0 a1 h0 h1 _ _ _))
  have ed : (∑ d, a2 (ix4 b h r d) * k0_pay4 a0 a1 (ix3 (bh b h) d T) : EReal) = ∑ d, a2 (ix4 b h r d) * cT (gq a0 a1 b h T) d :=
    Finset.sum_congr rfl fun d _ => congrArg (fun x : EReal => a2 (ix4 b h r d) * x) (ec d)
  unfold sx gx
  by_cases hr : r.val ≤ T.val
  · rw [if_pos hr, if_pos hr, ← e]
    exact (congrArg₂ (fun x y : EReal => x * y * a4 (ix3 b h r) * (((Real.sqrt 192)⁻¹ : ℝ) : EReal)) ed es).trans (regroup _ _ _ _)
  · rw [if_neg hr, if_neg hr]
    exact (EReal.bot_mul_coe_of_pos ha).symm

theorem prob_eq (b : Fin 9) (h : Fin 8) (T r : Fin 4096) :
    k0_pay8 (k0_pay4 a0 a1) (k0_pay5 a0 a1) a2 a4 (ix3 (bh b h) r T) = gp a0 a1 a2 a4 b h T r := by
  obtain ⟨n, -, e2, -⟩ := scale_pow _ (gq_fin a0 a1 h0 h1 b h T)
  have ha : (0 : ℝ) < (2 : ℝ) ^ n * (Real.sqrt 192)⁻¹ := by positivity
  have e : sT (gq a0 a1 b h T) * (((Real.sqrt 192)⁻¹ : ℝ) : EReal) = (((2 : ℝ) ^ n * (Real.sqrt 192)⁻¹ : ℝ) : EReal) := by
    rw [e2, ← EReal.coe_mul]
  have es := score_eq a0 a1 a2 a4 h0 h1 b h T _ ha e
  rw [pay8_apply]
  simp only [es]
  rw [sup_scale _ _ ha, sub_scale _ _ _ ha]
  unfold gp gm
  rw [EReal.coe_mul (Real.sqrt 192)⁻¹, ← mul_assoc (sT _), e, ← mul_assoc, exp_two]

theorem T6_at (b : Fin 9) (T : Fin 4096) (h : Fin 8) (ch : Fin 128) :
    k0_pay1 (k0_pay9 (k0_pay4 a0 a1) (k0_pay5 a0 a1) a2 a4) (k0_pay10 (k0_pay4 a0 a1) (k0_pay5 a0 a1) a2 a4 a3) a5 (ix4 b T h ch)
      = go a0 a1 a2 a3 a4 a5 b h T (perm ch) := by
  refine (pay1_apply _ _ _ b h T ch).trans ?_
  unfold go
  refine congrArg₂ Ideal.div ?_ ?_
  · refine congrArg (fun x : EReal => x * a5 (ix4 b h (vsRow (perm ch)) (vsCol T))) ?_
    exact (pay10_apply _ _ a2 a3 a4 b h (perm ch) T).trans (Finset.sum_congr rfl fun r _ =>
      congrArg (fun x : EReal => a3 (ix4 b h (perm ch) r) * clip x) (prob_eq a0 a1 a2 a4 h0 h1 b h T r))
  · exact (pay9_apply _ _ a2 a4 b h T).trans (Finset.sum_congr rfl fun r _ => prob_eq a0 a1 a2 a4 h0 h1 b h T r)

theorem T6_eq : k0_pay1 (k0_pay9 (k0_pay4 a0 a1) (k0_pay5 a0 a1) a2 a4) (k0_pay10 (k0_pay4 a0 a1) (k0_pay5 a0 a1) a2 a4 a3) a5
    = T6 a0 a1 a2 a3 a4 a5 := by
  funext y
  rw [eq_ix4 y]
  exact T6_at a0 a1 a2 a3 a4 a5 h0 h1 _ _ _ _

theorem G6_eq : G6 a0 a1 a2 a3 a4 a5 = T6 a0 a1 a2 a3 a4 a5 := by
  have e1 : k0_pay11 a0 a1 a2 a3 a4 a5 = k0_pay4 a0 a1 := by
    unfold k0_pay11
    rw [View.ld_unit_zero (S := S9x4096x8x128) hz0 _ a0, View.ld_unit_zero (S := S9x8x64x4096) hz1 _ a1]
  have e2 : k0_pay12 a0 a1 a2 a3 a4 a5 = k0_pay5 a0 a1 := by
    unfold k0_pay12
    rw [View.ld_unit_zero (S := S9x4096x8x128) hz0 _ a0, View.ld_unit_zero (S := S9x8x64x4096) hz1 _ a1]
  unfold G6
  rw [e1, e2]
  exact T6_eq a0 a1 a2 a3 a4 a5 h0 h1

end Cert.Equation
end
-- ==== Proof.Precondition.lean ====
module

public import proofs.«01_k».proof.Defs
public import proofs.«01_k».proof.Proof.ValueRun

@[expose] public section

noncomputable section

/-! What the precondition says of the queries. -/

namespace Cert.Precondition

open Idealize.ShloMosaic Cert.AttnIdeal Cert.AttnIdeal.Gen Cert.AttnIdeal.Value Cert.AttnIdeal.Target

/-- The precondition's one shape fact for each array. -/
theorem facts : Cert.Pre_finite_queries.Facts where
  bcast_S_S9x4096x8x128 := by decide
  bcast_S_S9x8x64x4096 := by decide

/-- A comparison that holds everywhere bounds every element. -/
theorem bounded {S : Shape} (a : FVec Ideal S .bf16) (hb)
    (h : cmpf .ole (Host.absf a) (broadcastInDim S ![] hb (constant (F := Ideal) ⟨0, ![]⟩ .bf16 0x7F7F#16)) = fun _ => 1#1) : Bounded (S := S) a := by
  intro j
  have e := congrFun h j
  by_contra hn
  have : (cmpf .ole (Host.absf a) (broadcastInDim S ![] hb (constant (F := Ideal) ⟨0, ![]⟩ .bf16 0x7F7F#16)) : IVec S 1) j = 0#1 := by
    show Ideal.cmp .ole (max (a j : EReal) (-(a j : EReal))) top16 = 0#1
    unfold Ideal.cmp
    simp [hn]
  rw [this] at e
  exact absurd e (by decide)

theorem finite [Cert.Pre_finite_queries.Facts] (m : (ℓ : Loc nD τ sig) → Buf (Elt Ideal) ℓ) (h : Cert.Pre_AttnIdeal_finite_queries m) : FinQ m :=
  fun c => ⟨bounded _ _ (h c).1, bounded _ _ (h c).2⟩

end Cert.Precondition

end
-- ==== Proof.lean ====
module

public import proofs.«01_k».proof.Defs
public import proofs.«01_k».proof.Proof.Gen.Attn
public import proofs.«01_k».proof.Proof.Gen.AttnIdeal
public import proofs.«01_k».proof.Proof.Gen.RefIdeal
public import proofs.«01_k».proof.Proof.FrameBits
public import proofs.«01_k».proof.Proof.FrameIdeal
public import proofs.«01_k».proof.Proof.ValueRun
public import proofs.«01_k».proof.Proof.Equation
public import proofs.«01_k».proof.Proof.Precondition
public import Idealize.ShloMosaic.Lib.Bf16Pair

@[expose] public section

noncomputable section

namespace Cert.Proof

open Idealize.ShloMosaic Idealize.SL.Sem

theorem quiescent_Attn : Cert.quiescent_Attn := fun m g _ => Cert.Attn.Hand.frame m g

theorem quiescent_AttnIdeal : Cert.quiescent_AttnIdeal := fun m g _ => Cert.AttnIdeal.Hand.frame m g

theorem quiescent_RefIdeal : Cert.quiescent_RefIdeal := fun m g _ => Cert.RefIdeal.Gen.frame m g

theorem preserves : Cert.preserves_Attn_AttnIdeal :=
  ⟨IdealRules.bf16_pair.statement _ _, IdealRules.bf16_pair.statement _ _, IdealRules.named_const.statement _ _ _ _ _ rfl, IdealRules.truncf_extf.statement _ .f32 .bf16,
    IdealRules.bf16_pair.statement _ _, IdealRules.bf16_pack.statement _⟩

/-- The kernel and the reference, from equal arguments whose queries are finite, end with the same three results. -/
theorem algebraic [hp : Cert.Pre_finite_queries.Facts] : Cert.algebraic_AttnIdeal_RefIdeal_pre_finite_queries := by
  intro m g m' g' hpre hargs
  have hF := Cert.Precondition.finite m hpre
  refine ⟨fun c => Cert.AttnIdeal.Value.R6 m c, fun c => Cert.AttnIdeal.Value.R7 m c, fun c => Cert.AttnIdeal.Value.R8 m c, ?_, ?_⟩
  · exact (θ_run Cert.AttnIdeal.defs _ _).mono (fun r h c =>
      ⟨(h c).1.1, (h c).1.2.1, (h c).1.2.2, (h c).2⟩) (Cert.AttnIdeal.Value.run m g hF)
  · refine (θ_run Cert.RefIdeal.defs _ _).mono (fun r h c => ?_) (Cert.RefIdeal.Hand.run m' g')
    obtain ⟨e0, e1, e2, e3, e4, e5⟩ := hargs c
    obtain ⟨r6, r7, r8, hk⟩ := h c
    refine ⟨r6.trans ?_, r7.trans ?_, r8.trans ?_, hk⟩
    · rw [e0, e1, e2, e3, e4, e5]
      exact Cert.Equation.G6_eq _ _ _ _ _ _ (hF c).1 (hF c).2
    · rw [e0, e1]
      exact Cert.Equation.T7_eq _ _ (hF c).1 (hF c).2
    · rw [e0, e1]
      exact Cert.Equation.T8_eq _ _ (hF c).1 (hF c).2

theorem claim : Cert.Claim :=
  ⟨Cert.Attn.Gen.facts, Cert.AttnIdeal.Gen.facts, Cert.RefIdeal.Gen.facts, Cert.Precondition.facts,
    quiescent_Attn, quiescent_AttnIdeal, fun m g _ => quiescent_AttnIdeal m g trivial,
    quiescent_RefIdeal, fun m g _ => quiescent_RefIdeal m g trivial, preserves,
    algebraic (hp := Cert.Precondition.facts)⟩

end Cert.Proof

end
